-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_uniform_counts [hPre_uniform_counts : Cert.Pre_uniform_counts.Facts] (m : (ℓ : Loc Cert.KernelIdeal.nD Cert.KernelIdeal.τ Cert.KernelIdeal.sig) → Buf (Elt Ideal) ℓ) : Prop :=
  ∀ c : Dev Cert.KernelIdeal.nD,
    (Cert.Pre_uniform_counts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_uniform_counts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_uniform_counts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_uniform_counts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_uniform_counts [hPre_uniform_counts : Cert.Pre_uniform_counts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_uniform_counts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_uniform_counts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_uniform_counts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_uniform_counts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_uniform_counts [hKernelIdeal : Cert.KernelIdeal.Facts] [hPre_uniform_counts : Cert.Pre_uniform_counts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_uniform_counts m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_uniform_counts [hReferenceIdeal : Cert.ReferenceIdeal.Facts] [hPre_uniform_counts : Cert.Pre_uniform_counts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_uniform_counts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_uniform_counts [hKernelIdeal : Cert.KernelIdeal.Facts] [hReferenceIdeal : Cert.ReferenceIdeal.Facts] [hPre_uniform_counts : Cert.Pre_uniform_counts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_uniform_counts m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v200)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v200) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2357) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_uniform_counts : Cert.Pre_uniform_counts.Facts),
    quiescent_Kernel (hKernel := hKernel)
    ∧ quiescent_KernelIdeal (hKernelIdeal := hKernelIdeal)
    ∧ quiescent_KernelIdeal_pre_uniform_counts (hKernelIdeal := hKernelIdeal) (hPre_uniform_counts := hPre_uniform_counts)
    ∧ quiescent_ReferenceIdeal (hReferenceIdeal := hReferenceIdeal)
    ∧ quiescent_ReferenceIdeal_pre_uniform_counts (hReferenceIdeal := hReferenceIdeal) (hPre_uniform_counts := hPre_uniform_counts)
    ∧ preserves_Kernel_KernelIdeal
    ∧ algebraic_KernelIdeal_ReferenceIdeal_pre_uniform_counts (hKernelIdeal := hKernelIdeal) (hReferenceIdeal := hReferenceIdeal) (hPre_uniform_counts := hPre_uniform_counts)
-- ==== Pre_uniform_counts.lean ====
abbrev S4096x128 : Shape := ⟨2, ![4096, 128]⟩
abbrev S64x2x128x2 : Shape := ⟨4, ![64, 2, 128, 2]⟩
abbrev S128x2x64x2 : Shape := ⟨4, ![128, 2, 64, 2]⟩
abbrev S64 : Shape := ⟨1, ![64]⟩
abbrev S128 : Shape := ⟨1, ![128]⟩
abbrev S64x2x128x1 : Shape := ⟨4, ![64, 2, 128, 1]⟩
abbrev S64x2x128 : Shape := ⟨3, ![64, 2, 128]⟩
abbrev S_ : Shape := ⟨0, ![]⟩
abbrev S128x2x64x1 : Shape := ⟨4, ![128, 2, 64, 1]⟩
abbrev S128x2x64 : Shape := ⟨3, ![128, 2, 64]⟩

class Facts : Prop where
  slices_S64x2x128x2_S64x2x128x1_0_0_0_0 : S64x2x128x2.Slices ![0, 0, 0, 0] S64x2x128x1
  shapeCasts_S64x2x128x1_S64x2x128 : S64x2x128x1.ShapeCasts S64x2x128
  slices_S64x2x128x2_S64x2x128x1_0_0_0_1 : S64x2x128x2.Slices ![0, 0, 0, 1] S64x2x128x1
  bcast_S_S64x2x128 : S_.BroadcastsInDim S64x2x128 (![] : Fin 0 → Fin S64x2x128.rank)
  slices_S128x2x64x2_S128x2x64x1_0_0_0_0 : S128x2x64x2.Slices ![0, 0, 0, 0] S128x2x64x1
  shapeCasts_S128x2x64x1_S128x2x64 : S128x2x64x1.ShapeCasts S128x2x64
  slices_S128x2x64x2_S128x2x64x1_0_0_0_1 : S128x2x64x2.Slices ![0, 0, 0, 1] S128x2x64x1
  bcast_S_S128x2x64 : S_.BroadcastsInDim S128x2x64 (![] : Fin 0 → Fin S128x2x64.rank)
  bcast_S_S64 : S_.BroadcastsInDim S64 (![] : Fin 0 → Fin S64.rank)
  bcast_S_S128 : S_.BroadcastsInDim S128 (![] : Fin 0 → Fin S128.rank)

variable [Facts]

def fn_part1 {F : FTy → Type} [FloatOps F] (main_arg2 : FVec F S128x2x64x2 .f32) (main_arg3 : IVec S64 32) (main_arg4 : IVec S128 32) (main_v14 : IVec S64x2x128 1) (main_v19 : IVec S128x2x64 1) (main_v21 : FVec F S128x2x64 .f32) : IVec S64x2x128 1 × IVec S128x2x64 1 × IVec S64 1 × IVec S128 1 :=
  let main_cst_1 : FVec F S_ .f32 := constant S_ .f32 0x00000000#32
  let main_v22 : FVec F S128x2x64 .f32 := broadcastInDim S128x2x64 ![] bcast_S_S128x2x64 main_cst_1
  let main_v23 : IVec S128x2x64 1 := cmpf .ogt main_v21 main_v22
  let main_v24 : IVec S128x2x64 1 := andi main_v19 main_v23
  let main_v25 : FVec F S128x2x64x1 .f32 := (extractStridedSlice S128x2x64x1 ![0, 0, 0, 0] · slices_S128x2x64x2_S128x2x64x1_0_0_0_0) main_arg2
  let main_v26 : FVec F S128x2x64 .f32 := shapeCast S128x2x64 main_v25 shapeCasts_S128x2x64x1_S128x2x64
  let main_cst_2 : FVec F S_ .f32 := constant S_ .f32 0x7F800000#32
  let main_v27 : FVec F S128x2x64 .f32 := broadcastInDim S128x2x64 ![] bcast_S_S128x2x64 main_cst_2
  let main_v28 : IVec S128x2x64 1 := cmpf .olt main_v26 main_v27
  let main_v29 : IVec S128x2x64 1 := andi main_v24 main_v28
  let main_c : IVec S_ 32 := constantI S_ 32 0#32
  let main_v30 : IVec S64 32 := broadcastInDim S64 ![] bcast_S_S64 main_c
  let main_v31 : IVec S64 1 := cmpi .sge main_arg3 main_v30
  let main_c_3 : IVec S_ 32 := constantI S_ 32 2#32
  let main_v32 : IVec S64 32 := broadcastInDim S64 ![] bcast_S_S64 main_c_3
  let main_v33 : IVec S64 1 := cmpi .slt main_arg3 main_v32
  let main_v34 : IVec S64 1 := andi main_v31 main_v33
  let main_c_4 : IVec S_ 32 := constantI S_ 32 0#32
  let main_v35 : IVec S128 32 := broadcastInDim S128 ![] bcast_S_S128 main_c_4
  let main_v36 : IVec S128 1 := cmpi .sge main_arg4 main_v35
  let main_c_5 : IVec S_ 32 := constantI S_ 32 2#32
  let main_v37 : IVec S128 32 := broadcastInDim S128 ![] bcast_S_S128 main_c_5
  let main_v38 : IVec S128 1 := cmpi .slt main_arg4 main_v37
  let main_v39 : IVec S128 1 := andi main_v36 main_v38
  (main_v14, main_v29, main_v34, main_v39)

def fn {F : FTy → Type} [FloatOps F] (main_arg0 : FVec F S4096x128 .f32) (main_arg1 : FVec F S64x2x128x2 .f32) (main_arg2 : FVec F S128x2x64x2 .f32) (main_arg3 : IVec S64 32) (main_arg4 : IVec S128 32) : IVec S64x2x128 1 × IVec S128x2x64 1 × IVec S64 1 × IVec S128 1 :=
  let main_v0 : FVec F S64x2x128x1 .f32 := (extractStridedSlice S64x2x128x1 ![0, 0, 0, 0] · slices_S64x2x128x2_S64x2x128x1_0_0_0_0) main_arg1
  let main_v1 : FVec F S64x2x128 .f32 := shapeCast S64x2x128 main_v0 shapeCasts_S64x2x128x1_S64x2x128
  let main_v2 : FVec F S64x2x128x1 .f32 := (extractStridedSlice S64x2x128x1 ![0, 0, 0, 1] · slices_S64x2x128x2_S64x2x128x1_0_0_0_1) main_arg1
  let main_v3 : FVec F S64x2x128 .f32 := shapeCast S64x2x128 main_v2 shapeCasts_S64x2x128x1_S64x2x128
  let main_v4 : IVec S64x2x128 1 := cmpf .oeq main_v1 main_v3
  let main_v5 : FVec F S64x2x128x1 .f32 := (extractStridedSlice S64x2x128x1 ![0, 0, 0, 0] · slices_S64x2x128x2_S64x2x128x1_0_0_0_0) main_arg1
  let main_v6 : FVec F S64x2x128 .f32 := shapeCast S64x2x128 main_v5 shapeCasts_S64x2x128x1_S64x2x128
  let main_cst : FVec F S_ .f32 := constant S_ .f32 0x00000000#32
  let main_v7 : FVec F S64x2x128 .f32 := broadcastInDim S64x2x128 ![] bcast_S_S64x2x128 main_cst
  let main_v8 : IVec S64x2x128 1 := cmpf .ogt main_v6 main_v7
  let main_v9 : IVec S64x2x128 1 := andi main_v4 main_v8
  let main_v10 : FVec F S64x2x128x1 .f32 := (extractStridedSlice S64x2x128x1 ![0, 0, 0, 0] · slices_S64x2x128x2_S64x2x128x1_0_0_0_0) main_arg1
  let main_v11 : FVec F S64x2x128 .f32 := shapeCast S64x2x128 main_v10 shapeCasts_S64x2x128x1_S64x2x128
  let main_cst_0 : FVec F S_ .f32 := constant S_ .f32 0x7F800000#32
  let main_v12 : FVec F S64x2x128 .f32 := broadcastInDim S64x2x128 ![] bcast_S_S64x2x128 main_cst_0
  let main_v13 : IVec S64x2x128 1 := cmpf .olt main_v11 main_v12
  let main_v14 : IVec S64x2x128 1 := andi main_v9 main_v13
  let main_v15 : FVec F S128x2x64x1 .f32 := (extractStridedSlice S128x2x64x1 ![0, 0, 0, 0] · slices_S128x2x64x2_S128x2x64x1_0_0_0_0) main_arg2
  let main_v16 : FVec F S128x2x64 .f32 := shapeCast S128x2x64 main_v15 shapeCasts_S128x2x64x1_S128x2x64
  let main_v17 : FVec F S128x2x64x1 .f32 := (extractStridedSlice S128x2x64x1 ![0, 0, 0, 1] · slices_S128x2x64x2_S128x2x64x1_0_0_0_1) main_arg2
  let main_v18 : FVec F S128x2x64 .f32 := shapeCast S128x2x64 main_v17 shapeCasts_S128x2x64x1_S128x2x64
  let main_v19 : IVec S128x2x64 1 := cmpf .oeq main_v16 main_v18
  let main_v20 : FVec F S128x2x64x1 .f32 := (extractStridedSlice S128x2x64x1 ![0, 0, 0, 0] · slices_S128x2x64x2_S128x2x64x1_0_0_0_0) main_arg2
  let main_v21 : FVec F S128x2x64 .f32 := shapeCast S128x2x64 main_v20 shapeCasts_S128x2x64x1_S128x2x64
  fn_part1 (F := F) main_arg2 main_arg3 main_arg4 main_v14 main_v19 main_v21
-- ==== Kernel.lean ====
abbrev S4096x128 : Shape := ⟨2, ![4096, 128]⟩
abbrev S64x2x128x2 : Shape := ⟨4, ![64, 2, 128, 2]⟩
abbrev S128x2x64x2 : Shape := ⟨4, ![128, 2, 64, 2]⟩
abbrev S64 : Shape := ⟨1, ![64]⟩
abbrev S128 : Shape := ⟨1, ![128]⟩
abbrev S2x1 : Shape := ⟨2, ![2, 1]⟩
abbrev S64x1 : Shape := ⟨2, ![64, 1]⟩
abbrev S1x128 : Shape := ⟨2, ![1, 128]⟩
abbrev S67108864 : Shape := ⟨1, ![67108864]⟩
abbrev S_ : Shape := ⟨0, ![]⟩
abbrev S1x67108864 : Shape := ⟨2, ![1, 67108864]⟩
abbrev S2x67108864 : Shape := ⟨2, ![2, 67108864]⟩
abbrev S2x33554432x2 : Shape := ⟨3, ![2, 33554432, 2]⟩
abbrev S2x33554432x1 : Shape := ⟨3, ![2, 33554432, 1]⟩
abbrev S2x33554432 : Shape := ⟨2, ![2, 33554432]⟩
abbrev S1x33554432 : Shape := ⟨2, ![1, 33554432]⟩
abbrev S33554432 : Shape := ⟨1, ![33554432]⟩
abbrev S4096x64x128 : Shape := ⟨3, ![4096, 64, 128]⟩
abbrev S4096x128x64 : Shape := ⟨3, ![4096, 128, 64]⟩
abbrev S128x32x64x128 : Shape := ⟨4, ![128, 32, 64, 128]⟩
abbrev S128x64x128 : Shape := ⟨3, ![128, 64, 128]⟩
abbrev S1x64x128 : Shape := ⟨3, ![1, 64, 128]⟩
abbrev S64x128 : Shape := ⟨2, ![64, 128]⟩

abbrev nBuf : Space → Nat
  | .hbm => 258
  | .vmem => 6
  | .smem => 0
  | _ => 0

abbrev hbmTy0_0 (i : Nat) : BufTy := match i % 128 with
  | 0 => ⟨S4096x128, .f32⟩
  | 1 => ⟨S64x2x128x2, .f32⟩
  | 2 => ⟨S128x2x64x2, .f32⟩
  | 3 => ⟨S64, .i32⟩
  | 4 => ⟨S128, .i32⟩
  | 5 => ⟨S2x1, .i32⟩
  | 6 => ⟨S2x1, .i32⟩
  | 7 => ⟨S2x1, .i32⟩
  | 8 => ⟨S2x1, .i32⟩
  | 9 => ⟨S2x1, .i32⟩
  | 10 => ⟨S2x1, .i32⟩
  | 11 => ⟨S2x1, .i32⟩
  | 12 => ⟨S2x1, .i32⟩
  | 13 => ⟨S64x1, .i32⟩
  | 14 => ⟨S1x128, .i32⟩
  | 15 => ⟨S67108864, .i32⟩
  | 16 => ⟨S_, .i32⟩
  | 17 => ⟨S67108864, .i32⟩
  | 18 => ⟨S1x67108864, .i32⟩
  | 19 => ⟨S2x67108864, .i32⟩
  | 20 => ⟨S2x67108864, .i32⟩
  | 21 => ⟨S2x67108864, .i32⟩
  | 22 => ⟨S1x67108864, .i32⟩
  | 23 => ⟨S2x67108864, .i32⟩
  | 24 => ⟨S2x67108864, .i32⟩
  | 25 => ⟨S2x67108864, .i32⟩
  | 26 => ⟨S2x67108864, .i32⟩
  | 27 => ⟨S_, .i32⟩
  | 28 => ⟨S2x67108864, .i32⟩
  | 29 => ⟨S2x67108864, .i32⟩
  | 30 => ⟨S_, .i32⟩
  | 31 => ⟨S2x67108864, .i32⟩
  | 32 => ⟨S2x67108864, .i32⟩
  | 33 => ⟨S2x67108864, .i32⟩
  | 34 => ⟨S2x67108864, .i32⟩
  | 35 => ⟨S2x67108864, .i32⟩
  | 36 => ⟨S_, .i32⟩
  | 37 => ⟨S2x67108864, .i32⟩
  | 38 => ⟨S2x67108864, .i32⟩
  | 39 => ⟨S_, .i32⟩
  | 40 => ⟨S2x67108864, .i32⟩
  | 41 => ⟨S2x67108864, .i32⟩
  | 42 => ⟨S2x67108864, .i32⟩
  | 43 => ⟨S2x67108864, .i32⟩
  | 44 => ⟨S2x67108864, .i32⟩
  | 45 => ⟨S_, .i32⟩
  | 46 => ⟨S2x67108864, .i32⟩
  | 47 => ⟨S2x67108864, .i32⟩
  | 48 => ⟨S_, .i32⟩
  | 49 => ⟨S2x67108864, .i32⟩
  | 50 => ⟨S2x67108864, .i32⟩
  | 51 => ⟨S2x67108864, .i32⟩
  | 52 => ⟨S2x67108864, .i32⟩
  | 53 => ⟨S2x67108864, .i32⟩
  | 54 => ⟨S_, .i32⟩
  | 55 => ⟨S2x67108864, .i32⟩
  | 56 => ⟨S2x67108864, .i32⟩
  | 57 => ⟨S_, .i32⟩
  | 58 => ⟨S2x67108864, .i32⟩
  | 59 => ⟨S2x67108864, .i32⟩
  | 60 => ⟨S2x67108864, .i32⟩
  | 61 => ⟨S2x67108864, .i32⟩
  | 62 => ⟨S2x67108864, .i32⟩
  | 63 => ⟨S2x67108864, .i32⟩
  | 64 => ⟨S2x67108864, .i32⟩
  | 65 => ⟨S2x67108864, .i32⟩
  | 66 => ⟨S2x67108864, .i32⟩
  | 67 => ⟨S_, .i32⟩
  | 68 => ⟨S2x67108864, .i32⟩
  | 69 => ⟨S2x67108864, .i32⟩
  | 70 => ⟨S_, .i32⟩
  | 71 => ⟨S2x67108864, .i32⟩
  | 72 => ⟨S2x67108864, .i32⟩
  | 73 => ⟨S2x67108864, .i32⟩
  | 74 => ⟨S2x67108864, .i32⟩
  | 75 => ⟨S2x67108864, .i32⟩
  | 76 => ⟨S_, .i32⟩
  | 77 => ⟨S2x67108864, .i32⟩
  | 78 => ⟨S2x67108864, .i32⟩
  | 79 => ⟨S_, .i32⟩
  | 80 => ⟨S2x67108864, .i32⟩
  | 81 => ⟨S2x67108864, .i32⟩
  | 82 => ⟨S2x67108864, .i32⟩
  | 83 => ⟨S2x67108864, .i32⟩
  | 84 => ⟨S2x67108864, .i32⟩
  | 85 => ⟨S_, .i32⟩
  | 86 => ⟨S2x67108864, .i32⟩
  | 87 => ⟨S2x67108864, .i32⟩
  | 88 => ⟨S_, .i32⟩
  | 89 => ⟨S2x67108864, .i32⟩
  | 90 => ⟨S2x67108864, .i32⟩
  | 91 => ⟨S2x67108864, .i32⟩
  | 92 => ⟨S2x67108864, .i32⟩
  | 93 => ⟨S2x67108864, .i32⟩
  | 94 => ⟨S_, .i32⟩
  | 95 => ⟨S2x67108864, .i32⟩
  | 96 => ⟨S2x67108864, .i32⟩
  | 97 => ⟨S_, .i32⟩
  | 98 => ⟨S2x67108864, .i32⟩
  | 99 => ⟨S2x67108864, .i32⟩
  | 100 => ⟨S2x67108864, .i32⟩
  | 101 => ⟨S2x67108864, .i32⟩
  | 102 => ⟨S2x67108864, .i32⟩
  | 103 => ⟨S2x67108864, .i32⟩
  | 104 => ⟨S2x67108864, .i32⟩
  | 105 => ⟨S2x67108864, .i32⟩
  | 106 => ⟨S2x67108864, .i32⟩
  | 107 => ⟨S_, .i32⟩
  | 108 => ⟨S2x67108864, .i32⟩
  | 109 => ⟨S2x67108864, .i32⟩
  | 110 => ⟨S_, .i32⟩
  | 111 => ⟨S2x67108864, .i32⟩
  | 112 => ⟨S2x67108864, .i32⟩
  | 113 => ⟨S2x67108864, .i32⟩
  | 114 => ⟨S2x67108864, .i32⟩
  | 115 => ⟨S2x67108864, .i32⟩
  | 116 => ⟨S_, .i32⟩
  | 117 => ⟨S2x67108864, .i32⟩
  | 118 => ⟨S2x67108864, .i32⟩
  | 119 => ⟨S_, .i32⟩
  | 120 => ⟨S2x67108864, .i32⟩
  | 121 => ⟨S2x67108864, .i32⟩
  | 122 => ⟨S2x67108864, .i32⟩
  | 123 => ⟨S2x67108864, .i32⟩
  | 124 => ⟨S2x67108864, .i32⟩
  | 125 => ⟨S_, .i32⟩
  | 126 => ⟨S2x67108864, .i32⟩
  | 127 => ⟨S2x67108864, .i32⟩
  | _ => ⟨S4096x128, .f32⟩

abbrev hbmTy0_1 (i : Nat) : BufTy := match i % 128 with
  | 0 => ⟨S_, .i32⟩
  | 1 => ⟨S2x67108864, .i32⟩
  | 2 => ⟨S2x67108864, .i32⟩
  | 3 => ⟨S2x67108864, .i32⟩
  | 4 => ⟨S2x67108864, .i32⟩
  | 5 => ⟨S2x67108864, .i32⟩
  | 6 => ⟨S_, .i32⟩
  | 7 => ⟨S2x67108864, .i32⟩
  | 8 => ⟨S2x67108864, .i32⟩
  | 9 => ⟨S_, .i32⟩
  | 10 => ⟨S2x67108864, .i32⟩
  | 11 => ⟨S2x67108864, .i32⟩
  | 12 => ⟨S2x67108864, .i32⟩
  | 13 => ⟨S2x67108864, .i32⟩
  | 14 => ⟨S2x67108864, .i32⟩
  | 15 => ⟨S2x67108864, .i32⟩
  | 16 => ⟨S2x67108864, .i32⟩
  | 17 => ⟨S2x67108864, .i32⟩
  | 18 => ⟨S2x67108864, .i32⟩
  | 19 => ⟨S_, .i32⟩
  | 20 => ⟨S2x67108864, .i32⟩
  | 21 => ⟨S2x67108864, .i32⟩
  | 22 => ⟨S_, .i32⟩
  | 23 => ⟨S2x67108864, .i32⟩
  | 24 => ⟨S2x67108864, .i32⟩
  | 25 => ⟨S2x67108864, .i32⟩
  | 26 => ⟨S2x67108864, .i32⟩
  | 27 => ⟨S2x67108864, .i32⟩
  | 28 => ⟨S_, .i32⟩
  | 29 => ⟨S2x67108864, .i32⟩
  | 30 => ⟨S2x67108864, .i32⟩
  | 31 => ⟨S_, .i32⟩
  | 32 => ⟨S2x67108864, .i32⟩
  | 33 => ⟨S2x67108864, .i32⟩
  | 34 => ⟨S2x67108864, .i32⟩
  | 35 => ⟨S2x67108864, .i32⟩
  | 36 => ⟨S2x67108864, .i32⟩
  | 37 => ⟨S_, .i32⟩
  | 38 => ⟨S2x67108864, .i32⟩
  | 39 => ⟨S2x67108864, .i32⟩
  | 40 => ⟨S_, .i32⟩
  | 41 => ⟨S2x67108864, .i32⟩
  | 42 => ⟨S2x67108864, .i32⟩
  | 43 => ⟨S2x67108864, .i32⟩
  | 44 => ⟨S2x67108864, .i32⟩
  | 45 => ⟨S2x67108864, .i32⟩
  | 46 => ⟨S_, .i32⟩
  | 47 => ⟨S2x67108864, .i32⟩
  | 48 => ⟨S2x67108864, .i32⟩
  | 49 => ⟨S_, .i32⟩
  | 50 => ⟨S2x67108864, .i32⟩
  | 51 => ⟨S2x67108864, .i32⟩
  | 52 => ⟨S2x67108864, .i32⟩
  | 53 => ⟨S2x67108864, .i32⟩
  | 54 => ⟨S2x67108864, .i32⟩
  | 55 => ⟨S2x67108864, .i32⟩
  | 56 => ⟨S2x67108864, .i32⟩
  | 57 => ⟨S2x67108864, .i32⟩
  | 58 => ⟨S2x67108864, .i32⟩
  | 59 => ⟨S_, .i32⟩
  | 60 => ⟨S2x67108864, .i32⟩
  | 61 => ⟨S2x67108864, .i32⟩
  | 62 => ⟨S_, .i32⟩
  | 63 => ⟨S2x67108864, .i32⟩
  | 64 => ⟨S2x67108864, .i32⟩
  | 65 => ⟨S2x67108864, .i32⟩
  | 66 => ⟨S2x67108864, .i32⟩
  | 67 => ⟨S2x67108864, .i32⟩
  | 68 => ⟨S_, .i32⟩
  | 69 => ⟨S2x67108864, .i32⟩
  | 70 => ⟨S2x67108864, .i32⟩
  | 71 => ⟨S_, .i32⟩
  | 72 => ⟨S2x67108864, .i32⟩
  | 73 => ⟨S2x67108864, .i32⟩
  | 74 => ⟨S2x67108864, .i32⟩
  | 75 => ⟨S2x67108864, .i32⟩
  | 76 => ⟨S2x67108864, .i32⟩
  | 77 => ⟨S_, .i32⟩
  | 78 => ⟨S2x67108864, .i32⟩
  | 79 => ⟨S2x67108864, .i32⟩
  | 80 => ⟨S_, .i32⟩
  | 81 => ⟨S2x67108864, .i32⟩
  | 82 => ⟨S2x67108864, .i32⟩
  | 83 => ⟨S2x67108864, .i32⟩
  | 84 => ⟨S2x67108864, .i32⟩
  | 85 => ⟨S2x67108864, .i32⟩
  | 86 => ⟨S_, .i32⟩
  | 87 => ⟨S2x67108864, .i32⟩
  | 88 => ⟨S2x67108864, .i32⟩
  | 89 => ⟨S_, .i32⟩
  | 90 => ⟨S2x67108864, .i32⟩
  | 91 => ⟨S2x67108864, .i32⟩
  | 92 => ⟨S2x67108864, .i32⟩
  | 93 => ⟨S2x67108864, .i32⟩
  | 94 => ⟨S2x67108864, .i32⟩
  | 95 => ⟨S2x67108864, .i32⟩
  | 96 => ⟨S2x67108864, .i32⟩
  | 97 => ⟨S2x67108864, .i32⟩
  | 98 => ⟨S2x67108864, .i32⟩
  | 99 => ⟨S_, .i32⟩
  | 100 => ⟨S2x67108864, .i32⟩
  | 101 => ⟨S2x67108864, .i32⟩
  | 102 => ⟨S2x33554432x2, .i32⟩
  | 103 => ⟨S2x33554432x1, .i32⟩
  | 104 => ⟨S2x33554432, .i32⟩
  | 105 => ⟨S2x33554432x1, .i32⟩
  | 106 => ⟨S2x33554432, .i32⟩
  | 107 => ⟨S2x33554432, .i1⟩
  | 108 => ⟨S1x33554432, .i1⟩
  | 109 => ⟨S33554432, .i1⟩
  | 110 => ⟨S4096x64x128, .i1⟩
  | 111 => ⟨S1x33554432, .i1⟩
  | 112 => ⟨S33554432, .i1⟩
  | 113 => ⟨S4096x128x64, .i1⟩
  | 114 => ⟨S128x32x64x128, .i1⟩
  | 115 => ⟨S128x32x64x128, .i32⟩
  | 116 => ⟨S128x32x64x128, .i32⟩
  | 117 => ⟨S128x32x64x128, .i32⟩
  | 118 => ⟨S_, .i32⟩
  | 119 => ⟨S128x64x128, .i32⟩
  | 120 => ⟨S128x64x128, .i32⟩
  | 121 => ⟨S4096x64x128, .i1⟩
  | 122 => ⟨S128x32x64x128, .i1⟩
  | 123 => ⟨S128x32x64x128, .i32⟩
  | 124 => ⟨S128x32x64x128, .i32⟩
  | 125 => ⟨S128x32x64x128, .i32⟩
  | 126 => ⟨S_, .i32⟩
  | 127 => ⟨S128x64x128, .i32⟩
  | _ => ⟨S4096x128, .f32⟩

abbrev hbmTy0_2 (i : Nat) : BufTy := match i % 128 with
  | 0 => ⟨S128x64x128, .i32⟩
  | 1 => ⟨S4096x128, .f32⟩
  | _ => ⟨S4096x128, .f32⟩

abbrev hbmTy (i : Nat) : BufTy := match i / 128 with
  | 0 => hbmTy0_0 i
  | 1 => hbmTy0_1 i
  | 2 => hbmTy0_2 i
  | _ => ⟨S4096x128, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S64x1, .i32⟩
  | .local _ .vmem, ⟨2, _⟩ => ⟨S1x128, .i32⟩
  | .local _ .vmem, ⟨3, _⟩ => ⟨S128x64x128, .i32⟩
  | .local _ .vmem, ⟨4, _⟩ => ⟨S128x64x128, .i32⟩
  | .local _ .vmem, ⟨5, _⟩ => ⟨S4096x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_c_4 : Ref sig .tc := ⟨.hbm, 10, rfl⟩
abbrev main_c_5 : Ref sig .tc := ⟨.hbm, 11, rfl⟩
abbrev main_c_6 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c_7 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_8 : Ref sig .tc := ⟨.hbm, 27, rfl⟩
abbrev main_v13 : Ref sig .tc := ⟨.hbm, 28, rfl⟩
abbrev main_v14 : Ref sig .tc := ⟨.hbm, 29, rfl⟩
abbrev main_c_9 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_10 : Ref sig .tc := ⟨.hbm, 36, rfl⟩
abbrev main_v20 : Ref sig .tc := ⟨.hbm, 37, rfl⟩
abbrev main_v21 : Ref sig .tc := ⟨.hbm, 38, rfl⟩
abbrev main_c_11 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_12 : Ref sig .tc := ⟨.hbm, 45, rfl⟩
abbrev main_v27 : Ref sig .tc := ⟨.hbm, 46, rfl⟩
abbrev main_v28 : Ref sig .tc := ⟨.hbm, 47, rfl⟩
abbrev main_c_13 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_14 : Ref sig .tc := ⟨.hbm, 54, rfl⟩
abbrev main_v34 : Ref sig .tc := ⟨.hbm, 55, rfl⟩
abbrev main_v35 : Ref sig .tc := ⟨.hbm, 56, rfl⟩
abbrev main_c_15 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_16 : Ref sig .tc := ⟨.hbm, 67, rfl⟩
abbrev main_v45 : Ref sig .tc := ⟨.hbm, 68, rfl⟩
abbrev main_v46 : Ref sig .tc := ⟨.hbm, 69, rfl⟩
abbrev main_c_17 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_18 : Ref sig .tc := ⟨.hbm, 76, rfl⟩
abbrev main_v52 : Ref sig .tc := ⟨.hbm, 77, rfl⟩
abbrev main_v53 : Ref sig .tc := ⟨.hbm, 78, rfl⟩
abbrev main_c_19 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_c_20 : Ref sig .tc := ⟨.hbm, 85, rfl⟩
abbrev main_v59 : Ref sig .tc := ⟨.hbm, 86, rfl⟩
abbrev main_v60 : Ref sig .tc := ⟨.hbm, 87, rfl⟩
abbrev main_c_21 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_22 : Ref sig .tc := ⟨.hbm, 94, rfl⟩
abbrev main_v66 : Ref sig .tc := ⟨.hbm, 95, rfl⟩
abbrev main_v67 : Ref sig .tc := ⟨.hbm, 96, rfl⟩
abbrev main_c_23 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_24 : Ref sig .tc := ⟨.hbm, 107, rfl⟩
abbrev main_v77 : Ref sig .tc := ⟨.hbm, 108, rfl⟩
abbrev main_v78 : Ref sig .tc := ⟨.hbm, 109, rfl⟩
abbrev main_c_25 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_c_26 : Ref sig .tc := ⟨.hbm, 116, rfl⟩
abbrev main_v84 : Ref sig .tc := ⟨.hbm, 117, rfl⟩
abbrev main_v85 : Ref sig .tc := ⟨.hbm, 118, rfl⟩
abbrev main_c_27 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_c_28 : Ref sig .tc := ⟨.hbm, 125, rfl⟩
abbrev main_v91 : Ref sig .tc := ⟨.hbm, 126, rfl⟩
abbrev main_v92 : Ref sig .tc := ⟨.hbm, 127, rfl⟩
abbrev main_c_29 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_c_30 : Ref sig .tc := ⟨.hbm, 134, rfl⟩
abbrev main_v98 : Ref sig .tc := ⟨.hbm, 135, rfl⟩
abbrev main_v99 : Ref sig .tc := ⟨.hbm, 136, rfl⟩
abbrev main_c_31 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_c_32 : Ref sig .tc := ⟨.hbm, 147, rfl⟩
abbrev main_v109 : Ref sig .tc := ⟨.hbm, 148, rfl⟩
abbrev main_v110 : Ref sig .tc := ⟨.hbm, 149, rfl⟩
abbrev main_c_33 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_c_34 : Ref sig .tc := ⟨.hbm, 156, rfl⟩
abbrev main_v116 : Ref sig .tc := ⟨.hbm, 157, rfl⟩
abbrev main_v117 : Ref sig .tc := ⟨.hbm, 158, rfl⟩
abbrev main_c_35 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_c_36 : Ref sig .tc := ⟨.hbm, 165, rfl⟩
abbrev main_v123 : Ref sig .tc := ⟨.hbm, 166, rfl⟩
abbrev main_v124 : Ref sig .tc := ⟨.hbm, 167, rfl⟩
abbrev main_c_37 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_c_38 : Ref sig .tc := ⟨.hbm, 174, rfl⟩
abbrev main_v130 : Ref sig .tc := ⟨.hbm, 175, rfl⟩
abbrev main_v131 : Ref sig .tc := ⟨.hbm, 176, rfl⟩
abbrev main_c_39 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_c_40 : Ref sig .tc := ⟨.hbm, 187, rfl⟩
abbrev main_v141 : Ref sig .tc := ⟨.hbm, 188, rfl⟩
abbrev main_v142 : Ref sig .tc := ⟨.hbm, 189, rfl⟩
abbrev main_c_41 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_c_42 : Ref sig .tc := ⟨.hbm, 196, rfl⟩
abbrev main_v148 : Ref sig .tc := ⟨.hbm, 197, rfl⟩
abbrev main_v149 : Ref sig .tc := ⟨.hbm, 198, rfl⟩
abbrev main_c_43 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_c_44 : Ref sig .tc := ⟨.hbm, 205, rfl⟩
abbrev main_v155 : Ref sig .tc := ⟨.hbm, 206, rfl⟩
abbrev main_v156 : Ref sig .tc := ⟨.hbm, 207, rfl⟩
abbrev main_c_45 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_c_46 : Ref sig .tc := ⟨.hbm, 214, rfl⟩
abbrev main_v162 : Ref sig .tc := ⟨.hbm, 215, rfl⟩
abbrev main_v163 : Ref sig .tc := ⟨.hbm, 216, rfl⟩
abbrev main_c_47 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_c_48 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_c_49 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_c_50 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32_7 : BitVec 32 := 0#32
  let c4_i32 : BitVec 32 := 4#32
  let v14 : BitVec 32 := Scalar.addi c0_i32_7 c4_i32
  let c1_i32 : BitVec 32 := 1#32
  ⟨c0_i32_7, v14, c1_i32⟩
def k0_off1 (k0_t1 : Fin k0_t1_loop.trips) (c0_i32_9 : BitVec 32) : Fin 3 → Nat :=
  let c0_i32_7 : BitVec 32 := 0#32
  let c1_i32 : BitVec 32 := 1#32
  let arg6 : BitVec 32 := Scf.iv c0_i32_7 c1_i32 k0_t1
  let v15 : BitVec 32 := Scalar.addi arg6 c0_i32_9
  let v47 : Index := Scalar.indexCast v15
  let c0_11 : Index := 0#32
  let c0_12 : Index := 0#32
  ![v47.toNat, 0, 0]
def k0_off2 (k0_t1 : Fin k0_t1_loop.trips) (c0_i32_9 : BitVec 32) (c0_i32_139 : BitVec 32) : Fin 2 → Nat :=
  let c0_i32_7 : BitVec 32 := 0#32
  let c1_i32 : BitVec 32 := 1#32
  let arg6 : BitVec 32 := Scf.iv c0_i32_7 c1_i32 k0_t1
  let v15 : BitVec 32 := Scalar.addi arg6 c0_i32_9
  let c32_i32_140 : BitVec 32 := 32#32
  let v304 : BitVec 32 := Scalar.muli v15 c32_i32_140
  let v305 : BitVec 32 := Scalar.addi v304 c0_i32_139
  let v310 : Index := Scalar.indexCast v305
  let c0_142 : Index := 0#32
  ![v310.toNat, 0]
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x64x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x64x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4096x128 : Shape := ⟨2, ![4096, 128]⟩
abbrev S64x2x128x2 : Shape := ⟨4, ![64, 2, 128, 2]⟩
abbrev S128x2x64x2 : Shape := ⟨4, ![128, 2, 64, 2]⟩
abbrev S64 : Shape := ⟨1, ![64]⟩
abbrev S128 : Shape := ⟨1, ![128]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S64x1x1x1 : Shape := ⟨4, ![64, 1, 1, 1]⟩
abbrev S64x1x1 : Shape := ⟨3, ![64, 1, 1]⟩
abbrev S1x1x1 : Shape := ⟨3, ![1, 1, 1]⟩
abbrev S64x1 : Shape := ⟨2, ![64, 1]⟩
abbrev S64x1x128x2 : Shape := ⟨4, ![64, 1, 128, 2]⟩
abbrev S64x128x2 : Shape := ⟨3, ![64, 128, 2]⟩
abbrev S1x64x128x2 : Shape := ⟨4, ![1, 64, 128, 2]⟩
abbrev S4096x64x128x2 : Shape := ⟨4, ![4096, 64, 128, 2]⟩
abbrev S1x1x1x1 : Shape := ⟨4, ![1, 1, 1, 1]⟩
abbrev S4096x64x128x1 : Shape := ⟨4, ![4096, 64, 128, 1]⟩
abbrev S4096x64x128 : Shape := ⟨3, ![4096, 64, 128]⟩
abbrev S4096x64 : Shape := ⟨2, ![4096, 64]⟩
abbrev S1x1 : Shape := ⟨2, ![1, 1]⟩
abbrev S1x1x128 : Shape := ⟨3, ![1, 1, 128]⟩
abbrev S4096x64x1 : Shape := ⟨3, ![4096, 64, 1]⟩
abbrev S4096x1x128 : Shape := ⟨3, ![4096, 1, 128]⟩
abbrev S1x64x1 : Shape := ⟨3, ![1, 64, 1]⟩
abbrev S1x64 : Shape := ⟨2, ![1, 64]⟩
abbrev S128x1x1x1 : Shape := ⟨4, ![128, 1, 1, 1]⟩
abbrev S128x1x1 : Shape := ⟨3, ![128, 1, 1]⟩
abbrev S128x1 : Shape := ⟨2, ![128, 1]⟩
abbrev S128x1x64x2 : Shape := ⟨4, ![128, 1, 64, 2]⟩
abbrev S128x64x2 : Shape := ⟨3, ![128, 64, 2]⟩
abbrev S1x128x64x2 : Shape := ⟨4, ![1, 128, 64, 2]⟩
abbrev S4096x128x64x2 : Shape := ⟨4, ![4096, 128, 64, 2]⟩
abbrev S4096x128x64x1 : Shape := ⟨4, ![4096, 128, 64, 1]⟩
abbrev S4096x128x64 : Shape := ⟨3, ![4096, 128, 64]⟩
abbrev S1x1x64 : Shape := ⟨3, ![1, 1, 64]⟩
abbrev S4096x128x1 : Shape := ⟨3, ![4096, 128, 1]⟩
abbrev S4096x1x64 : Shape := ⟨3, ![4096, 1, 64]⟩
abbrev S1x128x1 : Shape := ⟨3, ![1, 128, 1]⟩
abbrev S1x128 : Shape := ⟨2, ![1, 128]⟩

abbrev nBuf : Space → Nat
  | .hbm => 2980
  | .vmem => 0
  | .smem => 0
  | _ => 0

abbrev hbmTy0_0 (i : Nat) : BufTy := match i % 128 with
  | 0 => ⟨S4096x128, .f32⟩
  | 1 => ⟨S64x2x128x2, .f32⟩
  | 2 => ⟨S128x2x64x2, .f32⟩
  | 3 => ⟨S64, .i32⟩
  | 4 => ⟨S128, .i32⟩
  | 5 => ⟨S_, .i32⟩
  | 6 => ⟨S_, .i32⟩
  | 7 => ⟨S_, .i32⟩
  | 8 => ⟨S1, .i32⟩
  | 9 => ⟨S1, .i32⟩
  | 10 => ⟨S2, .i32⟩
  | 11 => ⟨S_, .i32⟩
  | 12 => ⟨S_, .i32⟩
  | 13 => ⟨S_, .i32⟩
  | 14 => ⟨S2, .i32⟩
  | 15 => ⟨S2, .i32⟩
  | 16 => ⟨S2, .i32⟩
  | 17 => ⟨S_, .i32⟩
  | 18 => ⟨S2, .i32⟩
  | 19 => ⟨S1, .i32⟩
  | 20 => ⟨S_, .i32⟩
  | 21 => ⟨S1, .i32⟩
  | 22 => ⟨S_, .i32⟩
  | 23 => ⟨S_, .i32⟩
  | 24 => ⟨S_, .i32⟩
  | 25 => ⟨S_, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S2, .i32⟩
  | 48 => ⟨S2, .i32⟩
  | 49 => ⟨S_, .i32⟩
  | 50 => ⟨S2, .i32⟩
  | 51 => ⟨S2, .i32⟩
  | 52 => ⟨S_, .i32⟩
  | 53 => ⟨S2, .i32⟩
  | 54 => ⟨S2, .i32⟩
  | 55 => ⟨S2, .i32⟩
  | 56 => ⟨S2, .i32⟩
  | 57 => ⟨S2, .i32⟩
  | 58 => ⟨S_, .i32⟩
  | 59 => ⟨S2, .i32⟩
  | 60 => ⟨S2, .i32⟩
  | 61 => ⟨S_, .i32⟩
  | 62 => ⟨S2, .i32⟩
  | 63 => ⟨S2, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S_, .i32⟩
  | 87 => ⟨S2, .i32⟩
  | 88 => ⟨S2, .i32⟩
  | 89 => ⟨S2, .i32⟩
  | 90 => ⟨S2, .i32⟩
  | 91 => ⟨S2, .i32⟩
  | 92 => ⟨S_, .i32⟩
  | 93 => ⟨S2, .i32⟩
  | 94 => ⟨S2, .i32⟩
  | 95 => ⟨S_, .i32⟩
  | 96 => ⟨S2, .i32⟩
  | 97 => ⟨S2, .i32⟩
  | 98 => ⟨S2, .i32⟩
  | 99 => ⟨S2, .i32⟩
  | 100 => ⟨S2, .i32⟩
  | 101 => ⟨S_, .i32⟩
  | 102 => ⟨S2, .i32⟩
  | 103 => ⟨S2, .i32⟩
  | 104 => ⟨S_, .i32⟩
  | 105 => ⟨S2, .i32⟩
  | 106 => ⟨S2, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S4096x128, .f32⟩

abbrev hbmTy0_1 (i : Nat) : BufTy := match i % 128 with
  | 0 => ⟨S2, .i32⟩
  | 1 => ⟨S_, .i32⟩
  | 2 => ⟨S2, .i32⟩
  | 3 => ⟨S2, .i32⟩
  | 4 => ⟨S2, .i32⟩
  | 5 => ⟨S2, .i32⟩
  | 6 => ⟨S2, .i32⟩
  | 7 => ⟨S_, .i32⟩
  | 8 => ⟨S2, .i32⟩
  | 9 => ⟨S2, .i32⟩
  | 10 => ⟨S_, .i32⟩
  | 11 => ⟨S2, .i32⟩
  | 12 => ⟨S2, .i32⟩
  | 13 => ⟨S2, .i32⟩
  | 14 => ⟨S2, .i32⟩
  | 15 => ⟨S2, .i32⟩
  | 16 => ⟨S_, .i32⟩
  | 17 => ⟨S2, .i32⟩
  | 18 => ⟨S2, .i32⟩
  | 19 => ⟨S_, .i32⟩
  | 20 => ⟨S2, .i32⟩
  | 21 => ⟨S2, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S_, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S2x1, .i32⟩
  | 118 => ⟨S2x1, .i32⟩
  | 119 => ⟨S2x2, .i32⟩
  | 120 => ⟨S1x2, .i32⟩
  | 121 => ⟨S2, .i32⟩
  | 122 => ⟨S1x2, .i32⟩
  | 123 => ⟨S2, .i32⟩
  | 124 => ⟨S64x1x1x1, .i32⟩
  | 125 => ⟨S_, .i32⟩
  | 126 => ⟨S64x1x1x1, .i32⟩
  | 127 => ⟨S64x1x1x1, .i1⟩
  | _ => ⟨S4096x128, .f32⟩

abbrev hbmTy0_2 (i : Nat) : BufTy := match i % 128 with
  | 0 => ⟨S_, .i32⟩
  | 1 => ⟨S64x1x1x1, .i32⟩
  | 2 => ⟨S64x1x1x1, .i32⟩
  | 3 => ⟨S64x1x1x1, .i32⟩
  | 4 => ⟨S64x1x1, .i32⟩
  | 5 => ⟨S1, .i32⟩
  | 6 => ⟨S_, .i32⟩
  | 7 => ⟨S64x1x1, .i32⟩
  | 8 => ⟨S64x1x1, .i1⟩
  | 9 => ⟨S1x1x1, .i32⟩
  | 10 => ⟨S64x1x1, .i32⟩
  | 11 => ⟨S64x1x1, .i1⟩
  | 12 => ⟨S64x1x1, .i1⟩
  | 13 => ⟨S_, .i1⟩
  | 14 => ⟨S64x1, .i1⟩
  | 15 => ⟨S64x1x128x2, .f32⟩
  | 16 => ⟨S64x1x128x2, .i1⟩
  | 17 => ⟨S_, .f32⟩
  | 18 => ⟨S64x1x128x2, .f32⟩
  | 19 => ⟨S64x1x128x2, .f32⟩
  | 20 => ⟨S64x128x2, .f32⟩
  | 21 => ⟨S64x128x2, .f32⟩
  | 22 => ⟨S_, .i32⟩
  | 23 => ⟨S_, .i32⟩
  | 24 => ⟨S_, .i32⟩
  | 25 => ⟨S2, .i32⟩
  | 26 => ⟨S2, .i32⟩
  | 27 => ⟨S2, .i32⟩
  | 28 => ⟨S_, .i32⟩
  | 29 => ⟨S2, .i32⟩
  | 30 => ⟨S1, .i32⟩
  | 31 => ⟨S_, .i32⟩
  | 32 => ⟨S1, .i32⟩
  | 33 => ⟨S_, .i32⟩
  | 34 => ⟨S_, .i32⟩
  | 35 => ⟨S_, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S_, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S2, .i32⟩
  | 77 => ⟨S2, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S_, .i32⟩
  | 113 => ⟨S2, .i32⟩
  | 114 => ⟨S2, .i32⟩
  | 115 => ⟨S_, .i32⟩
  | 116 => ⟨S2, .i32⟩
  | 117 => ⟨S2, .i32⟩
  | 118 => ⟨S2, .i32⟩
  | 119 => ⟨S2, .i32⟩
  | 120 => ⟨S2, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S2, .i32⟩
  | _ => ⟨S4096x128, .f32⟩

abbrev hbmTy0_3 (i : Nat) : BufTy := match i % 128 with
  | 0 => ⟨S_, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S_, .i32⟩
  | 13 => ⟨S2, .i32⟩
  | 14 => ⟨S2, .i32⟩
  | 15 => ⟨S2, .i32⟩
  | 16 => ⟨S2, .i32⟩
  | 17 => ⟨S2, .i32⟩
  | 18 => ⟨S_, .i32⟩
  | 19 => ⟨S2, .i32⟩
  | 20 => ⟨S2, .i32⟩
  | 21 => ⟨S_, .i32⟩
  | 22 => ⟨S2, .i32⟩
  | 23 => ⟨S2, .i32⟩
  | 24 => ⟨S2, .i32⟩
  | 25 => ⟨S2, .i32⟩
  | 26 => ⟨S2, .i32⟩
  | 27 => ⟨S_, .i32⟩
  | 28 => ⟨S2, .i32⟩
  | 29 => ⟨S2, .i32⟩
  | 30 => ⟨S_, .i32⟩
  | 31 => ⟨S2, .i32⟩
  | 32 => ⟨S2, .i32⟩
  | 33 => ⟨S2, .i32⟩
  | 34 => ⟨S2, .i32⟩
  | 35 => ⟨S2, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S2, .i32⟩
  | 78 => ⟨S2, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S2, .i32⟩
  | 121 => ⟨S2, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S4096x128, .f32⟩

abbrev hbmTy0_4 (i : Nat) : BufTy := match i % 128 with
  | 0 => ⟨S2x1, .i32⟩
  | 1 => ⟨S2x1, .i32⟩
  | 2 => ⟨S2x2, .i32⟩
  | 3 => ⟨S1x2, .i32⟩
  | 4 => ⟨S2, .i32⟩
  | 5 => ⟨S1x2, .i32⟩
  | 6 => ⟨S2, .i32⟩
  | 7 => ⟨S1x64x128x2, .f32⟩
  | 8 => ⟨S4096x64x128x2, .f32⟩
  | 9 => ⟨S_, .f32⟩
  | 10 => ⟨S1x1x1x1, .f32⟩
  | 11 => ⟨S_, .f32⟩
  | 12 => ⟨S1x1x1x1, .f32⟩
  | 13 => ⟨S_, .i32⟩
  | 14 => ⟨S_, .i32⟩
  | 15 => ⟨S_, .i32⟩
  | 16 => ⟨S4096x64x128x2, .i32⟩
  | 17 => ⟨S4096x64x128x2, .i32⟩
  | 18 => ⟨S4096x64x128x2, .i32⟩
  | 19 => ⟨S_, .i32⟩
  | 20 => ⟨S4096x64x128x2, .i32⟩
  | 21 => ⟨S4096x64x128x2, .i32⟩
  | 22 => ⟨S4096x64x128x2, .i32⟩
  | 23 => ⟨S4096x64x128x2, .i32⟩
  | 24 => ⟨S_, .i32⟩
  | 25 => ⟨S4096x64x128x2, .i32⟩
  | 26 => ⟨S4096x64x128x2, .i32⟩
  | 27 => ⟨S4096x64x128x2, .i32⟩
  | 28 => ⟨S4096x64x128x2, .i32⟩
  | 29 => ⟨S_, .i32⟩
  | 30 => ⟨S4096x64x128x2, .i32⟩
  | 31 => ⟨S4096x64x128x2, .i32⟩
  | 32 => ⟨S4096x64x128x2, .i32⟩
  | 33 => ⟨S4096x64x128x2, .i32⟩
  | 34 => ⟨S_, .i32⟩
  | 35 => ⟨S4096x64x128x2, .i32⟩
  | 36 => ⟨S1, .i32⟩
  | 37 => ⟨S_, .i32⟩
  | 38 => ⟨S1, .i32⟩
  | 39 => ⟨S_, .i32⟩
  | 40 => ⟨S_, .i32⟩
  | 41 => ⟨S_, .i32⟩
  | 42 => ⟨S_, .i32⟩
  | 43 => ⟨S4096x64x128x2, .i32⟩
  | 44 => ⟨S4096x64x128x2, .i32⟩
  | 45 => ⟨S4096x64x128x2, .i32⟩
  | 46 => ⟨S4096x64x128x2, .i32⟩
  | 47 => ⟨S4096x64x128x2, .i32⟩
  | 48 => ⟨S_, .i32⟩
  | 49 => ⟨S4096x64x128x2, .i32⟩
  | 50 => ⟨S4096x64x128x2, .i32⟩
  | 51 => ⟨S_, .i32⟩
  | 52 => ⟨S4096x64x128x2, .i32⟩
  | 53 => ⟨S4096x64x128x2, .i32⟩
  | 54 => ⟨S4096x64x128x2, .i32⟩
  | 55 => ⟨S4096x64x128x2, .i32⟩
  | 56 => ⟨S4096x64x128x2, .i32⟩
  | 57 => ⟨S_, .i32⟩
  | 58 => ⟨S4096x64x128x2, .i32⟩
  | 59 => ⟨S4096x64x128x2, .i32⟩
  | 60 => ⟨S_, .i32⟩
  | 61 => ⟨S4096x64x128x2, .i32⟩
  | 62 => ⟨S4096x64x128x2, .i32⟩
  | 63 => ⟨S4096x64x128x2, .i32⟩
  | 64 => ⟨S4096x64x128x2, .i32⟩
  | 65 => ⟨S4096x64x128x2, .i32⟩
  | 66 => ⟨S_, .i32⟩
  | 67 => ⟨S4096x64x128x2, .i32⟩
  | 68 => ⟨S4096x64x128x2, .i32⟩
  | 69 => ⟨S_, .i32⟩
  | 70 => ⟨S4096x64x128x2, .i32⟩
  | 71 => ⟨S4096x64x128x2, .i32⟩
  | 72 => ⟨S4096x64x128x2, .i32⟩
  | 73 => ⟨S4096x64x128x2, .i32⟩
  | 74 => ⟨S4096x64x128x2, .i32⟩
  | 75 => ⟨S_, .i32⟩
  | 76 => ⟨S4096x64x128x2, .i32⟩
  | 77 => ⟨S4096x64x128x2, .i32⟩
  | 78 => ⟨S_, .i32⟩
  | 79 => ⟨S4096x64x128x2, .i32⟩
  | 80 => ⟨S4096x64x128x2, .i32⟩
  | 81 => ⟨S4096x64x128x2, .i32⟩
  | 82 => ⟨S4096x64x128x2, .i32⟩
  | 83 => ⟨S4096x64x128x2, .i32⟩
  | 84 => ⟨S4096x64x128x2, .i32⟩
  | 85 => ⟨S4096x64x128x2, .i32⟩
  | 86 => ⟨S4096x64x128x2, .i32⟩
  | 87 => ⟨S_, .i32⟩
  | 88 => ⟨S4096x64x128x2, .i32⟩
  | 89 => ⟨S4096x64x128x2, .i32⟩
  | 90 => ⟨S4096x64x128x2, .i32⟩
  | 91 => ⟨S_, .i32⟩
  | 92 => ⟨S4096x64x128x2, .i32⟩
  | 93 => ⟨S4096x64x128x2, .i32⟩
  | 94 => ⟨S_, .i32⟩
  | 95 => ⟨S4096x64x128x2, .i32⟩
  | 96 => ⟨S4096x64x128x2, .i32⟩
  | 97 => ⟨S4096x64x128x2, .i32⟩
  | 98 => ⟨S4096x64x128x2, .i32⟩
  | 99 => ⟨S4096x64x128x2, .i32⟩
  | 100 => ⟨S_, .i32⟩
  | 101 => ⟨S4096x64x128x2, .i32⟩
  | 102 => ⟨S4096x64x128x2, .i32⟩
  | 103 => ⟨S_, .i32⟩
  | 104 => ⟨S4096x64x128x2, .i32⟩
  | 105 => ⟨S4096x64x128x2, .i32⟩
  | 106 => ⟨S4096x64x128x2, .i32⟩
  | 107 => ⟨S4096x64x128x2, .i32⟩
  | 108 => ⟨S4096x64x128x2, .i32⟩
  | 109 => ⟨S_, .i32⟩
  | 110 => ⟨S4096x64x128x2, .i32⟩
  | 111 => ⟨S4096x64x128x2, .i32⟩
  | 112 => ⟨S_, .i32⟩
  | 113 => ⟨S4096x64x128x2, .i32⟩
  | 114 => ⟨S4096x64x128x2, .i32⟩
  | 115 => ⟨S4096x64x128x2, .i32⟩
  | 116 => ⟨S4096x64x128x2, .i32⟩
  | 117 => ⟨S4096x64x128x2, .i32⟩
  | 118 => ⟨S_, .i32⟩
  | 119 => ⟨S4096x64x128x2, .i32⟩
  | 120 => ⟨S4096x64x128x2, .i32⟩
  | 121 => ⟨S_, .i32⟩
  | 122 => ⟨S4096x64x128x2, .i32⟩
  | 123 => ⟨S4096x64x128x2, .i32⟩
  | 124 => ⟨S4096x64x128x2, .i32⟩
  | 125 => ⟨S4096x64x128x2, .i32⟩
  | 126 => ⟨S4096x64x128x2, .i32⟩
  | 127 => ⟨S4096x64x128x2, .i32⟩
  | _ => ⟨S4096x128, .f32⟩

abbrev hbmTy0_5 (i : Nat) : BufTy := match i % 128 with
  | 0 => ⟨S4096x64x128x2, .i32⟩
  | 1 => ⟨S4096x64x128x2, .i32⟩
  | 2 => ⟨S_, .i32⟩
  | 3 => ⟨S4096x64x128x2, .i32⟩
  | 4 => ⟨S4096x64x128x2, .i32⟩
  | 5 => ⟨S4096x64x128x2, .i32⟩
  | 6 => ⟨S_, .i32⟩
  | 7 => ⟨S4096x64x128x2, .i32⟩
  | 8 => ⟨S4096x64x128x2, .i32⟩
  | 9 => ⟨S_, .i32⟩
  | 10 => ⟨S4096x64x128x2, .i32⟩
  | 11 => ⟨S4096x64x128x2, .i32⟩
  | 12 => ⟨S4096x64x128x2, .i32⟩
  | 13 => ⟨S4096x64x128x2, .i32⟩
  | 14 => ⟨S4096x64x128x2, .i32⟩
  | 15 => ⟨S_, .i32⟩
  | 16 => ⟨S4096x64x128x2, .i32⟩
  | 17 => ⟨S4096x64x128x2, .i32⟩
  | 18 => ⟨S_, .i32⟩
  | 19 => ⟨S4096x64x128x2, .i32⟩
  | 20 => ⟨S4096x64x128x2, .i32⟩
  | 21 => ⟨S4096x64x128x2, .i32⟩
  | 22 => ⟨S4096x64x128x2, .i32⟩
  | 23 => ⟨S4096x64x128x2, .i32⟩
  | 24 => ⟨S_, .i32⟩
  | 25 => ⟨S4096x64x128x2, .i32⟩
  | 26 => ⟨S4096x64x128x2, .i32⟩
  | 27 => ⟨S_, .i32⟩
  | 28 => ⟨S4096x64x128x2, .i32⟩
  | 29 => ⟨S4096x64x128x2, .i32⟩
  | 30 => ⟨S4096x64x128x2, .i32⟩
  | 31 => ⟨S4096x64x128x2, .i32⟩
  | 32 => ⟨S4096x64x128x2, .i32⟩
  | 33 => ⟨S_, .i32⟩
  | 34 => ⟨S4096x64x128x2, .i32⟩
  | 35 => ⟨S4096x64x128x2, .i32⟩
  | 36 => ⟨S_, .i32⟩
  | 37 => ⟨S4096x64x128x2, .i32⟩
  | 38 => ⟨S4096x64x128x2, .i32⟩
  | 39 => ⟨S4096x64x128x2, .i32⟩
  | 40 => ⟨S4096x64x128x2, .i32⟩
  | 41 => ⟨S4096x64x128x2, .i32⟩
  | 42 => ⟨S4096x64x128x2, .i32⟩
  | 43 => ⟨S4096x64x128x2, .i32⟩
  | 44 => ⟨S4096x64x128x2, .i32⟩
  | 45 => ⟨S_, .i32⟩
  | 46 => ⟨S4096x64x128x2, .i32⟩
  | 47 => ⟨S4096x64x128x2, .i32⟩
  | 48 => ⟨S4096x64x128x2, .i32⟩
  | 49 => ⟨S_, .i32⟩
  | 50 => ⟨S4096x64x128x2, .i32⟩
  | 51 => ⟨S4096x64x128x2, .i32⟩
  | 52 => ⟨S_, .i32⟩
  | 53 => ⟨S4096x64x128x2, .i32⟩
  | 54 => ⟨S4096x64x128x2, .i32⟩
  | 55 => ⟨S4096x64x128x2, .i32⟩
  | 56 => ⟨S4096x64x128x2, .i32⟩
  | 57 => ⟨S4096x64x128x2, .i32⟩
  | 58 => ⟨S_, .i32⟩
  | 59 => ⟨S4096x64x128x2, .i32⟩
  | 60 => ⟨S4096x64x128x2, .i32⟩
  | 61 => ⟨S_, .i32⟩
  | 62 => ⟨S4096x64x128x2, .i32⟩
  | 63 => ⟨S4096x64x128x2, .i32⟩
  | 64 => ⟨S4096x64x128x2, .i32⟩
  | 65 => ⟨S4096x64x128x2, .i32⟩
  | 66 => ⟨S4096x64x128x2, .i32⟩
  | 67 => ⟨S_, .i32⟩
  | 68 => ⟨S4096x64x128x2, .i32⟩
  | 69 => ⟨S4096x64x128x2, .i32⟩
  | 70 => ⟨S_, .i32⟩
  | 71 => ⟨S4096x64x128x2, .i32⟩
  | 72 => ⟨S4096x64x128x2, .i32⟩
  | 73 => ⟨S4096x64x128x2, .i32⟩
  | 74 => ⟨S4096x64x128x2, .i32⟩
  | 75 => ⟨S4096x64x128x2, .i32⟩
  | 76 => ⟨S_, .i32⟩
  | 77 => ⟨S4096x64x128x2, .i32⟩
  | 78 => ⟨S4096x64x128x2, .i32⟩
  | 79 => ⟨S_, .i32⟩
  | 80 => ⟨S4096x64x128x2, .i32⟩
  | 81 => ⟨S4096x64x128x2, .i32⟩
  | 82 => ⟨S4096x64x128x2, .i32⟩
  | 83 => ⟨S4096x64x128x2, .i32⟩
  | 84 => ⟨S4096x64x128x2, .i32⟩
  | 85 => ⟨S4096x64x128x2, .i32⟩
  | 86 => ⟨S4096x64x128x2, .i32⟩
  | 87 => ⟨S4096x64x128x2, .i32⟩
  | 88 => ⟨S_, .i32⟩
  | 89 => ⟨S4096x64x128x2, .i32⟩
  | 90 => ⟨S4096x64x128x2, .i32⟩
  | 91 => ⟨S4096x64x128x2, .i32⟩
  | 92 => ⟨S_, .i32⟩
  | 93 => ⟨S4096x64x128x2, .i32⟩
  | 94 => ⟨S4096x64x128x2, .i32⟩
  | 95 => ⟨S_, .i32⟩
  | 96 => ⟨S4096x64x128x2, .i32⟩
  | 97 => ⟨S4096x64x128x2, .i32⟩
  | 98 => ⟨S4096x64x128x2, .i32⟩
  | 99 => ⟨S4096x64x128x2, .i32⟩
  | 100 => ⟨S4096x64x128x2, .i32⟩
  | 101 => ⟨S_, .i32⟩
  | 102 => ⟨S4096x64x128x2, .i32⟩
  | 103 => ⟨S4096x64x128x2, .i32⟩
  | 104 => ⟨S_, .i32⟩
  | 105 => ⟨S4096x64x128x2, .i32⟩
  | 106 => ⟨S4096x64x128x2, .i32⟩
  | 107 => ⟨S4096x64x128x2, .i32⟩
  | 108 => ⟨S4096x64x128x2, .i32⟩
  | 109 => ⟨S4096x64x128x2, .i32⟩
  | 110 => ⟨S_, .i32⟩
  | 111 => ⟨S4096x64x128x2, .i32⟩
  | 112 => ⟨S4096x64x128x2, .i32⟩
  | 113 => ⟨S_, .i32⟩
  | 114 => ⟨S4096x64x128x2, .i32⟩
  | 115 => ⟨S4096x64x128x2, .i32⟩
  | 116 => ⟨S4096x64x128x2, .i32⟩
  | 117 => ⟨S4096x64x128x2, .i32⟩
  | 118 => ⟨S4096x64x128x2, .i32⟩
  | 119 => ⟨S_, .i32⟩
  | 120 => ⟨S4096x64x128x2, .i32⟩
  | 121 => ⟨S4096x64x128x2, .i32⟩
  | 122 => ⟨S_, .i32⟩
  | 123 => ⟨S4096x64x128x2, .i32⟩
  | 124 => ⟨S4096x64x128x2, .i32⟩
  | 125 => ⟨S4096x64x128x2, .i32⟩
  | 126 => ⟨S4096x64x128x2, .i32⟩
  | 127 => ⟨S4096x64x128x2, .i32⟩
  | _ => ⟨S4096x128, .f32⟩

abbrev hbmTy0_6 (i : Nat) : BufTy := match i % 128 with
  | 0 => ⟨S4096x64x128x2, .i32⟩
  | 1 => ⟨S4096x64x128x2, .i32⟩
  | 2 => ⟨S4096x64x128x2, .i32⟩
  | 3 => ⟨S_, .i32⟩
  | 4 => ⟨S4096x64x128x2, .i32⟩
  | 5 => ⟨S4096x64x128x2, .i32⟩
  | 6 => ⟨S4096x64x128x2, .i32⟩
  | 7 => ⟨S_, .i32⟩
  | 8 => ⟨S4096x64x128x2, .i32⟩
  | 9 => ⟨S4096x64x128x2, .i32⟩
  | 10 => ⟨S_, .i32⟩
  | 11 => ⟨S4096x64x128x2, .i32⟩
  | 12 => ⟨S4096x64x128x2, .i32⟩
  | 13 => ⟨S4096x64x128x2, .f32⟩
  | 14 => ⟨S_, .f32⟩
  | 15 => ⟨S4096x64x128x2, .f32⟩
  | 16 => ⟨S4096x64x128x2, .f32⟩
  | 17 => ⟨S1x1x1x1, .f32⟩
  | 18 => ⟨S4096x64x128x2, .f32⟩
  | 19 => ⟨S4096x64x128x2, .f32⟩
  | 20 => ⟨S4096x64x128x2, .f32⟩
  | 21 => ⟨S4096x64x128x2, .f32⟩
  | 22 => ⟨S4096x64x128x2, .f32⟩
  | 23 => ⟨S4096x64x128x2, .f32⟩
  | 24 => ⟨S4096x64x128x2, .f32⟩
  | 25 => ⟨S4096x64x128x2, .f32⟩
  | 26 => ⟨S4096x64x128x2, .f32⟩
  | 27 => ⟨S4096x64x128x2, .f32⟩
  | 28 => ⟨S4096x64x128x2, .f32⟩
  | 29 => ⟨S4096x64x128x1, .f32⟩
  | 30 => ⟨S4096x64x128, .f32⟩
  | 31 => ⟨S4096x64x128x1, .f32⟩
  | 32 => ⟨S4096x64x128, .f32⟩
  | 33 => ⟨S4096x64x128, .i1⟩
  | 34 => ⟨S4096x64x128, .i32⟩
  | 35 => ⟨S_, .i32⟩
  | 36 => ⟨S4096x64, .i32⟩
  | 37 => ⟨S_, .i32⟩
  | 38 => ⟨S4096x64, .i32⟩
  | 39 => ⟨S4096x64, .i1⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S1x1, .i32⟩
  | 60 => ⟨S1x1, .i32⟩
  | 61 => ⟨S_, .i32⟩
  | 62 => ⟨S_, .i32⟩
  | 63 => ⟨S_, .i32⟩
  | 64 => ⟨S2, .i32⟩
  | 65 => ⟨S2, .i32⟩
  | 66 => ⟨S2, .i32⟩
  | 67 => ⟨S_, .i32⟩
  | 68 => ⟨S2, .i32⟩
  | 69 => ⟨S1, .i32⟩
  | 70 => ⟨S_, .i32⟩
  | 71 => ⟨S1, .i32⟩
  | 72 => ⟨S_, .i32⟩
  | 73 => ⟨S_, .i32⟩
  | 74 => ⟨S_, .i32⟩
  | 75 => ⟨S_, .i32⟩
  | 76 => ⟨S2, .i32⟩
  | 77 => ⟨S2, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S_, .i32⟩
  | _ => ⟨S4096x128, .f32⟩

abbrev hbmTy0_7 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S_, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S4096x128, .f32⟩

abbrev hbmTy0_8 (i : Nat) : BufTy := match i % 128 with
  | 0 => ⟨S_, .i32⟩
  | 1 => ⟨S2, .i32⟩
  | 2 => ⟨S2, .i32⟩
  | 3 => ⟨S2, .i32⟩
  | 4 => ⟨S2, .i32⟩
  | 5 => ⟨S2, .i32⟩
  | 6 => ⟨S_, .i32⟩
  | 7 => ⟨S2, .i32⟩
  | 8 => ⟨S2, .i32⟩
  | 9 => ⟨S_, .i32⟩
  | 10 => ⟨S2, .i32⟩
  | 11 => ⟨S2, .i32⟩
  | 12 => ⟨S2, .i32⟩
  | 13 => ⟨S2, .i32⟩
  | 14 => ⟨S2, .i32⟩
  | 15 => ⟨S_, .i32⟩
  | 16 => ⟨S2, .i32⟩
  | 17 => ⟨S2, .i32⟩
  | 18 => ⟨S_, .i32⟩
  | 19 => ⟨S2, .i32⟩
  | 20 => ⟨S2, .i32⟩
  | 21 => ⟨S2, .i32⟩
  | 22 => ⟨S2, .i32⟩
  | 23 => ⟨S2, .i32⟩
  | 24 => ⟨S_, .i32⟩
  | 25 => ⟨S2, .i32⟩
  | 26 => ⟨S2, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S2x1, .i32⟩
  | 40 => ⟨S2x1, .i32⟩
  | 41 => ⟨S2x2, .i32⟩
  | 42 => ⟨S1x2, .i32⟩
  | 43 => ⟨S2, .i32⟩
  | 44 => ⟨S1x2, .i32⟩
  | 45 => ⟨S2, .i32⟩
  | 46 => ⟨S_, .i32⟩
  | 47 => ⟨S_, .i32⟩
  | 48 => ⟨S_, .i32⟩
  | 49 => ⟨S4096x64, .i32⟩
  | 50 => ⟨S4096x64, .i32⟩
  | 51 => ⟨S4096x64, .i32⟩
  | 52 => ⟨S_, .i32⟩
  | 53 => ⟨S4096x64, .i32⟩
  | 54 => ⟨S4096x64, .i32⟩
  | 55 => ⟨S4096x64, .i32⟩
  | 56 => ⟨S4096x64, .i32⟩
  | 57 => ⟨S_, .i32⟩
  | 58 => ⟨S4096x64, .i32⟩
  | 59 => ⟨S1, .i32⟩
  | 60 => ⟨S_, .i32⟩
  | 61 => ⟨S1, .i32⟩
  | 62 => ⟨S_, .i32⟩
  | 63 => ⟨S_, .i32⟩
  | 64 => ⟨S_, .i32⟩
  | 65 => ⟨S_, .i32⟩
  | 66 => ⟨S4096x64, .i32⟩
  | 67 => ⟨S4096x64, .i32⟩
  | 68 => ⟨S4096x64, .i32⟩
  | 69 => ⟨S4096x64, .i32⟩
  | 70 => ⟨S4096x64, .i32⟩
  | 71 => ⟨S_, .i32⟩
  | 72 => ⟨S4096x64, .i32⟩
  | 73 => ⟨S4096x64, .i32⟩
  | 74 => ⟨S_, .i32⟩
  | 75 => ⟨S4096x64, .i32⟩
  | 76 => ⟨S4096x64, .i32⟩
  | 77 => ⟨S4096x64, .i32⟩
  | 78 => ⟨S4096x64, .i32⟩
  | 79 => ⟨S4096x64, .i32⟩
  | 80 => ⟨S_, .i32⟩
  | 81 => ⟨S4096x64, .i32⟩
  | 82 => ⟨S4096x64, .i32⟩
  | 83 => ⟨S_, .i32⟩
  | 84 => ⟨S4096x64, .i32⟩
  | 85 => ⟨S4096x64, .i32⟩
  | 86 => ⟨S4096x64, .i32⟩
  | 87 => ⟨S4096x64, .i32⟩
  | 88 => ⟨S4096x64, .i32⟩
  | 89 => ⟨S_, .i32⟩
  | 90 => ⟨S4096x64, .i32⟩
  | 91 => ⟨S4096x64, .i32⟩
  | 92 => ⟨S_, .i32⟩
  | 93 => ⟨S4096x64, .i32⟩
  | 94 => ⟨S4096x64, .i32⟩
  | 95 => ⟨S4096x64, .i32⟩
  | 96 => ⟨S4096x64, .i32⟩
  | 97 => ⟨S4096x64, .i32⟩
  | 98 => ⟨S_, .i32⟩
  | 99 => ⟨S4096x64, .i32⟩
  | 100 => ⟨S4096x64, .i32⟩
  | 101 => ⟨S_, .i32⟩
  | 102 => ⟨S4096x64, .i32⟩
  | 103 => ⟨S4096x64, .i32⟩
  | 104 => ⟨S4096x64, .i32⟩
  | 105 => ⟨S4096x64, .i32⟩
  | 106 => ⟨S4096x64, .i32⟩
  | 107 => ⟨S4096x64, .i32⟩
  | 108 => ⟨S4096x64, .i32⟩
  | 109 => ⟨S4096x64, .i32⟩
  | 110 => ⟨S_, .i32⟩
  | 111 => ⟨S4096x64, .i32⟩
  | 112 => ⟨S4096x64, .i32⟩
  | 113 => ⟨S4096x64, .i32⟩
  | 114 => ⟨S_, .i32⟩
  | 115 => ⟨S4096x64, .i32⟩
  | 116 => ⟨S4096x64, .i32⟩
  | 117 => ⟨S_, .i32⟩
  | 118 => ⟨S4096x64, .i32⟩
  | 119 => ⟨S4096x64, .i32⟩
  | 120 => ⟨S4096x64, .i32⟩
  | 121 => ⟨S4096x64, .i32⟩
  | 122 => ⟨S4096x64, .i32⟩
  | 123 => ⟨S_, .i32⟩
  | 124 => ⟨S4096x64, .i32⟩
  | 125 => ⟨S4096x64, .i32⟩
  | 126 => ⟨S_, .i32⟩
  | 127 => ⟨S4096x64, .i32⟩
  | _ => ⟨S4096x128, .f32⟩

abbrev hbmTy0_9 (i : Nat) : BufTy := match i % 128 with
  | 0 => ⟨S4096x64, .i32⟩
  | 1 => ⟨S4096x64, .i32⟩
  | 2 => ⟨S4096x64, .i32⟩
  | 3 => ⟨S4096x64, .i32⟩
  | 4 => ⟨S_, .i32⟩
  | 5 => ⟨S4096x64, .i32⟩
  | 6 => ⟨S4096x64, .i32⟩
  | 7 => ⟨S_, .i32⟩
  | 8 => ⟨S4096x64, .i32⟩
  | 9 => ⟨S4096x64, .i32⟩
  | 10 => ⟨S4096x64, .i32⟩
  | 11 => ⟨S4096x64, .i32⟩
  | 12 => ⟨S4096x64, .i32⟩
  | 13 => ⟨S_, .i32⟩
  | 14 => ⟨S4096x64, .i32⟩
  | 15 => ⟨S4096x64, .i32⟩
  | 16 => ⟨S_, .i32⟩
  | 17 => ⟨S4096x64, .i32⟩
  | 18 => ⟨S4096x64, .i32⟩
  | 19 => ⟨S4096x64, .i32⟩
  | 20 => ⟨S4096x64, .i32⟩
  | 21 => ⟨S4096x64, .i32⟩
  | 22 => ⟨S4096x64, .i32⟩
  | 23 => ⟨S4096x64, .i32⟩
  | 24 => ⟨S4096x64, .i32⟩
  | 25 => ⟨S_, .i32⟩
  | 26 => ⟨S4096x64, .i32⟩
  | 27 => ⟨S4096x64, .i32⟩
  | 28 => ⟨S4096x64, .i32⟩
  | 29 => ⟨S_, .i32⟩
  | 30 => ⟨S4096x64, .i32⟩
  | 31 => ⟨S4096x64, .i32⟩
  | 32 => ⟨S_, .i32⟩
  | 33 => ⟨S4096x64, .i32⟩
  | 34 => ⟨S4096x64, .i32⟩
  | 35 => ⟨S4096x64, .i32⟩
  | 36 => ⟨S4096x64, .i32⟩
  | 37 => ⟨S4096x64, .i32⟩
  | 38 => ⟨S_, .i32⟩
  | 39 => ⟨S4096x64, .i32⟩
  | 40 => ⟨S4096x64, .i32⟩
  | 41 => ⟨S_, .i32⟩
  | 42 => ⟨S4096x64, .i32⟩
  | 43 => ⟨S4096x64, .i32⟩
  | 44 => ⟨S4096x64, .i32⟩
  | 45 => ⟨S4096x64, .i32⟩
  | 46 => ⟨S4096x64, .i32⟩
  | 47 => ⟨S_, .i32⟩
  | 48 => ⟨S4096x64, .i32⟩
  | 49 => ⟨S4096x64, .i32⟩
  | 50 => ⟨S_, .i32⟩
  | 51 => ⟨S4096x64, .i32⟩
  | 52 => ⟨S4096x64, .i32⟩
  | 53 => ⟨S4096x64, .i32⟩
  | 54 => ⟨S4096x64, .i32⟩
  | 55 => ⟨S4096x64, .i32⟩
  | 56 => ⟨S_, .i32⟩
  | 57 => ⟨S4096x64, .i32⟩
  | 58 => ⟨S4096x64, .i32⟩
  | 59 => ⟨S_, .i32⟩
  | 60 => ⟨S4096x64, .i32⟩
  | 61 => ⟨S4096x64, .i32⟩
  | 62 => ⟨S4096x64, .i32⟩
  | 63 => ⟨S4096x64, .i32⟩
  | 64 => ⟨S4096x64, .i32⟩
  | 65 => ⟨S4096x64, .i32⟩
  | 66 => ⟨S4096x64, .i32⟩
  | 67 => ⟨S4096x64, .i32⟩
  | 68 => ⟨S_, .i32⟩
  | 69 => ⟨S4096x64, .i32⟩
  | 70 => ⟨S4096x64, .i32⟩
  | 71 => ⟨S4096x64, .i32⟩
  | 72 => ⟨S_, .i32⟩
  | 73 => ⟨S4096x64, .i32⟩
  | 74 => ⟨S4096x64, .i32⟩
  | 75 => ⟨S_, .i32⟩
  | 76 => ⟨S4096x64, .i32⟩
  | 77 => ⟨S4096x64, .i32⟩
  | 78 => ⟨S4096x64, .i32⟩
  | 79 => ⟨S4096x64, .i32⟩
  | 80 => ⟨S4096x64, .i32⟩
  | 81 => ⟨S_, .i32⟩
  | 82 => ⟨S4096x64, .i32⟩
  | 83 => ⟨S4096x64, .i32⟩
  | 84 => ⟨S_, .i32⟩
  | 85 => ⟨S4096x64, .i32⟩
  | 86 => ⟨S4096x64, .i32⟩
  | 87 => ⟨S4096x64, .i32⟩
  | 88 => ⟨S4096x64, .i32⟩
  | 89 => ⟨S4096x64, .i32⟩
  | 90 => ⟨S_, .i32⟩
  | 91 => ⟨S4096x64, .i32⟩
  | 92 => ⟨S4096x64, .i32⟩
  | 93 => ⟨S_, .i32⟩
  | 94 => ⟨S4096x64, .i32⟩
  | 95 => ⟨S4096x64, .i32⟩
  | 96 => ⟨S4096x64, .i32⟩
  | 97 => ⟨S4096x64, .i32⟩
  | 98 => ⟨S4096x64, .i32⟩
  | 99 => ⟨S_, .i32⟩
  | 100 => ⟨S4096x64, .i32⟩
  | 101 => ⟨S4096x64, .i32⟩
  | 102 => ⟨S_, .i32⟩
  | 103 => ⟨S4096x64, .i32⟩
  | 104 => ⟨S4096x64, .i32⟩
  | 105 => ⟨S4096x64, .i32⟩
  | 106 => ⟨S4096x64, .i32⟩
  | 107 => ⟨S4096x64, .i32⟩
  | 108 => ⟨S4096x64, .i32⟩
  | 109 => ⟨S4096x64, .i32⟩
  | 110 => ⟨S4096x64, .i32⟩
  | 111 => ⟨S_, .i32⟩
  | 112 => ⟨S4096x64, .i32⟩
  | 113 => ⟨S4096x64, .i32⟩
  | 114 => ⟨S4096x64, .i32⟩
  | 115 => ⟨S_, .i32⟩
  | 116 => ⟨S4096x64, .i32⟩
  | 117 => ⟨S4096x64, .i32⟩
  | 118 => ⟨S_, .i32⟩
  | 119 => ⟨S4096x64, .i32⟩
  | 120 => ⟨S4096x64, .i32⟩
  | 121 => ⟨S4096x64, .i32⟩
  | 122 => ⟨S4096x64, .i32⟩
  | 123 => ⟨S4096x64, .i32⟩
  | 124 => ⟨S_, .i32⟩
  | 125 => ⟨S4096x64, .i32⟩
  | 126 => ⟨S4096x64, .i32⟩
  | 127 => ⟨S_, .i32⟩
  | _ => ⟨S4096x128, .f32⟩

abbrev hbmTy0_10 (i : Nat) : BufTy := match i % 128 with
  | 0 => ⟨S4096x64, .i32⟩
  | 1 => ⟨S4096x64, .i32⟩
  | 2 => ⟨S4096x64, .i32⟩
  | 3 => ⟨S4096x64, .i32⟩
  | 4 => ⟨S4096x64, .i32⟩
  | 5 => ⟨S_, .i32⟩
  | 6 => ⟨S4096x64, .i32⟩
  | 7 => ⟨S4096x64, .i32⟩
  | 8 => ⟨S_, .i32⟩
  | 9 => ⟨S4096x64, .i32⟩
  | 10 => ⟨S4096x64, .i32⟩
  | 11 => ⟨S4096x64, .i32⟩
  | 12 => ⟨S4096x64, .i32⟩
  | 13 => ⟨S4096x64, .i32⟩
  | 14 => ⟨S_, .i32⟩
  | 15 => ⟨S4096x64, .i32⟩
  | 16 => ⟨S4096x64, .i32⟩
  | 17 => ⟨S_, .i32⟩
  | 18 => ⟨S4096x64, .i32⟩
  | 19 => ⟨S4096x64, .i32⟩
  | 20 => ⟨S4096x64, .i32⟩
  | 21 => ⟨S4096x64, .i32⟩
  | 22 => ⟨S4096x64, .i32⟩
  | 23 => ⟨S4096x64, .i32⟩
  | 24 => ⟨S4096x64, .i32⟩
  | 25 => ⟨S4096x64, .i32⟩
  | 26 => ⟨S_, .i32⟩
  | 27 => ⟨S4096x64, .i32⟩
  | 28 => ⟨S4096x64, .i32⟩
  | 29 => ⟨S4096x64, .i32⟩
  | 30 => ⟨S_, .i32⟩
  | 31 => ⟨S_, .i32⟩
  | 32 => ⟨S_, .i32⟩
  | 33 => ⟨S4096x64, .i32⟩
  | 34 => ⟨S4096x64, .i32⟩
  | 35 => ⟨S4096x64, .i32⟩
  | 36 => ⟨S_, .i32⟩
  | 37 => ⟨S4096x64, .i32⟩
  | 38 => ⟨S4096x64, .i32⟩
  | 39 => ⟨S4096x64, .i32⟩
  | 40 => ⟨S4096x64, .i32⟩
  | 41 => ⟨S_, .i32⟩
  | 42 => ⟨S4096x64, .i32⟩
  | 43 => ⟨S1, .i32⟩
  | 44 => ⟨S_, .i32⟩
  | 45 => ⟨S1, .i32⟩
  | 46 => ⟨S_, .i32⟩
  | 47 => ⟨S_, .i32⟩
  | 48 => ⟨S_, .i32⟩
  | 49 => ⟨S_, .i32⟩
  | 50 => ⟨S4096x64, .i32⟩
  | 51 => ⟨S4096x64, .i32⟩
  | 52 => ⟨S4096x64, .i32⟩
  | 53 => ⟨S4096x64, .i32⟩
  | 54 => ⟨S4096x64, .i32⟩
  | 55 => ⟨S_, .i32⟩
  | 56 => ⟨S4096x64, .i32⟩
  | 57 => ⟨S4096x64, .i32⟩
  | 58 => ⟨S_, .i32⟩
  | 59 => ⟨S4096x64, .i32⟩
  | 60 => ⟨S4096x64, .i32⟩
  | 61 => ⟨S4096x64, .i32⟩
  | 62 => ⟨S4096x64, .i32⟩
  | 63 => ⟨S4096x64, .i32⟩
  | 64 => ⟨S_, .i32⟩
  | 65 => ⟨S4096x64, .i32⟩
  | 66 => ⟨S4096x64, .i32⟩
  | 67 => ⟨S_, .i32⟩
  | 68 => ⟨S4096x64, .i32⟩
  | 69 => ⟨S4096x64, .i32⟩
  | 70 => ⟨S4096x64, .i32⟩
  | 71 => ⟨S4096x64, .i32⟩
  | 72 => ⟨S4096x64, .i32⟩
  | 73 => ⟨S_, .i32⟩
  | 74 => ⟨S4096x64, .i32⟩
  | 75 => ⟨S4096x64, .i32⟩
  | 76 => ⟨S_, .i32⟩
  | 77 => ⟨S4096x64, .i32⟩
  | 78 => ⟨S4096x64, .i32⟩
  | 79 => ⟨S4096x64, .i32⟩
  | 80 => ⟨S4096x64, .i32⟩
  | 81 => ⟨S4096x64, .i32⟩
  | 82 => ⟨S_, .i32⟩
  | 83 => ⟨S4096x64, .i32⟩
  | 84 => ⟨S4096x64, .i32⟩
  | 85 => ⟨S_, .i32⟩
  | 86 => ⟨S4096x64, .i32⟩
  | 87 => ⟨S4096x64, .i32⟩
  | 88 => ⟨S4096x64, .i32⟩
  | 89 => ⟨S4096x64, .i32⟩
  | 90 => ⟨S4096x64, .i32⟩
  | 91 => ⟨S4096x64, .i32⟩
  | 92 => ⟨S4096x64, .i32⟩
  | 93 => ⟨S4096x64, .i32⟩
  | 94 => ⟨S_, .i32⟩
  | 95 => ⟨S4096x64, .i32⟩
  | 96 => ⟨S4096x64, .i32⟩
  | 97 => ⟨S4096x64, .i32⟩
  | 98 => ⟨S_, .i32⟩
  | 99 => ⟨S4096x64, .i32⟩
  | 100 => ⟨S4096x64, .i32⟩
  | 101 => ⟨S_, .i32⟩
  | 102 => ⟨S4096x64, .i32⟩
  | 103 => ⟨S4096x64, .i32⟩
  | 104 => ⟨S4096x64, .i32⟩
  | 105 => ⟨S4096x64, .i32⟩
  | 106 => ⟨S4096x64, .i32⟩
  | 107 => ⟨S_, .i32⟩
  | 108 => ⟨S4096x64, .i32⟩
  | 109 => ⟨S4096x64, .i32⟩
  | 110 => ⟨S_, .i32⟩
  | 111 => ⟨S4096x64, .i32⟩
  | 112 => ⟨S4096x64, .i32⟩
  | 113 => ⟨S4096x64, .i32⟩
  | 114 => ⟨S4096x64, .i32⟩
  | 115 => ⟨S4096x64, .i32⟩
  | 116 => ⟨S_, .i32⟩
  | 117 => ⟨S4096x64, .i32⟩
  | 118 => ⟨S4096x64, .i32⟩
  | 119 => ⟨S_, .i32⟩
  | 120 => ⟨S4096x64, .i32⟩
  | 121 => ⟨S4096x64, .i32⟩
  | 122 => ⟨S4096x64, .i32⟩
  | 123 => ⟨S4096x64, .i32⟩
  | 124 => ⟨S4096x64, .i32⟩
  | 125 => ⟨S_, .i32⟩
  | 126 => ⟨S4096x64, .i32⟩
  | 127 => ⟨S4096x64, .i32⟩
  | _ => ⟨S4096x128, .f32⟩

abbrev hbmTy0_11 (i : Nat) : BufTy := match i % 128 with
  | 0 => ⟨S_, .i32⟩
  | 1 => ⟨S4096x64, .i32⟩
  | 2 => ⟨S4096x64, .i32⟩
  | 3 => ⟨S4096x64, .i32⟩
  | 4 => ⟨S4096x64, .i32⟩
  | 5 => ⟨S4096x64, .i32⟩
  | 6 => ⟨S4096x64, .i32⟩
  | 7 => ⟨S4096x64, .i32⟩
  | 8 => ⟨S4096x64, .i32⟩
  | 9 => ⟨S_, .i32⟩
  | 10 => ⟨S4096x64, .i32⟩
  | 11 => ⟨S4096x64, .i32⟩
  | 12 => ⟨S4096x64, .i32⟩
  | 13 => ⟨S_, .i32⟩
  | 14 => ⟨S4096x64, .i32⟩
  | 15 => ⟨S4096x64, .i32⟩
  | 16 => ⟨S_, .i32⟩
  | 17 => ⟨S4096x64, .i32⟩
  | 18 => ⟨S4096x64, .i32⟩
  | 19 => ⟨S4096x64, .i32⟩
  | 20 => ⟨S4096x64, .i32⟩
  | 21 => ⟨S4096x64, .i32⟩
  | 22 => ⟨S_, .i32⟩
  | 23 => ⟨S4096x64, .i32⟩
  | 24 => ⟨S4096x64, .i32⟩
  | 25 => ⟨S_, .i32⟩
  | 26 => ⟨S4096x64, .i32⟩
  | 27 => ⟨S4096x64, .i32⟩
  | 28 => ⟨S4096x64, .i32⟩
  | 29 => ⟨S4096x64, .i32⟩
  | 30 => ⟨S4096x64, .i32⟩
  | 31 => ⟨S_, .i32⟩
  | 32 => ⟨S4096x64, .i32⟩
  | 33 => ⟨S4096x64, .i32⟩
  | 34 => ⟨S_, .i32⟩
  | 35 => ⟨S4096x64, .i32⟩
  | 36 => ⟨S4096x64, .i32⟩
  | 37 => ⟨S4096x64, .i32⟩
  | 38 => ⟨S4096x64, .i32⟩
  | 39 => ⟨S4096x64, .i32⟩
  | 40 => ⟨S_, .i32⟩
  | 41 => ⟨S4096x64, .i32⟩
  | 42 => ⟨S4096x64, .i32⟩
  | 43 => ⟨S_, .i32⟩
  | 44 => ⟨S4096x64, .i32⟩
  | 45 => ⟨S4096x64, .i32⟩
  | 46 => ⟨S4096x64, .i32⟩
  | 47 => ⟨S4096x64, .i32⟩
  | 48 => ⟨S4096x64, .i32⟩
  | 49 => ⟨S4096x64, .i32⟩
  | 50 => ⟨S4096x64, .i32⟩
  | 51 => ⟨S4096x64, .i32⟩
  | 52 => ⟨S_, .i32⟩
  | 53 => ⟨S4096x64, .i32⟩
  | 54 => ⟨S4096x64, .i32⟩
  | 55 => ⟨S4096x64, .i32⟩
  | 56 => ⟨S_, .i32⟩
  | 57 => ⟨S4096x64, .i32⟩
  | 58 => ⟨S4096x64, .i32⟩
  | 59 => ⟨S_, .i32⟩
  | 60 => ⟨S4096x64, .i32⟩
  | 61 => ⟨S4096x64, .i32⟩
  | 62 => ⟨S4096x64, .i32⟩
  | 63 => ⟨S4096x64, .i32⟩
  | 64 => ⟨S4096x64, .i32⟩
  | 65 => ⟨S_, .i32⟩
  | 66 => ⟨S4096x64, .i32⟩
  | 67 => ⟨S4096x64, .i32⟩
  | 68 => ⟨S_, .i32⟩
  | 69 => ⟨S4096x64, .i32⟩
  | 70 => ⟨S4096x64, .i32⟩
  | 71 => ⟨S4096x64, .i32⟩
  | 72 => ⟨S4096x64, .i32⟩
  | 73 => ⟨S4096x64, .i32⟩
  | 74 => ⟨S_, .i32⟩
  | 75 => ⟨S4096x64, .i32⟩
  | 76 => ⟨S4096x64, .i32⟩
  | 77 => ⟨S_, .i32⟩
  | 78 => ⟨S4096x64, .i32⟩
  | 79 => ⟨S4096x64, .i32⟩
  | 80 => ⟨S4096x64, .i32⟩
  | 81 => ⟨S4096x64, .i32⟩
  | 82 => ⟨S4096x64, .i32⟩
  | 83 => ⟨S_, .i32⟩
  | 84 => ⟨S4096x64, .i32⟩
  | 85 => ⟨S4096x64, .i32⟩
  | 86 => ⟨S_, .i32⟩
  | 87 => ⟨S4096x64, .i32⟩
  | 88 => ⟨S4096x64, .i32⟩
  | 89 => ⟨S4096x64, .i32⟩
  | 90 => ⟨S4096x64, .i32⟩
  | 91 => ⟨S4096x64, .i32⟩
  | 92 => ⟨S4096x64, .i32⟩
  | 93 => ⟨S4096x64, .i32⟩
  | 94 => ⟨S4096x64, .i32⟩
  | 95 => ⟨S_, .i32⟩
  | 96 => ⟨S4096x64, .i32⟩
  | 97 => ⟨S4096x64, .i32⟩
  | 98 => ⟨S4096x64, .i32⟩
  | 99 => ⟨S_, .i32⟩
  | 100 => ⟨S4096x64, .i32⟩
  | 101 => ⟨S4096x64, .i32⟩
  | 102 => ⟨S_, .i32⟩
  | 103 => ⟨S4096x64, .i32⟩
  | 104 => ⟨S4096x64, .i32⟩
  | 105 => ⟨S4096x64, .i32⟩
  | 106 => ⟨S4096x64, .i32⟩
  | 107 => ⟨S4096x64, .i32⟩
  | 108 => ⟨S_, .i32⟩
  | 109 => ⟨S4096x64, .i32⟩
  | 110 => ⟨S4096x64, .i32⟩
  | 111 => ⟨S_, .i32⟩
  | 112 => ⟨S4096x64, .i32⟩
  | 113 => ⟨S4096x64, .i32⟩
  | 114 => ⟨S4096x64, .i32⟩
  | 115 => ⟨S4096x64, .i32⟩
  | 116 => ⟨S4096x64, .i32⟩
  | 117 => ⟨S_, .i32⟩
  | 118 => ⟨S4096x64, .i32⟩
  | 119 => ⟨S4096x64, .i32⟩
  | 120 => ⟨S_, .i32⟩
  | 121 => ⟨S4096x64, .i32⟩
  | 122 => ⟨S4096x64, .i32⟩
  | 123 => ⟨S4096x64, .i32⟩
  | 124 => ⟨S4096x64, .i32⟩
  | 125 => ⟨S4096x64, .i32⟩
  | 126 => ⟨S_, .i32⟩
  | 127 => ⟨S4096x64, .i32⟩
  | _ => ⟨S4096x128, .f32⟩

abbrev hbmTy0_12 (i : Nat) : BufTy := match i % 128 with
  | 0 => ⟨S4096x64, .i32⟩
  | 1 => ⟨S_, .i32⟩
  | 2 => ⟨S4096x64, .i32⟩
  | 3 => ⟨S4096x64, .i32⟩
  | 4 => ⟨S4096x64, .i32⟩
  | 5 => ⟨S4096x64, .i32⟩
  | 6 => ⟨S4096x64, .i32⟩
  | 7 => ⟨S4096x64, .i32⟩
  | 8 => ⟨S4096x64, .i32⟩
  | 9 => ⟨S4096x64, .i32⟩
  | 10 => ⟨S_, .i32⟩
  | 11 => ⟨S4096x64, .i32⟩
  | 12 => ⟨S4096x64, .i32⟩
  | 13 => ⟨S4096x64, .i32⟩
  | 14 => ⟨S1x1, .i32⟩
  | 15 => ⟨S1x1, .i32⟩
  | 16 => ⟨S1x1, .i1⟩
  | 17 => ⟨S_, .i32⟩
  | 18 => ⟨S1x1, .i32⟩
  | 19 => ⟨S1x1, .i32⟩
  | 20 => ⟨S1x1, .i1⟩
  | 21 => ⟨S1x1, .i1⟩
  | 22 => ⟨S1x1, .i1⟩
  | 23 => ⟨S_, .i32⟩
  | 24 => ⟨S1x1, .i32⟩
  | 25 => ⟨S1x1, .i32⟩
  | 26 => ⟨S1x1, .i32⟩
  | 27 => ⟨S_, .i32⟩
  | 28 => ⟨S1x1, .i32⟩
  | 29 => ⟨S1x1, .i32⟩
  | 30 => ⟨S1x1, .i32⟩
  | 31 => ⟨S1x1, .i32⟩
  | 32 => ⟨S4096x64, .i32⟩
  | 33 => ⟨S4096x64, .i32⟩
  | 34 => ⟨S4096x64, .i32⟩
  | 35 => ⟨S4096x64, .i32⟩
  | 36 => ⟨S4096x64, .i32⟩
  | 37 => ⟨S4096x64, .i32⟩
  | 38 => ⟨S4096x64, .i32⟩
  | 39 => ⟨S4096x64, .i32⟩
  | 40 => ⟨S4096x64, .i32⟩
  | 41 => ⟨S4096x64, .i32⟩
  | 42 => ⟨S4096x64, .i32⟩
  | 43 => ⟨S4096x64, .i32⟩
  | 44 => ⟨S128, .i32⟩
  | 45 => ⟨S1x1x128, .i32⟩
  | 46 => ⟨S4096x64x1, .i32⟩
  | 47 => ⟨S4096x64x128, .i32⟩
  | 48 => ⟨S4096x64x128, .i32⟩
  | 49 => ⟨S4096x64x128, .i1⟩
  | 50 => ⟨S4096x64x1, .i1⟩
  | 51 => ⟨S4096x64x128, .i1⟩
  | 52 => ⟨S4096x64x128, .i1⟩
  | 53 => ⟨S_, .i32⟩
  | 54 => ⟨S4096x64x128, .i32⟩
  | 55 => ⟨S4096x64x128, .i32⟩
  | 56 => ⟨S_, .i32⟩
  | 57 => ⟨S64, .i32⟩
  | 58 => ⟨S64, .i1⟩
  | 59 => ⟨S_, .f32⟩
  | 60 => ⟨S64, .f32⟩
  | 61 => ⟨S_, .f32⟩
  | 62 => ⟨S64, .f32⟩
  | 63 => ⟨S64, .f32⟩
  | 64 => ⟨S_, .i32⟩
  | 65 => ⟨S4096x64x128, .i32⟩
  | 66 => ⟨S4096x64x128, .i1⟩
  | 67 => ⟨S4096x1x128, .f32⟩
  | 68 => ⟨S1x64x1, .f32⟩
  | 69 => ⟨S1x64x1, .f32⟩
  | 70 => ⟨S4096x64x128, .f32⟩
  | 71 => ⟨S4096x64x128, .f32⟩
  | 72 => ⟨S4096x64x128, .f32⟩
  | 73 => ⟨S_, .f32⟩
  | 74 => ⟨S4096x64, .f32⟩
  | 75 => ⟨S_, .f32⟩
  | 76 => ⟨S4096x64, .f32⟩
  | 77 => ⟨S1x64, .i1⟩
  | 78 => ⟨S4096x64, .i1⟩
  | 79 => ⟨S4096x64, .f32⟩
  | 80 => ⟨S128x1x1x1, .i32⟩
  | 81 => ⟨S_, .i32⟩
  | 82 => ⟨S128x1x1x1, .i32⟩
  | 83 => ⟨S128x1x1x1, .i1⟩
  | 84 => ⟨S_, .i32⟩
  | 85 => ⟨S128x1x1x1, .i32⟩
  | 86 => ⟨S128x1x1x1, .i32⟩
  | 87 => ⟨S128x1x1x1, .i32⟩
  | 88 => ⟨S128x1x1, .i32⟩
  | 89 => ⟨S1, .i32⟩
  | 90 => ⟨S_, .i32⟩
  | 91 => ⟨S128x1x1, .i32⟩
  | 92 => ⟨S128x1x1, .i1⟩
  | 93 => ⟨S1x1x1, .i32⟩
  | 94 => ⟨S128x1x1, .i32⟩
  | 95 => ⟨S128x1x1, .i1⟩
  | 96 => ⟨S128x1x1, .i1⟩
  | 97 => ⟨S_, .i1⟩
  | 98 => ⟨S128x1, .i1⟩
  | 99 => ⟨S128x1x64x2, .f32⟩
  | 100 => ⟨S128x1x64x2, .i1⟩
  | 101 => ⟨S_, .f32⟩
  | 102 => ⟨S128x1x64x2, .f32⟩
  | 103 => ⟨S128x1x64x2, .f32⟩
  | 104 => ⟨S128x64x2, .f32⟩
  | 105 => ⟨S128x64x2, .f32⟩
  | 106 => ⟨S_, .i32⟩
  | 107 => ⟨S_, .i32⟩
  | 108 => ⟨S_, .i32⟩
  | 109 => ⟨S2, .i32⟩
  | 110 => ⟨S2, .i32⟩
  | 111 => ⟨S2, .i32⟩
  | 112 => ⟨S_, .i32⟩
  | 113 => ⟨S2, .i32⟩
  | 114 => ⟨S1, .i32⟩
  | 115 => ⟨S_, .i32⟩
  | 116 => ⟨S1, .i32⟩
  | 117 => ⟨S_, .i32⟩
  | 118 => ⟨S_, .i32⟩
  | 119 => ⟨S_, .i32⟩
  | 120 => ⟨S_, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S4096x128, .f32⟩

abbrev hbmTy0_13 (i : Nat) : BufTy := match i % 128 with
  | 0 => ⟨S2, .i32⟩
  | 1 => ⟨S_, .i32⟩
  | 2 => ⟨S2, .i32⟩
  | 3 => ⟨S2, .i32⟩
  | 4 => ⟨S2, .i32⟩
  | 5 => ⟨S2, .i32⟩
  | 6 => ⟨S2, .i32⟩
  | 7 => ⟨S_, .i32⟩
  | 8 => ⟨S2, .i32⟩
  | 9 => ⟨S2, .i32⟩
  | 10 => ⟨S_, .i32⟩
  | 11 => ⟨S2, .i32⟩
  | 12 => ⟨S2, .i32⟩
  | 13 => ⟨S2, .i32⟩
  | 14 => ⟨S2, .i32⟩
  | 15 => ⟨S2, .i32⟩
  | 16 => ⟨S_, .i32⟩
  | 17 => ⟨S2, .i32⟩
  | 18 => ⟨S2, .i32⟩
  | 19 => ⟨S_, .i32⟩
  | 20 => ⟨S2, .i32⟩
  | 21 => ⟨S2, .i32⟩
  | 22 => ⟨S2, .i32⟩
  | 23 => ⟨S2, .i32⟩
  | 24 => ⟨S2, .i32⟩
  | 25 => ⟨S_, .i32⟩
  | 26 => ⟨S2, .i32⟩
  | 27 => ⟨S2, .i32⟩
  | 28 => ⟨S_, .i32⟩
  | 29 => ⟨S2, .i32⟩
  | 30 => ⟨S2, .i32⟩
  | 31 => ⟨S2, .i32⟩
  | 32 => ⟨S2, .i32⟩
  | 33 => ⟨S2, .i32⟩
  | 34 => ⟨S2, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S_, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S2, .i32⟩
  | 76 => ⟨S2, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S_, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S_, .i32⟩
  | _ => ⟨S4096x128, .f32⟩

abbrev hbmTy0_14 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S_, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S2, .i32⟩
  | 34 => ⟨S2, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S_, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S2, .i32⟩
  | 77 => ⟨S2, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S2x1, .i32⟩
  | 85 => ⟨S2x1, .i32⟩
  | 86 => ⟨S2x2, .i32⟩
  | 87 => ⟨S1x2, .i32⟩
  | 88 => ⟨S2, .i32⟩
  | 89 => ⟨S1x2, .i32⟩
  | 90 => ⟨S2, .i32⟩
  | 91 => ⟨S1x128x64x2, .f32⟩
  | 92 => ⟨S4096x128x64x2, .f32⟩
  | 93 => ⟨S_, .f32⟩
  | 94 => ⟨S1x1x1x1, .f32⟩
  | 95 => ⟨S_, .f32⟩
  | 96 => ⟨S1x1x1x1, .f32⟩
  | 97 => ⟨S_, .i32⟩
  | 98 => ⟨S_, .i32⟩
  | 99 => ⟨S_, .i32⟩
  | 100 => ⟨S4096x128x64x2, .i32⟩
  | 101 => ⟨S4096x128x64x2, .i32⟩
  | 102 => ⟨S4096x128x64x2, .i32⟩
  | 103 => ⟨S_, .i32⟩
  | 104 => ⟨S4096x128x64x2, .i32⟩
  | 105 => ⟨S4096x128x64x2, .i32⟩
  | 106 => ⟨S4096x128x64x2, .i32⟩
  | 107 => ⟨S4096x128x64x2, .i32⟩
  | 108 => ⟨S_, .i32⟩
  | 109 => ⟨S4096x128x64x2, .i32⟩
  | 110 => ⟨S4096x128x64x2, .i32⟩
  | 111 => ⟨S4096x128x64x2, .i32⟩
  | 112 => ⟨S4096x128x64x2, .i32⟩
  | 113 => ⟨S_, .i32⟩
  | 114 => ⟨S4096x128x64x2, .i32⟩
  | 115 => ⟨S4096x128x64x2, .i32⟩
  | 116 => ⟨S4096x128x64x2, .i32⟩
  | 117 => ⟨S4096x128x64x2, .i32⟩
  | 118 => ⟨S_, .i32⟩
  | 119 => ⟨S4096x128x64x2, .i32⟩
  | 120 => ⟨S1, .i32⟩
  | 121 => ⟨S_, .i32⟩
  | 122 => ⟨S1, .i32⟩
  | 123 => ⟨S_, .i32⟩
  | 124 => ⟨S_, .i32⟩
  | 125 => ⟨S_, .i32⟩
  | 126 => ⟨S_, .i32⟩
  | 127 => ⟨S4096x128x64x2, .i32⟩
  | _ => ⟨S4096x128, .f32⟩

abbrev hbmTy0_15 (i : Nat) : BufTy := match i % 128 with
  | 0 => ⟨S4096x128x64x2, .i32⟩
  | 1 => ⟨S4096x128x64x2, .i32⟩
  | 2 => ⟨S4096x128x64x2, .i32⟩
  | 3 => ⟨S4096x128x64x2, .i32⟩
  | 4 => ⟨S_, .i32⟩
  | 5 => ⟨S4096x128x64x2, .i32⟩
  | 6 => ⟨S4096x128x64x2, .i32⟩
  | 7 => ⟨S_, .i32⟩
  | 8 => ⟨S4096x128x64x2, .i32⟩
  | 9 => ⟨S4096x128x64x2, .i32⟩
  | 10 => ⟨S4096x128x64x2, .i32⟩
  | 11 => ⟨S4096x128x64x2, .i32⟩
  | 12 => ⟨S4096x128x64x2, .i32⟩
  | 13 => ⟨S_, .i32⟩
  | 14 => ⟨S4096x128x64x2, .i32⟩
  | 15 => ⟨S4096x128x64x2, .i32⟩
  | 16 => ⟨S_, .i32⟩
  | 17 => ⟨S4096x128x64x2, .i32⟩
  | 18 => ⟨S4096x128x64x2, .i32⟩
  | 19 => ⟨S4096x128x64x2, .i32⟩
  | 20 => ⟨S4096x128x64x2, .i32⟩
  | 21 => ⟨S4096x128x64x2, .i32⟩
  | 22 => ⟨S_, .i32⟩
  | 23 => ⟨S4096x128x64x2, .i32⟩
  | 24 => ⟨S4096x128x64x2, .i32⟩
  | 25 => ⟨S_, .i32⟩
  | 26 => ⟨S4096x128x64x2, .i32⟩
  | 27 => ⟨S4096x128x64x2, .i32⟩
  | 28 => ⟨S4096x128x64x2, .i32⟩
  | 29 => ⟨S4096x128x64x2, .i32⟩
  | 30 => ⟨S4096x128x64x2, .i32⟩
  | 31 => ⟨S_, .i32⟩
  | 32 => ⟨S4096x128x64x2, .i32⟩
  | 33 => ⟨S4096x128x64x2, .i32⟩
  | 34 => ⟨S_, .i32⟩
  | 35 => ⟨S4096x128x64x2, .i32⟩
  | 36 => ⟨S4096x128x64x2, .i32⟩
  | 37 => ⟨S4096x128x64x2, .i32⟩
  | 38 => ⟨S4096x128x64x2, .i32⟩
  | 39 => ⟨S4096x128x64x2, .i32⟩
  | 40 => ⟨S4096x128x64x2, .i32⟩
  | 41 => ⟨S4096x128x64x2, .i32⟩
  | 42 => ⟨S4096x128x64x2, .i32⟩
  | 43 => ⟨S_, .i32⟩
  | 44 => ⟨S4096x128x64x2, .i32⟩
  | 45 => ⟨S4096x128x64x2, .i32⟩
  | 46 => ⟨S4096x128x64x2, .i32⟩
  | 47 => ⟨S_, .i32⟩
  | 48 => ⟨S4096x128x64x2, .i32⟩
  | 49 => ⟨S4096x128x64x2, .i32⟩
  | 50 => ⟨S_, .i32⟩
  | 51 => ⟨S4096x128x64x2, .i32⟩
  | 52 => ⟨S4096x128x64x2, .i32⟩
  | 53 => ⟨S4096x128x64x2, .i32⟩
  | 54 => ⟨S4096x128x64x2, .i32⟩
  | 55 => ⟨S4096x128x64x2, .i32⟩
  | 56 => ⟨S_, .i32⟩
  | 57 => ⟨S4096x128x64x2, .i32⟩
  | 58 => ⟨S4096x128x64x2, .i32⟩
  | 59 => ⟨S_, .i32⟩
  | 60 => ⟨S4096x128x64x2, .i32⟩
  | 61 => ⟨S4096x128x64x2, .i32⟩
  | 62 => ⟨S4096x128x64x2, .i32⟩
  | 63 => ⟨S4096x128x64x2, .i32⟩
  | 64 => ⟨S4096x128x64x2, .i32⟩
  | 65 => ⟨S_, .i32⟩
  | 66 => ⟨S4096x128x64x2, .i32⟩
  | 67 => ⟨S4096x128x64x2, .i32⟩
  | 68 => ⟨S_, .i32⟩
  | 69 => ⟨S4096x128x64x2, .i32⟩
  | 70 => ⟨S4096x128x64x2, .i32⟩
  | 71 => ⟨S4096x128x64x2, .i32⟩
  | 72 => ⟨S4096x128x64x2, .i32⟩
  | 73 => ⟨S4096x128x64x2, .i32⟩
  | 74 => ⟨S_, .i32⟩
  | 75 => ⟨S4096x128x64x2, .i32⟩
  | 76 => ⟨S4096x128x64x2, .i32⟩
  | 77 => ⟨S_, .i32⟩
  | 78 => ⟨S4096x128x64x2, .i32⟩
  | 79 => ⟨S4096x128x64x2, .i32⟩
  | 80 => ⟨S4096x128x64x2, .i32⟩
  | 81 => ⟨S4096x128x64x2, .i32⟩
  | 82 => ⟨S4096x128x64x2, .i32⟩
  | 83 => ⟨S4096x128x64x2, .i32⟩
  | 84 => ⟨S4096x128x64x2, .i32⟩
  | 85 => ⟨S4096x128x64x2, .i32⟩
  | 86 => ⟨S_, .i32⟩
  | 87 => ⟨S4096x128x64x2, .i32⟩
  | 88 => ⟨S4096x128x64x2, .i32⟩
  | 89 => ⟨S4096x128x64x2, .i32⟩
  | 90 => ⟨S_, .i32⟩
  | 91 => ⟨S4096x128x64x2, .i32⟩
  | 92 => ⟨S4096x128x64x2, .i32⟩
  | 93 => ⟨S_, .i32⟩
  | 94 => ⟨S4096x128x64x2, .i32⟩
  | 95 => ⟨S4096x128x64x2, .i32⟩
  | 96 => ⟨S4096x128x64x2, .i32⟩
  | 97 => ⟨S4096x128x64x2, .i32⟩
  | 98 => ⟨S4096x128x64x2, .i32⟩
  | 99 => ⟨S_, .i32⟩
  | 100 => ⟨S4096x128x64x2, .i32⟩
  | 101 => ⟨S4096x128x64x2, .i32⟩
  | 102 => ⟨S_, .i32⟩
  | 103 => ⟨S4096x128x64x2, .i32⟩
  | 104 => ⟨S4096x128x64x2, .i32⟩
  | 105 => ⟨S4096x128x64x2, .i32⟩
  | 106 => ⟨S4096x128x64x2, .i32⟩
  | 107 => ⟨S4096x128x64x2, .i32⟩
  | 108 => ⟨S_, .i32⟩
  | 109 => ⟨S4096x128x64x2, .i32⟩
  | 110 => ⟨S4096x128x64x2, .i32⟩
  | 111 => ⟨S_, .i32⟩
  | 112 => ⟨S4096x128x64x2, .i32⟩
  | 113 => ⟨S4096x128x64x2, .i32⟩
  | 114 => ⟨S4096x128x64x2, .i32⟩
  | 115 => ⟨S4096x128x64x2, .i32⟩
  | 116 => ⟨S4096x128x64x2, .i32⟩
  | 117 => ⟨S_, .i32⟩
  | 118 => ⟨S4096x128x64x2, .i32⟩
  | 119 => ⟨S4096x128x64x2, .i32⟩
  | 120 => ⟨S_, .i32⟩
  | 121 => ⟨S4096x128x64x2, .i32⟩
  | 122 => ⟨S4096x128x64x2, .i32⟩
  | 123 => ⟨S4096x128x64x2, .i32⟩
  | 124 => ⟨S4096x128x64x2, .i32⟩
  | 125 => ⟨S4096x128x64x2, .i32⟩
  | 126 => ⟨S4096x128x64x2, .i32⟩
  | 127 => ⟨S4096x128x64x2, .i32⟩
  | _ => ⟨S4096x128, .f32⟩

abbrev hbmTy0_16 (i : Nat) : BufTy := match i % 128 with
  | 0 => ⟨S4096x128x64x2, .i32⟩
  | 1 => ⟨S_, .i32⟩
  | 2 => ⟨S4096x128x64x2, .i32⟩
  | 3 => ⟨S4096x128x64x2, .i32⟩
  | 4 => ⟨S4096x128x64x2, .i32⟩
  | 5 => ⟨S_, .i32⟩
  | 6 => ⟨S4096x128x64x2, .i32⟩
  | 7 => ⟨S4096x128x64x2, .i32⟩
  | 8 => ⟨S_, .i32⟩
  | 9 => ⟨S4096x128x64x2, .i32⟩
  | 10 => ⟨S4096x128x64x2, .i32⟩
  | 11 => ⟨S4096x128x64x2, .i32⟩
  | 12 => ⟨S4096x128x64x2, .i32⟩
  | 13 => ⟨S4096x128x64x2, .i32⟩
  | 14 => ⟨S_, .i32⟩
  | 15 => ⟨S4096x128x64x2, .i32⟩
  | 16 => ⟨S4096x128x64x2, .i32⟩
  | 17 => ⟨S_, .i32⟩
  | 18 => ⟨S4096x128x64x2, .i32⟩
  | 19 => ⟨S4096x128x64x2, .i32⟩
  | 20 => ⟨S4096x128x64x2, .i32⟩
  | 21 => ⟨S4096x128x64x2, .i32⟩
  | 22 => ⟨S4096x128x64x2, .i32⟩
  | 23 => ⟨S_, .i32⟩
  | 24 => ⟨S4096x128x64x2, .i32⟩
  | 25 => ⟨S4096x128x64x2, .i32⟩
  | 26 => ⟨S_, .i32⟩
  | 27 => ⟨S4096x128x64x2, .i32⟩
  | 28 => ⟨S4096x128x64x2, .i32⟩
  | 29 => ⟨S4096x128x64x2, .i32⟩
  | 30 => ⟨S4096x128x64x2, .i32⟩
  | 31 => ⟨S4096x128x64x2, .i32⟩
  | 32 => ⟨S_, .i32⟩
  | 33 => ⟨S4096x128x64x2, .i32⟩
  | 34 => ⟨S4096x128x64x2, .i32⟩
  | 35 => ⟨S_, .i32⟩
  | 36 => ⟨S4096x128x64x2, .i32⟩
  | 37 => ⟨S4096x128x64x2, .i32⟩
  | 38 => ⟨S4096x128x64x2, .i32⟩
  | 39 => ⟨S4096x128x64x2, .i32⟩
  | 40 => ⟨S4096x128x64x2, .i32⟩
  | 41 => ⟨S4096x128x64x2, .i32⟩
  | 42 => ⟨S4096x128x64x2, .i32⟩
  | 43 => ⟨S4096x128x64x2, .i32⟩
  | 44 => ⟨S_, .i32⟩
  | 45 => ⟨S4096x128x64x2, .i32⟩
  | 46 => ⟨S4096x128x64x2, .i32⟩
  | 47 => ⟨S4096x128x64x2, .i32⟩
  | 48 => ⟨S_, .i32⟩
  | 49 => ⟨S4096x128x64x2, .i32⟩
  | 50 => ⟨S4096x128x64x2, .i32⟩
  | 51 => ⟨S_, .i32⟩
  | 52 => ⟨S4096x128x64x2, .i32⟩
  | 53 => ⟨S4096x128x64x2, .i32⟩
  | 54 => ⟨S4096x128x64x2, .i32⟩
  | 55 => ⟨S4096x128x64x2, .i32⟩
  | 56 => ⟨S4096x128x64x2, .i32⟩
  | 57 => ⟨S_, .i32⟩
  | 58 => ⟨S4096x128x64x2, .i32⟩
  | 59 => ⟨S4096x128x64x2, .i32⟩
  | 60 => ⟨S_, .i32⟩
  | 61 => ⟨S4096x128x64x2, .i32⟩
  | 62 => ⟨S4096x128x64x2, .i32⟩
  | 63 => ⟨S4096x128x64x2, .i32⟩
  | 64 => ⟨S4096x128x64x2, .i32⟩
  | 65 => ⟨S4096x128x64x2, .i32⟩
  | 66 => ⟨S_, .i32⟩
  | 67 => ⟨S4096x128x64x2, .i32⟩
  | 68 => ⟨S4096x128x64x2, .i32⟩
  | 69 => ⟨S_, .i32⟩
  | 70 => ⟨S4096x128x64x2, .i32⟩
  | 71 => ⟨S4096x128x64x2, .i32⟩
  | 72 => ⟨S4096x128x64x2, .i32⟩
  | 73 => ⟨S4096x128x64x2, .i32⟩
  | 74 => ⟨S4096x128x64x2, .i32⟩
  | 75 => ⟨S_, .i32⟩
  | 76 => ⟨S4096x128x64x2, .i32⟩
  | 77 => ⟨S4096x128x64x2, .i32⟩
  | 78 => ⟨S_, .i32⟩
  | 79 => ⟨S4096x128x64x2, .i32⟩
  | 80 => ⟨S4096x128x64x2, .i32⟩
  | 81 => ⟨S4096x128x64x2, .i32⟩
  | 82 => ⟨S4096x128x64x2, .i32⟩
  | 83 => ⟨S4096x128x64x2, .i32⟩
  | 84 => ⟨S4096x128x64x2, .i32⟩
  | 85 => ⟨S4096x128x64x2, .i32⟩
  | 86 => ⟨S4096x128x64x2, .i32⟩
  | 87 => ⟨S_, .i32⟩
  | 88 => ⟨S4096x128x64x2, .i32⟩
  | 89 => ⟨S4096x128x64x2, .i32⟩
  | 90 => ⟨S4096x128x64x2, .i32⟩
  | 91 => ⟨S_, .i32⟩
  | 92 => ⟨S4096x128x64x2, .i32⟩
  | 93 => ⟨S4096x128x64x2, .i32⟩
  | 94 => ⟨S_, .i32⟩
  | 95 => ⟨S4096x128x64x2, .i32⟩
  | 96 => ⟨S4096x128x64x2, .i32⟩
  | 97 => ⟨S4096x128x64x2, .f32⟩
  | 98 => ⟨S_, .f32⟩
  | 99 => ⟨S4096x128x64x2, .f32⟩
  | 100 => ⟨S4096x128x64x2, .f32⟩
  | 101 => ⟨S1x1x1x1, .f32⟩
  | 102 => ⟨S4096x128x64x2, .f32⟩
  | 103 => ⟨S4096x128x64x2, .f32⟩
  | 104 => ⟨S4096x128x64x2, .f32⟩
  | 105 => ⟨S4096x128x64x2, .f32⟩
  | 106 => ⟨S4096x128x64x2, .f32⟩
  | 107 => ⟨S4096x128x64x2, .f32⟩
  | 108 => ⟨S4096x128x64x2, .f32⟩
  | 109 => ⟨S4096x128x64x2, .f32⟩
  | 110 => ⟨S4096x128x64x2, .f32⟩
  | 111 => ⟨S4096x128x64x2, .f32⟩
  | 112 => ⟨S4096x128x64x2, .f32⟩
  | 113 => ⟨S4096x128x64x1, .f32⟩
  | 114 => ⟨S4096x128x64, .f32⟩
  | 115 => ⟨S4096x128x64x1, .f32⟩
  | 116 => ⟨S4096x128x64, .f32⟩
  | 117 => ⟨S4096x128x64, .i1⟩
  | 118 => ⟨S4096x128x64, .i32⟩
  | 119 => ⟨S_, .i32⟩
  | 120 => ⟨S4096x128, .i32⟩
  | 121 => ⟨S_, .i32⟩
  | 122 => ⟨S4096x128, .i32⟩
  | 123 => ⟨S4096x128, .i1⟩
  | 124 => ⟨S_, .i32⟩
  | 125 => ⟨S_, .i32⟩
  | 126 => ⟨S_, .i32⟩
  | 127 => ⟨S_, .i32⟩
  | _ => ⟨S4096x128, .f32⟩

abbrev hbmTy0_17 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S1x1, .i32⟩
  | 16 => ⟨S1x1, .i32⟩
  | 17 => ⟨S_, .i32⟩
  | 18 => ⟨S_, .i32⟩
  | 19 => ⟨S_, .i32⟩
  | 20 => ⟨S2, .i32⟩
  | 21 => ⟨S2, .i32⟩
  | 22 => ⟨S2, .i32⟩
  | 23 => ⟨S_, .i32⟩
  | 24 => ⟨S2, .i32⟩
  | 25 => ⟨S1, .i32⟩
  | 26 => ⟨S_, .i32⟩
  | 27 => ⟨S1, .i32⟩
  | 28 => ⟨S_, .i32⟩
  | 29 => ⟨S_, .i32⟩
  | 30 => ⟨S_, .i32⟩
  | 31 => ⟨S_, .i32⟩
  | 32 => ⟨S2, .i32⟩
  | 33 => ⟨S2, .i32⟩
  | 34 => ⟨S2, .i32⟩
  | 35 => ⟨S2, .i32⟩
  | 36 => ⟨S2, .i32⟩
  | 37 => ⟨S_, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S2, .i32⟩
  | 45 => ⟨S2, .i32⟩
  | 46 => ⟨S_, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S2, .i32⟩
  | 88 => ⟨S2, .i32⟩
  | 89 => ⟨S_, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S_, .i32⟩
  | 127 => ⟨S2, .i32⟩
  | _ => ⟨S4096x128, .f32⟩

abbrev hbmTy0_18 (i : Nat) : BufTy := match i % 128 with
  | 0 => ⟨S2, .i32⟩
  | 1 => ⟨S2, .i32⟩
  | 2 => ⟨S2, .i32⟩
  | 3 => ⟨S2, .i32⟩
  | 4 => ⟨S_, .i32⟩
  | 5 => ⟨S2, .i32⟩
  | 6 => ⟨S2, .i32⟩
  | 7 => ⟨S_, .i32⟩
  | 8 => ⟨S2, .i32⟩
  | 9 => ⟨S2, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S2, .i32⟩
  | 21 => ⟨S2, .i32⟩
  | 22 => ⟨S_, .i32⟩
  | 23 => ⟨S2, .i32⟩
  | 24 => ⟨S2, .i32⟩
  | 25 => ⟨S_, .i32⟩
  | 26 => ⟨S2, .i32⟩
  | 27 => ⟨S2, .i32⟩
  | 28 => ⟨S2, .i32⟩
  | 29 => ⟨S2, .i32⟩
  | 30 => ⟨S2, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S2x1, .i32⟩
  | 124 => ⟨S2x1, .i32⟩
  | 125 => ⟨S2x2, .i32⟩
  | 126 => ⟨S1x2, .i32⟩
  | 127 => ⟨S2, .i32⟩
  | _ => ⟨S4096x128, .f32⟩

abbrev hbmTy0_19 (i : Nat) : BufTy := match i % 128 with
  | 0 => ⟨S1x2, .i32⟩
  | 1 => ⟨S2, .i32⟩
  | 2 => ⟨S_, .i32⟩
  | 3 => ⟨S_, .i32⟩
  | 4 => ⟨S_, .i32⟩
  | 5 => ⟨S4096x128, .i32⟩
  | 6 => ⟨S4096x128, .i32⟩
  | 7 => ⟨S4096x128, .i32⟩
  | 8 => ⟨S_, .i32⟩
  | 9 => ⟨S4096x128, .i32⟩
  | 10 => ⟨S4096x128, .i32⟩
  | 11 => ⟨S4096x128, .i32⟩
  | 12 => ⟨S4096x128, .i32⟩
  | 13 => ⟨S_, .i32⟩
  | 14 => ⟨S4096x128, .i32⟩
  | 15 => ⟨S1, .i32⟩
  | 16 => ⟨S_, .i32⟩
  | 17 => ⟨S1, .i32⟩
  | 18 => ⟨S_, .i32⟩
  | 19 => ⟨S_, .i32⟩
  | 20 => ⟨S_, .i32⟩
  | 21 => ⟨S_, .i32⟩
  | 22 => ⟨S4096x128, .i32⟩
  | 23 => ⟨S4096x128, .i32⟩
  | 24 => ⟨S4096x128, .i32⟩
  | 25 => ⟨S4096x128, .i32⟩
  | 26 => ⟨S4096x128, .i32⟩
  | 27 => ⟨S_, .i32⟩
  | 28 => ⟨S4096x128, .i32⟩
  | 29 => ⟨S4096x128, .i32⟩
  | 30 => ⟨S_, .i32⟩
  | 31 => ⟨S4096x128, .i32⟩
  | 32 => ⟨S4096x128, .i32⟩
  | 33 => ⟨S4096x128, .i32⟩
  | 34 => ⟨S4096x128, .i32⟩
  | 35 => ⟨S4096x128, .i32⟩
  | 36 => ⟨S_, .i32⟩
  | 37 => ⟨S4096x128, .i32⟩
  | 38 => ⟨S4096x128, .i32⟩
  | 39 => ⟨S_, .i32⟩
  | 40 => ⟨S4096x128, .i32⟩
  | 41 => ⟨S4096x128, .i32⟩
  | 42 => ⟨S4096x128, .i32⟩
  | 43 => ⟨S4096x128, .i32⟩
  | 44 => ⟨S4096x128, .i32⟩
  | 45 => ⟨S_, .i32⟩
  | 46 => ⟨S4096x128, .i32⟩
  | 47 => ⟨S4096x128, .i32⟩
  | 48 => ⟨S_, .i32⟩
  | 49 => ⟨S4096x128, .i32⟩
  | 50 => ⟨S4096x128, .i32⟩
  | 51 => ⟨S4096x128, .i32⟩
  | 52 => ⟨S4096x128, .i32⟩
  | 53 => ⟨S4096x128, .i32⟩
  | 54 => ⟨S_, .i32⟩
  | 55 => ⟨S4096x128, .i32⟩
  | 56 => ⟨S4096x128, .i32⟩
  | 57 => ⟨S_, .i32⟩
  | 58 => ⟨S4096x128, .i32⟩
  | 59 => ⟨S4096x128, .i32⟩
  | 60 => ⟨S4096x128, .i32⟩
  | 61 => ⟨S4096x128, .i32⟩
  | 62 => ⟨S4096x128, .i32⟩
  | 63 => ⟨S4096x128, .i32⟩
  | 64 => ⟨S4096x128, .i32⟩
  | 65 => ⟨S4096x128, .i32⟩
  | 66 => ⟨S_, .i32⟩
  | 67 => ⟨S4096x128, .i32⟩
  | 68 => ⟨S4096x128, .i32⟩
  | 69 => ⟨S4096x128, .i32⟩
  | 70 => ⟨S_, .i32⟩
  | 71 => ⟨S4096x128, .i32⟩
  | 72 => ⟨S4096x128, .i32⟩
  | 73 => ⟨S_, .i32⟩
  | 74 => ⟨S4096x128, .i32⟩
  | 75 => ⟨S4096x128, .i32⟩
  | 76 => ⟨S4096x128, .i32⟩
  | 77 => ⟨S4096x128, .i32⟩
  | 78 => ⟨S4096x128, .i32⟩
  | 79 => ⟨S_, .i32⟩
  | 80 => ⟨S4096x128, .i32⟩
  | 81 => ⟨S4096x128, .i32⟩
  | 82 => ⟨S_, .i32⟩
  | 83 => ⟨S4096x128, .i32⟩
  | 84 => ⟨S4096x128, .i32⟩
  | 85 => ⟨S4096x128, .i32⟩
  | 86 => ⟨S4096x128, .i32⟩
  | 87 => ⟨S4096x128, .i32⟩
  | 88 => ⟨S_, .i32⟩
  | 89 => ⟨S4096x128, .i32⟩
  | 90 => ⟨S4096x128, .i32⟩
  | 91 => ⟨S_, .i32⟩
  | 92 => ⟨S4096x128, .i32⟩
  | 93 => ⟨S4096x128, .i32⟩
  | 94 => ⟨S4096x128, .i32⟩
  | 95 => ⟨S4096x128, .i32⟩
  | 96 => ⟨S4096x128, .i32⟩
  | 97 => ⟨S_, .i32⟩
  | 98 => ⟨S4096x128, .i32⟩
  | 99 => ⟨S4096x128, .i32⟩
  | 100 => ⟨S_, .i32⟩
  | 101 => ⟨S4096x128, .i32⟩
  | 102 => ⟨S4096x128, .i32⟩
  | 103 => ⟨S4096x128, .i32⟩
  | 104 => ⟨S4096x128, .i32⟩
  | 105 => ⟨S4096x128, .i32⟩
  | 106 => ⟨S4096x128, .i32⟩
  | 107 => ⟨S4096x128, .i32⟩
  | 108 => ⟨S4096x128, .i32⟩
  | 109 => ⟨S_, .i32⟩
  | 110 => ⟨S4096x128, .i32⟩
  | 111 => ⟨S4096x128, .i32⟩
  | 112 => ⟨S4096x128, .i32⟩
  | 113 => ⟨S_, .i32⟩
  | 114 => ⟨S4096x128, .i32⟩
  | 115 => ⟨S4096x128, .i32⟩
  | 116 => ⟨S_, .i32⟩
  | 117 => ⟨S4096x128, .i32⟩
  | 118 => ⟨S4096x128, .i32⟩
  | 119 => ⟨S4096x128, .i32⟩
  | 120 => ⟨S4096x128, .i32⟩
  | 121 => ⟨S4096x128, .i32⟩
  | 122 => ⟨S_, .i32⟩
  | 123 => ⟨S4096x128, .i32⟩
  | 124 => ⟨S4096x128, .i32⟩
  | 125 => ⟨S_, .i32⟩
  | 126 => ⟨S4096x128, .i32⟩
  | 127 => ⟨S4096x128, .i32⟩
  | _ => ⟨S4096x128, .f32⟩

abbrev hbmTy0_20 (i : Nat) : BufTy := match i % 128 with
  | 0 => ⟨S4096x128, .i32⟩
  | 1 => ⟨S4096x128, .i32⟩
  | 2 => ⟨S4096x128, .i32⟩
  | 3 => ⟨S_, .i32⟩
  | 4 => ⟨S4096x128, .i32⟩
  | 5 => ⟨S4096x128, .i32⟩
  | 6 => ⟨S_, .i32⟩
  | 7 => ⟨S4096x128, .i32⟩
  | 8 => ⟨S4096x128, .i32⟩
  | 9 => ⟨S4096x128, .i32⟩
  | 10 => ⟨S4096x128, .i32⟩
  | 11 => ⟨S4096x128, .i32⟩
  | 12 => ⟨S_, .i32⟩
  | 13 => ⟨S4096x128, .i32⟩
  | 14 => ⟨S4096x128, .i32⟩
  | 15 => ⟨S_, .i32⟩
  | 16 => ⟨S4096x128, .i32⟩
  | 17 => ⟨S4096x128, .i32⟩
  | 18 => ⟨S4096x128, .i32⟩
  | 19 => ⟨S4096x128, .i32⟩
  | 20 => ⟨S4096x128, .i32⟩
  | 21 => ⟨S4096x128, .i32⟩
  | 22 => ⟨S4096x128, .i32⟩
  | 23 => ⟨S4096x128, .i32⟩
  | 24 => ⟨S_, .i32⟩
  | 25 => ⟨S4096x128, .i32⟩
  | 26 => ⟨S4096x128, .i32⟩
  | 27 => ⟨S4096x128, .i32⟩
  | 28 => ⟨S_, .i32⟩
  | 29 => ⟨S4096x128, .i32⟩
  | 30 => ⟨S4096x128, .i32⟩
  | 31 => ⟨S_, .i32⟩
  | 32 => ⟨S4096x128, .i32⟩
  | 33 => ⟨S4096x128, .i32⟩
  | 34 => ⟨S4096x128, .i32⟩
  | 35 => ⟨S4096x128, .i32⟩
  | 36 => ⟨S4096x128, .i32⟩
  | 37 => ⟨S_, .i32⟩
  | 38 => ⟨S4096x128, .i32⟩
  | 39 => ⟨S4096x128, .i32⟩
  | 40 => ⟨S_, .i32⟩
  | 41 => ⟨S4096x128, .i32⟩
  | 42 => ⟨S4096x128, .i32⟩
  | 43 => ⟨S4096x128, .i32⟩
  | 44 => ⟨S4096x128, .i32⟩
  | 45 => ⟨S4096x128, .i32⟩
  | 46 => ⟨S_, .i32⟩
  | 47 => ⟨S4096x128, .i32⟩
  | 48 => ⟨S4096x128, .i32⟩
  | 49 => ⟨S_, .i32⟩
  | 50 => ⟨S4096x128, .i32⟩
  | 51 => ⟨S4096x128, .i32⟩
  | 52 => ⟨S4096x128, .i32⟩
  | 53 => ⟨S4096x128, .i32⟩
  | 54 => ⟨S4096x128, .i32⟩
  | 55 => ⟨S_, .i32⟩
  | 56 => ⟨S4096x128, .i32⟩
  | 57 => ⟨S4096x128, .i32⟩
  | 58 => ⟨S_, .i32⟩
  | 59 => ⟨S4096x128, .i32⟩
  | 60 => ⟨S4096x128, .i32⟩
  | 61 => ⟨S4096x128, .i32⟩
  | 62 => ⟨S4096x128, .i32⟩
  | 63 => ⟨S4096x128, .i32⟩
  | 64 => ⟨S4096x128, .i32⟩
  | 65 => ⟨S4096x128, .i32⟩
  | 66 => ⟨S4096x128, .i32⟩
  | 67 => ⟨S_, .i32⟩
  | 68 => ⟨S4096x128, .i32⟩
  | 69 => ⟨S4096x128, .i32⟩
  | 70 => ⟨S4096x128, .i32⟩
  | 71 => ⟨S_, .i32⟩
  | 72 => ⟨S4096x128, .i32⟩
  | 73 => ⟨S4096x128, .i32⟩
  | 74 => ⟨S_, .i32⟩
  | 75 => ⟨S4096x128, .i32⟩
  | 76 => ⟨S4096x128, .i32⟩
  | 77 => ⟨S4096x128, .i32⟩
  | 78 => ⟨S4096x128, .i32⟩
  | 79 => ⟨S4096x128, .i32⟩
  | 80 => ⟨S_, .i32⟩
  | 81 => ⟨S4096x128, .i32⟩
  | 82 => ⟨S4096x128, .i32⟩
  | 83 => ⟨S_, .i32⟩
  | 84 => ⟨S4096x128, .i32⟩
  | 85 => ⟨S4096x128, .i32⟩
  | 86 => ⟨S4096x128, .i32⟩
  | 87 => ⟨S4096x128, .i32⟩
  | 88 => ⟨S4096x128, .i32⟩
  | 89 => ⟨S_, .i32⟩
  | 90 => ⟨S4096x128, .i32⟩
  | 91 => ⟨S4096x128, .i32⟩
  | 92 => ⟨S_, .i32⟩
  | 93 => ⟨S4096x128, .i32⟩
  | 94 => ⟨S4096x128, .i32⟩
  | 95 => ⟨S4096x128, .i32⟩
  | 96 => ⟨S4096x128, .i32⟩
  | 97 => ⟨S4096x128, .i32⟩
  | 98 => ⟨S_, .i32⟩
  | 99 => ⟨S4096x128, .i32⟩
  | 100 => ⟨S4096x128, .i32⟩
  | 101 => ⟨S_, .i32⟩
  | 102 => ⟨S4096x128, .i32⟩
  | 103 => ⟨S4096x128, .i32⟩
  | 104 => ⟨S4096x128, .i32⟩
  | 105 => ⟨S4096x128, .i32⟩
  | 106 => ⟨S4096x128, .i32⟩
  | 107 => ⟨S4096x128, .i32⟩
  | 108 => ⟨S4096x128, .i32⟩
  | 109 => ⟨S4096x128, .i32⟩
  | 110 => ⟨S_, .i32⟩
  | 111 => ⟨S4096x128, .i32⟩
  | 112 => ⟨S4096x128, .i32⟩
  | 113 => ⟨S4096x128, .i32⟩
  | 114 => ⟨S_, .i32⟩
  | 115 => ⟨S_, .i32⟩
  | 116 => ⟨S_, .i32⟩
  | 117 => ⟨S4096x128, .i32⟩
  | 118 => ⟨S4096x128, .i32⟩
  | 119 => ⟨S4096x128, .i32⟩
  | 120 => ⟨S_, .i32⟩
  | 121 => ⟨S4096x128, .i32⟩
  | 122 => ⟨S4096x128, .i32⟩
  | 123 => ⟨S4096x128, .i32⟩
  | 124 => ⟨S4096x128, .i32⟩
  | 125 => ⟨S_, .i32⟩
  | 126 => ⟨S4096x128, .i32⟩
  | 127 => ⟨S1, .i32⟩
  | _ => ⟨S4096x128, .f32⟩

abbrev hbmTy0_21 (i : Nat) : BufTy := match i % 128 with
  | 0 => ⟨S_, .i32⟩
  | 1 => ⟨S1, .i32⟩
  | 2 => ⟨S_, .i32⟩
  | 3 => ⟨S_, .i32⟩
  | 4 => ⟨S_, .i32⟩
  | 5 => ⟨S_, .i32⟩
  | 6 => ⟨S4096x128, .i32⟩
  | 7 => ⟨S4096x128, .i32⟩
  | 8 => ⟨S4096x128, .i32⟩
  | 9 => ⟨S4096x128, .i32⟩
  | 10 => ⟨S4096x128, .i32⟩
  | 11 => ⟨S_, .i32⟩
  | 12 => ⟨S4096x128, .i32⟩
  | 13 => ⟨S4096x128, .i32⟩
  | 14 => ⟨S_, .i32⟩
  | 15 => ⟨S4096x128, .i32⟩
  | 16 => ⟨S4096x128, .i32⟩
  | 17 => ⟨S4096x128, .i32⟩
  | 18 => ⟨S4096x128, .i32⟩
  | 19 => ⟨S4096x128, .i32⟩
  | 20 => ⟨S_, .i32⟩
  | 21 => ⟨S4096x128, .i32⟩
  | 22 => ⟨S4096x128, .i32⟩
  | 23 => ⟨S_, .i32⟩
  | 24 => ⟨S4096x128, .i32⟩
  | 25 => ⟨S4096x128, .i32⟩
  | 26 => ⟨S4096x128, .i32⟩
  | 27 => ⟨S4096x128, .i32⟩
  | 28 => ⟨S4096x128, .i32⟩
  | 29 => ⟨S_, .i32⟩
  | 30 => ⟨S4096x128, .i32⟩
  | 31 => ⟨S4096x128, .i32⟩
  | 32 => ⟨S_, .i32⟩
  | 33 => ⟨S4096x128, .i32⟩
  | 34 => ⟨S4096x128, .i32⟩
  | 35 => ⟨S4096x128, .i32⟩
  | 36 => ⟨S4096x128, .i32⟩
  | 37 => ⟨S4096x128, .i32⟩
  | 38 => ⟨S_, .i32⟩
  | 39 => ⟨S4096x128, .i32⟩
  | 40 => ⟨S4096x128, .i32⟩
  | 41 => ⟨S_, .i32⟩
  | 42 => ⟨S4096x128, .i32⟩
  | 43 => ⟨S4096x128, .i32⟩
  | 44 => ⟨S4096x128, .i32⟩
  | 45 => ⟨S4096x128, .i32⟩
  | 46 => ⟨S4096x128, .i32⟩
  | 47 => ⟨S4096x128, .i32⟩
  | 48 => ⟨S4096x128, .i32⟩
  | 49 => ⟨S4096x128, .i32⟩
  | 50 => ⟨S_, .i32⟩
  | 51 => ⟨S4096x128, .i32⟩
  | 52 => ⟨S4096x128, .i32⟩
  | 53 => ⟨S4096x128, .i32⟩
  | 54 => ⟨S_, .i32⟩
  | 55 => ⟨S4096x128, .i32⟩
  | 56 => ⟨S4096x128, .i32⟩
  | 57 => ⟨S_, .i32⟩
  | 58 => ⟨S4096x128, .i32⟩
  | 59 => ⟨S4096x128, .i32⟩
  | 60 => ⟨S4096x128, .i32⟩
  | 61 => ⟨S4096x128, .i32⟩
  | 62 => ⟨S4096x128, .i32⟩
  | 63 => ⟨S_, .i32⟩
  | 64 => ⟨S4096x128, .i32⟩
  | 65 => ⟨S4096x128, .i32⟩
  | 66 => ⟨S_, .i32⟩
  | 67 => ⟨S4096x128, .i32⟩
  | 68 => ⟨S4096x128, .i32⟩
  | 69 => ⟨S4096x128, .i32⟩
  | 70 => ⟨S4096x128, .i32⟩
  | 71 => ⟨S4096x128, .i32⟩
  | 72 => ⟨S_, .i32⟩
  | 73 => ⟨S4096x128, .i32⟩
  | 74 => ⟨S4096x128, .i32⟩
  | 75 => ⟨S_, .i32⟩
  | 76 => ⟨S4096x128, .i32⟩
  | 77 => ⟨S4096x128, .i32⟩
  | 78 => ⟨S4096x128, .i32⟩
  | 79 => ⟨S4096x128, .i32⟩
  | 80 => ⟨S4096x128, .i32⟩
  | 81 => ⟨S_, .i32⟩
  | 82 => ⟨S4096x128, .i32⟩
  | 83 => ⟨S4096x128, .i32⟩
  | 84 => ⟨S_, .i32⟩
  | 85 => ⟨S4096x128, .i32⟩
  | 86 => ⟨S4096x128, .i32⟩
  | 87 => ⟨S4096x128, .i32⟩
  | 88 => ⟨S4096x128, .i32⟩
  | 89 => ⟨S4096x128, .i32⟩
  | 90 => ⟨S4096x128, .i32⟩
  | 91 => ⟨S4096x128, .i32⟩
  | 92 => ⟨S4096x128, .i32⟩
  | 93 => ⟨S_, .i32⟩
  | 94 => ⟨S4096x128, .i32⟩
  | 95 => ⟨S4096x128, .i32⟩
  | 96 => ⟨S4096x128, .i32⟩
  | 97 => ⟨S_, .i32⟩
  | 98 => ⟨S4096x128, .i32⟩
  | 99 => ⟨S4096x128, .i32⟩
  | 100 => ⟨S_, .i32⟩
  | 101 => ⟨S4096x128, .i32⟩
  | 102 => ⟨S4096x128, .i32⟩
  | 103 => ⟨S4096x128, .i32⟩
  | 104 => ⟨S4096x128, .i32⟩
  | 105 => ⟨S4096x128, .i32⟩
  | 106 => ⟨S_, .i32⟩
  | 107 => ⟨S4096x128, .i32⟩
  | 108 => ⟨S4096x128, .i32⟩
  | 109 => ⟨S_, .i32⟩
  | 110 => ⟨S4096x128, .i32⟩
  | 111 => ⟨S4096x128, .i32⟩
  | 112 => ⟨S4096x128, .i32⟩
  | 113 => ⟨S4096x128, .i32⟩
  | 114 => ⟨S4096x128, .i32⟩
  | 115 => ⟨S_, .i32⟩
  | 116 => ⟨S4096x128, .i32⟩
  | 117 => ⟨S4096x128, .i32⟩
  | 118 => ⟨S_, .i32⟩
  | 119 => ⟨S4096x128, .i32⟩
  | 120 => ⟨S4096x128, .i32⟩
  | 121 => ⟨S4096x128, .i32⟩
  | 122 => ⟨S4096x128, .i32⟩
  | 123 => ⟨S4096x128, .i32⟩
  | 124 => ⟨S_, .i32⟩
  | 125 => ⟨S4096x128, .i32⟩
  | 126 => ⟨S4096x128, .i32⟩
  | 127 => ⟨S_, .i32⟩
  | _ => ⟨S4096x128, .f32⟩

abbrev hbmTy0_22 (i : Nat) : BufTy := match i % 128 with
  | 0 => ⟨S4096x128, .i32⟩
  | 1 => ⟨S4096x128, .i32⟩
  | 2 => ⟨S4096x128, .i32⟩
  | 3 => ⟨S4096x128, .i32⟩
  | 4 => ⟨S4096x128, .i32⟩
  | 5 => ⟨S4096x128, .i32⟩
  | 6 => ⟨S4096x128, .i32⟩
  | 7 => ⟨S4096x128, .i32⟩
  | 8 => ⟨S_, .i32⟩
  | 9 => ⟨S4096x128, .i32⟩
  | 10 => ⟨S4096x128, .i32⟩
  | 11 => ⟨S4096x128, .i32⟩
  | 12 => ⟨S_, .i32⟩
  | 13 => ⟨S4096x128, .i32⟩
  | 14 => ⟨S4096x128, .i32⟩
  | 15 => ⟨S_, .i32⟩
  | 16 => ⟨S4096x128, .i32⟩
  | 17 => ⟨S4096x128, .i32⟩
  | 18 => ⟨S4096x128, .i32⟩
  | 19 => ⟨S4096x128, .i32⟩
  | 20 => ⟨S4096x128, .i32⟩
  | 21 => ⟨S_, .i32⟩
  | 22 => ⟨S4096x128, .i32⟩
  | 23 => ⟨S4096x128, .i32⟩
  | 24 => ⟨S_, .i32⟩
  | 25 => ⟨S4096x128, .i32⟩
  | 26 => ⟨S4096x128, .i32⟩
  | 27 => ⟨S4096x128, .i32⟩
  | 28 => ⟨S4096x128, .i32⟩
  | 29 => ⟨S4096x128, .i32⟩
  | 30 => ⟨S_, .i32⟩
  | 31 => ⟨S4096x128, .i32⟩
  | 32 => ⟨S4096x128, .i32⟩
  | 33 => ⟨S_, .i32⟩
  | 34 => ⟨S4096x128, .i32⟩
  | 35 => ⟨S4096x128, .i32⟩
  | 36 => ⟨S4096x128, .i32⟩
  | 37 => ⟨S4096x128, .i32⟩
  | 38 => ⟨S4096x128, .i32⟩
  | 39 => ⟨S_, .i32⟩
  | 40 => ⟨S4096x128, .i32⟩
  | 41 => ⟨S4096x128, .i32⟩
  | 42 => ⟨S_, .i32⟩
  | 43 => ⟨S4096x128, .i32⟩
  | 44 => ⟨S4096x128, .i32⟩
  | 45 => ⟨S4096x128, .i32⟩
  | 46 => ⟨S4096x128, .i32⟩
  | 47 => ⟨S4096x128, .i32⟩
  | 48 => ⟨S4096x128, .i32⟩
  | 49 => ⟨S4096x128, .i32⟩
  | 50 => ⟨S4096x128, .i32⟩
  | 51 => ⟨S_, .i32⟩
  | 52 => ⟨S4096x128, .i32⟩
  | 53 => ⟨S4096x128, .i32⟩
  | 54 => ⟨S4096x128, .i32⟩
  | 55 => ⟨S_, .i32⟩
  | 56 => ⟨S4096x128, .i32⟩
  | 57 => ⟨S4096x128, .i32⟩
  | 58 => ⟨S_, .i32⟩
  | 59 => ⟨S4096x128, .i32⟩
  | 60 => ⟨S4096x128, .i32⟩
  | 61 => ⟨S4096x128, .i32⟩
  | 62 => ⟨S4096x128, .i32⟩
  | 63 => ⟨S4096x128, .i32⟩
  | 64 => ⟨S_, .i32⟩
  | 65 => ⟨S4096x128, .i32⟩
  | 66 => ⟨S4096x128, .i32⟩
  | 67 => ⟨S_, .i32⟩
  | 68 => ⟨S4096x128, .i32⟩
  | 69 => ⟨S4096x128, .i32⟩
  | 70 => ⟨S4096x128, .i32⟩
  | 71 => ⟨S4096x128, .i32⟩
  | 72 => ⟨S4096x128, .i32⟩
  | 73 => ⟨S_, .i32⟩
  | 74 => ⟨S4096x128, .i32⟩
  | 75 => ⟨S4096x128, .i32⟩
  | 76 => ⟨S_, .i32⟩
  | 77 => ⟨S4096x128, .i32⟩
  | 78 => ⟨S4096x128, .i32⟩
  | 79 => ⟨S4096x128, .i32⟩
  | 80 => ⟨S4096x128, .i32⟩
  | 81 => ⟨S4096x128, .i32⟩
  | 82 => ⟨S_, .i32⟩
  | 83 => ⟨S4096x128, .i32⟩
  | 84 => ⟨S4096x128, .i32⟩
  | 85 => ⟨S_, .i32⟩
  | 86 => ⟨S4096x128, .i32⟩
  | 87 => ⟨S4096x128, .i32⟩
  | 88 => ⟨S4096x128, .i32⟩
  | 89 => ⟨S4096x128, .i32⟩
  | 90 => ⟨S4096x128, .i32⟩
  | 91 => ⟨S4096x128, .i32⟩
  | 92 => ⟨S4096x128, .i32⟩
  | 93 => ⟨S4096x128, .i32⟩
  | 94 => ⟨S_, .i32⟩
  | 95 => ⟨S4096x128, .i32⟩
  | 96 => ⟨S4096x128, .i32⟩
  | 97 => ⟨S4096x128, .i32⟩
  | 98 => ⟨S1x1, .i32⟩
  | 99 => ⟨S1x1, .i32⟩
  | 100 => ⟨S1x1, .i1⟩
  | 101 => ⟨S_, .i32⟩
  | 102 => ⟨S1x1, .i32⟩
  | 103 => ⟨S1x1, .i32⟩
  | 104 => ⟨S1x1, .i1⟩
  | 105 => ⟨S1x1, .i1⟩
  | 106 => ⟨S1x1, .i1⟩
  | 107 => ⟨S_, .i32⟩
  | 108 => ⟨S1x1, .i32⟩
  | 109 => ⟨S1x1, .i32⟩
  | 110 => ⟨S1x1, .i32⟩
  | 111 => ⟨S_, .i32⟩
  | 112 => ⟨S1x1, .i32⟩
  | 113 => ⟨S1x1, .i32⟩
  | 114 => ⟨S1x1, .i32⟩
  | 115 => ⟨S1x1, .i32⟩
  | 116 => ⟨S4096x128, .i32⟩
  | 117 => ⟨S4096x128, .i32⟩
  | 118 => ⟨S4096x128, .i32⟩
  | 119 => ⟨S4096x128, .i32⟩
  | 120 => ⟨S4096x128, .i32⟩
  | 121 => ⟨S4096x128, .i32⟩
  | 122 => ⟨S4096x128, .i32⟩
  | 123 => ⟨S4096x128, .i32⟩
  | 124 => ⟨S4096x128, .i32⟩
  | 125 => ⟨S4096x128, .i32⟩
  | 126 => ⟨S4096x128, .i32⟩
  | 127 => ⟨S4096x128, .i32⟩
  | _ => ⟨S4096x128, .f32⟩

abbrev hbmTy0_23 (i : Nat) : BufTy := match i % 128 with
  | 0 => ⟨S64, .i32⟩
  | 1 => ⟨S1x1x64, .i32⟩
  | 2 => ⟨S4096x128x1, .i32⟩
  | 3 => ⟨S4096x128x64, .i32⟩
  | 4 => ⟨S4096x128x64, .i32⟩
  | 5 => ⟨S4096x128x64, .i1⟩
  | 6 => ⟨S4096x128x1, .i1⟩
  | 7 => ⟨S4096x128x64, .i1⟩
  | 8 => ⟨S4096x128x64, .i1⟩
  | 9 => ⟨S_, .i32⟩
  | 10 => ⟨S4096x128x64, .i32⟩
  | 11 => ⟨S4096x128x64, .i32⟩
  | 12 => ⟨S_, .i32⟩
  | 13 => ⟨S128, .i32⟩
  | 14 => ⟨S128, .i1⟩
  | 15 => ⟨S_, .f32⟩
  | 16 => ⟨S128, .f32⟩
  | 17 => ⟨S_, .f32⟩
  | 18 => ⟨S128, .f32⟩
  | 19 => ⟨S128, .f32⟩
  | 20 => ⟨S_, .i32⟩
  | 21 => ⟨S4096x128x64, .i32⟩
  | 22 => ⟨S4096x128x64, .i1⟩
  | 23 => ⟨S4096x1x64, .f32⟩
  | 24 => ⟨S1x128x1, .f32⟩
  | 25 => ⟨S1x128x1, .f32⟩
  | 26 => ⟨S4096x128x64, .f32⟩
  | 27 => ⟨S4096x128x64, .f32⟩
  | 28 => ⟨S4096x128x64, .f32⟩
  | 29 => ⟨S_, .f32⟩
  | 30 => ⟨S4096x128, .f32⟩
  | 31 => ⟨S_, .f32⟩
  | 32 => ⟨S4096x128, .f32⟩
  | 33 => ⟨S1x128, .i1⟩
  | 34 => ⟨S4096x128, .i1⟩
  | 35 => ⟨S4096x128, .f32⟩
  | _ => ⟨S4096x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | 22 => hbmTy0_22 i
  | 23 => hbmTy0_23 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_c_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_c_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_c_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_7 : Ref sig .tc := ⟨.hbm, 40, rfl⟩
abbrev main_v27 : Ref sig .tc := ⟨.hbm, 41, rfl⟩
abbrev main_v28 : Ref sig .tc := ⟨.hbm, 42, rfl⟩
abbrev main_c_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_9 : Ref sig .tc := ⟨.hbm, 49, rfl⟩
abbrev main_v34 : Ref sig .tc := ⟨.hbm, 50, rfl⟩
abbrev main_v35 : Ref sig .tc := ⟨.hbm, 51, rfl⟩
abbrev main_c_10 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_11 : Ref sig .tc := ⟨.hbm, 58, rfl⟩
abbrev main_v41 : Ref sig .tc := ⟨.hbm, 59, rfl⟩
abbrev main_v42 : Ref sig .tc := ⟨.hbm, 60, rfl⟩
abbrev main_c_12 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_13 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_14 : Ref sig .tc := ⟨.hbm, 74, rfl⟩
abbrev main_v54 : Ref sig .tc := ⟨.hbm, 75, rfl⟩
abbrev main_v55 : Ref sig .tc := ⟨.hbm, 76, rfl⟩
abbrev main_c_15 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_16 : Ref sig .tc := ⟨.hbm, 83, rfl⟩
abbrev main_v61 : Ref sig .tc := ⟨.hbm, 84, rfl⟩
abbrev main_v62 : Ref sig .tc := ⟨.hbm, 85, rfl⟩
abbrev main_c_17 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_18 : Ref sig .tc := ⟨.hbm, 92, rfl⟩
abbrev main_v68 : Ref sig .tc := ⟨.hbm, 93, rfl⟩
abbrev main_v69 : Ref sig .tc := ⟨.hbm, 94, rfl⟩
abbrev main_c_19 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_20 : Ref sig .tc := ⟨.hbm, 101, rfl⟩
abbrev main_v75 : Ref sig .tc := ⟨.hbm, 102, rfl⟩
abbrev main_v76 : Ref sig .tc := ⟨.hbm, 103, rfl⟩
abbrev main_c_21 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_c_22 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_c_23 : Ref sig .tc := ⟨.hbm, 117, rfl⟩
abbrev main_v88 : Ref sig .tc := ⟨.hbm, 118, rfl⟩
abbrev main_v89 : Ref sig .tc := ⟨.hbm, 119, rfl⟩
abbrev main_c_24 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_c_25 : Ref sig .tc := ⟨.hbm, 126, rfl⟩
abbrev main_v95 : Ref sig .tc := ⟨.hbm, 127, rfl⟩
abbrev main_v96 : Ref sig .tc := ⟨.hbm, 128, rfl⟩
abbrev main_c_26 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_c_27 : Ref sig .tc := ⟨.hbm, 135, rfl⟩
abbrev main_v102 : Ref sig .tc := ⟨.hbm, 136, rfl⟩
abbrev main_v103 : Ref sig .tc := ⟨.hbm, 137, rfl⟩
abbrev main_c_28 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_c_29 : Ref sig .tc := ⟨.hbm, 144, rfl⟩
abbrev main_v109 : Ref sig .tc := ⟨.hbm, 145, rfl⟩
abbrev main_v110 : Ref sig .tc := ⟨.hbm, 146, rfl⟩
abbrev main_c_30 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_c_31 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_c_32 : Ref sig .tc := ⟨.hbm, 160, rfl⟩
abbrev main_v122 : Ref sig .tc := ⟨.hbm, 161, rfl⟩
abbrev main_v123 : Ref sig .tc := ⟨.hbm, 162, rfl⟩
abbrev main_c_33 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_c_34 : Ref sig .tc := ⟨.hbm, 169, rfl⟩
abbrev main_v129 : Ref sig .tc := ⟨.hbm, 170, rfl⟩
abbrev main_v130 : Ref sig .tc := ⟨.hbm, 171, rfl⟩
abbrev main_c_35 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_c_36 : Ref sig .tc := ⟨.hbm, 178, rfl⟩
abbrev main_v136 : Ref sig .tc := ⟨.hbm, 179, rfl⟩
abbrev main_v137 : Ref sig .tc := ⟨.hbm, 180, rfl⟩
abbrev main_c_37 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_c_38 : Ref sig .tc := ⟨.hbm, 187, rfl⟩
abbrev main_v143 : Ref sig .tc := ⟨.hbm, 188, rfl⟩
abbrev main_v144 : Ref sig .tc := ⟨.hbm, 189, rfl⟩
abbrev main_c_39 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_c_40 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_c_41 : Ref sig .tc := ⟨.hbm, 203, rfl⟩
abbrev main_v156 : Ref sig .tc := ⟨.hbm, 204, rfl⟩
abbrev main_v157 : Ref sig .tc := ⟨.hbm, 205, rfl⟩
abbrev main_c_42 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_c_43 : Ref sig .tc := ⟨.hbm, 212, rfl⟩
abbrev main_v163 : Ref sig .tc := ⟨.hbm, 213, rfl⟩
abbrev main_v164 : Ref sig .tc := ⟨.hbm, 214, rfl⟩
abbrev main_c_44 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_c_45 : Ref sig .tc := ⟨.hbm, 221, rfl⟩
abbrev main_v170 : Ref sig .tc := ⟨.hbm, 222, rfl⟩
abbrev main_v171 : Ref sig .tc := ⟨.hbm, 223, rfl⟩
abbrev main_c_46 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_c_47 : Ref sig .tc := ⟨.hbm, 230, rfl⟩
abbrev main_v177 : Ref sig .tc := ⟨.hbm, 231, rfl⟩
abbrev main_v178 : Ref sig .tc := ⟨.hbm, 232, rfl⟩
abbrev main_c_48 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_c_49 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_c_50 : Ref sig .tc := ⟨.hbm, 253, rfl⟩
abbrev main_v197 : Ref sig .tc := ⟨.hbm, 254, rfl⟩
abbrev main_v198 : Ref sig .tc := ⟨.hbm, 255, rfl⟩
abbrev main_c_51 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_c_52 : Ref sig .tc := ⟨.hbm, 261, rfl⟩
abbrev main_c_53 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_c_54 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_cst : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_c_55 : Ref sig .tc := ⟨.hbm, 278, rfl⟩
abbrev main_c_56 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_c_57 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_c_58 : Ref sig .tc := ⟨.hbm, 291, rfl⟩
abbrev main_v226 : Ref sig .tc := ⟨.hbm, 292, rfl⟩
abbrev main_v227 : Ref sig .tc := ⟨.hbm, 293, rfl⟩
abbrev main_v228 : Ref sig .tc := ⟨.hbm, 294, rfl⟩
abbrev main_v229 : Ref sig .tc := ⟨.hbm, 295, rfl⟩
abbrev main_v230 : Ref sig .tc := ⟨.hbm, 296, rfl⟩
abbrev main_v231 : Ref sig .tc := ⟨.hbm, 297, rfl⟩
abbrev main_c_59 : Ref sig .tc := ⟨.hbm, 298, rfl⟩
abbrev main_v232 : Ref sig .tc := ⟨.hbm, 299, rfl⟩
abbrev main_v233 : Ref sig .tc := ⟨.hbm, 300, rfl⟩
abbrev main_c_60 : Ref sig .tc := ⟨.hbm, 301, rfl⟩
abbrev main_v234 : Ref sig .tc := ⟨.hbm, 302, rfl⟩
abbrev main_v235 : Ref sig .tc := ⟨.hbm, 303, rfl⟩
abbrev main_v236 : Ref sig .tc := ⟨.hbm, 304, rfl⟩
abbrev main_v237 : Ref sig .tc := ⟨.hbm, 305, rfl⟩
abbrev main_v238 : Ref sig .tc := ⟨.hbm, 306, rfl⟩
abbrev main_c_61 : Ref sig .tc := ⟨.hbm, 307, rfl⟩
abbrev main_v239 : Ref sig .tc := ⟨.hbm, 308, rfl⟩
abbrev main_v240 : Ref sig .tc := ⟨.hbm, 309, rfl⟩
abbrev main_c_62 : Ref sig .tc := ⟨.hbm, 310, rfl⟩
abbrev main_v241 : Ref sig .tc := ⟨.hbm, 311, rfl⟩
abbrev main_v242 : Ref sig .tc := ⟨.hbm, 312, rfl⟩
abbrev main_v243 : Ref sig .tc := ⟨.hbm, 313, rfl⟩
abbrev main_v244 : Ref sig .tc := ⟨.hbm, 314, rfl⟩
abbrev main_v245 : Ref sig .tc := ⟨.hbm, 315, rfl⟩
abbrev main_c_63 : Ref sig .tc := ⟨.hbm, 316, rfl⟩
abbrev main_v246 : Ref sig .tc := ⟨.hbm, 317, rfl⟩
abbrev main_v247 : Ref sig .tc := ⟨.hbm, 318, rfl⟩
abbrev main_c_64 : Ref sig .tc := ⟨.hbm, 319, rfl⟩
abbrev main_v248 : Ref sig .tc := ⟨.hbm, 320, rfl⟩
abbrev main_v249 : Ref sig .tc := ⟨.hbm, 321, rfl⟩
abbrev main_v250 : Ref sig .tc := ⟨.hbm, 322, rfl⟩
abbrev main_v251 : Ref sig .tc := ⟨.hbm, 323, rfl⟩
abbrev main_v252 : Ref sig .tc := ⟨.hbm, 324, rfl⟩
abbrev main_c_65 : Ref sig .tc := ⟨.hbm, 325, rfl⟩
abbrev main_v253 : Ref sig .tc := ⟨.hbm, 326, rfl⟩
abbrev main_v254 : Ref sig .tc := ⟨.hbm, 327, rfl⟩
abbrev main_c_66 : Ref sig .tc := ⟨.hbm, 328, rfl⟩
abbrev main_v255 : Ref sig .tc := ⟨.hbm, 329, rfl⟩
abbrev main_v256 : Ref sig .tc := ⟨.hbm, 330, rfl⟩
abbrev main_v257 : Ref sig .tc := ⟨.hbm, 331, rfl⟩
abbrev main_v258 : Ref sig .tc := ⟨.hbm, 332, rfl⟩
abbrev main_v259 : Ref sig .tc := ⟨.hbm, 333, rfl⟩
abbrev main_v260 : Ref sig .tc := ⟨.hbm, 334, rfl⟩
abbrev main_v261 : Ref sig .tc := ⟨.hbm, 335, rfl⟩
abbrev main_v262 : Ref sig .tc := ⟨.hbm, 336, rfl⟩
abbrev main_c_67 : Ref sig .tc := ⟨.hbm, 337, rfl⟩
abbrev main_v263 : Ref sig .tc := ⟨.hbm, 338, rfl⟩
abbrev main_v264 : Ref sig .tc := ⟨.hbm, 339, rfl⟩
abbrev main_v265 : Ref sig .tc := ⟨.hbm, 340, rfl⟩
abbrev main_c_68 : Ref sig .tc := ⟨.hbm, 341, rfl⟩
abbrev main_v266 : Ref sig .tc := ⟨.hbm, 342, rfl⟩
abbrev main_v267 : Ref sig .tc := ⟨.hbm, 343, rfl⟩
abbrev main_c_69 : Ref sig .tc := ⟨.hbm, 344, rfl⟩
abbrev main_v268 : Ref sig .tc := ⟨.hbm, 345, rfl⟩
abbrev main_v269 : Ref sig .tc := ⟨.hbm, 346, rfl⟩
abbrev main_v270 : Ref sig .tc := ⟨.hbm, 347, rfl⟩
abbrev main_v271 : Ref sig .tc := ⟨.hbm, 348, rfl⟩
abbrev main_v272 : Ref sig .tc := ⟨.hbm, 349, rfl⟩
abbrev main_c_70 : Ref sig .tc := ⟨.hbm, 350, rfl⟩
abbrev main_v273 : Ref sig .tc := ⟨.hbm, 351, rfl⟩
abbrev main_v274 : Ref sig .tc := ⟨.hbm, 352, rfl⟩
abbrev main_c_71 : Ref sig .tc := ⟨.hbm, 353, rfl⟩
abbrev main_v275 : Ref sig .tc := ⟨.hbm, 354, rfl⟩
abbrev main_v276 : Ref sig .tc := ⟨.hbm, 355, rfl⟩
abbrev main_v277 : Ref sig .tc := ⟨.hbm, 356, rfl⟩
abbrev main_v278 : Ref sig .tc := ⟨.hbm, 357, rfl⟩
abbrev main_v279 : Ref sig .tc := ⟨.hbm, 358, rfl⟩
abbrev main_c_72 : Ref sig .tc := ⟨.hbm, 359, rfl⟩
abbrev main_v280 : Ref sig .tc := ⟨.hbm, 360, rfl⟩
abbrev main_v281 : Ref sig .tc := ⟨.hbm, 361, rfl⟩
abbrev main_c_73 : Ref sig .tc := ⟨.hbm, 362, rfl⟩
abbrev main_v282 : Ref sig .tc := ⟨.hbm, 363, rfl⟩
abbrev main_v283 : Ref sig .tc := ⟨.hbm, 364, rfl⟩
abbrev main_v284 : Ref sig .tc := ⟨.hbm, 365, rfl⟩
abbrev main_v285 : Ref sig .tc := ⟨.hbm, 366, rfl⟩
abbrev main_v286 : Ref sig .tc := ⟨.hbm, 367, rfl⟩
abbrev main_c_74 : Ref sig .tc := ⟨.hbm, 368, rfl⟩
abbrev main_v287 : Ref sig .tc := ⟨.hbm, 369, rfl⟩
abbrev main_v288 : Ref sig .tc := ⟨.hbm, 370, rfl⟩
abbrev main_c_75 : Ref sig .tc := ⟨.hbm, 371, rfl⟩
abbrev main_v289 : Ref sig .tc := ⟨.hbm, 372, rfl⟩
abbrev main_v290 : Ref sig .tc := ⟨.hbm, 373, rfl⟩
abbrev main_v291 : Ref sig .tc := ⟨.hbm, 374, rfl⟩
abbrev main_v292 : Ref sig .tc := ⟨.hbm, 375, rfl⟩
abbrev main_v293 : Ref sig .tc := ⟨.hbm, 376, rfl⟩
abbrev main_v294 : Ref sig .tc := ⟨.hbm, 377, rfl⟩
abbrev main_v295 : Ref sig .tc := ⟨.hbm, 378, rfl⟩
abbrev main_v296 : Ref sig .tc := ⟨.hbm, 379, rfl⟩
abbrev main_c_76 : Ref sig .tc := ⟨.hbm, 380, rfl⟩
abbrev main_v297 : Ref sig .tc := ⟨.hbm, 381, rfl⟩
abbrev main_v298 : Ref sig .tc := ⟨.hbm, 382, rfl⟩
abbrev main_v299 : Ref sig .tc := ⟨.hbm, 383, rfl⟩
abbrev main_c_77 : Ref sig .tc := ⟨.hbm, 384, rfl⟩
abbrev main_v300 : Ref sig .tc := ⟨.hbm, 385, rfl⟩
abbrev main_v301 : Ref sig .tc := ⟨.hbm, 386, rfl⟩
abbrev main_c_78 : Ref sig .tc := ⟨.hbm, 387, rfl⟩
abbrev main_v302 : Ref sig .tc := ⟨.hbm, 388, rfl⟩
abbrev main_v303 : Ref sig .tc := ⟨.hbm, 389, rfl⟩
abbrev main_v304 : Ref sig .tc := ⟨.hbm, 390, rfl⟩
abbrev main_v305 : Ref sig .tc := ⟨.hbm, 391, rfl⟩
abbrev main_v306 : Ref sig .tc := ⟨.hbm, 392, rfl⟩
abbrev main_c_79 : Ref sig .tc := ⟨.hbm, 393, rfl⟩
abbrev main_v307 : Ref sig .tc := ⟨.hbm, 394, rfl⟩
abbrev main_v308 : Ref sig .tc := ⟨.hbm, 395, rfl⟩
abbrev main_c_80 : Ref sig .tc := ⟨.hbm, 396, rfl⟩
abbrev main_v309 : Ref sig .tc := ⟨.hbm, 397, rfl⟩
abbrev main_v310 : Ref sig .tc := ⟨.hbm, 398, rfl⟩
abbrev main_v311 : Ref sig .tc := ⟨.hbm, 399, rfl⟩
abbrev main_v312 : Ref sig .tc := ⟨.hbm, 400, rfl⟩
abbrev main_v313 : Ref sig .tc := ⟨.hbm, 401, rfl⟩
abbrev main_c_81 : Ref sig .tc := ⟨.hbm, 402, rfl⟩
abbrev main_v314 : Ref sig .tc := ⟨.hbm, 403, rfl⟩
abbrev main_v315 : Ref sig .tc := ⟨.hbm, 404, rfl⟩
abbrev main_c_82 : Ref sig .tc := ⟨.hbm, 405, rfl⟩
abbrev main_v316 : Ref sig .tc := ⟨.hbm, 406, rfl⟩
abbrev main_v317 : Ref sig .tc := ⟨.hbm, 407, rfl⟩
abbrev main_v318 : Ref sig .tc := ⟨.hbm, 408, rfl⟩
abbrev main_v319 : Ref sig .tc := ⟨.hbm, 409, rfl⟩
abbrev main_v320 : Ref sig .tc := ⟨.hbm, 410, rfl⟩
abbrev main_c_83 : Ref sig .tc := ⟨.hbm, 411, rfl⟩
abbrev main_v321 : Ref sig .tc := ⟨.hbm, 412, rfl⟩
abbrev main_v322 : Ref sig .tc := ⟨.hbm, 413, rfl⟩
abbrev main_c_84 : Ref sig .tc := ⟨.hbm, 414, rfl⟩
abbrev main_v323 : Ref sig .tc := ⟨.hbm, 415, rfl⟩
abbrev main_v324 : Ref sig .tc := ⟨.hbm, 416, rfl⟩
abbrev main_v325 : Ref sig .tc := ⟨.hbm, 417, rfl⟩
abbrev main_v326 : Ref sig .tc := ⟨.hbm, 418, rfl⟩
abbrev main_v327 : Ref sig .tc := ⟨.hbm, 419, rfl⟩
abbrev main_v328 : Ref sig .tc := ⟨.hbm, 420, rfl⟩
abbrev main_v329 : Ref sig .tc := ⟨.hbm, 421, rfl⟩
abbrev main_v330 : Ref sig .tc := ⟨.hbm, 422, rfl⟩
abbrev main_c_85 : Ref sig .tc := ⟨.hbm, 423, rfl⟩
abbrev main_v331 : Ref sig .tc := ⟨.hbm, 424, rfl⟩
abbrev main_v332 : Ref sig .tc := ⟨.hbm, 425, rfl⟩
abbrev main_v333 : Ref sig .tc := ⟨.hbm, 426, rfl⟩
abbrev main_c_86 : Ref sig .tc := ⟨.hbm, 427, rfl⟩
abbrev main_v334 : Ref sig .tc := ⟨.hbm, 428, rfl⟩
abbrev main_v335 : Ref sig .tc := ⟨.hbm, 429, rfl⟩
abbrev main_c_87 : Ref sig .tc := ⟨.hbm, 430, rfl⟩
abbrev main_v336 : Ref sig .tc := ⟨.hbm, 431, rfl⟩
abbrev main_v337 : Ref sig .tc := ⟨.hbm, 432, rfl⟩
abbrev main_v338 : Ref sig .tc := ⟨.hbm, 433, rfl⟩
abbrev main_v339 : Ref sig .tc := ⟨.hbm, 434, rfl⟩
abbrev main_v340 : Ref sig .tc := ⟨.hbm, 435, rfl⟩
abbrev main_c_88 : Ref sig .tc := ⟨.hbm, 436, rfl⟩
abbrev main_v341 : Ref sig .tc := ⟨.hbm, 437, rfl⟩
abbrev main_v342 : Ref sig .tc := ⟨.hbm, 438, rfl⟩
abbrev main_c_89 : Ref sig .tc := ⟨.hbm, 439, rfl⟩
abbrev main_v343 : Ref sig .tc := ⟨.hbm, 440, rfl⟩
abbrev main_v344 : Ref sig .tc := ⟨.hbm, 441, rfl⟩
abbrev main_v345 : Ref sig .tc := ⟨.hbm, 442, rfl⟩
abbrev main_v346 : Ref sig .tc := ⟨.hbm, 443, rfl⟩
abbrev main_v347 : Ref sig .tc := ⟨.hbm, 444, rfl⟩
abbrev main_c_90 : Ref sig .tc := ⟨.hbm, 445, rfl⟩
abbrev main_v348 : Ref sig .tc := ⟨.hbm, 446, rfl⟩
abbrev main_v349 : Ref sig .tc := ⟨.hbm, 447, rfl⟩
abbrev main_c_91 : Ref sig .tc := ⟨.hbm, 448, rfl⟩
abbrev main_v350 : Ref sig .tc := ⟨.hbm, 449, rfl⟩
abbrev main_v351 : Ref sig .tc := ⟨.hbm, 450, rfl⟩
abbrev main_v352 : Ref sig .tc := ⟨.hbm, 451, rfl⟩
abbrev main_v353 : Ref sig .tc := ⟨.hbm, 452, rfl⟩
abbrev main_v354 : Ref sig .tc := ⟨.hbm, 453, rfl⟩
abbrev main_c_92 : Ref sig .tc := ⟨.hbm, 454, rfl⟩
abbrev main_v355 : Ref sig .tc := ⟨.hbm, 455, rfl⟩
abbrev main_v356 : Ref sig .tc := ⟨.hbm, 456, rfl⟩
abbrev main_c_93 : Ref sig .tc := ⟨.hbm, 457, rfl⟩
abbrev main_v357 : Ref sig .tc := ⟨.hbm, 458, rfl⟩
abbrev main_v358 : Ref sig .tc := ⟨.hbm, 459, rfl⟩
abbrev main_v359 : Ref sig .tc := ⟨.hbm, 460, rfl⟩
abbrev main_v360 : Ref sig .tc := ⟨.hbm, 461, rfl⟩
abbrev main_v361 : Ref sig .tc := ⟨.hbm, 462, rfl⟩
abbrev main_v362 : Ref sig .tc := ⟨.hbm, 463, rfl⟩
abbrev main_v363 : Ref sig .tc := ⟨.hbm, 464, rfl⟩
abbrev main_v364 : Ref sig .tc := ⟨.hbm, 465, rfl⟩
abbrev main_c_94 : Ref sig .tc := ⟨.hbm, 466, rfl⟩
abbrev main_v365 : Ref sig .tc := ⟨.hbm, 467, rfl⟩
abbrev main_v366 : Ref sig .tc := ⟨.hbm, 468, rfl⟩
abbrev main_v367 : Ref sig .tc := ⟨.hbm, 469, rfl⟩
abbrev main_c_95 : Ref sig .tc := ⟨.hbm, 470, rfl⟩
abbrev main_v368 : Ref sig .tc := ⟨.hbm, 471, rfl⟩
abbrev main_v369 : Ref sig .tc := ⟨.hbm, 472, rfl⟩
abbrev main_c_96 : Ref sig .tc := ⟨.hbm, 473, rfl⟩
abbrev main_v370 : Ref sig .tc := ⟨.hbm, 474, rfl⟩
abbrev main_v371 : Ref sig .tc := ⟨.hbm, 475, rfl⟩
abbrev main_v372 : Ref sig .tc := ⟨.hbm, 476, rfl⟩
abbrev main_v373 : Ref sig .tc := ⟨.hbm, 477, rfl⟩
abbrev main_v374 : Ref sig .tc := ⟨.hbm, 478, rfl⟩
abbrev main_c_97 : Ref sig .tc := ⟨.hbm, 479, rfl⟩
abbrev main_v375 : Ref sig .tc := ⟨.hbm, 480, rfl⟩
abbrev main_v376 : Ref sig .tc := ⟨.hbm, 481, rfl⟩
abbrev main_c_98 : Ref sig .tc := ⟨.hbm, 482, rfl⟩
abbrev main_v377 : Ref sig .tc := ⟨.hbm, 483, rfl⟩
abbrev main_v378 : Ref sig .tc := ⟨.hbm, 484, rfl⟩
abbrev main_v379 : Ref sig .tc := ⟨.hbm, 485, rfl⟩
abbrev main_v380 : Ref sig .tc := ⟨.hbm, 486, rfl⟩
abbrev main_v381 : Ref sig .tc := ⟨.hbm, 487, rfl⟩
abbrev main_c_99 : Ref sig .tc := ⟨.hbm, 488, rfl⟩
abbrev main_v382 : Ref sig .tc := ⟨.hbm, 489, rfl⟩
abbrev main_v383 : Ref sig .tc := ⟨.hbm, 490, rfl⟩
abbrev main_c_100 : Ref sig .tc := ⟨.hbm, 491, rfl⟩
abbrev main_v384 : Ref sig .tc := ⟨.hbm, 492, rfl⟩
abbrev main_v385 : Ref sig .tc := ⟨.hbm, 493, rfl⟩
abbrev main_v386 : Ref sig .tc := ⟨.hbm, 494, rfl⟩
abbrev main_v387 : Ref sig .tc := ⟨.hbm, 495, rfl⟩
abbrev main_v388 : Ref sig .tc := ⟨.hbm, 496, rfl⟩
abbrev main_c_101 : Ref sig .tc := ⟨.hbm, 497, rfl⟩
abbrev main_v389 : Ref sig .tc := ⟨.hbm, 498, rfl⟩
abbrev main_v390 : Ref sig .tc := ⟨.hbm, 499, rfl⟩
abbrev main_c_102 : Ref sig .tc := ⟨.hbm, 500, rfl⟩
abbrev main_v391 : Ref sig .tc := ⟨.hbm, 501, rfl⟩
abbrev main_v392 : Ref sig .tc := ⟨.hbm, 502, rfl⟩
abbrev main_v393 : Ref sig .tc := ⟨.hbm, 503, rfl⟩
abbrev main_v394 : Ref sig .tc := ⟨.hbm, 504, rfl⟩
abbrev main_v395 : Ref sig .tc := ⟨.hbm, 505, rfl⟩
abbrev main_v396 : Ref sig .tc := ⟨.hbm, 506, rfl⟩
abbrev main_v397 : Ref sig .tc := ⟨.hbm, 507, rfl⟩
abbrev main_v398 : Ref sig .tc := ⟨.hbm, 508, rfl⟩
abbrev main_c_103 : Ref sig .tc := ⟨.hbm, 509, rfl⟩
abbrev main_v399 : Ref sig .tc := ⟨.hbm, 510, rfl⟩
abbrev main_v400 : Ref sig .tc := ⟨.hbm, 511, rfl⟩
abbrev main_v401 : Ref sig .tc := ⟨.hbm, 512, rfl⟩
abbrev main_v402 : Ref sig .tc := ⟨.hbm, 513, rfl⟩
abbrev main_v403 : Ref sig .tc := ⟨.hbm, 514, rfl⟩
abbrev main_v404 : Ref sig .tc := ⟨.hbm, 515, rfl⟩
abbrev main_v405 : Ref sig .tc := ⟨.hbm, 516, rfl⟩
abbrev main_v406 : Ref sig .tc := ⟨.hbm, 517, rfl⟩
abbrev main_v407 : Ref sig .tc := ⟨.hbm, 518, rfl⟩
abbrev main_v408 : Ref sig .tc := ⟨.hbm, 519, rfl⟩
abbrev main_v409 : Ref sig .tc := ⟨.hbm, 520, rfl⟩
abbrev main_cst_104 : Ref sig .tc := ⟨.hbm, 521, rfl⟩
abbrev main_v410 : Ref sig .tc := ⟨.hbm, 522, rfl⟩
abbrev main_cst_105 : Ref sig .tc := ⟨.hbm, 523, rfl⟩
abbrev main_v411 : Ref sig .tc := ⟨.hbm, 524, rfl⟩
abbrev main_c_106 : Ref sig .tc := ⟨.hbm, 525, rfl⟩
abbrev main_c_107 : Ref sig .tc := ⟨.hbm, 526, rfl⟩
abbrev main_v412 : Ref sig .tc := ⟨.hbm, 527, rfl⟩
abbrev main_v413 : Ref sig .tc := ⟨.hbm, 528, rfl⟩
abbrev main_v414 : Ref sig .tc := ⟨.hbm, 529, rfl⟩
abbrev main_v415 : Ref sig .tc := ⟨.hbm, 530, rfl⟩
abbrev main_c_108 : Ref sig .tc := ⟨.hbm, 531, rfl⟩
abbrev main_v416 : Ref sig .tc := ⟨.hbm, 532, rfl⟩
abbrev main_v417 : Ref sig .tc := ⟨.hbm, 533, rfl⟩
abbrev main_v418 : Ref sig .tc := ⟨.hbm, 534, rfl⟩
abbrev main_v419 : Ref sig .tc := ⟨.hbm, 535, rfl⟩
abbrev main_c_109 : Ref sig .tc := ⟨.hbm, 536, rfl⟩
abbrev main_v420 : Ref sig .tc := ⟨.hbm, 537, rfl⟩
abbrev main_v421 : Ref sig .tc := ⟨.hbm, 538, rfl⟩
abbrev main_v422 : Ref sig .tc := ⟨.hbm, 539, rfl⟩
abbrev main_v423 : Ref sig .tc := ⟨.hbm, 540, rfl⟩
abbrev main_c_110 : Ref sig .tc := ⟨.hbm, 541, rfl⟩
abbrev main_v424 : Ref sig .tc := ⟨.hbm, 542, rfl⟩
abbrev main_v425 : Ref sig .tc := ⟨.hbm, 543, rfl⟩
abbrev main_v426 : Ref sig .tc := ⟨.hbm, 544, rfl⟩
abbrev main_v427 : Ref sig .tc := ⟨.hbm, 545, rfl⟩
abbrev main_c_111 : Ref sig .tc := ⟨.hbm, 546, rfl⟩
abbrev main_v428 : Ref sig .tc := ⟨.hbm, 547, rfl⟩
abbrev main_v429 : Ref sig .tc := ⟨.hbm, 548, rfl⟩
abbrev main_v430 : Ref sig .tc := ⟨.hbm, 549, rfl⟩
abbrev main_v431 : Ref sig .tc := ⟨.hbm, 550, rfl⟩
abbrev main_v432 : Ref sig .tc := ⟨.hbm, 551, rfl⟩
abbrev main_v433 : Ref sig .tc := ⟨.hbm, 552, rfl⟩
abbrev main_c_112 : Ref sig .tc := ⟨.hbm, 553, rfl⟩
abbrev main_v434 : Ref sig .tc := ⟨.hbm, 554, rfl⟩
abbrev main_v435 : Ref sig .tc := ⟨.hbm, 555, rfl⟩
abbrev main_v436 : Ref sig .tc := ⟨.hbm, 556, rfl⟩
abbrev main_v437 : Ref sig .tc := ⟨.hbm, 557, rfl⟩
abbrev main_v438 : Ref sig .tc := ⟨.hbm, 558, rfl⟩
abbrev main_v439 : Ref sig .tc := ⟨.hbm, 559, rfl⟩
abbrev main_c_113 : Ref sig .tc := ⟨.hbm, 560, rfl⟩
abbrev main_v440 : Ref sig .tc := ⟨.hbm, 561, rfl⟩
abbrev main_v441 : Ref sig .tc := ⟨.hbm, 562, rfl⟩
abbrev main_c_114 : Ref sig .tc := ⟨.hbm, 563, rfl⟩
abbrev main_v442 : Ref sig .tc := ⟨.hbm, 564, rfl⟩
abbrev main_v443 : Ref sig .tc := ⟨.hbm, 565, rfl⟩
abbrev main_v444 : Ref sig .tc := ⟨.hbm, 566, rfl⟩
abbrev main_v445 : Ref sig .tc := ⟨.hbm, 567, rfl⟩
abbrev main_v446 : Ref sig .tc := ⟨.hbm, 568, rfl⟩
abbrev main_c_115 : Ref sig .tc := ⟨.hbm, 569, rfl⟩
abbrev main_v447 : Ref sig .tc := ⟨.hbm, 570, rfl⟩
abbrev main_v448 : Ref sig .tc := ⟨.hbm, 571, rfl⟩
abbrev main_c_116 : Ref sig .tc := ⟨.hbm, 572, rfl⟩
abbrev main_v449 : Ref sig .tc := ⟨.hbm, 573, rfl⟩
abbrev main_v450 : Ref sig .tc := ⟨.hbm, 574, rfl⟩
abbrev main_v451 : Ref sig .tc := ⟨.hbm, 575, rfl⟩
abbrev main_v452 : Ref sig .tc := ⟨.hbm, 576, rfl⟩
abbrev main_v453 : Ref sig .tc := ⟨.hbm, 577, rfl⟩
abbrev main_c_117 : Ref sig .tc := ⟨.hbm, 578, rfl⟩
abbrev main_v454 : Ref sig .tc := ⟨.hbm, 579, rfl⟩
abbrev main_v455 : Ref sig .tc := ⟨.hbm, 580, rfl⟩
abbrev main_c_118 : Ref sig .tc := ⟨.hbm, 581, rfl⟩
abbrev main_v456 : Ref sig .tc := ⟨.hbm, 582, rfl⟩
abbrev main_v457 : Ref sig .tc := ⟨.hbm, 583, rfl⟩
abbrev main_v458 : Ref sig .tc := ⟨.hbm, 584, rfl⟩
abbrev main_v459 : Ref sig .tc := ⟨.hbm, 585, rfl⟩
abbrev main_v460 : Ref sig .tc := ⟨.hbm, 586, rfl⟩
abbrev main_c_119 : Ref sig .tc := ⟨.hbm, 587, rfl⟩
abbrev main_v461 : Ref sig .tc := ⟨.hbm, 588, rfl⟩
abbrev main_v462 : Ref sig .tc := ⟨.hbm, 589, rfl⟩
abbrev main_c_120 : Ref sig .tc := ⟨.hbm, 590, rfl⟩
abbrev main_v463 : Ref sig .tc := ⟨.hbm, 591, rfl⟩
abbrev main_v464 : Ref sig .tc := ⟨.hbm, 592, rfl⟩
abbrev main_v465 : Ref sig .tc := ⟨.hbm, 593, rfl⟩
abbrev main_v466 : Ref sig .tc := ⟨.hbm, 594, rfl⟩
abbrev main_v467 : Ref sig .tc := ⟨.hbm, 595, rfl⟩
abbrev main_v468 : Ref sig .tc := ⟨.hbm, 596, rfl⟩
abbrev main_v469 : Ref sig .tc := ⟨.hbm, 597, rfl⟩
abbrev main_v470 : Ref sig .tc := ⟨.hbm, 598, rfl⟩
abbrev main_c_121 : Ref sig .tc := ⟨.hbm, 599, rfl⟩
abbrev main_v471 : Ref sig .tc := ⟨.hbm, 600, rfl⟩
abbrev main_v472 : Ref sig .tc := ⟨.hbm, 601, rfl⟩
abbrev main_v473 : Ref sig .tc := ⟨.hbm, 602, rfl⟩
abbrev main_c_122 : Ref sig .tc := ⟨.hbm, 603, rfl⟩
abbrev main_v474 : Ref sig .tc := ⟨.hbm, 604, rfl⟩
abbrev main_v475 : Ref sig .tc := ⟨.hbm, 605, rfl⟩
abbrev main_c_123 : Ref sig .tc := ⟨.hbm, 606, rfl⟩
abbrev main_v476 : Ref sig .tc := ⟨.hbm, 607, rfl⟩
abbrev main_v477 : Ref sig .tc := ⟨.hbm, 608, rfl⟩
abbrev main_v478 : Ref sig .tc := ⟨.hbm, 609, rfl⟩
abbrev main_v479 : Ref sig .tc := ⟨.hbm, 610, rfl⟩
abbrev main_v480 : Ref sig .tc := ⟨.hbm, 611, rfl⟩
abbrev main_c_124 : Ref sig .tc := ⟨.hbm, 612, rfl⟩
abbrev main_v481 : Ref sig .tc := ⟨.hbm, 613, rfl⟩
abbrev main_v482 : Ref sig .tc := ⟨.hbm, 614, rfl⟩
abbrev main_c_125 : Ref sig .tc := ⟨.hbm, 615, rfl⟩
abbrev main_v483 : Ref sig .tc := ⟨.hbm, 616, rfl⟩
abbrev main_v484 : Ref sig .tc := ⟨.hbm, 617, rfl⟩
abbrev main_v485 : Ref sig .tc := ⟨.hbm, 618, rfl⟩
abbrev main_v486 : Ref sig .tc := ⟨.hbm, 619, rfl⟩
abbrev main_v487 : Ref sig .tc := ⟨.hbm, 620, rfl⟩
abbrev main_c_126 : Ref sig .tc := ⟨.hbm, 621, rfl⟩
abbrev main_v488 : Ref sig .tc := ⟨.hbm, 622, rfl⟩
abbrev main_v489 : Ref sig .tc := ⟨.hbm, 623, rfl⟩
abbrev main_c_127 : Ref sig .tc := ⟨.hbm, 624, rfl⟩
abbrev main_v490 : Ref sig .tc := ⟨.hbm, 625, rfl⟩
abbrev main_v491 : Ref sig .tc := ⟨.hbm, 626, rfl⟩
abbrev main_v492 : Ref sig .tc := ⟨.hbm, 627, rfl⟩
abbrev main_v493 : Ref sig .tc := ⟨.hbm, 628, rfl⟩
abbrev main_v494 : Ref sig .tc := ⟨.hbm, 629, rfl⟩
abbrev main_c_128 : Ref sig .tc := ⟨.hbm, 630, rfl⟩
abbrev main_v495 : Ref sig .tc := ⟨.hbm, 631, rfl⟩
abbrev main_v496 : Ref sig .tc := ⟨.hbm, 632, rfl⟩
abbrev main_c_129 : Ref sig .tc := ⟨.hbm, 633, rfl⟩
abbrev main_v497 : Ref sig .tc := ⟨.hbm, 634, rfl⟩
abbrev main_v498 : Ref sig .tc := ⟨.hbm, 635, rfl⟩
abbrev main_v499 : Ref sig .tc := ⟨.hbm, 636, rfl⟩
abbrev main_v500 : Ref sig .tc := ⟨.hbm, 637, rfl⟩
abbrev main_v501 : Ref sig .tc := ⟨.hbm, 638, rfl⟩
abbrev main_v502 : Ref sig .tc := ⟨.hbm, 639, rfl⟩
abbrev main_v503 : Ref sig .tc := ⟨.hbm, 640, rfl⟩
abbrev main_v504 : Ref sig .tc := ⟨.hbm, 641, rfl⟩
abbrev main_c_130 : Ref sig .tc := ⟨.hbm, 642, rfl⟩
abbrev main_v505 : Ref sig .tc := ⟨.hbm, 643, rfl⟩
abbrev main_v506 : Ref sig .tc := ⟨.hbm, 644, rfl⟩
abbrev main_v507 : Ref sig .tc := ⟨.hbm, 645, rfl⟩
abbrev main_c_131 : Ref sig .tc := ⟨.hbm, 646, rfl⟩
abbrev main_v508 : Ref sig .tc := ⟨.hbm, 647, rfl⟩
abbrev main_v509 : Ref sig .tc := ⟨.hbm, 648, rfl⟩
abbrev main_c_132 : Ref sig .tc := ⟨.hbm, 649, rfl⟩
abbrev main_v510 : Ref sig .tc := ⟨.hbm, 650, rfl⟩
abbrev main_v511 : Ref sig .tc := ⟨.hbm, 651, rfl⟩
abbrev main_v512 : Ref sig .tc := ⟨.hbm, 652, rfl⟩
abbrev main_v513 : Ref sig .tc := ⟨.hbm, 653, rfl⟩
abbrev main_v514 : Ref sig .tc := ⟨.hbm, 654, rfl⟩
abbrev main_c_133 : Ref sig .tc := ⟨.hbm, 655, rfl⟩
abbrev main_v515 : Ref sig .tc := ⟨.hbm, 656, rfl⟩
abbrev main_v516 : Ref sig .tc := ⟨.hbm, 657, rfl⟩
abbrev main_c_134 : Ref sig .tc := ⟨.hbm, 658, rfl⟩
abbrev main_v517 : Ref sig .tc := ⟨.hbm, 659, rfl⟩
abbrev main_v518 : Ref sig .tc := ⟨.hbm, 660, rfl⟩
abbrev main_v519 : Ref sig .tc := ⟨.hbm, 661, rfl⟩
abbrev main_v520 : Ref sig .tc := ⟨.hbm, 662, rfl⟩
abbrev main_v521 : Ref sig .tc := ⟨.hbm, 663, rfl⟩
abbrev main_c_135 : Ref sig .tc := ⟨.hbm, 664, rfl⟩
abbrev main_v522 : Ref sig .tc := ⟨.hbm, 665, rfl⟩
abbrev main_v523 : Ref sig .tc := ⟨.hbm, 666, rfl⟩
abbrev main_c_136 : Ref sig .tc := ⟨.hbm, 667, rfl⟩
abbrev main_v524 : Ref sig .tc := ⟨.hbm, 668, rfl⟩
abbrev main_v525 : Ref sig .tc := ⟨.hbm, 669, rfl⟩
abbrev main_v526 : Ref sig .tc := ⟨.hbm, 670, rfl⟩
abbrev main_v527 : Ref sig .tc := ⟨.hbm, 671, rfl⟩
abbrev main_v528 : Ref sig .tc := ⟨.hbm, 672, rfl⟩
abbrev main_c_137 : Ref sig .tc := ⟨.hbm, 673, rfl⟩
abbrev main_v529 : Ref sig .tc := ⟨.hbm, 674, rfl⟩
abbrev main_v530 : Ref sig .tc := ⟨.hbm, 675, rfl⟩
abbrev main_c_138 : Ref sig .tc := ⟨.hbm, 676, rfl⟩
abbrev main_v531 : Ref sig .tc := ⟨.hbm, 677, rfl⟩
abbrev main_v532 : Ref sig .tc := ⟨.hbm, 678, rfl⟩
abbrev main_v533 : Ref sig .tc := ⟨.hbm, 679, rfl⟩
abbrev main_v534 : Ref sig .tc := ⟨.hbm, 680, rfl⟩
abbrev main_v535 : Ref sig .tc := ⟨.hbm, 681, rfl⟩
abbrev main_v536 : Ref sig .tc := ⟨.hbm, 682, rfl⟩
abbrev main_v537 : Ref sig .tc := ⟨.hbm, 683, rfl⟩
abbrev main_v538 : Ref sig .tc := ⟨.hbm, 684, rfl⟩
abbrev main_c_139 : Ref sig .tc := ⟨.hbm, 685, rfl⟩
abbrev main_v539 : Ref sig .tc := ⟨.hbm, 686, rfl⟩
abbrev main_v540 : Ref sig .tc := ⟨.hbm, 687, rfl⟩
abbrev main_v541 : Ref sig .tc := ⟨.hbm, 688, rfl⟩
abbrev main_c_140 : Ref sig .tc := ⟨.hbm, 689, rfl⟩
abbrev main_v542 : Ref sig .tc := ⟨.hbm, 690, rfl⟩
abbrev main_v543 : Ref sig .tc := ⟨.hbm, 691, rfl⟩
abbrev main_c_141 : Ref sig .tc := ⟨.hbm, 692, rfl⟩
abbrev main_v544 : Ref sig .tc := ⟨.hbm, 693, rfl⟩
abbrev main_v545 : Ref sig .tc := ⟨.hbm, 694, rfl⟩
abbrev main_v546 : Ref sig .tc := ⟨.hbm, 695, rfl⟩
abbrev main_v547 : Ref sig .tc := ⟨.hbm, 696, rfl⟩
abbrev main_v548 : Ref sig .tc := ⟨.hbm, 697, rfl⟩
abbrev main_c_142 : Ref sig .tc := ⟨.hbm, 698, rfl⟩
abbrev main_v549 : Ref sig .tc := ⟨.hbm, 699, rfl⟩
abbrev main_v550 : Ref sig .tc := ⟨.hbm, 700, rfl⟩
abbrev main_c_143 : Ref sig .tc := ⟨.hbm, 701, rfl⟩
abbrev main_v551 : Ref sig .tc := ⟨.hbm, 702, rfl⟩
abbrev main_v552 : Ref sig .tc := ⟨.hbm, 703, rfl⟩
abbrev main_v553 : Ref sig .tc := ⟨.hbm, 704, rfl⟩
abbrev main_v554 : Ref sig .tc := ⟨.hbm, 705, rfl⟩
abbrev main_v555 : Ref sig .tc := ⟨.hbm, 706, rfl⟩
abbrev main_c_144 : Ref sig .tc := ⟨.hbm, 707, rfl⟩
abbrev main_v556 : Ref sig .tc := ⟨.hbm, 708, rfl⟩
abbrev main_v557 : Ref sig .tc := ⟨.hbm, 709, rfl⟩
abbrev main_c_145 : Ref sig .tc := ⟨.hbm, 710, rfl⟩
abbrev main_v558 : Ref sig .tc := ⟨.hbm, 711, rfl⟩
abbrev main_v559 : Ref sig .tc := ⟨.hbm, 712, rfl⟩
abbrev main_v560 : Ref sig .tc := ⟨.hbm, 713, rfl⟩
abbrev main_v561 : Ref sig .tc := ⟨.hbm, 714, rfl⟩
abbrev main_v562 : Ref sig .tc := ⟨.hbm, 715, rfl⟩
abbrev main_c_146 : Ref sig .tc := ⟨.hbm, 716, rfl⟩
abbrev main_v563 : Ref sig .tc := ⟨.hbm, 717, rfl⟩
abbrev main_v564 : Ref sig .tc := ⟨.hbm, 718, rfl⟩
abbrev main_c_147 : Ref sig .tc := ⟨.hbm, 719, rfl⟩
abbrev main_v565 : Ref sig .tc := ⟨.hbm, 720, rfl⟩
abbrev main_v566 : Ref sig .tc := ⟨.hbm, 721, rfl⟩
abbrev main_v567 : Ref sig .tc := ⟨.hbm, 722, rfl⟩
abbrev main_v568 : Ref sig .tc := ⟨.hbm, 723, rfl⟩
abbrev main_v569 : Ref sig .tc := ⟨.hbm, 724, rfl⟩
abbrev main_v570 : Ref sig .tc := ⟨.hbm, 725, rfl⟩
abbrev main_v571 : Ref sig .tc := ⟨.hbm, 726, rfl⟩
abbrev main_v572 : Ref sig .tc := ⟨.hbm, 727, rfl⟩
abbrev main_c_148 : Ref sig .tc := ⟨.hbm, 728, rfl⟩
abbrev main_v573 : Ref sig .tc := ⟨.hbm, 729, rfl⟩
abbrev main_v574 : Ref sig .tc := ⟨.hbm, 730, rfl⟩
abbrev main_v575 : Ref sig .tc := ⟨.hbm, 731, rfl⟩
abbrev main_c_149 : Ref sig .tc := ⟨.hbm, 732, rfl⟩
abbrev main_v576 : Ref sig .tc := ⟨.hbm, 733, rfl⟩
abbrev main_v577 : Ref sig .tc := ⟨.hbm, 734, rfl⟩
abbrev main_c_150 : Ref sig .tc := ⟨.hbm, 735, rfl⟩
abbrev main_v578 : Ref sig .tc := ⟨.hbm, 736, rfl⟩
abbrev main_v579 : Ref sig .tc := ⟨.hbm, 737, rfl⟩
abbrev main_v580 : Ref sig .tc := ⟨.hbm, 738, rfl⟩
abbrev main_v581 : Ref sig .tc := ⟨.hbm, 739, rfl⟩
abbrev main_v582 : Ref sig .tc := ⟨.hbm, 740, rfl⟩
abbrev main_c_151 : Ref sig .tc := ⟨.hbm, 741, rfl⟩
abbrev main_v583 : Ref sig .tc := ⟨.hbm, 742, rfl⟩
abbrev main_v584 : Ref sig .tc := ⟨.hbm, 743, rfl⟩
abbrev main_c_152 : Ref sig .tc := ⟨.hbm, 744, rfl⟩
abbrev main_v585 : Ref sig .tc := ⟨.hbm, 745, rfl⟩
abbrev main_v586 : Ref sig .tc := ⟨.hbm, 746, rfl⟩
abbrev main_v587 : Ref sig .tc := ⟨.hbm, 747, rfl⟩
abbrev main_v588 : Ref sig .tc := ⟨.hbm, 748, rfl⟩
abbrev main_v589 : Ref sig .tc := ⟨.hbm, 749, rfl⟩
abbrev main_c_153 : Ref sig .tc := ⟨.hbm, 750, rfl⟩
abbrev main_v590 : Ref sig .tc := ⟨.hbm, 751, rfl⟩
abbrev main_v591 : Ref sig .tc := ⟨.hbm, 752, rfl⟩
abbrev main_c_154 : Ref sig .tc := ⟨.hbm, 753, rfl⟩
abbrev main_v592 : Ref sig .tc := ⟨.hbm, 754, rfl⟩
abbrev main_v593 : Ref sig .tc := ⟨.hbm, 755, rfl⟩
abbrev main_v594 : Ref sig .tc := ⟨.hbm, 756, rfl⟩
abbrev main_v595 : Ref sig .tc := ⟨.hbm, 757, rfl⟩
abbrev main_v596 : Ref sig .tc := ⟨.hbm, 758, rfl⟩
abbrev main_c_155 : Ref sig .tc := ⟨.hbm, 759, rfl⟩
abbrev main_v597 : Ref sig .tc := ⟨.hbm, 760, rfl⟩
abbrev main_v598 : Ref sig .tc := ⟨.hbm, 761, rfl⟩
abbrev main_c_156 : Ref sig .tc := ⟨.hbm, 762, rfl⟩
abbrev main_v599 : Ref sig .tc := ⟨.hbm, 763, rfl⟩
abbrev main_v600 : Ref sig .tc := ⟨.hbm, 764, rfl⟩
abbrev main_v601 : Ref sig .tc := ⟨.hbm, 765, rfl⟩
abbrev main_v602 : Ref sig .tc := ⟨.hbm, 766, rfl⟩
abbrev main_v603 : Ref sig .tc := ⟨.hbm, 767, rfl⟩
abbrev main_v604 : Ref sig .tc := ⟨.hbm, 768, rfl⟩
abbrev main_v605 : Ref sig .tc := ⟨.hbm, 769, rfl⟩
abbrev main_v606 : Ref sig .tc := ⟨.hbm, 770, rfl⟩
abbrev main_c_157 : Ref sig .tc := ⟨.hbm, 771, rfl⟩
abbrev main_v607 : Ref sig .tc := ⟨.hbm, 772, rfl⟩
abbrev main_v608 : Ref sig .tc := ⟨.hbm, 773, rfl⟩
abbrev main_v609 : Ref sig .tc := ⟨.hbm, 774, rfl⟩
abbrev main_c_158 : Ref sig .tc := ⟨.hbm, 775, rfl⟩
abbrev main_v610 : Ref sig .tc := ⟨.hbm, 776, rfl⟩
abbrev main_v611 : Ref sig .tc := ⟨.hbm, 777, rfl⟩
abbrev main_c_159 : Ref sig .tc := ⟨.hbm, 778, rfl⟩
abbrev main_v612 : Ref sig .tc := ⟨.hbm, 779, rfl⟩
abbrev main_v613 : Ref sig .tc := ⟨.hbm, 780, rfl⟩
abbrev main_v614 : Ref sig .tc := ⟨.hbm, 781, rfl⟩
abbrev main_cst_160 : Ref sig .tc := ⟨.hbm, 782, rfl⟩
abbrev main_v615 : Ref sig .tc := ⟨.hbm, 783, rfl⟩
abbrev main_v616 : Ref sig .tc := ⟨.hbm, 784, rfl⟩
abbrev main_v617 : Ref sig .tc := ⟨.hbm, 785, rfl⟩
abbrev main_v618 : Ref sig .tc := ⟨.hbm, 786, rfl⟩
abbrev main_v619 : Ref sig .tc := ⟨.hbm, 787, rfl⟩
abbrev main_v620 : Ref sig .tc := ⟨.hbm, 788, rfl⟩
abbrev main_v621 : Ref sig .tc := ⟨.hbm, 789, rfl⟩
abbrev main_v622 : Ref sig .tc := ⟨.hbm, 790, rfl⟩
abbrev main_v623 : Ref sig .tc := ⟨.hbm, 791, rfl⟩
abbrev main_v624 : Ref sig .tc := ⟨.hbm, 792, rfl⟩
abbrev main_v625 : Ref sig .tc := ⟨.hbm, 793, rfl⟩
abbrev main_v626 : Ref sig .tc := ⟨.hbm, 794, rfl⟩
abbrev main_v627 : Ref sig .tc := ⟨.hbm, 795, rfl⟩
abbrev main_v628 : Ref sig .tc := ⟨.hbm, 796, rfl⟩
abbrev main_v629 : Ref sig .tc := ⟨.hbm, 797, rfl⟩
abbrev main_v630 : Ref sig .tc := ⟨.hbm, 798, rfl⟩
abbrev main_v631 : Ref sig .tc := ⟨.hbm, 799, rfl⟩
abbrev main_v632 : Ref sig .tc := ⟨.hbm, 800, rfl⟩
abbrev main_v633 : Ref sig .tc := ⟨.hbm, 801, rfl⟩
abbrev main_v634 : Ref sig .tc := ⟨.hbm, 802, rfl⟩
abbrev main_c_161 : Ref sig .tc := ⟨.hbm, 803, rfl⟩
abbrev main_v635 : Ref sig .tc := ⟨.hbm, 804, rfl⟩
abbrev main_c_162 : Ref sig .tc := ⟨.hbm, 805, rfl⟩
abbrev main_v636 : Ref sig .tc := ⟨.hbm, 806, rfl⟩
abbrev main_v637 : Ref sig .tc := ⟨.hbm, 807, rfl⟩
abbrev main_c_163 : Ref sig .tc := ⟨.hbm, 808, rfl⟩
abbrev main_c_164 : Ref sig .tc := ⟨.hbm, 809, rfl⟩
abbrev main_v638 : Ref sig .tc := ⟨.hbm, 810, rfl⟩
abbrev main_c_165 : Ref sig .tc := ⟨.hbm, 811, rfl⟩
abbrev main_v639 : Ref sig .tc := ⟨.hbm, 812, rfl⟩
abbrev main_c_166 : Ref sig .tc := ⟨.hbm, 813, rfl⟩
abbrev main_v640 : Ref sig .tc := ⟨.hbm, 814, rfl⟩
abbrev main_c_167 : Ref sig .tc := ⟨.hbm, 815, rfl⟩
abbrev main_c_168 : Ref sig .tc := ⟨.hbm, 816, rfl⟩
abbrev main_v641 : Ref sig .tc := ⟨.hbm, 817, rfl⟩
abbrev main_c_169 : Ref sig .tc := ⟨.hbm, 818, rfl⟩
abbrev main_v642 : Ref sig .tc := ⟨.hbm, 819, rfl⟩
abbrev main_v643 : Ref sig .tc := ⟨.hbm, 820, rfl⟩
abbrev main_c_170 : Ref sig .tc := ⟨.hbm, 821, rfl⟩
abbrev main_c_171 : Ref sig .tc := ⟨.hbm, 822, rfl⟩
abbrev main_v644 : Ref sig .tc := ⟨.hbm, 823, rfl⟩
abbrev main_c_172 : Ref sig .tc := ⟨.hbm, 824, rfl⟩
abbrev main_v645 : Ref sig .tc := ⟨.hbm, 825, rfl⟩
abbrev main_v646 : Ref sig .tc := ⟨.hbm, 826, rfl⟩
abbrev main_v647 : Ref sig .tc := ⟨.hbm, 827, rfl⟩
abbrev main_v648 : Ref sig .tc := ⟨.hbm, 828, rfl⟩
abbrev main_c_173 : Ref sig .tc := ⟨.hbm, 829, rfl⟩
abbrev main_c_174 : Ref sig .tc := ⟨.hbm, 830, rfl⟩
abbrev main_v649 : Ref sig .tc := ⟨.hbm, 831, rfl⟩
abbrev main_v650 : Ref sig .tc := ⟨.hbm, 832, rfl⟩
abbrev main_v651 : Ref sig .tc := ⟨.hbm, 833, rfl⟩
abbrev main_v652 : Ref sig .tc := ⟨.hbm, 834, rfl⟩
abbrev main_c_175 : Ref sig .tc := ⟨.hbm, 835, rfl⟩
abbrev main_v653 : Ref sig .tc := ⟨.hbm, 836, rfl⟩
abbrev main_v654 : Ref sig .tc := ⟨.hbm, 837, rfl⟩
abbrev main_v655 : Ref sig .tc := ⟨.hbm, 838, rfl⟩
abbrev main_v656 : Ref sig .tc := ⟨.hbm, 839, rfl⟩
abbrev main_v657 : Ref sig .tc := ⟨.hbm, 840, rfl⟩
abbrev main_v658 : Ref sig .tc := ⟨.hbm, 841, rfl⟩
abbrev main_c_176 : Ref sig .tc := ⟨.hbm, 842, rfl⟩
abbrev main_v659 : Ref sig .tc := ⟨.hbm, 843, rfl⟩
abbrev main_v660 : Ref sig .tc := ⟨.hbm, 844, rfl⟩
abbrev main_v661 : Ref sig .tc := ⟨.hbm, 845, rfl⟩
abbrev main_v662 : Ref sig .tc := ⟨.hbm, 846, rfl⟩
abbrev main_v663 : Ref sig .tc := ⟨.hbm, 847, rfl⟩
abbrev main_v664 : Ref sig .tc := ⟨.hbm, 848, rfl⟩
abbrev main_c_177 : Ref sig .tc := ⟨.hbm, 849, rfl⟩
abbrev main_v665 : Ref sig .tc := ⟨.hbm, 850, rfl⟩
abbrev main_v666 : Ref sig .tc := ⟨.hbm, 851, rfl⟩
abbrev main_c_178 : Ref sig .tc := ⟨.hbm, 852, rfl⟩
abbrev main_v667 : Ref sig .tc := ⟨.hbm, 853, rfl⟩
abbrev main_v668 : Ref sig .tc := ⟨.hbm, 854, rfl⟩
abbrev main_v669 : Ref sig .tc := ⟨.hbm, 855, rfl⟩
abbrev main_v670 : Ref sig .tc := ⟨.hbm, 856, rfl⟩
abbrev main_v671 : Ref sig .tc := ⟨.hbm, 857, rfl⟩
abbrev main_c_179 : Ref sig .tc := ⟨.hbm, 858, rfl⟩
abbrev main_v672 : Ref sig .tc := ⟨.hbm, 859, rfl⟩
abbrev main_v673 : Ref sig .tc := ⟨.hbm, 860, rfl⟩
abbrev main_c_180 : Ref sig .tc := ⟨.hbm, 861, rfl⟩
abbrev main_v674 : Ref sig .tc := ⟨.hbm, 862, rfl⟩
abbrev main_v675 : Ref sig .tc := ⟨.hbm, 863, rfl⟩
abbrev main_v676 : Ref sig .tc := ⟨.hbm, 864, rfl⟩
abbrev main_v677 : Ref sig .tc := ⟨.hbm, 865, rfl⟩
abbrev main_v678 : Ref sig .tc := ⟨.hbm, 866, rfl⟩
abbrev main_c_181 : Ref sig .tc := ⟨.hbm, 867, rfl⟩
abbrev main_v679 : Ref sig .tc := ⟨.hbm, 868, rfl⟩
abbrev main_v680 : Ref sig .tc := ⟨.hbm, 869, rfl⟩
abbrev main_c_182 : Ref sig .tc := ⟨.hbm, 870, rfl⟩
abbrev main_v681 : Ref sig .tc := ⟨.hbm, 871, rfl⟩
abbrev main_v682 : Ref sig .tc := ⟨.hbm, 872, rfl⟩
abbrev main_v683 : Ref sig .tc := ⟨.hbm, 873, rfl⟩
abbrev main_v684 : Ref sig .tc := ⟨.hbm, 874, rfl⟩
abbrev main_v685 : Ref sig .tc := ⟨.hbm, 875, rfl⟩
abbrev main_c_183 : Ref sig .tc := ⟨.hbm, 876, rfl⟩
abbrev main_v686 : Ref sig .tc := ⟨.hbm, 877, rfl⟩
abbrev main_v687 : Ref sig .tc := ⟨.hbm, 878, rfl⟩
abbrev main_c_184 : Ref sig .tc := ⟨.hbm, 879, rfl⟩
abbrev main_v688 : Ref sig .tc := ⟨.hbm, 880, rfl⟩
abbrev main_v689 : Ref sig .tc := ⟨.hbm, 881, rfl⟩
abbrev main_v690 : Ref sig .tc := ⟨.hbm, 882, rfl⟩
abbrev main_v691 : Ref sig .tc := ⟨.hbm, 883, rfl⟩
abbrev main_v692 : Ref sig .tc := ⟨.hbm, 884, rfl⟩
abbrev main_v693 : Ref sig .tc := ⟨.hbm, 885, rfl⟩
abbrev main_v694 : Ref sig .tc := ⟨.hbm, 886, rfl⟩
abbrev main_v695 : Ref sig .tc := ⟨.hbm, 887, rfl⟩
abbrev main_c_185 : Ref sig .tc := ⟨.hbm, 888, rfl⟩
abbrev main_v696 : Ref sig .tc := ⟨.hbm, 889, rfl⟩
abbrev main_v697 : Ref sig .tc := ⟨.hbm, 890, rfl⟩
abbrev main_v698 : Ref sig .tc := ⟨.hbm, 891, rfl⟩
abbrev main_c_186 : Ref sig .tc := ⟨.hbm, 892, rfl⟩
abbrev main_v699 : Ref sig .tc := ⟨.hbm, 893, rfl⟩
abbrev main_v700 : Ref sig .tc := ⟨.hbm, 894, rfl⟩
abbrev main_c_187 : Ref sig .tc := ⟨.hbm, 895, rfl⟩
abbrev main_v701 : Ref sig .tc := ⟨.hbm, 896, rfl⟩
abbrev main_v702 : Ref sig .tc := ⟨.hbm, 897, rfl⟩
abbrev main_v703 : Ref sig .tc := ⟨.hbm, 898, rfl⟩
abbrev main_v704 : Ref sig .tc := ⟨.hbm, 899, rfl⟩
abbrev main_v705 : Ref sig .tc := ⟨.hbm, 900, rfl⟩
abbrev main_c_188 : Ref sig .tc := ⟨.hbm, 901, rfl⟩
abbrev main_v706 : Ref sig .tc := ⟨.hbm, 902, rfl⟩
abbrev main_v707 : Ref sig .tc := ⟨.hbm, 903, rfl⟩
abbrev main_c_189 : Ref sig .tc := ⟨.hbm, 904, rfl⟩
abbrev main_v708 : Ref sig .tc := ⟨.hbm, 905, rfl⟩
abbrev main_v709 : Ref sig .tc := ⟨.hbm, 906, rfl⟩
abbrev main_v710 : Ref sig .tc := ⟨.hbm, 907, rfl⟩
abbrev main_v711 : Ref sig .tc := ⟨.hbm, 908, rfl⟩
abbrev main_v712 : Ref sig .tc := ⟨.hbm, 909, rfl⟩
abbrev main_c_190 : Ref sig .tc := ⟨.hbm, 910, rfl⟩
abbrev main_v713 : Ref sig .tc := ⟨.hbm, 911, rfl⟩
abbrev main_v714 : Ref sig .tc := ⟨.hbm, 912, rfl⟩
abbrev main_c_191 : Ref sig .tc := ⟨.hbm, 913, rfl⟩
abbrev main_v715 : Ref sig .tc := ⟨.hbm, 914, rfl⟩
abbrev main_v716 : Ref sig .tc := ⟨.hbm, 915, rfl⟩
abbrev main_v717 : Ref sig .tc := ⟨.hbm, 916, rfl⟩
abbrev main_v718 : Ref sig .tc := ⟨.hbm, 917, rfl⟩
abbrev main_v719 : Ref sig .tc := ⟨.hbm, 918, rfl⟩
abbrev main_c_192 : Ref sig .tc := ⟨.hbm, 919, rfl⟩
abbrev main_v720 : Ref sig .tc := ⟨.hbm, 920, rfl⟩
abbrev main_v721 : Ref sig .tc := ⟨.hbm, 921, rfl⟩
abbrev main_c_193 : Ref sig .tc := ⟨.hbm, 922, rfl⟩
abbrev main_v722 : Ref sig .tc := ⟨.hbm, 923, rfl⟩
abbrev main_v723 : Ref sig .tc := ⟨.hbm, 924, rfl⟩
abbrev main_v724 : Ref sig .tc := ⟨.hbm, 925, rfl⟩
abbrev main_v725 : Ref sig .tc := ⟨.hbm, 926, rfl⟩
abbrev main_v726 : Ref sig .tc := ⟨.hbm, 927, rfl⟩
abbrev main_v727 : Ref sig .tc := ⟨.hbm, 928, rfl⟩
abbrev main_v728 : Ref sig .tc := ⟨.hbm, 929, rfl⟩
abbrev main_v729 : Ref sig .tc := ⟨.hbm, 930, rfl⟩
abbrev main_c_194 : Ref sig .tc := ⟨.hbm, 931, rfl⟩
abbrev main_v730 : Ref sig .tc := ⟨.hbm, 932, rfl⟩
abbrev main_v731 : Ref sig .tc := ⟨.hbm, 933, rfl⟩
abbrev main_v732 : Ref sig .tc := ⟨.hbm, 934, rfl⟩
abbrev main_c_195 : Ref sig .tc := ⟨.hbm, 935, rfl⟩
abbrev main_v733 : Ref sig .tc := ⟨.hbm, 936, rfl⟩
abbrev main_v734 : Ref sig .tc := ⟨.hbm, 937, rfl⟩
abbrev main_c_196 : Ref sig .tc := ⟨.hbm, 938, rfl⟩
abbrev main_v735 : Ref sig .tc := ⟨.hbm, 939, rfl⟩
abbrev main_v736 : Ref sig .tc := ⟨.hbm, 940, rfl⟩
abbrev main_v737 : Ref sig .tc := ⟨.hbm, 941, rfl⟩
abbrev main_v738 : Ref sig .tc := ⟨.hbm, 942, rfl⟩
abbrev main_v739 : Ref sig .tc := ⟨.hbm, 943, rfl⟩
abbrev main_c_197 : Ref sig .tc := ⟨.hbm, 944, rfl⟩
abbrev main_v740 : Ref sig .tc := ⟨.hbm, 945, rfl⟩
abbrev main_v741 : Ref sig .tc := ⟨.hbm, 946, rfl⟩
abbrev main_c_198 : Ref sig .tc := ⟨.hbm, 947, rfl⟩
abbrev main_v742 : Ref sig .tc := ⟨.hbm, 948, rfl⟩
abbrev main_v743 : Ref sig .tc := ⟨.hbm, 949, rfl⟩
abbrev main_v744 : Ref sig .tc := ⟨.hbm, 950, rfl⟩
abbrev main_v745 : Ref sig .tc := ⟨.hbm, 951, rfl⟩
abbrev main_v746 : Ref sig .tc := ⟨.hbm, 952, rfl⟩
abbrev main_c_199 : Ref sig .tc := ⟨.hbm, 953, rfl⟩
abbrev main_v747 : Ref sig .tc := ⟨.hbm, 954, rfl⟩
abbrev main_v748 : Ref sig .tc := ⟨.hbm, 955, rfl⟩
abbrev main_c_200 : Ref sig .tc := ⟨.hbm, 956, rfl⟩
abbrev main_v749 : Ref sig .tc := ⟨.hbm, 957, rfl⟩
abbrev main_v750 : Ref sig .tc := ⟨.hbm, 958, rfl⟩
abbrev main_v751 : Ref sig .tc := ⟨.hbm, 959, rfl⟩
abbrev main_v752 : Ref sig .tc := ⟨.hbm, 960, rfl⟩
abbrev main_v753 : Ref sig .tc := ⟨.hbm, 961, rfl⟩
abbrev main_c_201 : Ref sig .tc := ⟨.hbm, 962, rfl⟩
abbrev main_v754 : Ref sig .tc := ⟨.hbm, 963, rfl⟩
abbrev main_v755 : Ref sig .tc := ⟨.hbm, 964, rfl⟩
abbrev main_c_202 : Ref sig .tc := ⟨.hbm, 965, rfl⟩
abbrev main_v756 : Ref sig .tc := ⟨.hbm, 966, rfl⟩
abbrev main_v757 : Ref sig .tc := ⟨.hbm, 967, rfl⟩
abbrev main_v758 : Ref sig .tc := ⟨.hbm, 968, rfl⟩
abbrev main_v759 : Ref sig .tc := ⟨.hbm, 969, rfl⟩
abbrev main_v760 : Ref sig .tc := ⟨.hbm, 970, rfl⟩
abbrev main_v761 : Ref sig .tc := ⟨.hbm, 971, rfl⟩
abbrev main_v762 : Ref sig .tc := ⟨.hbm, 972, rfl⟩
abbrev main_v763 : Ref sig .tc := ⟨.hbm, 973, rfl⟩
abbrev main_c_203 : Ref sig .tc := ⟨.hbm, 974, rfl⟩
abbrev main_v764 : Ref sig .tc := ⟨.hbm, 975, rfl⟩
abbrev main_v765 : Ref sig .tc := ⟨.hbm, 976, rfl⟩
abbrev main_v766 : Ref sig .tc := ⟨.hbm, 977, rfl⟩
abbrev main_c_204 : Ref sig .tc := ⟨.hbm, 978, rfl⟩
abbrev main_v767 : Ref sig .tc := ⟨.hbm, 979, rfl⟩
abbrev main_v768 : Ref sig .tc := ⟨.hbm, 980, rfl⟩
abbrev main_c_205 : Ref sig .tc := ⟨.hbm, 981, rfl⟩
abbrev main_v769 : Ref sig .tc := ⟨.hbm, 982, rfl⟩
abbrev main_v770 : Ref sig .tc := ⟨.hbm, 983, rfl⟩
abbrev main_v771 : Ref sig .tc := ⟨.hbm, 984, rfl⟩
abbrev main_v772 : Ref sig .tc := ⟨.hbm, 985, rfl⟩
abbrev main_v773 : Ref sig .tc := ⟨.hbm, 986, rfl⟩
abbrev main_c_206 : Ref sig .tc := ⟨.hbm, 987, rfl⟩
abbrev main_v774 : Ref sig .tc := ⟨.hbm, 988, rfl⟩
abbrev main_v775 : Ref sig .tc := ⟨.hbm, 989, rfl⟩
abbrev main_c_207 : Ref sig .tc := ⟨.hbm, 990, rfl⟩
abbrev main_v776 : Ref sig .tc := ⟨.hbm, 991, rfl⟩
abbrev main_v777 : Ref sig .tc := ⟨.hbm, 992, rfl⟩
abbrev main_v778 : Ref sig .tc := ⟨.hbm, 993, rfl⟩
abbrev main_v779 : Ref sig .tc := ⟨.hbm, 994, rfl⟩
abbrev main_v780 : Ref sig .tc := ⟨.hbm, 995, rfl⟩
abbrev main_c_208 : Ref sig .tc := ⟨.hbm, 996, rfl⟩
abbrev main_v781 : Ref sig .tc := ⟨.hbm, 997, rfl⟩
abbrev main_v782 : Ref sig .tc := ⟨.hbm, 998, rfl⟩
abbrev main_c_209 : Ref sig .tc := ⟨.hbm, 999, rfl⟩
abbrev main_v783 : Ref sig .tc := ⟨.hbm, 1000, rfl⟩
abbrev main_v784 : Ref sig .tc := ⟨.hbm, 1001, rfl⟩
abbrev main_v785 : Ref sig .tc := ⟨.hbm, 1002, rfl⟩
abbrev main_v786 : Ref sig .tc := ⟨.hbm, 1003, rfl⟩
abbrev main_v787 : Ref sig .tc := ⟨.hbm, 1004, rfl⟩
abbrev main_c_210 : Ref sig .tc := ⟨.hbm, 1005, rfl⟩
abbrev main_v788 : Ref sig .tc := ⟨.hbm, 1006, rfl⟩
abbrev main_v789 : Ref sig .tc := ⟨.hbm, 1007, rfl⟩
abbrev main_c_211 : Ref sig .tc := ⟨.hbm, 1008, rfl⟩
abbrev main_v790 : Ref sig .tc := ⟨.hbm, 1009, rfl⟩
abbrev main_v791 : Ref sig .tc := ⟨.hbm, 1010, rfl⟩
abbrev main_v792 : Ref sig .tc := ⟨.hbm, 1011, rfl⟩
abbrev main_v793 : Ref sig .tc := ⟨.hbm, 1012, rfl⟩
abbrev main_v794 : Ref sig .tc := ⟨.hbm, 1013, rfl⟩
abbrev main_v795 : Ref sig .tc := ⟨.hbm, 1014, rfl⟩
abbrev main_v796 : Ref sig .tc := ⟨.hbm, 1015, rfl⟩
abbrev main_v797 : Ref sig .tc := ⟨.hbm, 1016, rfl⟩
abbrev main_c_212 : Ref sig .tc := ⟨.hbm, 1017, rfl⟩
abbrev main_v798 : Ref sig .tc := ⟨.hbm, 1018, rfl⟩
abbrev main_v799 : Ref sig .tc := ⟨.hbm, 1019, rfl⟩
abbrev main_v800 : Ref sig .tc := ⟨.hbm, 1020, rfl⟩
abbrev main_c_213 : Ref sig .tc := ⟨.hbm, 1021, rfl⟩
abbrev main_v801 : Ref sig .tc := ⟨.hbm, 1022, rfl⟩
abbrev main_v802 : Ref sig .tc := ⟨.hbm, 1023, rfl⟩
abbrev main_c_214 : Ref sig .tc := ⟨.hbm, 1024, rfl⟩
abbrev main_v803 : Ref sig .tc := ⟨.hbm, 1025, rfl⟩
abbrev main_v804 : Ref sig .tc := ⟨.hbm, 1026, rfl⟩
abbrev main_v805 : Ref sig .tc := ⟨.hbm, 1027, rfl⟩
abbrev main_v806 : Ref sig .tc := ⟨.hbm, 1028, rfl⟩
abbrev main_v807 : Ref sig .tc := ⟨.hbm, 1029, rfl⟩
abbrev main_c_215 : Ref sig .tc := ⟨.hbm, 1030, rfl⟩
abbrev main_v808 : Ref sig .tc := ⟨.hbm, 1031, rfl⟩
abbrev main_v809 : Ref sig .tc := ⟨.hbm, 1032, rfl⟩
abbrev main_c_216 : Ref sig .tc := ⟨.hbm, 1033, rfl⟩
abbrev main_v810 : Ref sig .tc := ⟨.hbm, 1034, rfl⟩
abbrev main_v811 : Ref sig .tc := ⟨.hbm, 1035, rfl⟩
abbrev main_v812 : Ref sig .tc := ⟨.hbm, 1036, rfl⟩
abbrev main_v813 : Ref sig .tc := ⟨.hbm, 1037, rfl⟩
abbrev main_v814 : Ref sig .tc := ⟨.hbm, 1038, rfl⟩
abbrev main_c_217 : Ref sig .tc := ⟨.hbm, 1039, rfl⟩
abbrev main_v815 : Ref sig .tc := ⟨.hbm, 1040, rfl⟩
abbrev main_v816 : Ref sig .tc := ⟨.hbm, 1041, rfl⟩
abbrev main_c_218 : Ref sig .tc := ⟨.hbm, 1042, rfl⟩
abbrev main_v817 : Ref sig .tc := ⟨.hbm, 1043, rfl⟩
abbrev main_v818 : Ref sig .tc := ⟨.hbm, 1044, rfl⟩
abbrev main_v819 : Ref sig .tc := ⟨.hbm, 1045, rfl⟩
abbrev main_v820 : Ref sig .tc := ⟨.hbm, 1046, rfl⟩
abbrev main_v821 : Ref sig .tc := ⟨.hbm, 1047, rfl⟩
abbrev main_c_219 : Ref sig .tc := ⟨.hbm, 1048, rfl⟩
abbrev main_v822 : Ref sig .tc := ⟨.hbm, 1049, rfl⟩
abbrev main_v823 : Ref sig .tc := ⟨.hbm, 1050, rfl⟩
abbrev main_c_220 : Ref sig .tc := ⟨.hbm, 1051, rfl⟩
abbrev main_v824 : Ref sig .tc := ⟨.hbm, 1052, rfl⟩
abbrev main_v825 : Ref sig .tc := ⟨.hbm, 1053, rfl⟩
abbrev main_v826 : Ref sig .tc := ⟨.hbm, 1054, rfl⟩
abbrev main_v827 : Ref sig .tc := ⟨.hbm, 1055, rfl⟩
abbrev main_v828 : Ref sig .tc := ⟨.hbm, 1056, rfl⟩
abbrev main_v829 : Ref sig .tc := ⟨.hbm, 1057, rfl⟩
abbrev main_v830 : Ref sig .tc := ⟨.hbm, 1058, rfl⟩
abbrev main_v831 : Ref sig .tc := ⟨.hbm, 1059, rfl⟩
abbrev main_c_221 : Ref sig .tc := ⟨.hbm, 1060, rfl⟩
abbrev main_v832 : Ref sig .tc := ⟨.hbm, 1061, rfl⟩
abbrev main_v833 : Ref sig .tc := ⟨.hbm, 1062, rfl⟩
abbrev main_v834 : Ref sig .tc := ⟨.hbm, 1063, rfl⟩
abbrev main_v835 : Ref sig .tc := ⟨.hbm, 1064, rfl⟩
abbrev main_v836 : Ref sig .tc := ⟨.hbm, 1065, rfl⟩
abbrev main_v837 : Ref sig .tc := ⟨.hbm, 1066, rfl⟩
abbrev main_v838 : Ref sig .tc := ⟨.hbm, 1067, rfl⟩
abbrev main_v839 : Ref sig .tc := ⟨.hbm, 1068, rfl⟩
abbrev main_v840 : Ref sig .tc := ⟨.hbm, 1069, rfl⟩
abbrev main_c_222 : Ref sig .tc := ⟨.hbm, 1070, rfl⟩
abbrev main_c_223 : Ref sig .tc := ⟨.hbm, 1071, rfl⟩
abbrev main_v841 : Ref sig .tc := ⟨.hbm, 1072, rfl⟩
abbrev main_v842 : Ref sig .tc := ⟨.hbm, 1073, rfl⟩
abbrev main_v843 : Ref sig .tc := ⟨.hbm, 1074, rfl⟩
abbrev main_v844 : Ref sig .tc := ⟨.hbm, 1075, rfl⟩
abbrev main_c_224 : Ref sig .tc := ⟨.hbm, 1076, rfl⟩
abbrev main_v845 : Ref sig .tc := ⟨.hbm, 1077, rfl⟩
abbrev main_v846 : Ref sig .tc := ⟨.hbm, 1078, rfl⟩
abbrev main_v847 : Ref sig .tc := ⟨.hbm, 1079, rfl⟩
abbrev main_v848 : Ref sig .tc := ⟨.hbm, 1080, rfl⟩
abbrev main_c_225 : Ref sig .tc := ⟨.hbm, 1081, rfl⟩
abbrev main_v849 : Ref sig .tc := ⟨.hbm, 1082, rfl⟩
abbrev main_v850 : Ref sig .tc := ⟨.hbm, 1083, rfl⟩
abbrev main_v851 : Ref sig .tc := ⟨.hbm, 1084, rfl⟩
abbrev main_v852 : Ref sig .tc := ⟨.hbm, 1085, rfl⟩
abbrev main_v853 : Ref sig .tc := ⟨.hbm, 1086, rfl⟩
abbrev main_v854 : Ref sig .tc := ⟨.hbm, 1087, rfl⟩
abbrev main_c_226 : Ref sig .tc := ⟨.hbm, 1088, rfl⟩
abbrev main_v855 : Ref sig .tc := ⟨.hbm, 1089, rfl⟩
abbrev main_v856 : Ref sig .tc := ⟨.hbm, 1090, rfl⟩
abbrev main_v857 : Ref sig .tc := ⟨.hbm, 1091, rfl⟩
abbrev main_v858 : Ref sig .tc := ⟨.hbm, 1092, rfl⟩
abbrev main_v859 : Ref sig .tc := ⟨.hbm, 1093, rfl⟩
abbrev main_v860 : Ref sig .tc := ⟨.hbm, 1094, rfl⟩
abbrev main_c_227 : Ref sig .tc := ⟨.hbm, 1095, rfl⟩
abbrev main_v861 : Ref sig .tc := ⟨.hbm, 1096, rfl⟩
abbrev main_v862 : Ref sig .tc := ⟨.hbm, 1097, rfl⟩
abbrev main_c_228 : Ref sig .tc := ⟨.hbm, 1098, rfl⟩
abbrev main_v863 : Ref sig .tc := ⟨.hbm, 1099, rfl⟩
abbrev main_v864 : Ref sig .tc := ⟨.hbm, 1100, rfl⟩
abbrev main_v865 : Ref sig .tc := ⟨.hbm, 1101, rfl⟩
abbrev main_v866 : Ref sig .tc := ⟨.hbm, 1102, rfl⟩
abbrev main_v867 : Ref sig .tc := ⟨.hbm, 1103, rfl⟩
abbrev main_c_229 : Ref sig .tc := ⟨.hbm, 1104, rfl⟩
abbrev main_v868 : Ref sig .tc := ⟨.hbm, 1105, rfl⟩
abbrev main_v869 : Ref sig .tc := ⟨.hbm, 1106, rfl⟩
abbrev main_c_230 : Ref sig .tc := ⟨.hbm, 1107, rfl⟩
abbrev main_v870 : Ref sig .tc := ⟨.hbm, 1108, rfl⟩
abbrev main_v871 : Ref sig .tc := ⟨.hbm, 1109, rfl⟩
abbrev main_v872 : Ref sig .tc := ⟨.hbm, 1110, rfl⟩
abbrev main_v873 : Ref sig .tc := ⟨.hbm, 1111, rfl⟩
abbrev main_v874 : Ref sig .tc := ⟨.hbm, 1112, rfl⟩
abbrev main_c_231 : Ref sig .tc := ⟨.hbm, 1113, rfl⟩
abbrev main_v875 : Ref sig .tc := ⟨.hbm, 1114, rfl⟩
abbrev main_v876 : Ref sig .tc := ⟨.hbm, 1115, rfl⟩
abbrev main_c_232 : Ref sig .tc := ⟨.hbm, 1116, rfl⟩
abbrev main_v877 : Ref sig .tc := ⟨.hbm, 1117, rfl⟩
abbrev main_v878 : Ref sig .tc := ⟨.hbm, 1118, rfl⟩
abbrev main_v879 : Ref sig .tc := ⟨.hbm, 1119, rfl⟩
abbrev main_v880 : Ref sig .tc := ⟨.hbm, 1120, rfl⟩
abbrev main_v881 : Ref sig .tc := ⟨.hbm, 1121, rfl⟩
abbrev main_c_233 : Ref sig .tc := ⟨.hbm, 1122, rfl⟩
abbrev main_v882 : Ref sig .tc := ⟨.hbm, 1123, rfl⟩
abbrev main_v883 : Ref sig .tc := ⟨.hbm, 1124, rfl⟩
abbrev main_c_234 : Ref sig .tc := ⟨.hbm, 1125, rfl⟩
abbrev main_v884 : Ref sig .tc := ⟨.hbm, 1126, rfl⟩
abbrev main_v885 : Ref sig .tc := ⟨.hbm, 1127, rfl⟩
abbrev main_v886 : Ref sig .tc := ⟨.hbm, 1128, rfl⟩
abbrev main_v887 : Ref sig .tc := ⟨.hbm, 1129, rfl⟩
abbrev main_v888 : Ref sig .tc := ⟨.hbm, 1130, rfl⟩
abbrev main_v889 : Ref sig .tc := ⟨.hbm, 1131, rfl⟩
abbrev main_v890 : Ref sig .tc := ⟨.hbm, 1132, rfl⟩
abbrev main_v891 : Ref sig .tc := ⟨.hbm, 1133, rfl⟩
abbrev main_c_235 : Ref sig .tc := ⟨.hbm, 1134, rfl⟩
abbrev main_v892 : Ref sig .tc := ⟨.hbm, 1135, rfl⟩
abbrev main_v893 : Ref sig .tc := ⟨.hbm, 1136, rfl⟩
abbrev main_v894 : Ref sig .tc := ⟨.hbm, 1137, rfl⟩
abbrev main_c_236 : Ref sig .tc := ⟨.hbm, 1138, rfl⟩
abbrev main_v895 : Ref sig .tc := ⟨.hbm, 1139, rfl⟩
abbrev main_v896 : Ref sig .tc := ⟨.hbm, 1140, rfl⟩
abbrev main_c_237 : Ref sig .tc := ⟨.hbm, 1141, rfl⟩
abbrev main_v897 : Ref sig .tc := ⟨.hbm, 1142, rfl⟩
abbrev main_v898 : Ref sig .tc := ⟨.hbm, 1143, rfl⟩
abbrev main_v899 : Ref sig .tc := ⟨.hbm, 1144, rfl⟩
abbrev main_v900 : Ref sig .tc := ⟨.hbm, 1145, rfl⟩
abbrev main_v901 : Ref sig .tc := ⟨.hbm, 1146, rfl⟩
abbrev main_c_238 : Ref sig .tc := ⟨.hbm, 1147, rfl⟩
abbrev main_v902 : Ref sig .tc := ⟨.hbm, 1148, rfl⟩
abbrev main_v903 : Ref sig .tc := ⟨.hbm, 1149, rfl⟩
abbrev main_c_239 : Ref sig .tc := ⟨.hbm, 1150, rfl⟩
abbrev main_v904 : Ref sig .tc := ⟨.hbm, 1151, rfl⟩
abbrev main_v905 : Ref sig .tc := ⟨.hbm, 1152, rfl⟩
abbrev main_v906 : Ref sig .tc := ⟨.hbm, 1153, rfl⟩
abbrev main_v907 : Ref sig .tc := ⟨.hbm, 1154, rfl⟩
abbrev main_v908 : Ref sig .tc := ⟨.hbm, 1155, rfl⟩
abbrev main_c_240 : Ref sig .tc := ⟨.hbm, 1156, rfl⟩
abbrev main_v909 : Ref sig .tc := ⟨.hbm, 1157, rfl⟩
abbrev main_v910 : Ref sig .tc := ⟨.hbm, 1158, rfl⟩
abbrev main_c_241 : Ref sig .tc := ⟨.hbm, 1159, rfl⟩
abbrev main_v911 : Ref sig .tc := ⟨.hbm, 1160, rfl⟩
abbrev main_v912 : Ref sig .tc := ⟨.hbm, 1161, rfl⟩
abbrev main_v913 : Ref sig .tc := ⟨.hbm, 1162, rfl⟩
abbrev main_v914 : Ref sig .tc := ⟨.hbm, 1163, rfl⟩
abbrev main_v915 : Ref sig .tc := ⟨.hbm, 1164, rfl⟩
abbrev main_c_242 : Ref sig .tc := ⟨.hbm, 1165, rfl⟩
abbrev main_v916 : Ref sig .tc := ⟨.hbm, 1166, rfl⟩
abbrev main_v917 : Ref sig .tc := ⟨.hbm, 1167, rfl⟩
abbrev main_c_243 : Ref sig .tc := ⟨.hbm, 1168, rfl⟩
abbrev main_v918 : Ref sig .tc := ⟨.hbm, 1169, rfl⟩
abbrev main_v919 : Ref sig .tc := ⟨.hbm, 1170, rfl⟩
abbrev main_v920 : Ref sig .tc := ⟨.hbm, 1171, rfl⟩
abbrev main_v921 : Ref sig .tc := ⟨.hbm, 1172, rfl⟩
abbrev main_v922 : Ref sig .tc := ⟨.hbm, 1173, rfl⟩
abbrev main_v923 : Ref sig .tc := ⟨.hbm, 1174, rfl⟩
abbrev main_v924 : Ref sig .tc := ⟨.hbm, 1175, rfl⟩
abbrev main_v925 : Ref sig .tc := ⟨.hbm, 1176, rfl⟩
abbrev main_c_244 : Ref sig .tc := ⟨.hbm, 1177, rfl⟩
abbrev main_v926 : Ref sig .tc := ⟨.hbm, 1178, rfl⟩
abbrev main_v927 : Ref sig .tc := ⟨.hbm, 1179, rfl⟩
abbrev main_v928 : Ref sig .tc := ⟨.hbm, 1180, rfl⟩
abbrev main_c_245 : Ref sig .tc := ⟨.hbm, 1181, rfl⟩
abbrev main_v929 : Ref sig .tc := ⟨.hbm, 1182, rfl⟩
abbrev main_v930 : Ref sig .tc := ⟨.hbm, 1183, rfl⟩
abbrev main_c_246 : Ref sig .tc := ⟨.hbm, 1184, rfl⟩
abbrev main_v931 : Ref sig .tc := ⟨.hbm, 1185, rfl⟩
abbrev main_v932 : Ref sig .tc := ⟨.hbm, 1186, rfl⟩
abbrev main_v933 : Ref sig .tc := ⟨.hbm, 1187, rfl⟩
abbrev main_v934 : Ref sig .tc := ⟨.hbm, 1188, rfl⟩
abbrev main_v935 : Ref sig .tc := ⟨.hbm, 1189, rfl⟩
abbrev main_c_247 : Ref sig .tc := ⟨.hbm, 1190, rfl⟩
abbrev main_v936 : Ref sig .tc := ⟨.hbm, 1191, rfl⟩
abbrev main_v937 : Ref sig .tc := ⟨.hbm, 1192, rfl⟩
abbrev main_c_248 : Ref sig .tc := ⟨.hbm, 1193, rfl⟩
abbrev main_v938 : Ref sig .tc := ⟨.hbm, 1194, rfl⟩
abbrev main_v939 : Ref sig .tc := ⟨.hbm, 1195, rfl⟩
abbrev main_v940 : Ref sig .tc := ⟨.hbm, 1196, rfl⟩
abbrev main_v941 : Ref sig .tc := ⟨.hbm, 1197, rfl⟩
abbrev main_v942 : Ref sig .tc := ⟨.hbm, 1198, rfl⟩
abbrev main_c_249 : Ref sig .tc := ⟨.hbm, 1199, rfl⟩
abbrev main_v943 : Ref sig .tc := ⟨.hbm, 1200, rfl⟩
abbrev main_v944 : Ref sig .tc := ⟨.hbm, 1201, rfl⟩
abbrev main_c_250 : Ref sig .tc := ⟨.hbm, 1202, rfl⟩
abbrev main_v945 : Ref sig .tc := ⟨.hbm, 1203, rfl⟩
abbrev main_v946 : Ref sig .tc := ⟨.hbm, 1204, rfl⟩
abbrev main_v947 : Ref sig .tc := ⟨.hbm, 1205, rfl⟩
abbrev main_v948 : Ref sig .tc := ⟨.hbm, 1206, rfl⟩
abbrev main_v949 : Ref sig .tc := ⟨.hbm, 1207, rfl⟩
abbrev main_c_251 : Ref sig .tc := ⟨.hbm, 1208, rfl⟩
abbrev main_v950 : Ref sig .tc := ⟨.hbm, 1209, rfl⟩
abbrev main_v951 : Ref sig .tc := ⟨.hbm, 1210, rfl⟩
abbrev main_c_252 : Ref sig .tc := ⟨.hbm, 1211, rfl⟩
abbrev main_v952 : Ref sig .tc := ⟨.hbm, 1212, rfl⟩
abbrev main_v953 : Ref sig .tc := ⟨.hbm, 1213, rfl⟩
abbrev main_v954 : Ref sig .tc := ⟨.hbm, 1214, rfl⟩
abbrev main_v955 : Ref sig .tc := ⟨.hbm, 1215, rfl⟩
abbrev main_v956 : Ref sig .tc := ⟨.hbm, 1216, rfl⟩
abbrev main_v957 : Ref sig .tc := ⟨.hbm, 1217, rfl⟩
abbrev main_v958 : Ref sig .tc := ⟨.hbm, 1218, rfl⟩
abbrev main_v959 : Ref sig .tc := ⟨.hbm, 1219, rfl⟩
abbrev main_c_253 : Ref sig .tc := ⟨.hbm, 1220, rfl⟩
abbrev main_v960 : Ref sig .tc := ⟨.hbm, 1221, rfl⟩
abbrev main_v961 : Ref sig .tc := ⟨.hbm, 1222, rfl⟩
abbrev main_v962 : Ref sig .tc := ⟨.hbm, 1223, rfl⟩
abbrev main_c_254 : Ref sig .tc := ⟨.hbm, 1224, rfl⟩
abbrev main_v963 : Ref sig .tc := ⟨.hbm, 1225, rfl⟩
abbrev main_v964 : Ref sig .tc := ⟨.hbm, 1226, rfl⟩
abbrev main_c_255 : Ref sig .tc := ⟨.hbm, 1227, rfl⟩
abbrev main_v965 : Ref sig .tc := ⟨.hbm, 1228, rfl⟩
abbrev main_v966 : Ref sig .tc := ⟨.hbm, 1229, rfl⟩
abbrev main_v967 : Ref sig .tc := ⟨.hbm, 1230, rfl⟩
abbrev main_v968 : Ref sig .tc := ⟨.hbm, 1231, rfl⟩
abbrev main_v969 : Ref sig .tc := ⟨.hbm, 1232, rfl⟩
abbrev main_c_256 : Ref sig .tc := ⟨.hbm, 1233, rfl⟩
abbrev main_v970 : Ref sig .tc := ⟨.hbm, 1234, rfl⟩
abbrev main_v971 : Ref sig .tc := ⟨.hbm, 1235, rfl⟩
abbrev main_c_257 : Ref sig .tc := ⟨.hbm, 1236, rfl⟩
abbrev main_v972 : Ref sig .tc := ⟨.hbm, 1237, rfl⟩
abbrev main_v973 : Ref sig .tc := ⟨.hbm, 1238, rfl⟩
abbrev main_v974 : Ref sig .tc := ⟨.hbm, 1239, rfl⟩
abbrev main_v975 : Ref sig .tc := ⟨.hbm, 1240, rfl⟩
abbrev main_v976 : Ref sig .tc := ⟨.hbm, 1241, rfl⟩
abbrev main_c_258 : Ref sig .tc := ⟨.hbm, 1242, rfl⟩
abbrev main_v977 : Ref sig .tc := ⟨.hbm, 1243, rfl⟩
abbrev main_v978 : Ref sig .tc := ⟨.hbm, 1244, rfl⟩
abbrev main_c_259 : Ref sig .tc := ⟨.hbm, 1245, rfl⟩
abbrev main_v979 : Ref sig .tc := ⟨.hbm, 1246, rfl⟩
abbrev main_v980 : Ref sig .tc := ⟨.hbm, 1247, rfl⟩
abbrev main_v981 : Ref sig .tc := ⟨.hbm, 1248, rfl⟩
abbrev main_v982 : Ref sig .tc := ⟨.hbm, 1249, rfl⟩
abbrev main_v983 : Ref sig .tc := ⟨.hbm, 1250, rfl⟩
abbrev main_c_260 : Ref sig .tc := ⟨.hbm, 1251, rfl⟩
abbrev main_v984 : Ref sig .tc := ⟨.hbm, 1252, rfl⟩
abbrev main_v985 : Ref sig .tc := ⟨.hbm, 1253, rfl⟩
abbrev main_c_261 : Ref sig .tc := ⟨.hbm, 1254, rfl⟩
abbrev main_v986 : Ref sig .tc := ⟨.hbm, 1255, rfl⟩
abbrev main_v987 : Ref sig .tc := ⟨.hbm, 1256, rfl⟩
abbrev main_v988 : Ref sig .tc := ⟨.hbm, 1257, rfl⟩
abbrev main_v989 : Ref sig .tc := ⟨.hbm, 1258, rfl⟩
abbrev main_v990 : Ref sig .tc := ⟨.hbm, 1259, rfl⟩
abbrev main_v991 : Ref sig .tc := ⟨.hbm, 1260, rfl⟩
abbrev main_v992 : Ref sig .tc := ⟨.hbm, 1261, rfl⟩
abbrev main_v993 : Ref sig .tc := ⟨.hbm, 1262, rfl⟩
abbrev main_c_262 : Ref sig .tc := ⟨.hbm, 1263, rfl⟩
abbrev main_v994 : Ref sig .tc := ⟨.hbm, 1264, rfl⟩
abbrev main_v995 : Ref sig .tc := ⟨.hbm, 1265, rfl⟩
abbrev main_v996 : Ref sig .tc := ⟨.hbm, 1266, rfl⟩
abbrev main_c_263 : Ref sig .tc := ⟨.hbm, 1267, rfl⟩
abbrev main_v997 : Ref sig .tc := ⟨.hbm, 1268, rfl⟩
abbrev main_v998 : Ref sig .tc := ⟨.hbm, 1269, rfl⟩
abbrev main_c_264 : Ref sig .tc := ⟨.hbm, 1270, rfl⟩
abbrev main_v999 : Ref sig .tc := ⟨.hbm, 1271, rfl⟩
abbrev main_v1000 : Ref sig .tc := ⟨.hbm, 1272, rfl⟩
abbrev main_v1001 : Ref sig .tc := ⟨.hbm, 1273, rfl⟩
abbrev main_v1002 : Ref sig .tc := ⟨.hbm, 1274, rfl⟩
abbrev main_v1003 : Ref sig .tc := ⟨.hbm, 1275, rfl⟩
abbrev main_c_265 : Ref sig .tc := ⟨.hbm, 1276, rfl⟩
abbrev main_v1004 : Ref sig .tc := ⟨.hbm, 1277, rfl⟩
abbrev main_v1005 : Ref sig .tc := ⟨.hbm, 1278, rfl⟩
abbrev main_c_266 : Ref sig .tc := ⟨.hbm, 1279, rfl⟩
abbrev main_v1006 : Ref sig .tc := ⟨.hbm, 1280, rfl⟩
abbrev main_v1007 : Ref sig .tc := ⟨.hbm, 1281, rfl⟩
abbrev main_v1008 : Ref sig .tc := ⟨.hbm, 1282, rfl⟩
abbrev main_v1009 : Ref sig .tc := ⟨.hbm, 1283, rfl⟩
abbrev main_v1010 : Ref sig .tc := ⟨.hbm, 1284, rfl⟩
abbrev main_c_267 : Ref sig .tc := ⟨.hbm, 1285, rfl⟩
abbrev main_v1011 : Ref sig .tc := ⟨.hbm, 1286, rfl⟩
abbrev main_v1012 : Ref sig .tc := ⟨.hbm, 1287, rfl⟩
abbrev main_c_268 : Ref sig .tc := ⟨.hbm, 1288, rfl⟩
abbrev main_v1013 : Ref sig .tc := ⟨.hbm, 1289, rfl⟩
abbrev main_v1014 : Ref sig .tc := ⟨.hbm, 1290, rfl⟩
abbrev main_v1015 : Ref sig .tc := ⟨.hbm, 1291, rfl⟩
abbrev main_v1016 : Ref sig .tc := ⟨.hbm, 1292, rfl⟩
abbrev main_v1017 : Ref sig .tc := ⟨.hbm, 1293, rfl⟩
abbrev main_c_269 : Ref sig .tc := ⟨.hbm, 1294, rfl⟩
abbrev main_v1018 : Ref sig .tc := ⟨.hbm, 1295, rfl⟩
abbrev main_v1019 : Ref sig .tc := ⟨.hbm, 1296, rfl⟩
abbrev main_c_270 : Ref sig .tc := ⟨.hbm, 1297, rfl⟩
abbrev main_v1020 : Ref sig .tc := ⟨.hbm, 1298, rfl⟩
abbrev main_v1021 : Ref sig .tc := ⟨.hbm, 1299, rfl⟩
abbrev main_v1022 : Ref sig .tc := ⟨.hbm, 1300, rfl⟩
abbrev main_v1023 : Ref sig .tc := ⟨.hbm, 1301, rfl⟩
abbrev main_v1024 : Ref sig .tc := ⟨.hbm, 1302, rfl⟩
abbrev main_v1025 : Ref sig .tc := ⟨.hbm, 1303, rfl⟩
abbrev main_v1026 : Ref sig .tc := ⟨.hbm, 1304, rfl⟩
abbrev main_v1027 : Ref sig .tc := ⟨.hbm, 1305, rfl⟩
abbrev main_c_271 : Ref sig .tc := ⟨.hbm, 1306, rfl⟩
abbrev main_v1028 : Ref sig .tc := ⟨.hbm, 1307, rfl⟩
abbrev main_v1029 : Ref sig .tc := ⟨.hbm, 1308, rfl⟩
abbrev main_v1030 : Ref sig .tc := ⟨.hbm, 1309, rfl⟩
abbrev main_c_272 : Ref sig .tc := ⟨.hbm, 1310, rfl⟩
abbrev main_c_273 : Ref sig .tc := ⟨.hbm, 1311, rfl⟩
abbrev main_v1031 : Ref sig .tc := ⟨.hbm, 1312, rfl⟩
abbrev main_v1032 : Ref sig .tc := ⟨.hbm, 1313, rfl⟩
abbrev main_v1033 : Ref sig .tc := ⟨.hbm, 1314, rfl⟩
abbrev main_v1034 : Ref sig .tc := ⟨.hbm, 1315, rfl⟩
abbrev main_c_274 : Ref sig .tc := ⟨.hbm, 1316, rfl⟩
abbrev main_v1035 : Ref sig .tc := ⟨.hbm, 1317, rfl⟩
abbrev main_v1036 : Ref sig .tc := ⟨.hbm, 1318, rfl⟩
abbrev main_v1037 : Ref sig .tc := ⟨.hbm, 1319, rfl⟩
abbrev main_v1038 : Ref sig .tc := ⟨.hbm, 1320, rfl⟩
abbrev main_c_275 : Ref sig .tc := ⟨.hbm, 1321, rfl⟩
abbrev main_v1039 : Ref sig .tc := ⟨.hbm, 1322, rfl⟩
abbrev main_v1040 : Ref sig .tc := ⟨.hbm, 1323, rfl⟩
abbrev main_v1041 : Ref sig .tc := ⟨.hbm, 1324, rfl⟩
abbrev main_v1042 : Ref sig .tc := ⟨.hbm, 1325, rfl⟩
abbrev main_v1043 : Ref sig .tc := ⟨.hbm, 1326, rfl⟩
abbrev main_v1044 : Ref sig .tc := ⟨.hbm, 1327, rfl⟩
abbrev main_c_276 : Ref sig .tc := ⟨.hbm, 1328, rfl⟩
abbrev main_v1045 : Ref sig .tc := ⟨.hbm, 1329, rfl⟩
abbrev main_v1046 : Ref sig .tc := ⟨.hbm, 1330, rfl⟩
abbrev main_v1047 : Ref sig .tc := ⟨.hbm, 1331, rfl⟩
abbrev main_v1048 : Ref sig .tc := ⟨.hbm, 1332, rfl⟩
abbrev main_v1049 : Ref sig .tc := ⟨.hbm, 1333, rfl⟩
abbrev main_v1050 : Ref sig .tc := ⟨.hbm, 1334, rfl⟩
abbrev main_c_277 : Ref sig .tc := ⟨.hbm, 1335, rfl⟩
abbrev main_v1051 : Ref sig .tc := ⟨.hbm, 1336, rfl⟩
abbrev main_v1052 : Ref sig .tc := ⟨.hbm, 1337, rfl⟩
abbrev main_c_278 : Ref sig .tc := ⟨.hbm, 1338, rfl⟩
abbrev main_v1053 : Ref sig .tc := ⟨.hbm, 1339, rfl⟩
abbrev main_v1054 : Ref sig .tc := ⟨.hbm, 1340, rfl⟩
abbrev main_v1055 : Ref sig .tc := ⟨.hbm, 1341, rfl⟩
abbrev main_v1056 : Ref sig .tc := ⟨.hbm, 1342, rfl⟩
abbrev main_v1057 : Ref sig .tc := ⟨.hbm, 1343, rfl⟩
abbrev main_c_279 : Ref sig .tc := ⟨.hbm, 1344, rfl⟩
abbrev main_v1058 : Ref sig .tc := ⟨.hbm, 1345, rfl⟩
abbrev main_v1059 : Ref sig .tc := ⟨.hbm, 1346, rfl⟩
abbrev main_c_280 : Ref sig .tc := ⟨.hbm, 1347, rfl⟩
abbrev main_v1060 : Ref sig .tc := ⟨.hbm, 1348, rfl⟩
abbrev main_v1061 : Ref sig .tc := ⟨.hbm, 1349, rfl⟩
abbrev main_v1062 : Ref sig .tc := ⟨.hbm, 1350, rfl⟩
abbrev main_v1063 : Ref sig .tc := ⟨.hbm, 1351, rfl⟩
abbrev main_v1064 : Ref sig .tc := ⟨.hbm, 1352, rfl⟩
abbrev main_c_281 : Ref sig .tc := ⟨.hbm, 1353, rfl⟩
abbrev main_v1065 : Ref sig .tc := ⟨.hbm, 1354, rfl⟩
abbrev main_v1066 : Ref sig .tc := ⟨.hbm, 1355, rfl⟩
abbrev main_c_282 : Ref sig .tc := ⟨.hbm, 1356, rfl⟩
abbrev main_v1067 : Ref sig .tc := ⟨.hbm, 1357, rfl⟩
abbrev main_v1068 : Ref sig .tc := ⟨.hbm, 1358, rfl⟩
abbrev main_v1069 : Ref sig .tc := ⟨.hbm, 1359, rfl⟩
abbrev main_v1070 : Ref sig .tc := ⟨.hbm, 1360, rfl⟩
abbrev main_v1071 : Ref sig .tc := ⟨.hbm, 1361, rfl⟩
abbrev main_c_283 : Ref sig .tc := ⟨.hbm, 1362, rfl⟩
abbrev main_v1072 : Ref sig .tc := ⟨.hbm, 1363, rfl⟩
abbrev main_v1073 : Ref sig .tc := ⟨.hbm, 1364, rfl⟩
abbrev main_c_284 : Ref sig .tc := ⟨.hbm, 1365, rfl⟩
abbrev main_v1074 : Ref sig .tc := ⟨.hbm, 1366, rfl⟩
abbrev main_v1075 : Ref sig .tc := ⟨.hbm, 1367, rfl⟩
abbrev main_v1076 : Ref sig .tc := ⟨.hbm, 1368, rfl⟩
abbrev main_v1077 : Ref sig .tc := ⟨.hbm, 1369, rfl⟩
abbrev main_v1078 : Ref sig .tc := ⟨.hbm, 1370, rfl⟩
abbrev main_v1079 : Ref sig .tc := ⟨.hbm, 1371, rfl⟩
abbrev main_v1080 : Ref sig .tc := ⟨.hbm, 1372, rfl⟩
abbrev main_v1081 : Ref sig .tc := ⟨.hbm, 1373, rfl⟩
abbrev main_c_285 : Ref sig .tc := ⟨.hbm, 1374, rfl⟩
abbrev main_v1082 : Ref sig .tc := ⟨.hbm, 1375, rfl⟩
abbrev main_v1083 : Ref sig .tc := ⟨.hbm, 1376, rfl⟩
abbrev main_v1084 : Ref sig .tc := ⟨.hbm, 1377, rfl⟩
abbrev main_c_286 : Ref sig .tc := ⟨.hbm, 1378, rfl⟩
abbrev main_v1085 : Ref sig .tc := ⟨.hbm, 1379, rfl⟩
abbrev main_v1086 : Ref sig .tc := ⟨.hbm, 1380, rfl⟩
abbrev main_c_287 : Ref sig .tc := ⟨.hbm, 1381, rfl⟩
abbrev main_v1087 : Ref sig .tc := ⟨.hbm, 1382, rfl⟩
abbrev main_v1088 : Ref sig .tc := ⟨.hbm, 1383, rfl⟩
abbrev main_v1089 : Ref sig .tc := ⟨.hbm, 1384, rfl⟩
abbrev main_v1090 : Ref sig .tc := ⟨.hbm, 1385, rfl⟩
abbrev main_v1091 : Ref sig .tc := ⟨.hbm, 1386, rfl⟩
abbrev main_c_288 : Ref sig .tc := ⟨.hbm, 1387, rfl⟩
abbrev main_v1092 : Ref sig .tc := ⟨.hbm, 1388, rfl⟩
abbrev main_v1093 : Ref sig .tc := ⟨.hbm, 1389, rfl⟩
abbrev main_c_289 : Ref sig .tc := ⟨.hbm, 1390, rfl⟩
abbrev main_v1094 : Ref sig .tc := ⟨.hbm, 1391, rfl⟩
abbrev main_v1095 : Ref sig .tc := ⟨.hbm, 1392, rfl⟩
abbrev main_v1096 : Ref sig .tc := ⟨.hbm, 1393, rfl⟩
abbrev main_v1097 : Ref sig .tc := ⟨.hbm, 1394, rfl⟩
abbrev main_v1098 : Ref sig .tc := ⟨.hbm, 1395, rfl⟩
abbrev main_c_290 : Ref sig .tc := ⟨.hbm, 1396, rfl⟩
abbrev main_v1099 : Ref sig .tc := ⟨.hbm, 1397, rfl⟩
abbrev main_v1100 : Ref sig .tc := ⟨.hbm, 1398, rfl⟩
abbrev main_c_291 : Ref sig .tc := ⟨.hbm, 1399, rfl⟩
abbrev main_v1101 : Ref sig .tc := ⟨.hbm, 1400, rfl⟩
abbrev main_v1102 : Ref sig .tc := ⟨.hbm, 1401, rfl⟩
abbrev main_v1103 : Ref sig .tc := ⟨.hbm, 1402, rfl⟩
abbrev main_v1104 : Ref sig .tc := ⟨.hbm, 1403, rfl⟩
abbrev main_v1105 : Ref sig .tc := ⟨.hbm, 1404, rfl⟩
abbrev main_c_292 : Ref sig .tc := ⟨.hbm, 1405, rfl⟩
abbrev main_v1106 : Ref sig .tc := ⟨.hbm, 1406, rfl⟩
abbrev main_v1107 : Ref sig .tc := ⟨.hbm, 1407, rfl⟩
abbrev main_c_293 : Ref sig .tc := ⟨.hbm, 1408, rfl⟩
abbrev main_v1108 : Ref sig .tc := ⟨.hbm, 1409, rfl⟩
abbrev main_v1109 : Ref sig .tc := ⟨.hbm, 1410, rfl⟩
abbrev main_v1110 : Ref sig .tc := ⟨.hbm, 1411, rfl⟩
abbrev main_v1111 : Ref sig .tc := ⟨.hbm, 1412, rfl⟩
abbrev main_v1112 : Ref sig .tc := ⟨.hbm, 1413, rfl⟩
abbrev main_v1113 : Ref sig .tc := ⟨.hbm, 1414, rfl⟩
abbrev main_v1114 : Ref sig .tc := ⟨.hbm, 1415, rfl⟩
abbrev main_v1115 : Ref sig .tc := ⟨.hbm, 1416, rfl⟩
abbrev main_c_294 : Ref sig .tc := ⟨.hbm, 1417, rfl⟩
abbrev main_v1116 : Ref sig .tc := ⟨.hbm, 1418, rfl⟩
abbrev main_v1117 : Ref sig .tc := ⟨.hbm, 1419, rfl⟩
abbrev main_v1118 : Ref sig .tc := ⟨.hbm, 1420, rfl⟩
abbrev main_c_295 : Ref sig .tc := ⟨.hbm, 1421, rfl⟩
abbrev main_v1119 : Ref sig .tc := ⟨.hbm, 1422, rfl⟩
abbrev main_v1120 : Ref sig .tc := ⟨.hbm, 1423, rfl⟩
abbrev main_c_296 : Ref sig .tc := ⟨.hbm, 1424, rfl⟩
abbrev main_v1121 : Ref sig .tc := ⟨.hbm, 1425, rfl⟩
abbrev main_v1122 : Ref sig .tc := ⟨.hbm, 1426, rfl⟩
abbrev main_v1123 : Ref sig .tc := ⟨.hbm, 1427, rfl⟩
abbrev main_v1124 : Ref sig .tc := ⟨.hbm, 1428, rfl⟩
abbrev main_v1125 : Ref sig .tc := ⟨.hbm, 1429, rfl⟩
abbrev main_c_297 : Ref sig .tc := ⟨.hbm, 1430, rfl⟩
abbrev main_v1126 : Ref sig .tc := ⟨.hbm, 1431, rfl⟩
abbrev main_v1127 : Ref sig .tc := ⟨.hbm, 1432, rfl⟩
abbrev main_c_298 : Ref sig .tc := ⟨.hbm, 1433, rfl⟩
abbrev main_v1128 : Ref sig .tc := ⟨.hbm, 1434, rfl⟩
abbrev main_v1129 : Ref sig .tc := ⟨.hbm, 1435, rfl⟩
abbrev main_v1130 : Ref sig .tc := ⟨.hbm, 1436, rfl⟩
abbrev main_v1131 : Ref sig .tc := ⟨.hbm, 1437, rfl⟩
abbrev main_v1132 : Ref sig .tc := ⟨.hbm, 1438, rfl⟩
abbrev main_c_299 : Ref sig .tc := ⟨.hbm, 1439, rfl⟩
abbrev main_v1133 : Ref sig .tc := ⟨.hbm, 1440, rfl⟩
abbrev main_v1134 : Ref sig .tc := ⟨.hbm, 1441, rfl⟩
abbrev main_c_300 : Ref sig .tc := ⟨.hbm, 1442, rfl⟩
abbrev main_v1135 : Ref sig .tc := ⟨.hbm, 1443, rfl⟩
abbrev main_v1136 : Ref sig .tc := ⟨.hbm, 1444, rfl⟩
abbrev main_v1137 : Ref sig .tc := ⟨.hbm, 1445, rfl⟩
abbrev main_v1138 : Ref sig .tc := ⟨.hbm, 1446, rfl⟩
abbrev main_v1139 : Ref sig .tc := ⟨.hbm, 1447, rfl⟩
abbrev main_c_301 : Ref sig .tc := ⟨.hbm, 1448, rfl⟩
abbrev main_v1140 : Ref sig .tc := ⟨.hbm, 1449, rfl⟩
abbrev main_v1141 : Ref sig .tc := ⟨.hbm, 1450, rfl⟩
abbrev main_c_302 : Ref sig .tc := ⟨.hbm, 1451, rfl⟩
abbrev main_v1142 : Ref sig .tc := ⟨.hbm, 1452, rfl⟩
abbrev main_v1143 : Ref sig .tc := ⟨.hbm, 1453, rfl⟩
abbrev main_v1144 : Ref sig .tc := ⟨.hbm, 1454, rfl⟩
abbrev main_v1145 : Ref sig .tc := ⟨.hbm, 1455, rfl⟩
abbrev main_v1146 : Ref sig .tc := ⟨.hbm, 1456, rfl⟩
abbrev main_v1147 : Ref sig .tc := ⟨.hbm, 1457, rfl⟩
abbrev main_v1148 : Ref sig .tc := ⟨.hbm, 1458, rfl⟩
abbrev main_v1149 : Ref sig .tc := ⟨.hbm, 1459, rfl⟩
abbrev main_c_303 : Ref sig .tc := ⟨.hbm, 1460, rfl⟩
abbrev main_v1150 : Ref sig .tc := ⟨.hbm, 1461, rfl⟩
abbrev main_v1151 : Ref sig .tc := ⟨.hbm, 1462, rfl⟩
abbrev main_v1152 : Ref sig .tc := ⟨.hbm, 1463, rfl⟩
abbrev main_c_304 : Ref sig .tc := ⟨.hbm, 1464, rfl⟩
abbrev main_v1153 : Ref sig .tc := ⟨.hbm, 1465, rfl⟩
abbrev main_v1154 : Ref sig .tc := ⟨.hbm, 1466, rfl⟩
abbrev main_c_305 : Ref sig .tc := ⟨.hbm, 1467, rfl⟩
abbrev main_v1155 : Ref sig .tc := ⟨.hbm, 1468, rfl⟩
abbrev main_v1156 : Ref sig .tc := ⟨.hbm, 1469, rfl⟩
abbrev main_v1157 : Ref sig .tc := ⟨.hbm, 1470, rfl⟩
abbrev main_v1158 : Ref sig .tc := ⟨.hbm, 1471, rfl⟩
abbrev main_v1159 : Ref sig .tc := ⟨.hbm, 1472, rfl⟩
abbrev main_c_306 : Ref sig .tc := ⟨.hbm, 1473, rfl⟩
abbrev main_v1160 : Ref sig .tc := ⟨.hbm, 1474, rfl⟩
abbrev main_v1161 : Ref sig .tc := ⟨.hbm, 1475, rfl⟩
abbrev main_c_307 : Ref sig .tc := ⟨.hbm, 1476, rfl⟩
abbrev main_v1162 : Ref sig .tc := ⟨.hbm, 1477, rfl⟩
abbrev main_v1163 : Ref sig .tc := ⟨.hbm, 1478, rfl⟩
abbrev main_v1164 : Ref sig .tc := ⟨.hbm, 1479, rfl⟩
abbrev main_v1165 : Ref sig .tc := ⟨.hbm, 1480, rfl⟩
abbrev main_v1166 : Ref sig .tc := ⟨.hbm, 1481, rfl⟩
abbrev main_c_308 : Ref sig .tc := ⟨.hbm, 1482, rfl⟩
abbrev main_v1167 : Ref sig .tc := ⟨.hbm, 1483, rfl⟩
abbrev main_v1168 : Ref sig .tc := ⟨.hbm, 1484, rfl⟩
abbrev main_c_309 : Ref sig .tc := ⟨.hbm, 1485, rfl⟩
abbrev main_v1169 : Ref sig .tc := ⟨.hbm, 1486, rfl⟩
abbrev main_v1170 : Ref sig .tc := ⟨.hbm, 1487, rfl⟩
abbrev main_v1171 : Ref sig .tc := ⟨.hbm, 1488, rfl⟩
abbrev main_v1172 : Ref sig .tc := ⟨.hbm, 1489, rfl⟩
abbrev main_v1173 : Ref sig .tc := ⟨.hbm, 1490, rfl⟩
abbrev main_c_310 : Ref sig .tc := ⟨.hbm, 1491, rfl⟩
abbrev main_v1174 : Ref sig .tc := ⟨.hbm, 1492, rfl⟩
abbrev main_v1175 : Ref sig .tc := ⟨.hbm, 1493, rfl⟩
abbrev main_c_311 : Ref sig .tc := ⟨.hbm, 1494, rfl⟩
abbrev main_v1176 : Ref sig .tc := ⟨.hbm, 1495, rfl⟩
abbrev main_v1177 : Ref sig .tc := ⟨.hbm, 1496, rfl⟩
abbrev main_v1178 : Ref sig .tc := ⟨.hbm, 1497, rfl⟩
abbrev main_v1179 : Ref sig .tc := ⟨.hbm, 1498, rfl⟩
abbrev main_v1180 : Ref sig .tc := ⟨.hbm, 1499, rfl⟩
abbrev main_v1181 : Ref sig .tc := ⟨.hbm, 1500, rfl⟩
abbrev main_v1182 : Ref sig .tc := ⟨.hbm, 1501, rfl⟩
abbrev main_v1183 : Ref sig .tc := ⟨.hbm, 1502, rfl⟩
abbrev main_c_312 : Ref sig .tc := ⟨.hbm, 1503, rfl⟩
abbrev main_v1184 : Ref sig .tc := ⟨.hbm, 1504, rfl⟩
abbrev main_v1185 : Ref sig .tc := ⟨.hbm, 1505, rfl⟩
abbrev main_v1186 : Ref sig .tc := ⟨.hbm, 1506, rfl⟩
abbrev main_c_313 : Ref sig .tc := ⟨.hbm, 1507, rfl⟩
abbrev main_v1187 : Ref sig .tc := ⟨.hbm, 1508, rfl⟩
abbrev main_v1188 : Ref sig .tc := ⟨.hbm, 1509, rfl⟩
abbrev main_c_314 : Ref sig .tc := ⟨.hbm, 1510, rfl⟩
abbrev main_v1189 : Ref sig .tc := ⟨.hbm, 1511, rfl⟩
abbrev main_v1190 : Ref sig .tc := ⟨.hbm, 1512, rfl⟩
abbrev main_v1191 : Ref sig .tc := ⟨.hbm, 1513, rfl⟩
abbrev main_v1192 : Ref sig .tc := ⟨.hbm, 1514, rfl⟩
abbrev main_v1193 : Ref sig .tc := ⟨.hbm, 1515, rfl⟩
abbrev main_c_315 : Ref sig .tc := ⟨.hbm, 1516, rfl⟩
abbrev main_v1194 : Ref sig .tc := ⟨.hbm, 1517, rfl⟩
abbrev main_v1195 : Ref sig .tc := ⟨.hbm, 1518, rfl⟩
abbrev main_c_316 : Ref sig .tc := ⟨.hbm, 1519, rfl⟩
abbrev main_v1196 : Ref sig .tc := ⟨.hbm, 1520, rfl⟩
abbrev main_v1197 : Ref sig .tc := ⟨.hbm, 1521, rfl⟩
abbrev main_v1198 : Ref sig .tc := ⟨.hbm, 1522, rfl⟩
abbrev main_v1199 : Ref sig .tc := ⟨.hbm, 1523, rfl⟩
abbrev main_v1200 : Ref sig .tc := ⟨.hbm, 1524, rfl⟩
abbrev main_c_317 : Ref sig .tc := ⟨.hbm, 1525, rfl⟩
abbrev main_v1201 : Ref sig .tc := ⟨.hbm, 1526, rfl⟩
abbrev main_v1202 : Ref sig .tc := ⟨.hbm, 1527, rfl⟩
abbrev main_c_318 : Ref sig .tc := ⟨.hbm, 1528, rfl⟩
abbrev main_v1203 : Ref sig .tc := ⟨.hbm, 1529, rfl⟩
abbrev main_v1204 : Ref sig .tc := ⟨.hbm, 1530, rfl⟩
abbrev main_v1205 : Ref sig .tc := ⟨.hbm, 1531, rfl⟩
abbrev main_v1206 : Ref sig .tc := ⟨.hbm, 1532, rfl⟩
abbrev main_v1207 : Ref sig .tc := ⟨.hbm, 1533, rfl⟩
abbrev main_c_319 : Ref sig .tc := ⟨.hbm, 1534, rfl⟩
abbrev main_v1208 : Ref sig .tc := ⟨.hbm, 1535, rfl⟩
abbrev main_v1209 : Ref sig .tc := ⟨.hbm, 1536, rfl⟩
abbrev main_c_320 : Ref sig .tc := ⟨.hbm, 1537, rfl⟩
abbrev main_v1210 : Ref sig .tc := ⟨.hbm, 1538, rfl⟩
abbrev main_v1211 : Ref sig .tc := ⟨.hbm, 1539, rfl⟩
abbrev main_v1212 : Ref sig .tc := ⟨.hbm, 1540, rfl⟩
abbrev main_v1213 : Ref sig .tc := ⟨.hbm, 1541, rfl⟩
abbrev main_v1214 : Ref sig .tc := ⟨.hbm, 1542, rfl⟩
abbrev main_v1215 : Ref sig .tc := ⟨.hbm, 1543, rfl⟩
abbrev main_v1216 : Ref sig .tc := ⟨.hbm, 1544, rfl⟩
abbrev main_v1217 : Ref sig .tc := ⟨.hbm, 1545, rfl⟩
abbrev main_c_321 : Ref sig .tc := ⟨.hbm, 1546, rfl⟩
abbrev main_v1218 : Ref sig .tc := ⟨.hbm, 1547, rfl⟩
abbrev main_v1219 : Ref sig .tc := ⟨.hbm, 1548, rfl⟩
abbrev main_v1220 : Ref sig .tc := ⟨.hbm, 1549, rfl⟩
abbrev main_v1221 : Ref sig .tc := ⟨.hbm, 1550, rfl⟩
abbrev main_v1222 : Ref sig .tc := ⟨.hbm, 1551, rfl⟩
abbrev main_v1223 : Ref sig .tc := ⟨.hbm, 1552, rfl⟩
abbrev main_c_322 : Ref sig .tc := ⟨.hbm, 1553, rfl⟩
abbrev main_v1224 : Ref sig .tc := ⟨.hbm, 1554, rfl⟩
abbrev main_v1225 : Ref sig .tc := ⟨.hbm, 1555, rfl⟩
abbrev main_v1226 : Ref sig .tc := ⟨.hbm, 1556, rfl⟩
abbrev main_v1227 : Ref sig .tc := ⟨.hbm, 1557, rfl⟩
abbrev main_v1228 : Ref sig .tc := ⟨.hbm, 1558, rfl⟩
abbrev main_c_323 : Ref sig .tc := ⟨.hbm, 1559, rfl⟩
abbrev main_v1229 : Ref sig .tc := ⟨.hbm, 1560, rfl⟩
abbrev main_v1230 : Ref sig .tc := ⟨.hbm, 1561, rfl⟩
abbrev main_v1231 : Ref sig .tc := ⟨.hbm, 1562, rfl⟩
abbrev main_c_324 : Ref sig .tc := ⟨.hbm, 1563, rfl⟩
abbrev main_v1232 : Ref sig .tc := ⟨.hbm, 1564, rfl⟩
abbrev main_v1233 : Ref sig .tc := ⟨.hbm, 1565, rfl⟩
abbrev main_v1234 : Ref sig .tc := ⟨.hbm, 1566, rfl⟩
abbrev main_v1235 : Ref sig .tc := ⟨.hbm, 1567, rfl⟩
abbrev main_v1236 : Ref sig .tc := ⟨.hbm, 1568, rfl⟩
abbrev main_v1237 : Ref sig .tc := ⟨.hbm, 1569, rfl⟩
abbrev main_v1238 : Ref sig .tc := ⟨.hbm, 1570, rfl⟩
abbrev main_v1239 : Ref sig .tc := ⟨.hbm, 1571, rfl⟩
abbrev main_v1240 : Ref sig .tc := ⟨.hbm, 1572, rfl⟩
abbrev main_v1241 : Ref sig .tc := ⟨.hbm, 1573, rfl⟩
abbrev main_v1242 : Ref sig .tc := ⟨.hbm, 1574, rfl⟩
abbrev main_v1243 : Ref sig .tc := ⟨.hbm, 1575, rfl⟩
abbrev main_v1244 : Ref sig .tc := ⟨.hbm, 1576, rfl⟩
abbrev main_v1245 : Ref sig .tc := ⟨.hbm, 1577, rfl⟩
abbrev main_v1246 : Ref sig .tc := ⟨.hbm, 1578, rfl⟩
abbrev main_v1247 : Ref sig .tc := ⟨.hbm, 1579, rfl⟩
abbrev main_v1248 : Ref sig .tc := ⟨.hbm, 1580, rfl⟩
abbrev main_v1249 : Ref sig .tc := ⟨.hbm, 1581, rfl⟩
abbrev main_v1250 : Ref sig .tc := ⟨.hbm, 1582, rfl⟩
abbrev main_v1251 : Ref sig .tc := ⟨.hbm, 1583, rfl⟩
abbrev main_v1252 : Ref sig .tc := ⟨.hbm, 1584, rfl⟩
abbrev main_v1253 : Ref sig .tc := ⟨.hbm, 1585, rfl⟩
abbrev main_v1254 : Ref sig .tc := ⟨.hbm, 1586, rfl⟩
abbrev main_v1255 : Ref sig .tc := ⟨.hbm, 1587, rfl⟩
abbrev main_v1256 : Ref sig .tc := ⟨.hbm, 1588, rfl⟩
abbrev main_c_325 : Ref sig .tc := ⟨.hbm, 1589, rfl⟩
abbrev main_v1257 : Ref sig .tc := ⟨.hbm, 1590, rfl⟩
abbrev main_v1258 : Ref sig .tc := ⟨.hbm, 1591, rfl⟩
abbrev main_c_326 : Ref sig .tc := ⟨.hbm, 1592, rfl⟩
abbrev main_v1259 : Ref sig .tc := ⟨.hbm, 1593, rfl⟩
abbrev main_v1260 : Ref sig .tc := ⟨.hbm, 1594, rfl⟩
abbrev main_cst_327 : Ref sig .tc := ⟨.hbm, 1595, rfl⟩
abbrev main_v1261 : Ref sig .tc := ⟨.hbm, 1596, rfl⟩
abbrev main_cst_328 : Ref sig .tc := ⟨.hbm, 1597, rfl⟩
abbrev main_v1262 : Ref sig .tc := ⟨.hbm, 1598, rfl⟩
abbrev main_v1263 : Ref sig .tc := ⟨.hbm, 1599, rfl⟩
abbrev main_c_329 : Ref sig .tc := ⟨.hbm, 1600, rfl⟩
abbrev main_v1264 : Ref sig .tc := ⟨.hbm, 1601, rfl⟩
abbrev main_v1265 : Ref sig .tc := ⟨.hbm, 1602, rfl⟩
abbrev main_v1266 : Ref sig .tc := ⟨.hbm, 1603, rfl⟩
abbrev main_v1267 : Ref sig .tc := ⟨.hbm, 1604, rfl⟩
abbrev main_v1268 : Ref sig .tc := ⟨.hbm, 1605, rfl⟩
abbrev main_v1269 : Ref sig .tc := ⟨.hbm, 1606, rfl⟩
abbrev main_v1270 : Ref sig .tc := ⟨.hbm, 1607, rfl⟩
abbrev main_v1271 : Ref sig .tc := ⟨.hbm, 1608, rfl⟩
abbrev main_cst_330 : Ref sig .tc := ⟨.hbm, 1609, rfl⟩
abbrev main_v1272 : Ref sig .tc := ⟨.hbm, 1610, rfl⟩
abbrev main_cst_331 : Ref sig .tc := ⟨.hbm, 1611, rfl⟩
abbrev main_v1273 : Ref sig .tc := ⟨.hbm, 1612, rfl⟩
abbrev main_v1274 : Ref sig .tc := ⟨.hbm, 1613, rfl⟩
abbrev main_v1275 : Ref sig .tc := ⟨.hbm, 1614, rfl⟩
abbrev main_v1276 : Ref sig .tc := ⟨.hbm, 1615, rfl⟩
abbrev main_v1277 : Ref sig .tc := ⟨.hbm, 1616, rfl⟩
abbrev main_c_332 : Ref sig .tc := ⟨.hbm, 1617, rfl⟩
abbrev main_v1278 : Ref sig .tc := ⟨.hbm, 1618, rfl⟩
abbrev main_v1279 : Ref sig .tc := ⟨.hbm, 1619, rfl⟩
abbrev main_c_333 : Ref sig .tc := ⟨.hbm, 1620, rfl⟩
abbrev main_v1280 : Ref sig .tc := ⟨.hbm, 1621, rfl⟩
abbrev main_v1281 : Ref sig .tc := ⟨.hbm, 1622, rfl⟩
abbrev main_v1282 : Ref sig .tc := ⟨.hbm, 1623, rfl⟩
abbrev main_v1283 : Ref sig .tc := ⟨.hbm, 1624, rfl⟩
abbrev main_c_334 : Ref sig .tc := ⟨.hbm, 1625, rfl⟩
abbrev main_c_335 : Ref sig .tc := ⟨.hbm, 1626, rfl⟩
abbrev main_v1284 : Ref sig .tc := ⟨.hbm, 1627, rfl⟩
abbrev main_v1285 : Ref sig .tc := ⟨.hbm, 1628, rfl⟩
abbrev main_v1286 : Ref sig .tc := ⟨.hbm, 1629, rfl⟩
abbrev main_v1287 : Ref sig .tc := ⟨.hbm, 1630, rfl⟩
abbrev main_v1288 : Ref sig .tc := ⟨.hbm, 1631, rfl⟩
abbrev main_v1289 : Ref sig .tc := ⟨.hbm, 1632, rfl⟩
abbrev main_c_336 : Ref sig .tc := ⟨.hbm, 1633, rfl⟩
abbrev main_v1290 : Ref sig .tc := ⟨.hbm, 1634, rfl⟩
abbrev main_v1291 : Ref sig .tc := ⟨.hbm, 1635, rfl⟩
abbrev main_v1292 : Ref sig .tc := ⟨.hbm, 1636, rfl⟩
abbrev main_cst_337 : Ref sig .tc := ⟨.hbm, 1637, rfl⟩
abbrev main_v1293 : Ref sig .tc := ⟨.hbm, 1638, rfl⟩
abbrev main_v1294 : Ref sig .tc := ⟨.hbm, 1639, rfl⟩
abbrev main_v1295 : Ref sig .tc := ⟨.hbm, 1640, rfl⟩
abbrev main_v1296 : Ref sig .tc := ⟨.hbm, 1641, rfl⟩
abbrev main_c_338 : Ref sig .tc := ⟨.hbm, 1642, rfl⟩
abbrev main_c_339 : Ref sig .tc := ⟨.hbm, 1643, rfl⟩
abbrev main_v1297 : Ref sig .tc := ⟨.hbm, 1644, rfl⟩
abbrev main_v1298 : Ref sig .tc := ⟨.hbm, 1645, rfl⟩
abbrev main_v1299 : Ref sig .tc := ⟨.hbm, 1646, rfl⟩
abbrev main_v1300 : Ref sig .tc := ⟨.hbm, 1647, rfl⟩
abbrev main_c_340 : Ref sig .tc := ⟨.hbm, 1648, rfl⟩
abbrev main_v1301 : Ref sig .tc := ⟨.hbm, 1649, rfl⟩
abbrev main_v1302 : Ref sig .tc := ⟨.hbm, 1650, rfl⟩
abbrev main_v1303 : Ref sig .tc := ⟨.hbm, 1651, rfl⟩
abbrev main_v1304 : Ref sig .tc := ⟨.hbm, 1652, rfl⟩
abbrev main_v1305 : Ref sig .tc := ⟨.hbm, 1653, rfl⟩
abbrev main_v1306 : Ref sig .tc := ⟨.hbm, 1654, rfl⟩
abbrev main_c_341 : Ref sig .tc := ⟨.hbm, 1655, rfl⟩
abbrev main_v1307 : Ref sig .tc := ⟨.hbm, 1656, rfl⟩
abbrev main_v1308 : Ref sig .tc := ⟨.hbm, 1657, rfl⟩
abbrev main_v1309 : Ref sig .tc := ⟨.hbm, 1658, rfl⟩
abbrev main_v1310 : Ref sig .tc := ⟨.hbm, 1659, rfl⟩
abbrev main_v1311 : Ref sig .tc := ⟨.hbm, 1660, rfl⟩
abbrev main_v1312 : Ref sig .tc := ⟨.hbm, 1661, rfl⟩
abbrev main_c_342 : Ref sig .tc := ⟨.hbm, 1662, rfl⟩
abbrev main_v1313 : Ref sig .tc := ⟨.hbm, 1663, rfl⟩
abbrev main_v1314 : Ref sig .tc := ⟨.hbm, 1664, rfl⟩
abbrev main_c_343 : Ref sig .tc := ⟨.hbm, 1665, rfl⟩
abbrev main_v1315 : Ref sig .tc := ⟨.hbm, 1666, rfl⟩
abbrev main_v1316 : Ref sig .tc := ⟨.hbm, 1667, rfl⟩
abbrev main_v1317 : Ref sig .tc := ⟨.hbm, 1668, rfl⟩
abbrev main_v1318 : Ref sig .tc := ⟨.hbm, 1669, rfl⟩
abbrev main_v1319 : Ref sig .tc := ⟨.hbm, 1670, rfl⟩
abbrev main_c_344 : Ref sig .tc := ⟨.hbm, 1671, rfl⟩
abbrev main_v1320 : Ref sig .tc := ⟨.hbm, 1672, rfl⟩
abbrev main_v1321 : Ref sig .tc := ⟨.hbm, 1673, rfl⟩
abbrev main_c_345 : Ref sig .tc := ⟨.hbm, 1674, rfl⟩
abbrev main_v1322 : Ref sig .tc := ⟨.hbm, 1675, rfl⟩
abbrev main_v1323 : Ref sig .tc := ⟨.hbm, 1676, rfl⟩
abbrev main_v1324 : Ref sig .tc := ⟨.hbm, 1677, rfl⟩
abbrev main_v1325 : Ref sig .tc := ⟨.hbm, 1678, rfl⟩
abbrev main_v1326 : Ref sig .tc := ⟨.hbm, 1679, rfl⟩
abbrev main_c_346 : Ref sig .tc := ⟨.hbm, 1680, rfl⟩
abbrev main_v1327 : Ref sig .tc := ⟨.hbm, 1681, rfl⟩
abbrev main_v1328 : Ref sig .tc := ⟨.hbm, 1682, rfl⟩
abbrev main_c_347 : Ref sig .tc := ⟨.hbm, 1683, rfl⟩
abbrev main_v1329 : Ref sig .tc := ⟨.hbm, 1684, rfl⟩
abbrev main_v1330 : Ref sig .tc := ⟨.hbm, 1685, rfl⟩
abbrev main_v1331 : Ref sig .tc := ⟨.hbm, 1686, rfl⟩
abbrev main_v1332 : Ref sig .tc := ⟨.hbm, 1687, rfl⟩
abbrev main_v1333 : Ref sig .tc := ⟨.hbm, 1688, rfl⟩
abbrev main_c_348 : Ref sig .tc := ⟨.hbm, 1689, rfl⟩
abbrev main_v1334 : Ref sig .tc := ⟨.hbm, 1690, rfl⟩
abbrev main_v1335 : Ref sig .tc := ⟨.hbm, 1691, rfl⟩
abbrev main_c_349 : Ref sig .tc := ⟨.hbm, 1692, rfl⟩
abbrev main_v1336 : Ref sig .tc := ⟨.hbm, 1693, rfl⟩
abbrev main_v1337 : Ref sig .tc := ⟨.hbm, 1694, rfl⟩
abbrev main_v1338 : Ref sig .tc := ⟨.hbm, 1695, rfl⟩
abbrev main_v1339 : Ref sig .tc := ⟨.hbm, 1696, rfl⟩
abbrev main_v1340 : Ref sig .tc := ⟨.hbm, 1697, rfl⟩
abbrev main_v1341 : Ref sig .tc := ⟨.hbm, 1698, rfl⟩
abbrev main_v1342 : Ref sig .tc := ⟨.hbm, 1699, rfl⟩
abbrev main_v1343 : Ref sig .tc := ⟨.hbm, 1700, rfl⟩
abbrev main_c_350 : Ref sig .tc := ⟨.hbm, 1701, rfl⟩
abbrev main_v1344 : Ref sig .tc := ⟨.hbm, 1702, rfl⟩
abbrev main_v1345 : Ref sig .tc := ⟨.hbm, 1703, rfl⟩
abbrev main_v1346 : Ref sig .tc := ⟨.hbm, 1704, rfl⟩
abbrev main_c_351 : Ref sig .tc := ⟨.hbm, 1705, rfl⟩
abbrev main_v1347 : Ref sig .tc := ⟨.hbm, 1706, rfl⟩
abbrev main_v1348 : Ref sig .tc := ⟨.hbm, 1707, rfl⟩
abbrev main_c_352 : Ref sig .tc := ⟨.hbm, 1708, rfl⟩
abbrev main_v1349 : Ref sig .tc := ⟨.hbm, 1709, rfl⟩
abbrev main_v1350 : Ref sig .tc := ⟨.hbm, 1710, rfl⟩
abbrev main_v1351 : Ref sig .tc := ⟨.hbm, 1711, rfl⟩
abbrev main_v1352 : Ref sig .tc := ⟨.hbm, 1712, rfl⟩
abbrev main_v1353 : Ref sig .tc := ⟨.hbm, 1713, rfl⟩
abbrev main_c_353 : Ref sig .tc := ⟨.hbm, 1714, rfl⟩
abbrev main_v1354 : Ref sig .tc := ⟨.hbm, 1715, rfl⟩
abbrev main_v1355 : Ref sig .tc := ⟨.hbm, 1716, rfl⟩
abbrev main_c_354 : Ref sig .tc := ⟨.hbm, 1717, rfl⟩
abbrev main_v1356 : Ref sig .tc := ⟨.hbm, 1718, rfl⟩
abbrev main_v1357 : Ref sig .tc := ⟨.hbm, 1719, rfl⟩
abbrev main_v1358 : Ref sig .tc := ⟨.hbm, 1720, rfl⟩
abbrev main_v1359 : Ref sig .tc := ⟨.hbm, 1721, rfl⟩
abbrev main_v1360 : Ref sig .tc := ⟨.hbm, 1722, rfl⟩
abbrev main_c_355 : Ref sig .tc := ⟨.hbm, 1723, rfl⟩
abbrev main_v1361 : Ref sig .tc := ⟨.hbm, 1724, rfl⟩
abbrev main_v1362 : Ref sig .tc := ⟨.hbm, 1725, rfl⟩
abbrev main_c_356 : Ref sig .tc := ⟨.hbm, 1726, rfl⟩
abbrev main_v1363 : Ref sig .tc := ⟨.hbm, 1727, rfl⟩
abbrev main_v1364 : Ref sig .tc := ⟨.hbm, 1728, rfl⟩
abbrev main_v1365 : Ref sig .tc := ⟨.hbm, 1729, rfl⟩
abbrev main_v1366 : Ref sig .tc := ⟨.hbm, 1730, rfl⟩
abbrev main_v1367 : Ref sig .tc := ⟨.hbm, 1731, rfl⟩
abbrev main_c_357 : Ref sig .tc := ⟨.hbm, 1732, rfl⟩
abbrev main_v1368 : Ref sig .tc := ⟨.hbm, 1733, rfl⟩
abbrev main_v1369 : Ref sig .tc := ⟨.hbm, 1734, rfl⟩
abbrev main_c_358 : Ref sig .tc := ⟨.hbm, 1735, rfl⟩
abbrev main_v1370 : Ref sig .tc := ⟨.hbm, 1736, rfl⟩
abbrev main_v1371 : Ref sig .tc := ⟨.hbm, 1737, rfl⟩
abbrev main_v1372 : Ref sig .tc := ⟨.hbm, 1738, rfl⟩
abbrev main_v1373 : Ref sig .tc := ⟨.hbm, 1739, rfl⟩
abbrev main_v1374 : Ref sig .tc := ⟨.hbm, 1740, rfl⟩
abbrev main_v1375 : Ref sig .tc := ⟨.hbm, 1741, rfl⟩
abbrev main_v1376 : Ref sig .tc := ⟨.hbm, 1742, rfl⟩
abbrev main_v1377 : Ref sig .tc := ⟨.hbm, 1743, rfl⟩
abbrev main_c_359 : Ref sig .tc := ⟨.hbm, 1744, rfl⟩
abbrev main_v1378 : Ref sig .tc := ⟨.hbm, 1745, rfl⟩
abbrev main_v1379 : Ref sig .tc := ⟨.hbm, 1746, rfl⟩
abbrev main_v1380 : Ref sig .tc := ⟨.hbm, 1747, rfl⟩
abbrev main_c_360 : Ref sig .tc := ⟨.hbm, 1748, rfl⟩
abbrev main_v1381 : Ref sig .tc := ⟨.hbm, 1749, rfl⟩
abbrev main_v1382 : Ref sig .tc := ⟨.hbm, 1750, rfl⟩
abbrev main_c_361 : Ref sig .tc := ⟨.hbm, 1751, rfl⟩
abbrev main_v1383 : Ref sig .tc := ⟨.hbm, 1752, rfl⟩
abbrev main_v1384 : Ref sig .tc := ⟨.hbm, 1753, rfl⟩
abbrev main_v1385 : Ref sig .tc := ⟨.hbm, 1754, rfl⟩
abbrev main_v1386 : Ref sig .tc := ⟨.hbm, 1755, rfl⟩
abbrev main_v1387 : Ref sig .tc := ⟨.hbm, 1756, rfl⟩
abbrev main_c_362 : Ref sig .tc := ⟨.hbm, 1757, rfl⟩
abbrev main_v1388 : Ref sig .tc := ⟨.hbm, 1758, rfl⟩
abbrev main_v1389 : Ref sig .tc := ⟨.hbm, 1759, rfl⟩
abbrev main_c_363 : Ref sig .tc := ⟨.hbm, 1760, rfl⟩
abbrev main_v1390 : Ref sig .tc := ⟨.hbm, 1761, rfl⟩
abbrev main_v1391 : Ref sig .tc := ⟨.hbm, 1762, rfl⟩
abbrev main_v1392 : Ref sig .tc := ⟨.hbm, 1763, rfl⟩
abbrev main_v1393 : Ref sig .tc := ⟨.hbm, 1764, rfl⟩
abbrev main_v1394 : Ref sig .tc := ⟨.hbm, 1765, rfl⟩
abbrev main_c_364 : Ref sig .tc := ⟨.hbm, 1766, rfl⟩
abbrev main_v1395 : Ref sig .tc := ⟨.hbm, 1767, rfl⟩
abbrev main_v1396 : Ref sig .tc := ⟨.hbm, 1768, rfl⟩
abbrev main_c_365 : Ref sig .tc := ⟨.hbm, 1769, rfl⟩
abbrev main_v1397 : Ref sig .tc := ⟨.hbm, 1770, rfl⟩
abbrev main_v1398 : Ref sig .tc := ⟨.hbm, 1771, rfl⟩
abbrev main_v1399 : Ref sig .tc := ⟨.hbm, 1772, rfl⟩
abbrev main_v1400 : Ref sig .tc := ⟨.hbm, 1773, rfl⟩
abbrev main_v1401 : Ref sig .tc := ⟨.hbm, 1774, rfl⟩
abbrev main_c_366 : Ref sig .tc := ⟨.hbm, 1775, rfl⟩
abbrev main_v1402 : Ref sig .tc := ⟨.hbm, 1776, rfl⟩
abbrev main_v1403 : Ref sig .tc := ⟨.hbm, 1777, rfl⟩
abbrev main_c_367 : Ref sig .tc := ⟨.hbm, 1778, rfl⟩
abbrev main_v1404 : Ref sig .tc := ⟨.hbm, 1779, rfl⟩
abbrev main_v1405 : Ref sig .tc := ⟨.hbm, 1780, rfl⟩
abbrev main_v1406 : Ref sig .tc := ⟨.hbm, 1781, rfl⟩
abbrev main_v1407 : Ref sig .tc := ⟨.hbm, 1782, rfl⟩
abbrev main_v1408 : Ref sig .tc := ⟨.hbm, 1783, rfl⟩
abbrev main_v1409 : Ref sig .tc := ⟨.hbm, 1784, rfl⟩
abbrev main_v1410 : Ref sig .tc := ⟨.hbm, 1785, rfl⟩
abbrev main_v1411 : Ref sig .tc := ⟨.hbm, 1786, rfl⟩
abbrev main_c_368 : Ref sig .tc := ⟨.hbm, 1787, rfl⟩
abbrev main_v1412 : Ref sig .tc := ⟨.hbm, 1788, rfl⟩
abbrev main_v1413 : Ref sig .tc := ⟨.hbm, 1789, rfl⟩
abbrev main_v1414 : Ref sig .tc := ⟨.hbm, 1790, rfl⟩
abbrev main_c_369 : Ref sig .tc := ⟨.hbm, 1791, rfl⟩
abbrev main_v1415 : Ref sig .tc := ⟨.hbm, 1792, rfl⟩
abbrev main_v1416 : Ref sig .tc := ⟨.hbm, 1793, rfl⟩
abbrev main_c_370 : Ref sig .tc := ⟨.hbm, 1794, rfl⟩
abbrev main_v1417 : Ref sig .tc := ⟨.hbm, 1795, rfl⟩
abbrev main_v1418 : Ref sig .tc := ⟨.hbm, 1796, rfl⟩
abbrev main_v1419 : Ref sig .tc := ⟨.hbm, 1797, rfl⟩
abbrev main_v1420 : Ref sig .tc := ⟨.hbm, 1798, rfl⟩
abbrev main_v1421 : Ref sig .tc := ⟨.hbm, 1799, rfl⟩
abbrev main_c_371 : Ref sig .tc := ⟨.hbm, 1800, rfl⟩
abbrev main_v1422 : Ref sig .tc := ⟨.hbm, 1801, rfl⟩
abbrev main_v1423 : Ref sig .tc := ⟨.hbm, 1802, rfl⟩
abbrev main_c_372 : Ref sig .tc := ⟨.hbm, 1803, rfl⟩
abbrev main_v1424 : Ref sig .tc := ⟨.hbm, 1804, rfl⟩
abbrev main_v1425 : Ref sig .tc := ⟨.hbm, 1805, rfl⟩
abbrev main_v1426 : Ref sig .tc := ⟨.hbm, 1806, rfl⟩
abbrev main_v1427 : Ref sig .tc := ⟨.hbm, 1807, rfl⟩
abbrev main_v1428 : Ref sig .tc := ⟨.hbm, 1808, rfl⟩
abbrev main_c_373 : Ref sig .tc := ⟨.hbm, 1809, rfl⟩
abbrev main_v1429 : Ref sig .tc := ⟨.hbm, 1810, rfl⟩
abbrev main_v1430 : Ref sig .tc := ⟨.hbm, 1811, rfl⟩
abbrev main_c_374 : Ref sig .tc := ⟨.hbm, 1812, rfl⟩
abbrev main_v1431 : Ref sig .tc := ⟨.hbm, 1813, rfl⟩
abbrev main_v1432 : Ref sig .tc := ⟨.hbm, 1814, rfl⟩
abbrev main_v1433 : Ref sig .tc := ⟨.hbm, 1815, rfl⟩
abbrev main_v1434 : Ref sig .tc := ⟨.hbm, 1816, rfl⟩
abbrev main_v1435 : Ref sig .tc := ⟨.hbm, 1817, rfl⟩
abbrev main_c_375 : Ref sig .tc := ⟨.hbm, 1818, rfl⟩
abbrev main_v1436 : Ref sig .tc := ⟨.hbm, 1819, rfl⟩
abbrev main_v1437 : Ref sig .tc := ⟨.hbm, 1820, rfl⟩
abbrev main_c_376 : Ref sig .tc := ⟨.hbm, 1821, rfl⟩
abbrev main_v1438 : Ref sig .tc := ⟨.hbm, 1822, rfl⟩
abbrev main_v1439 : Ref sig .tc := ⟨.hbm, 1823, rfl⟩
abbrev main_v1440 : Ref sig .tc := ⟨.hbm, 1824, rfl⟩
abbrev main_v1441 : Ref sig .tc := ⟨.hbm, 1825, rfl⟩
abbrev main_v1442 : Ref sig .tc := ⟨.hbm, 1826, rfl⟩
abbrev main_v1443 : Ref sig .tc := ⟨.hbm, 1827, rfl⟩
abbrev main_v1444 : Ref sig .tc := ⟨.hbm, 1828, rfl⟩
abbrev main_v1445 : Ref sig .tc := ⟨.hbm, 1829, rfl⟩
abbrev main_c_377 : Ref sig .tc := ⟨.hbm, 1830, rfl⟩
abbrev main_v1446 : Ref sig .tc := ⟨.hbm, 1831, rfl⟩
abbrev main_v1447 : Ref sig .tc := ⟨.hbm, 1832, rfl⟩
abbrev main_v1448 : Ref sig .tc := ⟨.hbm, 1833, rfl⟩
abbrev main_c_378 : Ref sig .tc := ⟨.hbm, 1834, rfl⟩
abbrev main_v1449 : Ref sig .tc := ⟨.hbm, 1835, rfl⟩
abbrev main_v1450 : Ref sig .tc := ⟨.hbm, 1836, rfl⟩
abbrev main_c_379 : Ref sig .tc := ⟨.hbm, 1837, rfl⟩
abbrev main_v1451 : Ref sig .tc := ⟨.hbm, 1838, rfl⟩
abbrev main_v1452 : Ref sig .tc := ⟨.hbm, 1839, rfl⟩
abbrev main_v1453 : Ref sig .tc := ⟨.hbm, 1840, rfl⟩
abbrev main_v1454 : Ref sig .tc := ⟨.hbm, 1841, rfl⟩
abbrev main_v1455 : Ref sig .tc := ⟨.hbm, 1842, rfl⟩
abbrev main_c_380 : Ref sig .tc := ⟨.hbm, 1843, rfl⟩
abbrev main_v1456 : Ref sig .tc := ⟨.hbm, 1844, rfl⟩
abbrev main_v1457 : Ref sig .tc := ⟨.hbm, 1845, rfl⟩
abbrev main_c_381 : Ref sig .tc := ⟨.hbm, 1846, rfl⟩
abbrev main_v1458 : Ref sig .tc := ⟨.hbm, 1847, rfl⟩
abbrev main_v1459 : Ref sig .tc := ⟨.hbm, 1848, rfl⟩
abbrev main_v1460 : Ref sig .tc := ⟨.hbm, 1849, rfl⟩
abbrev main_v1461 : Ref sig .tc := ⟨.hbm, 1850, rfl⟩
abbrev main_v1462 : Ref sig .tc := ⟨.hbm, 1851, rfl⟩
abbrev main_c_382 : Ref sig .tc := ⟨.hbm, 1852, rfl⟩
abbrev main_v1463 : Ref sig .tc := ⟨.hbm, 1853, rfl⟩
abbrev main_v1464 : Ref sig .tc := ⟨.hbm, 1854, rfl⟩
abbrev main_c_383 : Ref sig .tc := ⟨.hbm, 1855, rfl⟩
abbrev main_v1465 : Ref sig .tc := ⟨.hbm, 1856, rfl⟩
abbrev main_v1466 : Ref sig .tc := ⟨.hbm, 1857, rfl⟩
abbrev main_v1467 : Ref sig .tc := ⟨.hbm, 1858, rfl⟩
abbrev main_v1468 : Ref sig .tc := ⟨.hbm, 1859, rfl⟩
abbrev main_v1469 : Ref sig .tc := ⟨.hbm, 1860, rfl⟩
abbrev main_c_384 : Ref sig .tc := ⟨.hbm, 1861, rfl⟩
abbrev main_v1470 : Ref sig .tc := ⟨.hbm, 1862, rfl⟩
abbrev main_v1471 : Ref sig .tc := ⟨.hbm, 1863, rfl⟩
abbrev main_c_385 : Ref sig .tc := ⟨.hbm, 1864, rfl⟩
abbrev main_v1472 : Ref sig .tc := ⟨.hbm, 1865, rfl⟩
abbrev main_v1473 : Ref sig .tc := ⟨.hbm, 1866, rfl⟩
abbrev main_v1474 : Ref sig .tc := ⟨.hbm, 1867, rfl⟩
abbrev main_v1475 : Ref sig .tc := ⟨.hbm, 1868, rfl⟩
abbrev main_v1476 : Ref sig .tc := ⟨.hbm, 1869, rfl⟩
abbrev main_v1477 : Ref sig .tc := ⟨.hbm, 1870, rfl⟩
abbrev main_v1478 : Ref sig .tc := ⟨.hbm, 1871, rfl⟩
abbrev main_v1479 : Ref sig .tc := ⟨.hbm, 1872, rfl⟩
abbrev main_c_386 : Ref sig .tc := ⟨.hbm, 1873, rfl⟩
abbrev main_v1480 : Ref sig .tc := ⟨.hbm, 1874, rfl⟩
abbrev main_v1481 : Ref sig .tc := ⟨.hbm, 1875, rfl⟩
abbrev main_v1482 : Ref sig .tc := ⟨.hbm, 1876, rfl⟩
abbrev main_v1483 : Ref sig .tc := ⟨.hbm, 1877, rfl⟩
abbrev main_v1484 : Ref sig .tc := ⟨.hbm, 1878, rfl⟩
abbrev main_v1485 : Ref sig .tc := ⟨.hbm, 1879, rfl⟩
abbrev main_v1486 : Ref sig .tc := ⟨.hbm, 1880, rfl⟩
abbrev main_v1487 : Ref sig .tc := ⟨.hbm, 1881, rfl⟩
abbrev main_v1488 : Ref sig .tc := ⟨.hbm, 1882, rfl⟩
abbrev main_v1489 : Ref sig .tc := ⟨.hbm, 1883, rfl⟩
abbrev main_v1490 : Ref sig .tc := ⟨.hbm, 1884, rfl⟩
abbrev main_cst_387 : Ref sig .tc := ⟨.hbm, 1885, rfl⟩
abbrev main_v1491 : Ref sig .tc := ⟨.hbm, 1886, rfl⟩
abbrev main_cst_388 : Ref sig .tc := ⟨.hbm, 1887, rfl⟩
abbrev main_v1492 : Ref sig .tc := ⟨.hbm, 1888, rfl⟩
abbrev main_c_389 : Ref sig .tc := ⟨.hbm, 1889, rfl⟩
abbrev main_c_390 : Ref sig .tc := ⟨.hbm, 1890, rfl⟩
abbrev main_v1493 : Ref sig .tc := ⟨.hbm, 1891, rfl⟩
abbrev main_v1494 : Ref sig .tc := ⟨.hbm, 1892, rfl⟩
abbrev main_v1495 : Ref sig .tc := ⟨.hbm, 1893, rfl⟩
abbrev main_v1496 : Ref sig .tc := ⟨.hbm, 1894, rfl⟩
abbrev main_c_391 : Ref sig .tc := ⟨.hbm, 1895, rfl⟩
abbrev main_v1497 : Ref sig .tc := ⟨.hbm, 1896, rfl⟩
abbrev main_v1498 : Ref sig .tc := ⟨.hbm, 1897, rfl⟩
abbrev main_v1499 : Ref sig .tc := ⟨.hbm, 1898, rfl⟩
abbrev main_v1500 : Ref sig .tc := ⟨.hbm, 1899, rfl⟩
abbrev main_c_392 : Ref sig .tc := ⟨.hbm, 1900, rfl⟩
abbrev main_v1501 : Ref sig .tc := ⟨.hbm, 1901, rfl⟩
abbrev main_v1502 : Ref sig .tc := ⟨.hbm, 1902, rfl⟩
abbrev main_v1503 : Ref sig .tc := ⟨.hbm, 1903, rfl⟩
abbrev main_v1504 : Ref sig .tc := ⟨.hbm, 1904, rfl⟩
abbrev main_c_393 : Ref sig .tc := ⟨.hbm, 1905, rfl⟩
abbrev main_v1505 : Ref sig .tc := ⟨.hbm, 1906, rfl⟩
abbrev main_v1506 : Ref sig .tc := ⟨.hbm, 1907, rfl⟩
abbrev main_v1507 : Ref sig .tc := ⟨.hbm, 1908, rfl⟩
abbrev main_v1508 : Ref sig .tc := ⟨.hbm, 1909, rfl⟩
abbrev main_c_394 : Ref sig .tc := ⟨.hbm, 1910, rfl⟩
abbrev main_v1509 : Ref sig .tc := ⟨.hbm, 1911, rfl⟩
abbrev main_v1510 : Ref sig .tc := ⟨.hbm, 1912, rfl⟩
abbrev main_v1511 : Ref sig .tc := ⟨.hbm, 1913, rfl⟩
abbrev main_v1512 : Ref sig .tc := ⟨.hbm, 1914, rfl⟩
abbrev main_v1513 : Ref sig .tc := ⟨.hbm, 1915, rfl⟩
abbrev main_v1514 : Ref sig .tc := ⟨.hbm, 1916, rfl⟩
abbrev main_c_395 : Ref sig .tc := ⟨.hbm, 1917, rfl⟩
abbrev main_v1515 : Ref sig .tc := ⟨.hbm, 1918, rfl⟩
abbrev main_v1516 : Ref sig .tc := ⟨.hbm, 1919, rfl⟩
abbrev main_v1517 : Ref sig .tc := ⟨.hbm, 1920, rfl⟩
abbrev main_v1518 : Ref sig .tc := ⟨.hbm, 1921, rfl⟩
abbrev main_v1519 : Ref sig .tc := ⟨.hbm, 1922, rfl⟩
abbrev main_v1520 : Ref sig .tc := ⟨.hbm, 1923, rfl⟩
abbrev main_c_396 : Ref sig .tc := ⟨.hbm, 1924, rfl⟩
abbrev main_v1521 : Ref sig .tc := ⟨.hbm, 1925, rfl⟩
abbrev main_v1522 : Ref sig .tc := ⟨.hbm, 1926, rfl⟩
abbrev main_c_397 : Ref sig .tc := ⟨.hbm, 1927, rfl⟩
abbrev main_v1523 : Ref sig .tc := ⟨.hbm, 1928, rfl⟩
abbrev main_v1524 : Ref sig .tc := ⟨.hbm, 1929, rfl⟩
abbrev main_v1525 : Ref sig .tc := ⟨.hbm, 1930, rfl⟩
abbrev main_v1526 : Ref sig .tc := ⟨.hbm, 1931, rfl⟩
abbrev main_v1527 : Ref sig .tc := ⟨.hbm, 1932, rfl⟩
abbrev main_c_398 : Ref sig .tc := ⟨.hbm, 1933, rfl⟩
abbrev main_v1528 : Ref sig .tc := ⟨.hbm, 1934, rfl⟩
abbrev main_v1529 : Ref sig .tc := ⟨.hbm, 1935, rfl⟩
abbrev main_c_399 : Ref sig .tc := ⟨.hbm, 1936, rfl⟩
abbrev main_v1530 : Ref sig .tc := ⟨.hbm, 1937, rfl⟩
abbrev main_v1531 : Ref sig .tc := ⟨.hbm, 1938, rfl⟩
abbrev main_v1532 : Ref sig .tc := ⟨.hbm, 1939, rfl⟩
abbrev main_v1533 : Ref sig .tc := ⟨.hbm, 1940, rfl⟩
abbrev main_v1534 : Ref sig .tc := ⟨.hbm, 1941, rfl⟩
abbrev main_c_400 : Ref sig .tc := ⟨.hbm, 1942, rfl⟩
abbrev main_v1535 : Ref sig .tc := ⟨.hbm, 1943, rfl⟩
abbrev main_v1536 : Ref sig .tc := ⟨.hbm, 1944, rfl⟩
abbrev main_c_401 : Ref sig .tc := ⟨.hbm, 1945, rfl⟩
abbrev main_v1537 : Ref sig .tc := ⟨.hbm, 1946, rfl⟩
abbrev main_v1538 : Ref sig .tc := ⟨.hbm, 1947, rfl⟩
abbrev main_v1539 : Ref sig .tc := ⟨.hbm, 1948, rfl⟩
abbrev main_v1540 : Ref sig .tc := ⟨.hbm, 1949, rfl⟩
abbrev main_v1541 : Ref sig .tc := ⟨.hbm, 1950, rfl⟩
abbrev main_c_402 : Ref sig .tc := ⟨.hbm, 1951, rfl⟩
abbrev main_v1542 : Ref sig .tc := ⟨.hbm, 1952, rfl⟩
abbrev main_v1543 : Ref sig .tc := ⟨.hbm, 1953, rfl⟩
abbrev main_c_403 : Ref sig .tc := ⟨.hbm, 1954, rfl⟩
abbrev main_v1544 : Ref sig .tc := ⟨.hbm, 1955, rfl⟩
abbrev main_v1545 : Ref sig .tc := ⟨.hbm, 1956, rfl⟩
abbrev main_v1546 : Ref sig .tc := ⟨.hbm, 1957, rfl⟩
abbrev main_v1547 : Ref sig .tc := ⟨.hbm, 1958, rfl⟩
abbrev main_v1548 : Ref sig .tc := ⟨.hbm, 1959, rfl⟩
abbrev main_v1549 : Ref sig .tc := ⟨.hbm, 1960, rfl⟩
abbrev main_v1550 : Ref sig .tc := ⟨.hbm, 1961, rfl⟩
abbrev main_v1551 : Ref sig .tc := ⟨.hbm, 1962, rfl⟩
abbrev main_c_404 : Ref sig .tc := ⟨.hbm, 1963, rfl⟩
abbrev main_v1552 : Ref sig .tc := ⟨.hbm, 1964, rfl⟩
abbrev main_v1553 : Ref sig .tc := ⟨.hbm, 1965, rfl⟩
abbrev main_v1554 : Ref sig .tc := ⟨.hbm, 1966, rfl⟩
abbrev main_c_405 : Ref sig .tc := ⟨.hbm, 1967, rfl⟩
abbrev main_v1555 : Ref sig .tc := ⟨.hbm, 1968, rfl⟩
abbrev main_v1556 : Ref sig .tc := ⟨.hbm, 1969, rfl⟩
abbrev main_c_406 : Ref sig .tc := ⟨.hbm, 1970, rfl⟩
abbrev main_v1557 : Ref sig .tc := ⟨.hbm, 1971, rfl⟩
abbrev main_v1558 : Ref sig .tc := ⟨.hbm, 1972, rfl⟩
abbrev main_v1559 : Ref sig .tc := ⟨.hbm, 1973, rfl⟩
abbrev main_v1560 : Ref sig .tc := ⟨.hbm, 1974, rfl⟩
abbrev main_v1561 : Ref sig .tc := ⟨.hbm, 1975, rfl⟩
abbrev main_c_407 : Ref sig .tc := ⟨.hbm, 1976, rfl⟩
abbrev main_v1562 : Ref sig .tc := ⟨.hbm, 1977, rfl⟩
abbrev main_v1563 : Ref sig .tc := ⟨.hbm, 1978, rfl⟩
abbrev main_c_408 : Ref sig .tc := ⟨.hbm, 1979, rfl⟩
abbrev main_v1564 : Ref sig .tc := ⟨.hbm, 1980, rfl⟩
abbrev main_v1565 : Ref sig .tc := ⟨.hbm, 1981, rfl⟩
abbrev main_v1566 : Ref sig .tc := ⟨.hbm, 1982, rfl⟩
abbrev main_v1567 : Ref sig .tc := ⟨.hbm, 1983, rfl⟩
abbrev main_v1568 : Ref sig .tc := ⟨.hbm, 1984, rfl⟩
abbrev main_c_409 : Ref sig .tc := ⟨.hbm, 1985, rfl⟩
abbrev main_v1569 : Ref sig .tc := ⟨.hbm, 1986, rfl⟩
abbrev main_v1570 : Ref sig .tc := ⟨.hbm, 1987, rfl⟩
abbrev main_c_410 : Ref sig .tc := ⟨.hbm, 1988, rfl⟩
abbrev main_v1571 : Ref sig .tc := ⟨.hbm, 1989, rfl⟩
abbrev main_v1572 : Ref sig .tc := ⟨.hbm, 1990, rfl⟩
abbrev main_v1573 : Ref sig .tc := ⟨.hbm, 1991, rfl⟩
abbrev main_v1574 : Ref sig .tc := ⟨.hbm, 1992, rfl⟩
abbrev main_v1575 : Ref sig .tc := ⟨.hbm, 1993, rfl⟩
abbrev main_c_411 : Ref sig .tc := ⟨.hbm, 1994, rfl⟩
abbrev main_v1576 : Ref sig .tc := ⟨.hbm, 1995, rfl⟩
abbrev main_v1577 : Ref sig .tc := ⟨.hbm, 1996, rfl⟩
abbrev main_c_412 : Ref sig .tc := ⟨.hbm, 1997, rfl⟩
abbrev main_v1578 : Ref sig .tc := ⟨.hbm, 1998, rfl⟩
abbrev main_v1579 : Ref sig .tc := ⟨.hbm, 1999, rfl⟩
abbrev main_v1580 : Ref sig .tc := ⟨.hbm, 2000, rfl⟩
abbrev main_v1581 : Ref sig .tc := ⟨.hbm, 2001, rfl⟩
abbrev main_v1582 : Ref sig .tc := ⟨.hbm, 2002, rfl⟩
abbrev main_v1583 : Ref sig .tc := ⟨.hbm, 2003, rfl⟩
abbrev main_v1584 : Ref sig .tc := ⟨.hbm, 2004, rfl⟩
abbrev main_v1585 : Ref sig .tc := ⟨.hbm, 2005, rfl⟩
abbrev main_c_413 : Ref sig .tc := ⟨.hbm, 2006, rfl⟩
abbrev main_v1586 : Ref sig .tc := ⟨.hbm, 2007, rfl⟩
abbrev main_v1587 : Ref sig .tc := ⟨.hbm, 2008, rfl⟩
abbrev main_v1588 : Ref sig .tc := ⟨.hbm, 2009, rfl⟩
abbrev main_c_414 : Ref sig .tc := ⟨.hbm, 2010, rfl⟩
abbrev main_v1589 : Ref sig .tc := ⟨.hbm, 2011, rfl⟩
abbrev main_v1590 : Ref sig .tc := ⟨.hbm, 2012, rfl⟩
abbrev main_c_415 : Ref sig .tc := ⟨.hbm, 2013, rfl⟩
abbrev main_v1591 : Ref sig .tc := ⟨.hbm, 2014, rfl⟩
abbrev main_v1592 : Ref sig .tc := ⟨.hbm, 2015, rfl⟩
abbrev main_v1593 : Ref sig .tc := ⟨.hbm, 2016, rfl⟩
abbrev main_v1594 : Ref sig .tc := ⟨.hbm, 2017, rfl⟩
abbrev main_v1595 : Ref sig .tc := ⟨.hbm, 2018, rfl⟩
abbrev main_c_416 : Ref sig .tc := ⟨.hbm, 2019, rfl⟩
abbrev main_v1596 : Ref sig .tc := ⟨.hbm, 2020, rfl⟩
abbrev main_v1597 : Ref sig .tc := ⟨.hbm, 2021, rfl⟩
abbrev main_c_417 : Ref sig .tc := ⟨.hbm, 2022, rfl⟩
abbrev main_v1598 : Ref sig .tc := ⟨.hbm, 2023, rfl⟩
abbrev main_v1599 : Ref sig .tc := ⟨.hbm, 2024, rfl⟩
abbrev main_v1600 : Ref sig .tc := ⟨.hbm, 2025, rfl⟩
abbrev main_v1601 : Ref sig .tc := ⟨.hbm, 2026, rfl⟩
abbrev main_v1602 : Ref sig .tc := ⟨.hbm, 2027, rfl⟩
abbrev main_c_418 : Ref sig .tc := ⟨.hbm, 2028, rfl⟩
abbrev main_v1603 : Ref sig .tc := ⟨.hbm, 2029, rfl⟩
abbrev main_v1604 : Ref sig .tc := ⟨.hbm, 2030, rfl⟩
abbrev main_c_419 : Ref sig .tc := ⟨.hbm, 2031, rfl⟩
abbrev main_v1605 : Ref sig .tc := ⟨.hbm, 2032, rfl⟩
abbrev main_v1606 : Ref sig .tc := ⟨.hbm, 2033, rfl⟩
abbrev main_v1607 : Ref sig .tc := ⟨.hbm, 2034, rfl⟩
abbrev main_v1608 : Ref sig .tc := ⟨.hbm, 2035, rfl⟩
abbrev main_v1609 : Ref sig .tc := ⟨.hbm, 2036, rfl⟩
abbrev main_c_420 : Ref sig .tc := ⟨.hbm, 2037, rfl⟩
abbrev main_v1610 : Ref sig .tc := ⟨.hbm, 2038, rfl⟩
abbrev main_v1611 : Ref sig .tc := ⟨.hbm, 2039, rfl⟩
abbrev main_c_421 : Ref sig .tc := ⟨.hbm, 2040, rfl⟩
abbrev main_v1612 : Ref sig .tc := ⟨.hbm, 2041, rfl⟩
abbrev main_v1613 : Ref sig .tc := ⟨.hbm, 2042, rfl⟩
abbrev main_v1614 : Ref sig .tc := ⟨.hbm, 2043, rfl⟩
abbrev main_v1615 : Ref sig .tc := ⟨.hbm, 2044, rfl⟩
abbrev main_v1616 : Ref sig .tc := ⟨.hbm, 2045, rfl⟩
abbrev main_v1617 : Ref sig .tc := ⟨.hbm, 2046, rfl⟩
abbrev main_v1618 : Ref sig .tc := ⟨.hbm, 2047, rfl⟩
abbrev main_v1619 : Ref sig .tc := ⟨.hbm, 2048, rfl⟩
abbrev main_c_422 : Ref sig .tc := ⟨.hbm, 2049, rfl⟩
abbrev main_v1620 : Ref sig .tc := ⟨.hbm, 2050, rfl⟩
abbrev main_v1621 : Ref sig .tc := ⟨.hbm, 2051, rfl⟩
abbrev main_v1622 : Ref sig .tc := ⟨.hbm, 2052, rfl⟩
abbrev main_c_423 : Ref sig .tc := ⟨.hbm, 2053, rfl⟩
abbrev main_v1623 : Ref sig .tc := ⟨.hbm, 2054, rfl⟩
abbrev main_v1624 : Ref sig .tc := ⟨.hbm, 2055, rfl⟩
abbrev main_c_424 : Ref sig .tc := ⟨.hbm, 2056, rfl⟩
abbrev main_v1625 : Ref sig .tc := ⟨.hbm, 2057, rfl⟩
abbrev main_v1626 : Ref sig .tc := ⟨.hbm, 2058, rfl⟩
abbrev main_v1627 : Ref sig .tc := ⟨.hbm, 2059, rfl⟩
abbrev main_v1628 : Ref sig .tc := ⟨.hbm, 2060, rfl⟩
abbrev main_v1629 : Ref sig .tc := ⟨.hbm, 2061, rfl⟩
abbrev main_c_425 : Ref sig .tc := ⟨.hbm, 2062, rfl⟩
abbrev main_v1630 : Ref sig .tc := ⟨.hbm, 2063, rfl⟩
abbrev main_v1631 : Ref sig .tc := ⟨.hbm, 2064, rfl⟩
abbrev main_c_426 : Ref sig .tc := ⟨.hbm, 2065, rfl⟩
abbrev main_v1632 : Ref sig .tc := ⟨.hbm, 2066, rfl⟩
abbrev main_v1633 : Ref sig .tc := ⟨.hbm, 2067, rfl⟩
abbrev main_v1634 : Ref sig .tc := ⟨.hbm, 2068, rfl⟩
abbrev main_v1635 : Ref sig .tc := ⟨.hbm, 2069, rfl⟩
abbrev main_v1636 : Ref sig .tc := ⟨.hbm, 2070, rfl⟩
abbrev main_c_427 : Ref sig .tc := ⟨.hbm, 2071, rfl⟩
abbrev main_v1637 : Ref sig .tc := ⟨.hbm, 2072, rfl⟩
abbrev main_v1638 : Ref sig .tc := ⟨.hbm, 2073, rfl⟩
abbrev main_c_428 : Ref sig .tc := ⟨.hbm, 2074, rfl⟩
abbrev main_v1639 : Ref sig .tc := ⟨.hbm, 2075, rfl⟩
abbrev main_v1640 : Ref sig .tc := ⟨.hbm, 2076, rfl⟩
abbrev main_v1641 : Ref sig .tc := ⟨.hbm, 2077, rfl⟩
abbrev main_v1642 : Ref sig .tc := ⟨.hbm, 2078, rfl⟩
abbrev main_v1643 : Ref sig .tc := ⟨.hbm, 2079, rfl⟩
abbrev main_c_429 : Ref sig .tc := ⟨.hbm, 2080, rfl⟩
abbrev main_v1644 : Ref sig .tc := ⟨.hbm, 2081, rfl⟩
abbrev main_v1645 : Ref sig .tc := ⟨.hbm, 2082, rfl⟩
abbrev main_c_430 : Ref sig .tc := ⟨.hbm, 2083, rfl⟩
abbrev main_v1646 : Ref sig .tc := ⟨.hbm, 2084, rfl⟩
abbrev main_v1647 : Ref sig .tc := ⟨.hbm, 2085, rfl⟩
abbrev main_v1648 : Ref sig .tc := ⟨.hbm, 2086, rfl⟩
abbrev main_v1649 : Ref sig .tc := ⟨.hbm, 2087, rfl⟩
abbrev main_v1650 : Ref sig .tc := ⟨.hbm, 2088, rfl⟩
abbrev main_v1651 : Ref sig .tc := ⟨.hbm, 2089, rfl⟩
abbrev main_v1652 : Ref sig .tc := ⟨.hbm, 2090, rfl⟩
abbrev main_v1653 : Ref sig .tc := ⟨.hbm, 2091, rfl⟩
abbrev main_c_431 : Ref sig .tc := ⟨.hbm, 2092, rfl⟩
abbrev main_v1654 : Ref sig .tc := ⟨.hbm, 2093, rfl⟩
abbrev main_v1655 : Ref sig .tc := ⟨.hbm, 2094, rfl⟩
abbrev main_v1656 : Ref sig .tc := ⟨.hbm, 2095, rfl⟩
abbrev main_c_432 : Ref sig .tc := ⟨.hbm, 2096, rfl⟩
abbrev main_v1657 : Ref sig .tc := ⟨.hbm, 2097, rfl⟩
abbrev main_v1658 : Ref sig .tc := ⟨.hbm, 2098, rfl⟩
abbrev main_c_433 : Ref sig .tc := ⟨.hbm, 2099, rfl⟩
abbrev main_v1659 : Ref sig .tc := ⟨.hbm, 2100, rfl⟩
abbrev main_v1660 : Ref sig .tc := ⟨.hbm, 2101, rfl⟩
abbrev main_v1661 : Ref sig .tc := ⟨.hbm, 2102, rfl⟩
abbrev main_v1662 : Ref sig .tc := ⟨.hbm, 2103, rfl⟩
abbrev main_v1663 : Ref sig .tc := ⟨.hbm, 2104, rfl⟩
abbrev main_c_434 : Ref sig .tc := ⟨.hbm, 2105, rfl⟩
abbrev main_v1664 : Ref sig .tc := ⟨.hbm, 2106, rfl⟩
abbrev main_v1665 : Ref sig .tc := ⟨.hbm, 2107, rfl⟩
abbrev main_c_435 : Ref sig .tc := ⟨.hbm, 2108, rfl⟩
abbrev main_v1666 : Ref sig .tc := ⟨.hbm, 2109, rfl⟩
abbrev main_v1667 : Ref sig .tc := ⟨.hbm, 2110, rfl⟩
abbrev main_v1668 : Ref sig .tc := ⟨.hbm, 2111, rfl⟩
abbrev main_v1669 : Ref sig .tc := ⟨.hbm, 2112, rfl⟩
abbrev main_v1670 : Ref sig .tc := ⟨.hbm, 2113, rfl⟩
abbrev main_c_436 : Ref sig .tc := ⟨.hbm, 2114, rfl⟩
abbrev main_v1671 : Ref sig .tc := ⟨.hbm, 2115, rfl⟩
abbrev main_v1672 : Ref sig .tc := ⟨.hbm, 2116, rfl⟩
abbrev main_c_437 : Ref sig .tc := ⟨.hbm, 2117, rfl⟩
abbrev main_v1673 : Ref sig .tc := ⟨.hbm, 2118, rfl⟩
abbrev main_v1674 : Ref sig .tc := ⟨.hbm, 2119, rfl⟩
abbrev main_v1675 : Ref sig .tc := ⟨.hbm, 2120, rfl⟩
abbrev main_v1676 : Ref sig .tc := ⟨.hbm, 2121, rfl⟩
abbrev main_v1677 : Ref sig .tc := ⟨.hbm, 2122, rfl⟩
abbrev main_c_438 : Ref sig .tc := ⟨.hbm, 2123, rfl⟩
abbrev main_v1678 : Ref sig .tc := ⟨.hbm, 2124, rfl⟩
abbrev main_v1679 : Ref sig .tc := ⟨.hbm, 2125, rfl⟩
abbrev main_c_439 : Ref sig .tc := ⟨.hbm, 2126, rfl⟩
abbrev main_v1680 : Ref sig .tc := ⟨.hbm, 2127, rfl⟩
abbrev main_v1681 : Ref sig .tc := ⟨.hbm, 2128, rfl⟩
abbrev main_v1682 : Ref sig .tc := ⟨.hbm, 2129, rfl⟩
abbrev main_v1683 : Ref sig .tc := ⟨.hbm, 2130, rfl⟩
abbrev main_v1684 : Ref sig .tc := ⟨.hbm, 2131, rfl⟩
abbrev main_v1685 : Ref sig .tc := ⟨.hbm, 2132, rfl⟩
abbrev main_v1686 : Ref sig .tc := ⟨.hbm, 2133, rfl⟩
abbrev main_v1687 : Ref sig .tc := ⟨.hbm, 2134, rfl⟩
abbrev main_c_440 : Ref sig .tc := ⟨.hbm, 2135, rfl⟩
abbrev main_v1688 : Ref sig .tc := ⟨.hbm, 2136, rfl⟩
abbrev main_v1689 : Ref sig .tc := ⟨.hbm, 2137, rfl⟩
abbrev main_v1690 : Ref sig .tc := ⟨.hbm, 2138, rfl⟩
abbrev main_c_441 : Ref sig .tc := ⟨.hbm, 2139, rfl⟩
abbrev main_v1691 : Ref sig .tc := ⟨.hbm, 2140, rfl⟩
abbrev main_v1692 : Ref sig .tc := ⟨.hbm, 2141, rfl⟩
abbrev main_c_442 : Ref sig .tc := ⟨.hbm, 2142, rfl⟩
abbrev main_v1693 : Ref sig .tc := ⟨.hbm, 2143, rfl⟩
abbrev main_v1694 : Ref sig .tc := ⟨.hbm, 2144, rfl⟩
abbrev main_v1695 : Ref sig .tc := ⟨.hbm, 2145, rfl⟩
abbrev main_cst_443 : Ref sig .tc := ⟨.hbm, 2146, rfl⟩
abbrev main_v1696 : Ref sig .tc := ⟨.hbm, 2147, rfl⟩
abbrev main_v1697 : Ref sig .tc := ⟨.hbm, 2148, rfl⟩
abbrev main_v1698 : Ref sig .tc := ⟨.hbm, 2149, rfl⟩
abbrev main_v1699 : Ref sig .tc := ⟨.hbm, 2150, rfl⟩
abbrev main_v1700 : Ref sig .tc := ⟨.hbm, 2151, rfl⟩
abbrev main_v1701 : Ref sig .tc := ⟨.hbm, 2152, rfl⟩
abbrev main_v1702 : Ref sig .tc := ⟨.hbm, 2153, rfl⟩
abbrev main_v1703 : Ref sig .tc := ⟨.hbm, 2154, rfl⟩
abbrev main_v1704 : Ref sig .tc := ⟨.hbm, 2155, rfl⟩
abbrev main_v1705 : Ref sig .tc := ⟨.hbm, 2156, rfl⟩
abbrev main_v1706 : Ref sig .tc := ⟨.hbm, 2157, rfl⟩
abbrev main_v1707 : Ref sig .tc := ⟨.hbm, 2158, rfl⟩
abbrev main_v1708 : Ref sig .tc := ⟨.hbm, 2159, rfl⟩
abbrev main_v1709 : Ref sig .tc := ⟨.hbm, 2160, rfl⟩
abbrev main_v1710 : Ref sig .tc := ⟨.hbm, 2161, rfl⟩
abbrev main_v1711 : Ref sig .tc := ⟨.hbm, 2162, rfl⟩
abbrev main_v1712 : Ref sig .tc := ⟨.hbm, 2163, rfl⟩
abbrev main_v1713 : Ref sig .tc := ⟨.hbm, 2164, rfl⟩
abbrev main_v1714 : Ref sig .tc := ⟨.hbm, 2165, rfl⟩
abbrev main_v1715 : Ref sig .tc := ⟨.hbm, 2166, rfl⟩
abbrev main_c_444 : Ref sig .tc := ⟨.hbm, 2167, rfl⟩
abbrev main_v1716 : Ref sig .tc := ⟨.hbm, 2168, rfl⟩
abbrev main_c_445 : Ref sig .tc := ⟨.hbm, 2169, rfl⟩
abbrev main_v1717 : Ref sig .tc := ⟨.hbm, 2170, rfl⟩
abbrev main_v1718 : Ref sig .tc := ⟨.hbm, 2171, rfl⟩
abbrev main_c_446 : Ref sig .tc := ⟨.hbm, 2172, rfl⟩
abbrev main_c_447 : Ref sig .tc := ⟨.hbm, 2173, rfl⟩
abbrev main_v1719 : Ref sig .tc := ⟨.hbm, 2174, rfl⟩
abbrev main_c_448 : Ref sig .tc := ⟨.hbm, 2175, rfl⟩
abbrev main_v1720 : Ref sig .tc := ⟨.hbm, 2176, rfl⟩
abbrev main_c_449 : Ref sig .tc := ⟨.hbm, 2177, rfl⟩
abbrev main_v1721 : Ref sig .tc := ⟨.hbm, 2178, rfl⟩
abbrev main_c_450 : Ref sig .tc := ⟨.hbm, 2179, rfl⟩
abbrev main_c_451 : Ref sig .tc := ⟨.hbm, 2180, rfl⟩
abbrev main_v1722 : Ref sig .tc := ⟨.hbm, 2181, rfl⟩
abbrev main_c_452 : Ref sig .tc := ⟨.hbm, 2182, rfl⟩
abbrev main_v1723 : Ref sig .tc := ⟨.hbm, 2183, rfl⟩
abbrev main_v1724 : Ref sig .tc := ⟨.hbm, 2184, rfl⟩
abbrev main_c_453 : Ref sig .tc := ⟨.hbm, 2185, rfl⟩
abbrev main_c_454 : Ref sig .tc := ⟨.hbm, 2186, rfl⟩
abbrev main_v1725 : Ref sig .tc := ⟨.hbm, 2187, rfl⟩
abbrev main_c_455 : Ref sig .tc := ⟨.hbm, 2188, rfl⟩
abbrev main_v1726 : Ref sig .tc := ⟨.hbm, 2189, rfl⟩
abbrev main_v1727 : Ref sig .tc := ⟨.hbm, 2190, rfl⟩
abbrev main_v1728 : Ref sig .tc := ⟨.hbm, 2191, rfl⟩
abbrev main_v1729 : Ref sig .tc := ⟨.hbm, 2192, rfl⟩
abbrev main_c_456 : Ref sig .tc := ⟨.hbm, 2193, rfl⟩
abbrev main_c_457 : Ref sig .tc := ⟨.hbm, 2194, rfl⟩
abbrev main_v1730 : Ref sig .tc := ⟨.hbm, 2195, rfl⟩
abbrev main_v1731 : Ref sig .tc := ⟨.hbm, 2196, rfl⟩
abbrev main_v1732 : Ref sig .tc := ⟨.hbm, 2197, rfl⟩
abbrev main_v1733 : Ref sig .tc := ⟨.hbm, 2198, rfl⟩
abbrev main_c_458 : Ref sig .tc := ⟨.hbm, 2199, rfl⟩
abbrev main_v1734 : Ref sig .tc := ⟨.hbm, 2200, rfl⟩
abbrev main_v1735 : Ref sig .tc := ⟨.hbm, 2201, rfl⟩
abbrev main_v1736 : Ref sig .tc := ⟨.hbm, 2202, rfl⟩
abbrev main_v1737 : Ref sig .tc := ⟨.hbm, 2203, rfl⟩
abbrev main_v1738 : Ref sig .tc := ⟨.hbm, 2204, rfl⟩
abbrev main_v1739 : Ref sig .tc := ⟨.hbm, 2205, rfl⟩
abbrev main_c_459 : Ref sig .tc := ⟨.hbm, 2206, rfl⟩
abbrev main_v1740 : Ref sig .tc := ⟨.hbm, 2207, rfl⟩
abbrev main_v1741 : Ref sig .tc := ⟨.hbm, 2208, rfl⟩
abbrev main_v1742 : Ref sig .tc := ⟨.hbm, 2209, rfl⟩
abbrev main_v1743 : Ref sig .tc := ⟨.hbm, 2210, rfl⟩
abbrev main_v1744 : Ref sig .tc := ⟨.hbm, 2211, rfl⟩
abbrev main_v1745 : Ref sig .tc := ⟨.hbm, 2212, rfl⟩
abbrev main_c_460 : Ref sig .tc := ⟨.hbm, 2213, rfl⟩
abbrev main_v1746 : Ref sig .tc := ⟨.hbm, 2214, rfl⟩
abbrev main_v1747 : Ref sig .tc := ⟨.hbm, 2215, rfl⟩
abbrev main_c_461 : Ref sig .tc := ⟨.hbm, 2216, rfl⟩
abbrev main_v1748 : Ref sig .tc := ⟨.hbm, 2217, rfl⟩
abbrev main_v1749 : Ref sig .tc := ⟨.hbm, 2218, rfl⟩
abbrev main_v1750 : Ref sig .tc := ⟨.hbm, 2219, rfl⟩
abbrev main_v1751 : Ref sig .tc := ⟨.hbm, 2220, rfl⟩
abbrev main_v1752 : Ref sig .tc := ⟨.hbm, 2221, rfl⟩
abbrev main_c_462 : Ref sig .tc := ⟨.hbm, 2222, rfl⟩
abbrev main_v1753 : Ref sig .tc := ⟨.hbm, 2223, rfl⟩
abbrev main_v1754 : Ref sig .tc := ⟨.hbm, 2224, rfl⟩
abbrev main_c_463 : Ref sig .tc := ⟨.hbm, 2225, rfl⟩
abbrev main_v1755 : Ref sig .tc := ⟨.hbm, 2226, rfl⟩
abbrev main_v1756 : Ref sig .tc := ⟨.hbm, 2227, rfl⟩
abbrev main_v1757 : Ref sig .tc := ⟨.hbm, 2228, rfl⟩
abbrev main_v1758 : Ref sig .tc := ⟨.hbm, 2229, rfl⟩
abbrev main_v1759 : Ref sig .tc := ⟨.hbm, 2230, rfl⟩
abbrev main_c_464 : Ref sig .tc := ⟨.hbm, 2231, rfl⟩
abbrev main_v1760 : Ref sig .tc := ⟨.hbm, 2232, rfl⟩
abbrev main_v1761 : Ref sig .tc := ⟨.hbm, 2233, rfl⟩
abbrev main_c_465 : Ref sig .tc := ⟨.hbm, 2234, rfl⟩
abbrev main_v1762 : Ref sig .tc := ⟨.hbm, 2235, rfl⟩
abbrev main_v1763 : Ref sig .tc := ⟨.hbm, 2236, rfl⟩
abbrev main_v1764 : Ref sig .tc := ⟨.hbm, 2237, rfl⟩
abbrev main_v1765 : Ref sig .tc := ⟨.hbm, 2238, rfl⟩
abbrev main_v1766 : Ref sig .tc := ⟨.hbm, 2239, rfl⟩
abbrev main_c_466 : Ref sig .tc := ⟨.hbm, 2240, rfl⟩
abbrev main_v1767 : Ref sig .tc := ⟨.hbm, 2241, rfl⟩
abbrev main_v1768 : Ref sig .tc := ⟨.hbm, 2242, rfl⟩
abbrev main_c_467 : Ref sig .tc := ⟨.hbm, 2243, rfl⟩
abbrev main_v1769 : Ref sig .tc := ⟨.hbm, 2244, rfl⟩
abbrev main_v1770 : Ref sig .tc := ⟨.hbm, 2245, rfl⟩
abbrev main_v1771 : Ref sig .tc := ⟨.hbm, 2246, rfl⟩
abbrev main_v1772 : Ref sig .tc := ⟨.hbm, 2247, rfl⟩
abbrev main_v1773 : Ref sig .tc := ⟨.hbm, 2248, rfl⟩
abbrev main_v1774 : Ref sig .tc := ⟨.hbm, 2249, rfl⟩
abbrev main_v1775 : Ref sig .tc := ⟨.hbm, 2250, rfl⟩
abbrev main_v1776 : Ref sig .tc := ⟨.hbm, 2251, rfl⟩
abbrev main_c_468 : Ref sig .tc := ⟨.hbm, 2252, rfl⟩
abbrev main_v1777 : Ref sig .tc := ⟨.hbm, 2253, rfl⟩
abbrev main_v1778 : Ref sig .tc := ⟨.hbm, 2254, rfl⟩
abbrev main_v1779 : Ref sig .tc := ⟨.hbm, 2255, rfl⟩
abbrev main_c_469 : Ref sig .tc := ⟨.hbm, 2256, rfl⟩
abbrev main_v1780 : Ref sig .tc := ⟨.hbm, 2257, rfl⟩
abbrev main_v1781 : Ref sig .tc := ⟨.hbm, 2258, rfl⟩
abbrev main_c_470 : Ref sig .tc := ⟨.hbm, 2259, rfl⟩
abbrev main_v1782 : Ref sig .tc := ⟨.hbm, 2260, rfl⟩
abbrev main_v1783 : Ref sig .tc := ⟨.hbm, 2261, rfl⟩
abbrev main_v1784 : Ref sig .tc := ⟨.hbm, 2262, rfl⟩
abbrev main_v1785 : Ref sig .tc := ⟨.hbm, 2263, rfl⟩
abbrev main_v1786 : Ref sig .tc := ⟨.hbm, 2264, rfl⟩
abbrev main_c_471 : Ref sig .tc := ⟨.hbm, 2265, rfl⟩
abbrev main_v1787 : Ref sig .tc := ⟨.hbm, 2266, rfl⟩
abbrev main_v1788 : Ref sig .tc := ⟨.hbm, 2267, rfl⟩
abbrev main_c_472 : Ref sig .tc := ⟨.hbm, 2268, rfl⟩
abbrev main_v1789 : Ref sig .tc := ⟨.hbm, 2269, rfl⟩
abbrev main_v1790 : Ref sig .tc := ⟨.hbm, 2270, rfl⟩
abbrev main_v1791 : Ref sig .tc := ⟨.hbm, 2271, rfl⟩
abbrev main_v1792 : Ref sig .tc := ⟨.hbm, 2272, rfl⟩
abbrev main_v1793 : Ref sig .tc := ⟨.hbm, 2273, rfl⟩
abbrev main_c_473 : Ref sig .tc := ⟨.hbm, 2274, rfl⟩
abbrev main_v1794 : Ref sig .tc := ⟨.hbm, 2275, rfl⟩
abbrev main_v1795 : Ref sig .tc := ⟨.hbm, 2276, rfl⟩
abbrev main_c_474 : Ref sig .tc := ⟨.hbm, 2277, rfl⟩
abbrev main_v1796 : Ref sig .tc := ⟨.hbm, 2278, rfl⟩
abbrev main_v1797 : Ref sig .tc := ⟨.hbm, 2279, rfl⟩
abbrev main_v1798 : Ref sig .tc := ⟨.hbm, 2280, rfl⟩
abbrev main_v1799 : Ref sig .tc := ⟨.hbm, 2281, rfl⟩
abbrev main_v1800 : Ref sig .tc := ⟨.hbm, 2282, rfl⟩
abbrev main_c_475 : Ref sig .tc := ⟨.hbm, 2283, rfl⟩
abbrev main_v1801 : Ref sig .tc := ⟨.hbm, 2284, rfl⟩
abbrev main_v1802 : Ref sig .tc := ⟨.hbm, 2285, rfl⟩
abbrev main_c_476 : Ref sig .tc := ⟨.hbm, 2286, rfl⟩
abbrev main_v1803 : Ref sig .tc := ⟨.hbm, 2287, rfl⟩
abbrev main_v1804 : Ref sig .tc := ⟨.hbm, 2288, rfl⟩
abbrev main_v1805 : Ref sig .tc := ⟨.hbm, 2289, rfl⟩
abbrev main_v1806 : Ref sig .tc := ⟨.hbm, 2290, rfl⟩
abbrev main_v1807 : Ref sig .tc := ⟨.hbm, 2291, rfl⟩
abbrev main_v1808 : Ref sig .tc := ⟨.hbm, 2292, rfl⟩
abbrev main_v1809 : Ref sig .tc := ⟨.hbm, 2293, rfl⟩
abbrev main_v1810 : Ref sig .tc := ⟨.hbm, 2294, rfl⟩
abbrev main_c_477 : Ref sig .tc := ⟨.hbm, 2295, rfl⟩
abbrev main_v1811 : Ref sig .tc := ⟨.hbm, 2296, rfl⟩
abbrev main_v1812 : Ref sig .tc := ⟨.hbm, 2297, rfl⟩
abbrev main_v1813 : Ref sig .tc := ⟨.hbm, 2298, rfl⟩
abbrev main_c_478 : Ref sig .tc := ⟨.hbm, 2299, rfl⟩
abbrev main_v1814 : Ref sig .tc := ⟨.hbm, 2300, rfl⟩
abbrev main_v1815 : Ref sig .tc := ⟨.hbm, 2301, rfl⟩
abbrev main_c_479 : Ref sig .tc := ⟨.hbm, 2302, rfl⟩
abbrev main_v1816 : Ref sig .tc := ⟨.hbm, 2303, rfl⟩
abbrev main_v1817 : Ref sig .tc := ⟨.hbm, 2304, rfl⟩
abbrev main_v1818 : Ref sig .tc := ⟨.hbm, 2305, rfl⟩
abbrev main_v1819 : Ref sig .tc := ⟨.hbm, 2306, rfl⟩
abbrev main_v1820 : Ref sig .tc := ⟨.hbm, 2307, rfl⟩
abbrev main_c_480 : Ref sig .tc := ⟨.hbm, 2308, rfl⟩
abbrev main_v1821 : Ref sig .tc := ⟨.hbm, 2309, rfl⟩
abbrev main_v1822 : Ref sig .tc := ⟨.hbm, 2310, rfl⟩
abbrev main_c_481 : Ref sig .tc := ⟨.hbm, 2311, rfl⟩
abbrev main_v1823 : Ref sig .tc := ⟨.hbm, 2312, rfl⟩
abbrev main_v1824 : Ref sig .tc := ⟨.hbm, 2313, rfl⟩
abbrev main_v1825 : Ref sig .tc := ⟨.hbm, 2314, rfl⟩
abbrev main_v1826 : Ref sig .tc := ⟨.hbm, 2315, rfl⟩
abbrev main_v1827 : Ref sig .tc := ⟨.hbm, 2316, rfl⟩
abbrev main_c_482 : Ref sig .tc := ⟨.hbm, 2317, rfl⟩
abbrev main_v1828 : Ref sig .tc := ⟨.hbm, 2318, rfl⟩
abbrev main_v1829 : Ref sig .tc := ⟨.hbm, 2319, rfl⟩
abbrev main_c_483 : Ref sig .tc := ⟨.hbm, 2320, rfl⟩
abbrev main_v1830 : Ref sig .tc := ⟨.hbm, 2321, rfl⟩
abbrev main_v1831 : Ref sig .tc := ⟨.hbm, 2322, rfl⟩
abbrev main_v1832 : Ref sig .tc := ⟨.hbm, 2323, rfl⟩
abbrev main_v1833 : Ref sig .tc := ⟨.hbm, 2324, rfl⟩
abbrev main_v1834 : Ref sig .tc := ⟨.hbm, 2325, rfl⟩
abbrev main_c_484 : Ref sig .tc := ⟨.hbm, 2326, rfl⟩
abbrev main_v1835 : Ref sig .tc := ⟨.hbm, 2327, rfl⟩
abbrev main_v1836 : Ref sig .tc := ⟨.hbm, 2328, rfl⟩
abbrev main_c_485 : Ref sig .tc := ⟨.hbm, 2329, rfl⟩
abbrev main_v1837 : Ref sig .tc := ⟨.hbm, 2330, rfl⟩
abbrev main_v1838 : Ref sig .tc := ⟨.hbm, 2331, rfl⟩
abbrev main_v1839 : Ref sig .tc := ⟨.hbm, 2332, rfl⟩
abbrev main_v1840 : Ref sig .tc := ⟨.hbm, 2333, rfl⟩
abbrev main_v1841 : Ref sig .tc := ⟨.hbm, 2334, rfl⟩
abbrev main_v1842 : Ref sig .tc := ⟨.hbm, 2335, rfl⟩
abbrev main_v1843 : Ref sig .tc := ⟨.hbm, 2336, rfl⟩
abbrev main_v1844 : Ref sig .tc := ⟨.hbm, 2337, rfl⟩
abbrev main_c_486 : Ref sig .tc := ⟨.hbm, 2338, rfl⟩
abbrev main_v1845 : Ref sig .tc := ⟨.hbm, 2339, rfl⟩
abbrev main_v1846 : Ref sig .tc := ⟨.hbm, 2340, rfl⟩
abbrev main_v1847 : Ref sig .tc := ⟨.hbm, 2341, rfl⟩
abbrev main_c_487 : Ref sig .tc := ⟨.hbm, 2342, rfl⟩
abbrev main_v1848 : Ref sig .tc := ⟨.hbm, 2343, rfl⟩
abbrev main_v1849 : Ref sig .tc := ⟨.hbm, 2344, rfl⟩
abbrev main_c_488 : Ref sig .tc := ⟨.hbm, 2345, rfl⟩
abbrev main_v1850 : Ref sig .tc := ⟨.hbm, 2346, rfl⟩
abbrev main_v1851 : Ref sig .tc := ⟨.hbm, 2347, rfl⟩
abbrev main_v1852 : Ref sig .tc := ⟨.hbm, 2348, rfl⟩
abbrev main_v1853 : Ref sig .tc := ⟨.hbm, 2349, rfl⟩
abbrev main_v1854 : Ref sig .tc := ⟨.hbm, 2350, rfl⟩
abbrev main_c_489 : Ref sig .tc := ⟨.hbm, 2351, rfl⟩
abbrev main_v1855 : Ref sig .tc := ⟨.hbm, 2352, rfl⟩
abbrev main_v1856 : Ref sig .tc := ⟨.hbm, 2353, rfl⟩
abbrev main_c_490 : Ref sig .tc := ⟨.hbm, 2354, rfl⟩
abbrev main_v1857 : Ref sig .tc := ⟨.hbm, 2355, rfl⟩
abbrev main_v1858 : Ref sig .tc := ⟨.hbm, 2356, rfl⟩
abbrev main_v1859 : Ref sig .tc := ⟨.hbm, 2357, rfl⟩
abbrev main_v1860 : Ref sig .tc := ⟨.hbm, 2358, rfl⟩
abbrev main_v1861 : Ref sig .tc := ⟨.hbm, 2359, rfl⟩
abbrev main_c_491 : Ref sig .tc := ⟨.hbm, 2360, rfl⟩
abbrev main_v1862 : Ref sig .tc := ⟨.hbm, 2361, rfl⟩
abbrev main_v1863 : Ref sig .tc := ⟨.hbm, 2362, rfl⟩
abbrev main_c_492 : Ref sig .tc := ⟨.hbm, 2363, rfl⟩
abbrev main_v1864 : Ref sig .tc := ⟨.hbm, 2364, rfl⟩
abbrev main_v1865 : Ref sig .tc := ⟨.hbm, 2365, rfl⟩
abbrev main_v1866 : Ref sig .tc := ⟨.hbm, 2366, rfl⟩
abbrev main_v1867 : Ref sig .tc := ⟨.hbm, 2367, rfl⟩
abbrev main_v1868 : Ref sig .tc := ⟨.hbm, 2368, rfl⟩
abbrev main_c_493 : Ref sig .tc := ⟨.hbm, 2369, rfl⟩
abbrev main_v1869 : Ref sig .tc := ⟨.hbm, 2370, rfl⟩
abbrev main_v1870 : Ref sig .tc := ⟨.hbm, 2371, rfl⟩
abbrev main_c_494 : Ref sig .tc := ⟨.hbm, 2372, rfl⟩
abbrev main_v1871 : Ref sig .tc := ⟨.hbm, 2373, rfl⟩
abbrev main_v1872 : Ref sig .tc := ⟨.hbm, 2374, rfl⟩
abbrev main_v1873 : Ref sig .tc := ⟨.hbm, 2375, rfl⟩
abbrev main_v1874 : Ref sig .tc := ⟨.hbm, 2376, rfl⟩
abbrev main_v1875 : Ref sig .tc := ⟨.hbm, 2377, rfl⟩
abbrev main_v1876 : Ref sig .tc := ⟨.hbm, 2378, rfl⟩
abbrev main_v1877 : Ref sig .tc := ⟨.hbm, 2379, rfl⟩
abbrev main_v1878 : Ref sig .tc := ⟨.hbm, 2380, rfl⟩
abbrev main_c_495 : Ref sig .tc := ⟨.hbm, 2381, rfl⟩
abbrev main_v1879 : Ref sig .tc := ⟨.hbm, 2382, rfl⟩
abbrev main_v1880 : Ref sig .tc := ⟨.hbm, 2383, rfl⟩
abbrev main_v1881 : Ref sig .tc := ⟨.hbm, 2384, rfl⟩
abbrev main_c_496 : Ref sig .tc := ⟨.hbm, 2385, rfl⟩
abbrev main_v1882 : Ref sig .tc := ⟨.hbm, 2386, rfl⟩
abbrev main_v1883 : Ref sig .tc := ⟨.hbm, 2387, rfl⟩
abbrev main_c_497 : Ref sig .tc := ⟨.hbm, 2388, rfl⟩
abbrev main_v1884 : Ref sig .tc := ⟨.hbm, 2389, rfl⟩
abbrev main_v1885 : Ref sig .tc := ⟨.hbm, 2390, rfl⟩
abbrev main_v1886 : Ref sig .tc := ⟨.hbm, 2391, rfl⟩
abbrev main_v1887 : Ref sig .tc := ⟨.hbm, 2392, rfl⟩
abbrev main_v1888 : Ref sig .tc := ⟨.hbm, 2393, rfl⟩
abbrev main_c_498 : Ref sig .tc := ⟨.hbm, 2394, rfl⟩
abbrev main_v1889 : Ref sig .tc := ⟨.hbm, 2395, rfl⟩
abbrev main_v1890 : Ref sig .tc := ⟨.hbm, 2396, rfl⟩
abbrev main_c_499 : Ref sig .tc := ⟨.hbm, 2397, rfl⟩
abbrev main_v1891 : Ref sig .tc := ⟨.hbm, 2398, rfl⟩
abbrev main_v1892 : Ref sig .tc := ⟨.hbm, 2399, rfl⟩
abbrev main_v1893 : Ref sig .tc := ⟨.hbm, 2400, rfl⟩
abbrev main_v1894 : Ref sig .tc := ⟨.hbm, 2401, rfl⟩
abbrev main_v1895 : Ref sig .tc := ⟨.hbm, 2402, rfl⟩
abbrev main_c_500 : Ref sig .tc := ⟨.hbm, 2403, rfl⟩
abbrev main_v1896 : Ref sig .tc := ⟨.hbm, 2404, rfl⟩
abbrev main_v1897 : Ref sig .tc := ⟨.hbm, 2405, rfl⟩
abbrev main_c_501 : Ref sig .tc := ⟨.hbm, 2406, rfl⟩
abbrev main_v1898 : Ref sig .tc := ⟨.hbm, 2407, rfl⟩
abbrev main_v1899 : Ref sig .tc := ⟨.hbm, 2408, rfl⟩
abbrev main_v1900 : Ref sig .tc := ⟨.hbm, 2409, rfl⟩
abbrev main_v1901 : Ref sig .tc := ⟨.hbm, 2410, rfl⟩
abbrev main_v1902 : Ref sig .tc := ⟨.hbm, 2411, rfl⟩
abbrev main_c_502 : Ref sig .tc := ⟨.hbm, 2412, rfl⟩
abbrev main_v1903 : Ref sig .tc := ⟨.hbm, 2413, rfl⟩
abbrev main_v1904 : Ref sig .tc := ⟨.hbm, 2414, rfl⟩
abbrev main_c_503 : Ref sig .tc := ⟨.hbm, 2415, rfl⟩
abbrev main_v1905 : Ref sig .tc := ⟨.hbm, 2416, rfl⟩
abbrev main_v1906 : Ref sig .tc := ⟨.hbm, 2417, rfl⟩
abbrev main_v1907 : Ref sig .tc := ⟨.hbm, 2418, rfl⟩
abbrev main_v1908 : Ref sig .tc := ⟨.hbm, 2419, rfl⟩
abbrev main_v1909 : Ref sig .tc := ⟨.hbm, 2420, rfl⟩
abbrev main_v1910 : Ref sig .tc := ⟨.hbm, 2421, rfl⟩
abbrev main_v1911 : Ref sig .tc := ⟨.hbm, 2422, rfl⟩
abbrev main_v1912 : Ref sig .tc := ⟨.hbm, 2423, rfl⟩
abbrev main_c_504 : Ref sig .tc := ⟨.hbm, 2424, rfl⟩
abbrev main_v1913 : Ref sig .tc := ⟨.hbm, 2425, rfl⟩
abbrev main_v1914 : Ref sig .tc := ⟨.hbm, 2426, rfl⟩
abbrev main_v1915 : Ref sig .tc := ⟨.hbm, 2427, rfl⟩
abbrev main_v1916 : Ref sig .tc := ⟨.hbm, 2428, rfl⟩
abbrev main_v1917 : Ref sig .tc := ⟨.hbm, 2429, rfl⟩
abbrev main_v1918 : Ref sig .tc := ⟨.hbm, 2430, rfl⟩
abbrev main_v1919 : Ref sig .tc := ⟨.hbm, 2431, rfl⟩
abbrev main_v1920 : Ref sig .tc := ⟨.hbm, 2432, rfl⟩
abbrev main_v1921 : Ref sig .tc := ⟨.hbm, 2433, rfl⟩
abbrev main_c_505 : Ref sig .tc := ⟨.hbm, 2434, rfl⟩
abbrev main_c_506 : Ref sig .tc := ⟨.hbm, 2435, rfl⟩
abbrev main_v1922 : Ref sig .tc := ⟨.hbm, 2436, rfl⟩
abbrev main_v1923 : Ref sig .tc := ⟨.hbm, 2437, rfl⟩
abbrev main_v1924 : Ref sig .tc := ⟨.hbm, 2438, rfl⟩
abbrev main_v1925 : Ref sig .tc := ⟨.hbm, 2439, rfl⟩
abbrev main_c_507 : Ref sig .tc := ⟨.hbm, 2440, rfl⟩
abbrev main_v1926 : Ref sig .tc := ⟨.hbm, 2441, rfl⟩
abbrev main_v1927 : Ref sig .tc := ⟨.hbm, 2442, rfl⟩
abbrev main_v1928 : Ref sig .tc := ⟨.hbm, 2443, rfl⟩
abbrev main_v1929 : Ref sig .tc := ⟨.hbm, 2444, rfl⟩
abbrev main_c_508 : Ref sig .tc := ⟨.hbm, 2445, rfl⟩
abbrev main_v1930 : Ref sig .tc := ⟨.hbm, 2446, rfl⟩
abbrev main_v1931 : Ref sig .tc := ⟨.hbm, 2447, rfl⟩
abbrev main_v1932 : Ref sig .tc := ⟨.hbm, 2448, rfl⟩
abbrev main_v1933 : Ref sig .tc := ⟨.hbm, 2449, rfl⟩
abbrev main_v1934 : Ref sig .tc := ⟨.hbm, 2450, rfl⟩
abbrev main_v1935 : Ref sig .tc := ⟨.hbm, 2451, rfl⟩
abbrev main_c_509 : Ref sig .tc := ⟨.hbm, 2452, rfl⟩
abbrev main_v1936 : Ref sig .tc := ⟨.hbm, 2453, rfl⟩
abbrev main_v1937 : Ref sig .tc := ⟨.hbm, 2454, rfl⟩
abbrev main_v1938 : Ref sig .tc := ⟨.hbm, 2455, rfl⟩
abbrev main_v1939 : Ref sig .tc := ⟨.hbm, 2456, rfl⟩
abbrev main_v1940 : Ref sig .tc := ⟨.hbm, 2457, rfl⟩
abbrev main_v1941 : Ref sig .tc := ⟨.hbm, 2458, rfl⟩
abbrev main_c_510 : Ref sig .tc := ⟨.hbm, 2459, rfl⟩
abbrev main_v1942 : Ref sig .tc := ⟨.hbm, 2460, rfl⟩
abbrev main_v1943 : Ref sig .tc := ⟨.hbm, 2461, rfl⟩
abbrev main_c_511 : Ref sig .tc := ⟨.hbm, 2462, rfl⟩
abbrev main_v1944 : Ref sig .tc := ⟨.hbm, 2463, rfl⟩
abbrev main_v1945 : Ref sig .tc := ⟨.hbm, 2464, rfl⟩
abbrev main_v1946 : Ref sig .tc := ⟨.hbm, 2465, rfl⟩
abbrev main_v1947 : Ref sig .tc := ⟨.hbm, 2466, rfl⟩
abbrev main_v1948 : Ref sig .tc := ⟨.hbm, 2467, rfl⟩
abbrev main_c_512 : Ref sig .tc := ⟨.hbm, 2468, rfl⟩
abbrev main_v1949 : Ref sig .tc := ⟨.hbm, 2469, rfl⟩
abbrev main_v1950 : Ref sig .tc := ⟨.hbm, 2470, rfl⟩
abbrev main_c_513 : Ref sig .tc := ⟨.hbm, 2471, rfl⟩
abbrev main_v1951 : Ref sig .tc := ⟨.hbm, 2472, rfl⟩
abbrev main_v1952 : Ref sig .tc := ⟨.hbm, 2473, rfl⟩
abbrev main_v1953 : Ref sig .tc := ⟨.hbm, 2474, rfl⟩
abbrev main_v1954 : Ref sig .tc := ⟨.hbm, 2475, rfl⟩
abbrev main_v1955 : Ref sig .tc := ⟨.hbm, 2476, rfl⟩
abbrev main_c_514 : Ref sig .tc := ⟨.hbm, 2477, rfl⟩
abbrev main_v1956 : Ref sig .tc := ⟨.hbm, 2478, rfl⟩
abbrev main_v1957 : Ref sig .tc := ⟨.hbm, 2479, rfl⟩
abbrev main_c_515 : Ref sig .tc := ⟨.hbm, 2480, rfl⟩
abbrev main_v1958 : Ref sig .tc := ⟨.hbm, 2481, rfl⟩
abbrev main_v1959 : Ref sig .tc := ⟨.hbm, 2482, rfl⟩
abbrev main_v1960 : Ref sig .tc := ⟨.hbm, 2483, rfl⟩
abbrev main_v1961 : Ref sig .tc := ⟨.hbm, 2484, rfl⟩
abbrev main_v1962 : Ref sig .tc := ⟨.hbm, 2485, rfl⟩
abbrev main_c_516 : Ref sig .tc := ⟨.hbm, 2486, rfl⟩
abbrev main_v1963 : Ref sig .tc := ⟨.hbm, 2487, rfl⟩
abbrev main_v1964 : Ref sig .tc := ⟨.hbm, 2488, rfl⟩
abbrev main_c_517 : Ref sig .tc := ⟨.hbm, 2489, rfl⟩
abbrev main_v1965 : Ref sig .tc := ⟨.hbm, 2490, rfl⟩
abbrev main_v1966 : Ref sig .tc := ⟨.hbm, 2491, rfl⟩
abbrev main_v1967 : Ref sig .tc := ⟨.hbm, 2492, rfl⟩
abbrev main_v1968 : Ref sig .tc := ⟨.hbm, 2493, rfl⟩
abbrev main_v1969 : Ref sig .tc := ⟨.hbm, 2494, rfl⟩
abbrev main_v1970 : Ref sig .tc := ⟨.hbm, 2495, rfl⟩
abbrev main_v1971 : Ref sig .tc := ⟨.hbm, 2496, rfl⟩
abbrev main_v1972 : Ref sig .tc := ⟨.hbm, 2497, rfl⟩
abbrev main_c_518 : Ref sig .tc := ⟨.hbm, 2498, rfl⟩
abbrev main_v1973 : Ref sig .tc := ⟨.hbm, 2499, rfl⟩
abbrev main_v1974 : Ref sig .tc := ⟨.hbm, 2500, rfl⟩
abbrev main_v1975 : Ref sig .tc := ⟨.hbm, 2501, rfl⟩
abbrev main_c_519 : Ref sig .tc := ⟨.hbm, 2502, rfl⟩
abbrev main_v1976 : Ref sig .tc := ⟨.hbm, 2503, rfl⟩
abbrev main_v1977 : Ref sig .tc := ⟨.hbm, 2504, rfl⟩
abbrev main_c_520 : Ref sig .tc := ⟨.hbm, 2505, rfl⟩
abbrev main_v1978 : Ref sig .tc := ⟨.hbm, 2506, rfl⟩
abbrev main_v1979 : Ref sig .tc := ⟨.hbm, 2507, rfl⟩
abbrev main_v1980 : Ref sig .tc := ⟨.hbm, 2508, rfl⟩
abbrev main_v1981 : Ref sig .tc := ⟨.hbm, 2509, rfl⟩
abbrev main_v1982 : Ref sig .tc := ⟨.hbm, 2510, rfl⟩
abbrev main_c_521 : Ref sig .tc := ⟨.hbm, 2511, rfl⟩
abbrev main_v1983 : Ref sig .tc := ⟨.hbm, 2512, rfl⟩
abbrev main_v1984 : Ref sig .tc := ⟨.hbm, 2513, rfl⟩
abbrev main_c_522 : Ref sig .tc := ⟨.hbm, 2514, rfl⟩
abbrev main_v1985 : Ref sig .tc := ⟨.hbm, 2515, rfl⟩
abbrev main_v1986 : Ref sig .tc := ⟨.hbm, 2516, rfl⟩
abbrev main_v1987 : Ref sig .tc := ⟨.hbm, 2517, rfl⟩
abbrev main_v1988 : Ref sig .tc := ⟨.hbm, 2518, rfl⟩
abbrev main_v1989 : Ref sig .tc := ⟨.hbm, 2519, rfl⟩
abbrev main_c_523 : Ref sig .tc := ⟨.hbm, 2520, rfl⟩
abbrev main_v1990 : Ref sig .tc := ⟨.hbm, 2521, rfl⟩
abbrev main_v1991 : Ref sig .tc := ⟨.hbm, 2522, rfl⟩
abbrev main_c_524 : Ref sig .tc := ⟨.hbm, 2523, rfl⟩
abbrev main_v1992 : Ref sig .tc := ⟨.hbm, 2524, rfl⟩
abbrev main_v1993 : Ref sig .tc := ⟨.hbm, 2525, rfl⟩
abbrev main_v1994 : Ref sig .tc := ⟨.hbm, 2526, rfl⟩
abbrev main_v1995 : Ref sig .tc := ⟨.hbm, 2527, rfl⟩
abbrev main_v1996 : Ref sig .tc := ⟨.hbm, 2528, rfl⟩
abbrev main_c_525 : Ref sig .tc := ⟨.hbm, 2529, rfl⟩
abbrev main_v1997 : Ref sig .tc := ⟨.hbm, 2530, rfl⟩
abbrev main_v1998 : Ref sig .tc := ⟨.hbm, 2531, rfl⟩
abbrev main_c_526 : Ref sig .tc := ⟨.hbm, 2532, rfl⟩
abbrev main_v1999 : Ref sig .tc := ⟨.hbm, 2533, rfl⟩
abbrev main_v2000 : Ref sig .tc := ⟨.hbm, 2534, rfl⟩
abbrev main_v2001 : Ref sig .tc := ⟨.hbm, 2535, rfl⟩
abbrev main_v2002 : Ref sig .tc := ⟨.hbm, 2536, rfl⟩
abbrev main_v2003 : Ref sig .tc := ⟨.hbm, 2537, rfl⟩
abbrev main_v2004 : Ref sig .tc := ⟨.hbm, 2538, rfl⟩
abbrev main_v2005 : Ref sig .tc := ⟨.hbm, 2539, rfl⟩
abbrev main_v2006 : Ref sig .tc := ⟨.hbm, 2540, rfl⟩
abbrev main_c_527 : Ref sig .tc := ⟨.hbm, 2541, rfl⟩
abbrev main_v2007 : Ref sig .tc := ⟨.hbm, 2542, rfl⟩
abbrev main_v2008 : Ref sig .tc := ⟨.hbm, 2543, rfl⟩
abbrev main_v2009 : Ref sig .tc := ⟨.hbm, 2544, rfl⟩
abbrev main_c_528 : Ref sig .tc := ⟨.hbm, 2545, rfl⟩
abbrev main_v2010 : Ref sig .tc := ⟨.hbm, 2546, rfl⟩
abbrev main_v2011 : Ref sig .tc := ⟨.hbm, 2547, rfl⟩
abbrev main_c_529 : Ref sig .tc := ⟨.hbm, 2548, rfl⟩
abbrev main_v2012 : Ref sig .tc := ⟨.hbm, 2549, rfl⟩
abbrev main_v2013 : Ref sig .tc := ⟨.hbm, 2550, rfl⟩
abbrev main_v2014 : Ref sig .tc := ⟨.hbm, 2551, rfl⟩
abbrev main_v2015 : Ref sig .tc := ⟨.hbm, 2552, rfl⟩
abbrev main_v2016 : Ref sig .tc := ⟨.hbm, 2553, rfl⟩
abbrev main_c_530 : Ref sig .tc := ⟨.hbm, 2554, rfl⟩
abbrev main_v2017 : Ref sig .tc := ⟨.hbm, 2555, rfl⟩
abbrev main_v2018 : Ref sig .tc := ⟨.hbm, 2556, rfl⟩
abbrev main_c_531 : Ref sig .tc := ⟨.hbm, 2557, rfl⟩
abbrev main_v2019 : Ref sig .tc := ⟨.hbm, 2558, rfl⟩
abbrev main_v2020 : Ref sig .tc := ⟨.hbm, 2559, rfl⟩
abbrev main_v2021 : Ref sig .tc := ⟨.hbm, 2560, rfl⟩
abbrev main_v2022 : Ref sig .tc := ⟨.hbm, 2561, rfl⟩
abbrev main_v2023 : Ref sig .tc := ⟨.hbm, 2562, rfl⟩
abbrev main_c_532 : Ref sig .tc := ⟨.hbm, 2563, rfl⟩
abbrev main_v2024 : Ref sig .tc := ⟨.hbm, 2564, rfl⟩
abbrev main_v2025 : Ref sig .tc := ⟨.hbm, 2565, rfl⟩
abbrev main_c_533 : Ref sig .tc := ⟨.hbm, 2566, rfl⟩
abbrev main_v2026 : Ref sig .tc := ⟨.hbm, 2567, rfl⟩
abbrev main_v2027 : Ref sig .tc := ⟨.hbm, 2568, rfl⟩
abbrev main_v2028 : Ref sig .tc := ⟨.hbm, 2569, rfl⟩
abbrev main_v2029 : Ref sig .tc := ⟨.hbm, 2570, rfl⟩
abbrev main_v2030 : Ref sig .tc := ⟨.hbm, 2571, rfl⟩
abbrev main_c_534 : Ref sig .tc := ⟨.hbm, 2572, rfl⟩
abbrev main_v2031 : Ref sig .tc := ⟨.hbm, 2573, rfl⟩
abbrev main_v2032 : Ref sig .tc := ⟨.hbm, 2574, rfl⟩
abbrev main_c_535 : Ref sig .tc := ⟨.hbm, 2575, rfl⟩
abbrev main_v2033 : Ref sig .tc := ⟨.hbm, 2576, rfl⟩
abbrev main_v2034 : Ref sig .tc := ⟨.hbm, 2577, rfl⟩
abbrev main_v2035 : Ref sig .tc := ⟨.hbm, 2578, rfl⟩
abbrev main_v2036 : Ref sig .tc := ⟨.hbm, 2579, rfl⟩
abbrev main_v2037 : Ref sig .tc := ⟨.hbm, 2580, rfl⟩
abbrev main_v2038 : Ref sig .tc := ⟨.hbm, 2581, rfl⟩
abbrev main_v2039 : Ref sig .tc := ⟨.hbm, 2582, rfl⟩
abbrev main_v2040 : Ref sig .tc := ⟨.hbm, 2583, rfl⟩
abbrev main_c_536 : Ref sig .tc := ⟨.hbm, 2584, rfl⟩
abbrev main_v2041 : Ref sig .tc := ⟨.hbm, 2585, rfl⟩
abbrev main_v2042 : Ref sig .tc := ⟨.hbm, 2586, rfl⟩
abbrev main_v2043 : Ref sig .tc := ⟨.hbm, 2587, rfl⟩
abbrev main_c_537 : Ref sig .tc := ⟨.hbm, 2588, rfl⟩
abbrev main_v2044 : Ref sig .tc := ⟨.hbm, 2589, rfl⟩
abbrev main_v2045 : Ref sig .tc := ⟨.hbm, 2590, rfl⟩
abbrev main_c_538 : Ref sig .tc := ⟨.hbm, 2591, rfl⟩
abbrev main_v2046 : Ref sig .tc := ⟨.hbm, 2592, rfl⟩
abbrev main_v2047 : Ref sig .tc := ⟨.hbm, 2593, rfl⟩
abbrev main_v2048 : Ref sig .tc := ⟨.hbm, 2594, rfl⟩
abbrev main_v2049 : Ref sig .tc := ⟨.hbm, 2595, rfl⟩
abbrev main_v2050 : Ref sig .tc := ⟨.hbm, 2596, rfl⟩
abbrev main_c_539 : Ref sig .tc := ⟨.hbm, 2597, rfl⟩
abbrev main_v2051 : Ref sig .tc := ⟨.hbm, 2598, rfl⟩
abbrev main_v2052 : Ref sig .tc := ⟨.hbm, 2599, rfl⟩
abbrev main_c_540 : Ref sig .tc := ⟨.hbm, 2600, rfl⟩
abbrev main_v2053 : Ref sig .tc := ⟨.hbm, 2601, rfl⟩
abbrev main_v2054 : Ref sig .tc := ⟨.hbm, 2602, rfl⟩
abbrev main_v2055 : Ref sig .tc := ⟨.hbm, 2603, rfl⟩
abbrev main_v2056 : Ref sig .tc := ⟨.hbm, 2604, rfl⟩
abbrev main_v2057 : Ref sig .tc := ⟨.hbm, 2605, rfl⟩
abbrev main_c_541 : Ref sig .tc := ⟨.hbm, 2606, rfl⟩
abbrev main_v2058 : Ref sig .tc := ⟨.hbm, 2607, rfl⟩
abbrev main_v2059 : Ref sig .tc := ⟨.hbm, 2608, rfl⟩
abbrev main_c_542 : Ref sig .tc := ⟨.hbm, 2609, rfl⟩
abbrev main_v2060 : Ref sig .tc := ⟨.hbm, 2610, rfl⟩
abbrev main_v2061 : Ref sig .tc := ⟨.hbm, 2611, rfl⟩
abbrev main_v2062 : Ref sig .tc := ⟨.hbm, 2612, rfl⟩
abbrev main_v2063 : Ref sig .tc := ⟨.hbm, 2613, rfl⟩
abbrev main_v2064 : Ref sig .tc := ⟨.hbm, 2614, rfl⟩
abbrev main_c_543 : Ref sig .tc := ⟨.hbm, 2615, rfl⟩
abbrev main_v2065 : Ref sig .tc := ⟨.hbm, 2616, rfl⟩
abbrev main_v2066 : Ref sig .tc := ⟨.hbm, 2617, rfl⟩
abbrev main_c_544 : Ref sig .tc := ⟨.hbm, 2618, rfl⟩
abbrev main_v2067 : Ref sig .tc := ⟨.hbm, 2619, rfl⟩
abbrev main_v2068 : Ref sig .tc := ⟨.hbm, 2620, rfl⟩
abbrev main_v2069 : Ref sig .tc := ⟨.hbm, 2621, rfl⟩
abbrev main_v2070 : Ref sig .tc := ⟨.hbm, 2622, rfl⟩
abbrev main_v2071 : Ref sig .tc := ⟨.hbm, 2623, rfl⟩
abbrev main_v2072 : Ref sig .tc := ⟨.hbm, 2624, rfl⟩
abbrev main_v2073 : Ref sig .tc := ⟨.hbm, 2625, rfl⟩
abbrev main_v2074 : Ref sig .tc := ⟨.hbm, 2626, rfl⟩
abbrev main_c_545 : Ref sig .tc := ⟨.hbm, 2627, rfl⟩
abbrev main_v2075 : Ref sig .tc := ⟨.hbm, 2628, rfl⟩
abbrev main_v2076 : Ref sig .tc := ⟨.hbm, 2629, rfl⟩
abbrev main_v2077 : Ref sig .tc := ⟨.hbm, 2630, rfl⟩
abbrev main_c_546 : Ref sig .tc := ⟨.hbm, 2631, rfl⟩
abbrev main_v2078 : Ref sig .tc := ⟨.hbm, 2632, rfl⟩
abbrev main_v2079 : Ref sig .tc := ⟨.hbm, 2633, rfl⟩
abbrev main_c_547 : Ref sig .tc := ⟨.hbm, 2634, rfl⟩
abbrev main_v2080 : Ref sig .tc := ⟨.hbm, 2635, rfl⟩
abbrev main_v2081 : Ref sig .tc := ⟨.hbm, 2636, rfl⟩
abbrev main_v2082 : Ref sig .tc := ⟨.hbm, 2637, rfl⟩
abbrev main_v2083 : Ref sig .tc := ⟨.hbm, 2638, rfl⟩
abbrev main_v2084 : Ref sig .tc := ⟨.hbm, 2639, rfl⟩
abbrev main_c_548 : Ref sig .tc := ⟨.hbm, 2640, rfl⟩
abbrev main_v2085 : Ref sig .tc := ⟨.hbm, 2641, rfl⟩
abbrev main_v2086 : Ref sig .tc := ⟨.hbm, 2642, rfl⟩
abbrev main_c_549 : Ref sig .tc := ⟨.hbm, 2643, rfl⟩
abbrev main_v2087 : Ref sig .tc := ⟨.hbm, 2644, rfl⟩
abbrev main_v2088 : Ref sig .tc := ⟨.hbm, 2645, rfl⟩
abbrev main_v2089 : Ref sig .tc := ⟨.hbm, 2646, rfl⟩
abbrev main_v2090 : Ref sig .tc := ⟨.hbm, 2647, rfl⟩
abbrev main_v2091 : Ref sig .tc := ⟨.hbm, 2648, rfl⟩
abbrev main_c_550 : Ref sig .tc := ⟨.hbm, 2649, rfl⟩
abbrev main_v2092 : Ref sig .tc := ⟨.hbm, 2650, rfl⟩
abbrev main_v2093 : Ref sig .tc := ⟨.hbm, 2651, rfl⟩
abbrev main_c_551 : Ref sig .tc := ⟨.hbm, 2652, rfl⟩
abbrev main_v2094 : Ref sig .tc := ⟨.hbm, 2653, rfl⟩
abbrev main_v2095 : Ref sig .tc := ⟨.hbm, 2654, rfl⟩
abbrev main_v2096 : Ref sig .tc := ⟨.hbm, 2655, rfl⟩
abbrev main_v2097 : Ref sig .tc := ⟨.hbm, 2656, rfl⟩
abbrev main_v2098 : Ref sig .tc := ⟨.hbm, 2657, rfl⟩
abbrev main_c_552 : Ref sig .tc := ⟨.hbm, 2658, rfl⟩
abbrev main_v2099 : Ref sig .tc := ⟨.hbm, 2659, rfl⟩
abbrev main_v2100 : Ref sig .tc := ⟨.hbm, 2660, rfl⟩
abbrev main_c_553 : Ref sig .tc := ⟨.hbm, 2661, rfl⟩
abbrev main_v2101 : Ref sig .tc := ⟨.hbm, 2662, rfl⟩
abbrev main_v2102 : Ref sig .tc := ⟨.hbm, 2663, rfl⟩
abbrev main_v2103 : Ref sig .tc := ⟨.hbm, 2664, rfl⟩
abbrev main_v2104 : Ref sig .tc := ⟨.hbm, 2665, rfl⟩
abbrev main_v2105 : Ref sig .tc := ⟨.hbm, 2666, rfl⟩
abbrev main_v2106 : Ref sig .tc := ⟨.hbm, 2667, rfl⟩
abbrev main_v2107 : Ref sig .tc := ⟨.hbm, 2668, rfl⟩
abbrev main_v2108 : Ref sig .tc := ⟨.hbm, 2669, rfl⟩
abbrev main_c_554 : Ref sig .tc := ⟨.hbm, 2670, rfl⟩
abbrev main_v2109 : Ref sig .tc := ⟨.hbm, 2671, rfl⟩
abbrev main_v2110 : Ref sig .tc := ⟨.hbm, 2672, rfl⟩
abbrev main_v2111 : Ref sig .tc := ⟨.hbm, 2673, rfl⟩
abbrev main_c_555 : Ref sig .tc := ⟨.hbm, 2674, rfl⟩
abbrev main_c_556 : Ref sig .tc := ⟨.hbm, 2675, rfl⟩
abbrev main_v2112 : Ref sig .tc := ⟨.hbm, 2676, rfl⟩
abbrev main_v2113 : Ref sig .tc := ⟨.hbm, 2677, rfl⟩
abbrev main_v2114 : Ref sig .tc := ⟨.hbm, 2678, rfl⟩
abbrev main_v2115 : Ref sig .tc := ⟨.hbm, 2679, rfl⟩
abbrev main_c_557 : Ref sig .tc := ⟨.hbm, 2680, rfl⟩
abbrev main_v2116 : Ref sig .tc := ⟨.hbm, 2681, rfl⟩
abbrev main_v2117 : Ref sig .tc := ⟨.hbm, 2682, rfl⟩
abbrev main_v2118 : Ref sig .tc := ⟨.hbm, 2683, rfl⟩
abbrev main_v2119 : Ref sig .tc := ⟨.hbm, 2684, rfl⟩
abbrev main_c_558 : Ref sig .tc := ⟨.hbm, 2685, rfl⟩
abbrev main_v2120 : Ref sig .tc := ⟨.hbm, 2686, rfl⟩
abbrev main_v2121 : Ref sig .tc := ⟨.hbm, 2687, rfl⟩
abbrev main_v2122 : Ref sig .tc := ⟨.hbm, 2688, rfl⟩
abbrev main_v2123 : Ref sig .tc := ⟨.hbm, 2689, rfl⟩
abbrev main_v2124 : Ref sig .tc := ⟨.hbm, 2690, rfl⟩
abbrev main_v2125 : Ref sig .tc := ⟨.hbm, 2691, rfl⟩
abbrev main_c_559 : Ref sig .tc := ⟨.hbm, 2692, rfl⟩
abbrev main_v2126 : Ref sig .tc := ⟨.hbm, 2693, rfl⟩
abbrev main_v2127 : Ref sig .tc := ⟨.hbm, 2694, rfl⟩
abbrev main_v2128 : Ref sig .tc := ⟨.hbm, 2695, rfl⟩
abbrev main_v2129 : Ref sig .tc := ⟨.hbm, 2696, rfl⟩
abbrev main_v2130 : Ref sig .tc := ⟨.hbm, 2697, rfl⟩
abbrev main_v2131 : Ref sig .tc := ⟨.hbm, 2698, rfl⟩
abbrev main_c_560 : Ref sig .tc := ⟨.hbm, 2699, rfl⟩
abbrev main_v2132 : Ref sig .tc := ⟨.hbm, 2700, rfl⟩
abbrev main_v2133 : Ref sig .tc := ⟨.hbm, 2701, rfl⟩
abbrev main_c_561 : Ref sig .tc := ⟨.hbm, 2702, rfl⟩
abbrev main_v2134 : Ref sig .tc := ⟨.hbm, 2703, rfl⟩
abbrev main_v2135 : Ref sig .tc := ⟨.hbm, 2704, rfl⟩
abbrev main_v2136 : Ref sig .tc := ⟨.hbm, 2705, rfl⟩
abbrev main_v2137 : Ref sig .tc := ⟨.hbm, 2706, rfl⟩
abbrev main_v2138 : Ref sig .tc := ⟨.hbm, 2707, rfl⟩
abbrev main_c_562 : Ref sig .tc := ⟨.hbm, 2708, rfl⟩
abbrev main_v2139 : Ref sig .tc := ⟨.hbm, 2709, rfl⟩
abbrev main_v2140 : Ref sig .tc := ⟨.hbm, 2710, rfl⟩
abbrev main_c_563 : Ref sig .tc := ⟨.hbm, 2711, rfl⟩
abbrev main_v2141 : Ref sig .tc := ⟨.hbm, 2712, rfl⟩
abbrev main_v2142 : Ref sig .tc := ⟨.hbm, 2713, rfl⟩
abbrev main_v2143 : Ref sig .tc := ⟨.hbm, 2714, rfl⟩
abbrev main_v2144 : Ref sig .tc := ⟨.hbm, 2715, rfl⟩
abbrev main_v2145 : Ref sig .tc := ⟨.hbm, 2716, rfl⟩
abbrev main_c_564 : Ref sig .tc := ⟨.hbm, 2717, rfl⟩
abbrev main_v2146 : Ref sig .tc := ⟨.hbm, 2718, rfl⟩
abbrev main_v2147 : Ref sig .tc := ⟨.hbm, 2719, rfl⟩
abbrev main_c_565 : Ref sig .tc := ⟨.hbm, 2720, rfl⟩
abbrev main_v2148 : Ref sig .tc := ⟨.hbm, 2721, rfl⟩
abbrev main_v2149 : Ref sig .tc := ⟨.hbm, 2722, rfl⟩
abbrev main_v2150 : Ref sig .tc := ⟨.hbm, 2723, rfl⟩
abbrev main_v2151 : Ref sig .tc := ⟨.hbm, 2724, rfl⟩
abbrev main_v2152 : Ref sig .tc := ⟨.hbm, 2725, rfl⟩
abbrev main_c_566 : Ref sig .tc := ⟨.hbm, 2726, rfl⟩
abbrev main_v2153 : Ref sig .tc := ⟨.hbm, 2727, rfl⟩
abbrev main_v2154 : Ref sig .tc := ⟨.hbm, 2728, rfl⟩
abbrev main_c_567 : Ref sig .tc := ⟨.hbm, 2729, rfl⟩
abbrev main_v2155 : Ref sig .tc := ⟨.hbm, 2730, rfl⟩
abbrev main_v2156 : Ref sig .tc := ⟨.hbm, 2731, rfl⟩
abbrev main_v2157 : Ref sig .tc := ⟨.hbm, 2732, rfl⟩
abbrev main_v2158 : Ref sig .tc := ⟨.hbm, 2733, rfl⟩
abbrev main_v2159 : Ref sig .tc := ⟨.hbm, 2734, rfl⟩
abbrev main_v2160 : Ref sig .tc := ⟨.hbm, 2735, rfl⟩
abbrev main_v2161 : Ref sig .tc := ⟨.hbm, 2736, rfl⟩
abbrev main_v2162 : Ref sig .tc := ⟨.hbm, 2737, rfl⟩
abbrev main_c_568 : Ref sig .tc := ⟨.hbm, 2738, rfl⟩
abbrev main_v2163 : Ref sig .tc := ⟨.hbm, 2739, rfl⟩
abbrev main_v2164 : Ref sig .tc := ⟨.hbm, 2740, rfl⟩
abbrev main_v2165 : Ref sig .tc := ⟨.hbm, 2741, rfl⟩
abbrev main_c_569 : Ref sig .tc := ⟨.hbm, 2742, rfl⟩
abbrev main_v2166 : Ref sig .tc := ⟨.hbm, 2743, rfl⟩
abbrev main_v2167 : Ref sig .tc := ⟨.hbm, 2744, rfl⟩
abbrev main_c_570 : Ref sig .tc := ⟨.hbm, 2745, rfl⟩
abbrev main_v2168 : Ref sig .tc := ⟨.hbm, 2746, rfl⟩
abbrev main_v2169 : Ref sig .tc := ⟨.hbm, 2747, rfl⟩
abbrev main_v2170 : Ref sig .tc := ⟨.hbm, 2748, rfl⟩
abbrev main_v2171 : Ref sig .tc := ⟨.hbm, 2749, rfl⟩
abbrev main_v2172 : Ref sig .tc := ⟨.hbm, 2750, rfl⟩
abbrev main_c_571 : Ref sig .tc := ⟨.hbm, 2751, rfl⟩
abbrev main_v2173 : Ref sig .tc := ⟨.hbm, 2752, rfl⟩
abbrev main_v2174 : Ref sig .tc := ⟨.hbm, 2753, rfl⟩
abbrev main_c_572 : Ref sig .tc := ⟨.hbm, 2754, rfl⟩
abbrev main_v2175 : Ref sig .tc := ⟨.hbm, 2755, rfl⟩
abbrev main_v2176 : Ref sig .tc := ⟨.hbm, 2756, rfl⟩
abbrev main_v2177 : Ref sig .tc := ⟨.hbm, 2757, rfl⟩
abbrev main_v2178 : Ref sig .tc := ⟨.hbm, 2758, rfl⟩
abbrev main_v2179 : Ref sig .tc := ⟨.hbm, 2759, rfl⟩
abbrev main_c_573 : Ref sig .tc := ⟨.hbm, 2760, rfl⟩
abbrev main_v2180 : Ref sig .tc := ⟨.hbm, 2761, rfl⟩
abbrev main_v2181 : Ref sig .tc := ⟨.hbm, 2762, rfl⟩
abbrev main_c_574 : Ref sig .tc := ⟨.hbm, 2763, rfl⟩
abbrev main_v2182 : Ref sig .tc := ⟨.hbm, 2764, rfl⟩
abbrev main_v2183 : Ref sig .tc := ⟨.hbm, 2765, rfl⟩
abbrev main_v2184 : Ref sig .tc := ⟨.hbm, 2766, rfl⟩
abbrev main_v2185 : Ref sig .tc := ⟨.hbm, 2767, rfl⟩
abbrev main_v2186 : Ref sig .tc := ⟨.hbm, 2768, rfl⟩
abbrev main_c_575 : Ref sig .tc := ⟨.hbm, 2769, rfl⟩
abbrev main_v2187 : Ref sig .tc := ⟨.hbm, 2770, rfl⟩
abbrev main_v2188 : Ref sig .tc := ⟨.hbm, 2771, rfl⟩
abbrev main_c_576 : Ref sig .tc := ⟨.hbm, 2772, rfl⟩
abbrev main_v2189 : Ref sig .tc := ⟨.hbm, 2773, rfl⟩
abbrev main_v2190 : Ref sig .tc := ⟨.hbm, 2774, rfl⟩
abbrev main_v2191 : Ref sig .tc := ⟨.hbm, 2775, rfl⟩
abbrev main_v2192 : Ref sig .tc := ⟨.hbm, 2776, rfl⟩
abbrev main_v2193 : Ref sig .tc := ⟨.hbm, 2777, rfl⟩
abbrev main_v2194 : Ref sig .tc := ⟨.hbm, 2778, rfl⟩
abbrev main_v2195 : Ref sig .tc := ⟨.hbm, 2779, rfl⟩
abbrev main_v2196 : Ref sig .tc := ⟨.hbm, 2780, rfl⟩
abbrev main_c_577 : Ref sig .tc := ⟨.hbm, 2781, rfl⟩
abbrev main_v2197 : Ref sig .tc := ⟨.hbm, 2782, rfl⟩
abbrev main_v2198 : Ref sig .tc := ⟨.hbm, 2783, rfl⟩
abbrev main_v2199 : Ref sig .tc := ⟨.hbm, 2784, rfl⟩
abbrev main_c_578 : Ref sig .tc := ⟨.hbm, 2785, rfl⟩
abbrev main_v2200 : Ref sig .tc := ⟨.hbm, 2786, rfl⟩
abbrev main_v2201 : Ref sig .tc := ⟨.hbm, 2787, rfl⟩
abbrev main_c_579 : Ref sig .tc := ⟨.hbm, 2788, rfl⟩
abbrev main_v2202 : Ref sig .tc := ⟨.hbm, 2789, rfl⟩
abbrev main_v2203 : Ref sig .tc := ⟨.hbm, 2790, rfl⟩
abbrev main_v2204 : Ref sig .tc := ⟨.hbm, 2791, rfl⟩
abbrev main_v2205 : Ref sig .tc := ⟨.hbm, 2792, rfl⟩
abbrev main_v2206 : Ref sig .tc := ⟨.hbm, 2793, rfl⟩
abbrev main_c_580 : Ref sig .tc := ⟨.hbm, 2794, rfl⟩
abbrev main_v2207 : Ref sig .tc := ⟨.hbm, 2795, rfl⟩
abbrev main_v2208 : Ref sig .tc := ⟨.hbm, 2796, rfl⟩
abbrev main_c_581 : Ref sig .tc := ⟨.hbm, 2797, rfl⟩
abbrev main_v2209 : Ref sig .tc := ⟨.hbm, 2798, rfl⟩
abbrev main_v2210 : Ref sig .tc := ⟨.hbm, 2799, rfl⟩
abbrev main_v2211 : Ref sig .tc := ⟨.hbm, 2800, rfl⟩
abbrev main_v2212 : Ref sig .tc := ⟨.hbm, 2801, rfl⟩
abbrev main_v2213 : Ref sig .tc := ⟨.hbm, 2802, rfl⟩
abbrev main_c_582 : Ref sig .tc := ⟨.hbm, 2803, rfl⟩
abbrev main_v2214 : Ref sig .tc := ⟨.hbm, 2804, rfl⟩
abbrev main_v2215 : Ref sig .tc := ⟨.hbm, 2805, rfl⟩
abbrev main_c_583 : Ref sig .tc := ⟨.hbm, 2806, rfl⟩
abbrev main_v2216 : Ref sig .tc := ⟨.hbm, 2807, rfl⟩
abbrev main_v2217 : Ref sig .tc := ⟨.hbm, 2808, rfl⟩
abbrev main_v2218 : Ref sig .tc := ⟨.hbm, 2809, rfl⟩
abbrev main_v2219 : Ref sig .tc := ⟨.hbm, 2810, rfl⟩
abbrev main_v2220 : Ref sig .tc := ⟨.hbm, 2811, rfl⟩
abbrev main_c_584 : Ref sig .tc := ⟨.hbm, 2812, rfl⟩
abbrev main_v2221 : Ref sig .tc := ⟨.hbm, 2813, rfl⟩
abbrev main_v2222 : Ref sig .tc := ⟨.hbm, 2814, rfl⟩
abbrev main_c_585 : Ref sig .tc := ⟨.hbm, 2815, rfl⟩
abbrev main_v2223 : Ref sig .tc := ⟨.hbm, 2816, rfl⟩
abbrev main_v2224 : Ref sig .tc := ⟨.hbm, 2817, rfl⟩
abbrev main_v2225 : Ref sig .tc := ⟨.hbm, 2818, rfl⟩
abbrev main_v2226 : Ref sig .tc := ⟨.hbm, 2819, rfl⟩
abbrev main_v2227 : Ref sig .tc := ⟨.hbm, 2820, rfl⟩
abbrev main_v2228 : Ref sig .tc := ⟨.hbm, 2821, rfl⟩
abbrev main_v2229 : Ref sig .tc := ⟨.hbm, 2822, rfl⟩
abbrev main_v2230 : Ref sig .tc := ⟨.hbm, 2823, rfl⟩
abbrev main_c_586 : Ref sig .tc := ⟨.hbm, 2824, rfl⟩
abbrev main_v2231 : Ref sig .tc := ⟨.hbm, 2825, rfl⟩
abbrev main_v2232 : Ref sig .tc := ⟨.hbm, 2826, rfl⟩
abbrev main_v2233 : Ref sig .tc := ⟨.hbm, 2827, rfl⟩
abbrev main_c_587 : Ref sig .tc := ⟨.hbm, 2828, rfl⟩
abbrev main_v2234 : Ref sig .tc := ⟨.hbm, 2829, rfl⟩
abbrev main_v2235 : Ref sig .tc := ⟨.hbm, 2830, rfl⟩
abbrev main_c_588 : Ref sig .tc := ⟨.hbm, 2831, rfl⟩
abbrev main_v2236 : Ref sig .tc := ⟨.hbm, 2832, rfl⟩
abbrev main_v2237 : Ref sig .tc := ⟨.hbm, 2833, rfl⟩
abbrev main_v2238 : Ref sig .tc := ⟨.hbm, 2834, rfl⟩
abbrev main_v2239 : Ref sig .tc := ⟨.hbm, 2835, rfl⟩
abbrev main_v2240 : Ref sig .tc := ⟨.hbm, 2836, rfl⟩
abbrev main_c_589 : Ref sig .tc := ⟨.hbm, 2837, rfl⟩
abbrev main_v2241 : Ref sig .tc := ⟨.hbm, 2838, rfl⟩
abbrev main_v2242 : Ref sig .tc := ⟨.hbm, 2839, rfl⟩
abbrev main_c_590 : Ref sig .tc := ⟨.hbm, 2840, rfl⟩
abbrev main_v2243 : Ref sig .tc := ⟨.hbm, 2841, rfl⟩
abbrev main_v2244 : Ref sig .tc := ⟨.hbm, 2842, rfl⟩
abbrev main_v2245 : Ref sig .tc := ⟨.hbm, 2843, rfl⟩
abbrev main_v2246 : Ref sig .tc := ⟨.hbm, 2844, rfl⟩
abbrev main_v2247 : Ref sig .tc := ⟨.hbm, 2845, rfl⟩
abbrev main_c_591 : Ref sig .tc := ⟨.hbm, 2846, rfl⟩
abbrev main_v2248 : Ref sig .tc := ⟨.hbm, 2847, rfl⟩
abbrev main_v2249 : Ref sig .tc := ⟨.hbm, 2848, rfl⟩
abbrev main_c_592 : Ref sig .tc := ⟨.hbm, 2849, rfl⟩
abbrev main_v2250 : Ref sig .tc := ⟨.hbm, 2850, rfl⟩
abbrev main_v2251 : Ref sig .tc := ⟨.hbm, 2851, rfl⟩
abbrev main_v2252 : Ref sig .tc := ⟨.hbm, 2852, rfl⟩
abbrev main_v2253 : Ref sig .tc := ⟨.hbm, 2853, rfl⟩
abbrev main_v2254 : Ref sig .tc := ⟨.hbm, 2854, rfl⟩
abbrev main_c_593 : Ref sig .tc := ⟨.hbm, 2855, rfl⟩
abbrev main_v2255 : Ref sig .tc := ⟨.hbm, 2856, rfl⟩
abbrev main_v2256 : Ref sig .tc := ⟨.hbm, 2857, rfl⟩
abbrev main_c_594 : Ref sig .tc := ⟨.hbm, 2858, rfl⟩
abbrev main_v2257 : Ref sig .tc := ⟨.hbm, 2859, rfl⟩
abbrev main_v2258 : Ref sig .tc := ⟨.hbm, 2860, rfl⟩
abbrev main_v2259 : Ref sig .tc := ⟨.hbm, 2861, rfl⟩
abbrev main_v2260 : Ref sig .tc := ⟨.hbm, 2862, rfl⟩
abbrev main_v2261 : Ref sig .tc := ⟨.hbm, 2863, rfl⟩
abbrev main_v2262 : Ref sig .tc := ⟨.hbm, 2864, rfl⟩
abbrev main_v2263 : Ref sig .tc := ⟨.hbm, 2865, rfl⟩
abbrev main_v2264 : Ref sig .tc := ⟨.hbm, 2866, rfl⟩
abbrev main_c_595 : Ref sig .tc := ⟨.hbm, 2867, rfl⟩
abbrev main_v2265 : Ref sig .tc := ⟨.hbm, 2868, rfl⟩
abbrev main_v2266 : Ref sig .tc := ⟨.hbm, 2869, rfl⟩
abbrev main_v2267 : Ref sig .tc := ⟨.hbm, 2870, rfl⟩
abbrev main_c_596 : Ref sig .tc := ⟨.hbm, 2871, rfl⟩
abbrev main_v2268 : Ref sig .tc := ⟨.hbm, 2872, rfl⟩
abbrev main_v2269 : Ref sig .tc := ⟨.hbm, 2873, rfl⟩
abbrev main_c_597 : Ref sig .tc := ⟨.hbm, 2874, rfl⟩
abbrev main_v2270 : Ref sig .tc := ⟨.hbm, 2875, rfl⟩
abbrev main_v2271 : Ref sig .tc := ⟨.hbm, 2876, rfl⟩
abbrev main_v2272 : Ref sig .tc := ⟨.hbm, 2877, rfl⟩
abbrev main_v2273 : Ref sig .tc := ⟨.hbm, 2878, rfl⟩
abbrev main_v2274 : Ref sig .tc := ⟨.hbm, 2879, rfl⟩
abbrev main_c_598 : Ref sig .tc := ⟨.hbm, 2880, rfl⟩
abbrev main_v2275 : Ref sig .tc := ⟨.hbm, 2881, rfl⟩
abbrev main_v2276 : Ref sig .tc := ⟨.hbm, 2882, rfl⟩
abbrev main_c_599 : Ref sig .tc := ⟨.hbm, 2883, rfl⟩
abbrev main_v2277 : Ref sig .tc := ⟨.hbm, 2884, rfl⟩
abbrev main_v2278 : Ref sig .tc := ⟨.hbm, 2885, rfl⟩
abbrev main_v2279 : Ref sig .tc := ⟨.hbm, 2886, rfl⟩
abbrev main_v2280 : Ref sig .tc := ⟨.hbm, 2887, rfl⟩
abbrev main_v2281 : Ref sig .tc := ⟨.hbm, 2888, rfl⟩
abbrev main_c_600 : Ref sig .tc := ⟨.hbm, 2889, rfl⟩
abbrev main_v2282 : Ref sig .tc := ⟨.hbm, 2890, rfl⟩
abbrev main_v2283 : Ref sig .tc := ⟨.hbm, 2891, rfl⟩
abbrev main_c_601 : Ref sig .tc := ⟨.hbm, 2892, rfl⟩
abbrev main_v2284 : Ref sig .tc := ⟨.hbm, 2893, rfl⟩
abbrev main_v2285 : Ref sig .tc := ⟨.hbm, 2894, rfl⟩
abbrev main_v2286 : Ref sig .tc := ⟨.hbm, 2895, rfl⟩
abbrev main_v2287 : Ref sig .tc := ⟨.hbm, 2896, rfl⟩
abbrev main_v2288 : Ref sig .tc := ⟨.hbm, 2897, rfl⟩
abbrev main_c_602 : Ref sig .tc := ⟨.hbm, 2898, rfl⟩
abbrev main_v2289 : Ref sig .tc := ⟨.hbm, 2899, rfl⟩
abbrev main_v2290 : Ref sig .tc := ⟨.hbm, 2900, rfl⟩
abbrev main_c_603 : Ref sig .tc := ⟨.hbm, 2901, rfl⟩
abbrev main_v2291 : Ref sig .tc := ⟨.hbm, 2902, rfl⟩
abbrev main_v2292 : Ref sig .tc := ⟨.hbm, 2903, rfl⟩
abbrev main_v2293 : Ref sig .tc := ⟨.hbm, 2904, rfl⟩
abbrev main_v2294 : Ref sig .tc := ⟨.hbm, 2905, rfl⟩
abbrev main_v2295 : Ref sig .tc := ⟨.hbm, 2906, rfl⟩
abbrev main_v2296 : Ref sig .tc := ⟨.hbm, 2907, rfl⟩
abbrev main_v2297 : Ref sig .tc := ⟨.hbm, 2908, rfl⟩
abbrev main_v2298 : Ref sig .tc := ⟨.hbm, 2909, rfl⟩
abbrev main_c_604 : Ref sig .tc := ⟨.hbm, 2910, rfl⟩
abbrev main_v2299 : Ref sig .tc := ⟨.hbm, 2911, rfl⟩
abbrev main_v2300 : Ref sig .tc := ⟨.hbm, 2912, rfl⟩
abbrev main_v2301 : Ref sig .tc := ⟨.hbm, 2913, rfl⟩
abbrev main_v2302 : Ref sig .tc := ⟨.hbm, 2914, rfl⟩
abbrev main_v2303 : Ref sig .tc := ⟨.hbm, 2915, rfl⟩
abbrev main_v2304 : Ref sig .tc := ⟨.hbm, 2916, rfl⟩
abbrev main_c_605 : Ref sig .tc := ⟨.hbm, 2917, rfl⟩
abbrev main_v2305 : Ref sig .tc := ⟨.hbm, 2918, rfl⟩
abbrev main_v2306 : Ref sig .tc := ⟨.hbm, 2919, rfl⟩
abbrev main_v2307 : Ref sig .tc := ⟨.hbm, 2920, rfl⟩
abbrev main_v2308 : Ref sig .tc := ⟨.hbm, 2921, rfl⟩
abbrev main_v2309 : Ref sig .tc := ⟨.hbm, 2922, rfl⟩
abbrev main_c_606 : Ref sig .tc := ⟨.hbm, 2923, rfl⟩
abbrev main_v2310 : Ref sig .tc := ⟨.hbm, 2924, rfl⟩
abbrev main_v2311 : Ref sig .tc := ⟨.hbm, 2925, rfl⟩
abbrev main_v2312 : Ref sig .tc := ⟨.hbm, 2926, rfl⟩
abbrev main_c_607 : Ref sig .tc := ⟨.hbm, 2927, rfl⟩
abbrev main_v2313 : Ref sig .tc := ⟨.hbm, 2928, rfl⟩
abbrev main_v2314 : Ref sig .tc := ⟨.hbm, 2929, rfl⟩
abbrev main_v2315 : Ref sig .tc := ⟨.hbm, 2930, rfl⟩
abbrev main_v2316 : Ref sig .tc := ⟨.hbm, 2931, rfl⟩
abbrev main_v2317 : Ref sig .tc := ⟨.hbm, 2932, rfl⟩
abbrev main_v2318 : Ref sig .tc := ⟨.hbm, 2933, rfl⟩
abbrev main_v2319 : Ref sig .tc := ⟨.hbm, 2934, rfl⟩
abbrev main_v2320 : Ref sig .tc := ⟨.hbm, 2935, rfl⟩
abbrev main_v2321 : Ref sig .tc := ⟨.hbm, 2936, rfl⟩
abbrev main_v2322 : Ref sig .tc := ⟨.hbm, 2937, rfl⟩
abbrev main_v2323 : Ref sig .tc := ⟨.hbm, 2938, rfl⟩
abbrev main_v2324 : Ref sig .tc := ⟨.hbm, 2939, rfl⟩
abbrev main_v2325 : Ref sig .tc := ⟨.hbm, 2940, rfl⟩
abbrev main_v2326 : Ref sig .tc := ⟨.hbm, 2941, rfl⟩
abbrev main_v2327 : Ref sig .tc := ⟨.hbm, 2942, rfl⟩
abbrev main_v2328 : Ref sig .tc := ⟨.hbm, 2943, rfl⟩
abbrev main_v2329 : Ref sig .tc := ⟨.hbm, 2944, rfl⟩
abbrev main_v2330 : Ref sig .tc := ⟨.hbm, 2945, rfl⟩
abbrev main_v2331 : Ref sig .tc := ⟨.hbm, 2946, rfl⟩
abbrev main_v2332 : Ref sig .tc := ⟨.hbm, 2947, rfl⟩
abbrev main_v2333 : Ref sig .tc := ⟨.hbm, 2948, rfl⟩
abbrev main_v2334 : Ref sig .tc := ⟨.hbm, 2949, rfl⟩
abbrev main_v2335 : Ref sig .tc := ⟨.hbm, 2950, rfl⟩
abbrev main_v2336 : Ref sig .tc := ⟨.hbm, 2951, rfl⟩
abbrev main_v2337 : Ref sig .tc := ⟨.hbm, 2952, rfl⟩
abbrev main_c_608 : Ref sig .tc := ⟨.hbm, 2953, rfl⟩
abbrev main_v2338 : Ref sig .tc := ⟨.hbm, 2954, rfl⟩
abbrev main_v2339 : Ref sig .tc := ⟨.hbm, 2955, rfl⟩
abbrev main_c_609 : Ref sig .tc := ⟨.hbm, 2956, rfl⟩
abbrev main_v2340 : Ref sig .tc := ⟨.hbm, 2957, rfl⟩
abbrev main_v2341 : Ref sig .tc := ⟨.hbm, 2958, rfl⟩
abbrev main_cst_610 : Ref sig .tc := ⟨.hbm, 2959, rfl⟩
abbrev main_v2342 : Ref sig .tc := ⟨.hbm, 2960, rfl⟩
abbrev main_cst_611 : Ref sig .tc := ⟨.hbm, 2961, rfl⟩
abbrev main_v2343 : Ref sig .tc := ⟨.hbm, 2962, rfl⟩
abbrev main_v2344 : Ref sig .tc := ⟨.hbm, 2963, rfl⟩
abbrev main_c_612 : Ref sig .tc := ⟨.hbm, 2964, rfl⟩
abbrev main_v2345 : Ref sig .tc := ⟨.hbm, 2965, rfl⟩
abbrev main_v2346 : Ref sig .tc := ⟨.hbm, 2966, rfl⟩
abbrev main_v2347 : Ref sig .tc := ⟨.hbm, 2967, rfl⟩
abbrev main_v2348 : Ref sig .tc := ⟨.hbm, 2968, rfl⟩
abbrev main_v2349 : Ref sig .tc := ⟨.hbm, 2969, rfl⟩
abbrev main_v2350 : Ref sig .tc := ⟨.hbm, 2970, rfl⟩
abbrev main_v2351 : Ref sig .tc := ⟨.hbm, 2971, rfl⟩
abbrev main_v2352 : Ref sig .tc := ⟨.hbm, 2972, rfl⟩
abbrev main_cst_613 : Ref sig .tc := ⟨.hbm, 2973, rfl⟩
abbrev main_v2353 : Ref sig .tc := ⟨.hbm, 2974, rfl⟩
abbrev main_cst_614 : Ref sig .tc := ⟨.hbm, 2975, rfl⟩
abbrev main_v2354 : Ref sig .tc := ⟨.hbm, 2976, rfl⟩
abbrev main_v2355 : Ref sig .tc := ⟨.hbm, 2977, rfl⟩
abbrev main_v2356 : Ref sig .tc := ⟨.hbm, 2978, rfl⟩
abbrev main_v2357 : Ref sig .tc := ⟨.hbm, 2979, rfl⟩

abbrev nD : Nat := 1
abbrev τ : Topo := Topo.v7x

variable {F : FTy → Type} [FloatOps F]
-- ==== Proof.Body.lean ====
/- The kernel's loop body: every stored row is one function of the row of x, the two packed tables' slices and the shift. -/
module

public import proofs.«01_k».proof.Proof.Gen.KernelIdeal.Loops

@[expose] public section

set_option maxRecDepth 16384

noncomputable section

namespace Cert.KernelIdeal.Rows

open Cert.KernelIdeal Cert.KernelIdeal.Gen Idealize.ShloMosaic Idealize.ShloMosaic.TcCoe Idealize.ShloMosaic.Tactic Idealize.SL.Sem

variable {F : FTy → Type} [FloatOps F]

/-- A slice of a packed table as the body holds it. -/
def slab (v : Vec F S1x64x128 .i32) : IVec S64x128 32 :=
  shapeCast S64x128 (shapeCast S1x64x128 v shapeCasts_S1x64x128_S1x64x128) shapeCasts_S1x64x128_S64x128

/-- Which edges of a slab are drawn in the batch row the shift selects. -/
def mask (t : IVec S64x128 32) (sh : BitVec 32) : IVec S64x128 1 :=
  cmpi .slt (shli t (broadcast S64x128 sh)) (broadcast S64x128 0#32)

/-- The hidden layer of one batch row. -/
def hidden (v0 : Vec F S64x1 .i32) (xr : Vec F S1x128 .f32) (t : IVec S64x128 32) (sh : BitVec 32) : FVec F S64x1 .f32 :=
  mulf (k0_pay1 v0) (shapeCast S64x1 (multiReduction .minimumf [1] S64
    (select (mask t sh) (mulf (broadcastTo S64x128 xr broadcasts_S1x128_S64x128) (broadcastTo S64x128 (k0_pay1 v0) broadcasts_S64x1_S64x128))
      (broadcast S64x128 (Scalar.ofBits .f32 0x41200000#32)))
    0x7F800000#32 reduces_S64x128_S64 (.inl rfl) rfl) shapeCasts_S64_S64x1)

/-- The output row of one batch row. -/
def outRow (v0 : Vec F S64x1 .i32) (v7 : Vec F S1x128 .i32) (xr : Vec F S1x128 .f32) (t t' : IVec S64x128 32) (sh : BitVec 32) : FVec F S1x128 .f32 :=
  mulf (k0_pay2 v7) (shapeCast S1x128 (multiReduction .minimumf [0] S128
    (select (mask t' sh) (mulf (broadcastTo S64x128 (hidden v0 xr t sh) broadcasts_S64x1_S64x128) (broadcastTo S64x128 (k0_pay2 v7) broadcasts_S1x128_S64x128))
      (broadcast S64x128 (Scalar.ofBits .f32 0x41200000#32)))
    0x7F800000#32 reduces_S64x128_S128 (.inl rfl) rfl) shapeCasts_S128_S1x128)

/-- The piece the trip's store number `32 * bi + r` writes. -/
def piece (arg0 : Memref sig .tc .vmem S4096x128 .f32) (arg3 : Memref sig .tc .vmem S128x64x128 .i32) (arg4 : Memref sig .tc .vmem S128x64x128 .i32)
    (v0 : Vec F S64x1 .i32) (v7 : Vec F S1x128 .i32) (X0 : BufTy.Contents (Elt F) arg0.view.ty) (X3 : BufTy.Contents (Elt F) arg3.view.ty) (X4 : BufTy.Contents (Elt F) arg4.view.ty)
    (k : Fin k0_t1_loop.trips) (bi r : Fin 32) : View.Piece (Elt F) S4096x128 .f32 :=
  ⟨Rect.unit (s := S4096x128) (k0_off2 k (BitVec.ofNat 32 (4 * r.val)) (BitVec.ofNat 32 bi.val)) S1x128.size (k0_off2_inb k r bi),
    outRow v0 v7
      (View.readAt (Elt F) arg0.view (Rect.unit (s := S4096x128) (k0_off2 k (BitVec.ofNat 32 (4 * r.val)) (BitVec.ofNat 32 bi.val)) S1x128.size (k0_off2_inb k r bi)).toLoadRect X0)
      (slab (View.readAt (Elt F) arg3.view (Rect.unit (s := S128x64x128) (k0_off1 k (BitVec.ofNat 32 (4 * r.val))) S1x64x128.size (k0_off1_inb k r)).toLoadRect X3))
      (slab (View.readAt (Elt F) arg4.view (Rect.unit (s := S128x64x128) (k0_off1 k (BitVec.ofNat 32 (4 * r.val))) S1x64x128.size (k0_off1_inb k r)).toLoadRect X4))
      (Scalar.subi 31#32 (BitVec.ofNat 32 bi.val))⟩

/-- The pieces of the trip's first `n` stores, last first. -/
def pieces (arg0 : Memref sig .tc .vmem S4096x128 .f32) (arg3 : Memref sig .tc .vmem S128x64x128 .i32) (arg4 : Memref sig .tc .vmem S128x64x128 .i32)
    (v0 : Vec F S64x1 .i32) (v7 : Vec F S1x128 .i32) (X0 : BufTy.Contents (Elt F) arg0.view.ty) (X3 : BufTy.Contents (Elt F) arg3.view.ty) (X4 : BufTy.Contents (Elt F) arg4.view.ty)
    (k : Fin k0_t1_loop.trips) (n : ℕ) : List (View.Piece (Elt F) S4096x128 .f32) :=
  Nat.rec [] (fun j l => piece arg0 arg3 arg4 v0 v7 X0 X3 X4 k ⟨j / 32 % 32, Nat.mod_lt _ (by decide)⟩ ⟨j % 32, Nat.mod_lt _ (by decide)⟩ :: l) n

/-- A trip stores the pieces of its 1024 batch rows and nothing else. -/
theorem tripL_eq (𝒱 : Variants) (c : Dev nD) (bd : Option 𝒱.V) (arg0 : Memref sig .tc .vmem S4096x128 .f32) (harg0 : arg0.IsWhole) (arg1 : Memref sig .tc .vmem S64x1 .i32) (harg1 : arg1.IsWhole) (arg2 : Memref sig .tc .vmem S1x128 .i32) (harg2 : arg2.IsWhole) (arg3 : Memref sig .tc .vmem S128x64x128 .i32) (harg3 : arg3.IsWhole) (arg4 : Memref sig .tc .vmem S128x64x128 .i32) (harg4 : arg4.IsWhole) (arg5 : Memref sig .tc .vmem S4096x128 .f32) (harg5 : arg5.IsWhole) (v0 : Vec F S64x1 .i32) (v7 : Vec F S1x128 .i32) (X_arg0 : BufTy.Contents (Elt F) arg0.view.ty) (X_arg3 : BufTy.Contents (Elt F) arg3.view.ty) (X_arg4 : BufTy.Contents (Elt F) arg4.view.ty) (k : Fin k0_t1_loop.trips) :
    tripL_k0_t1 (F := F) 𝒱 c bd arg0 harg0 arg1 harg1 arg2 harg2 arg3 harg3 arg4 harg4 arg5 harg5 v0 v7 X_arg0 X_arg3 X_arg4 k = pieces arg0 arg3 arg4 v0 v7 X_arg0 X_arg3 X_arg4 k 1024 := by
  sl_kernel_rfl

end Cert.KernelIdeal.Rows

end
-- ==== Proof.Threefry.lean ====
/- The Threefry block function on 32-bit words, and the same on many words at once: the words are lanes of 64 bits in
   one natural number. -/
module

public import Idealize.ShloMosaic.Lib.Pointwise

@[expose] public section

set_option maxRecDepth 4096

namespace Cert.Tf

/-- Four rounds: on each, the first word takes the sum, the second is rotated and takes the exclusive or. -/
def quad {α : Type} (add xor : α → α → α) (rot : Nat → α → α) : List Nat → α → α → (α → α → α) → α
  | [], a, b, k => k a b
  | r :: rs, a, b, k => quad add xor rot rs (add a b) (xor (rot r b) (add a b)) k

/-- The exclusive or of the two words that the block function makes of the key `k0`, `k1` and the counter `0`, `c`. The
    words of the key schedule that are added after every four rounds are given: `i` the first word's, `j` the second's. -/
def bits {α : Type} (add xor : α → α → α) (rot : Nat → α → α) (k0 k1 k2 j0 j1 j2 j3 j4 : α) (c : α) : α :=
  quad add xor rot [13, 15, 26, 6] k0 (add c k1) fun a b =>
  quad add xor rot [17, 29, 16, 24] (add a k1) (add b j0) fun a b =>
  quad add xor rot [13, 15, 26, 6] (add a k2) (add b j1) fun a b =>
  quad add xor rot [17, 29, 16, 24] (add a k0) (add b j2) fun a b =>
  quad add xor rot [13, 15, 26, 6] (add a k1) (add b j3) fun a b =>
  xor (add a k2) (add b j4)

/-- The words of the hash at a key and a counter. -/
def word (k0 k1 c : BitVec 32) : BitVec 32 :=
  bits (· + ·) (· ^^^ ·) (fun r x => (x <<< r) ||| (x >>> (32 - r)))
    k0 k1 (k0 ^^^ k1 ^^^ 0x1BD11BDA#32) ((k0 ^^^ k1 ^^^ 0x1BD11BDA#32) + 1#32) (k0 + 2#32) (k1 + 3#32)
    ((k0 ^^^ k1 ^^^ 0x1BD11BDA#32) + 4#32) (k0 + 5#32) c

/-- Lane `i` of a number. -/
def lane (i X : Nat) : Nat := X / 2 ^ (64 * i) % 2 ^ 64

/-- The number whose first `n` lanes are 1. -/
def ones : Nat → Nat
  | 0 => 0
  | n + 1 => ones n * 2 ^ 64 + 1

theorem lane_mul_ones (c : Nat) (hc : c < 2 ^ 64) : ∀ n i, i < n → lane i (c * ones n) = c := by
  intro n
  induction n with
  | zero => intro i h; omega
  | succ n ih =>
    intro i h
    have e : c * ones (n + 1) = c * ones n * 2 ^ 64 + c := by simp only [ones]; ring
    rw [e]
    cases i with
    | zero => unfold lane; omega
    | succ i =>
      have h1 := ih i (by omega)
      unfold lane at h1 ⊢
      have e2 : (2 : Nat) ^ (64 * (i + 1)) = 2 ^ 64 * 2 ^ (64 * i) := by rw [← pow_add]; congr 1; ring
      rw [e2, ← Nat.div_div_eq_div_mul]
      have : (c * ones n * 2 ^ 64 + c) / 2 ^ 64 = c * ones n := by
        rw [Nat.mul_comm, Nat.mul_add_div (by norm_num), Nat.div_eq_of_lt hc, Nat.add_zero]
      rw [this]; exact h1

theorem lane_and (i X Y : Nat) : lane i (X &&& Y) = lane i X &&& lane i Y := by
  unfold lane
  simp only [← Nat.shiftRight_eq_div_pow, Nat.shiftRight_and_distrib, Nat.and_mod_two_pow]

theorem lane_or (i X Y : Nat) : lane i (X ||| Y) = lane i X ||| lane i Y := by
  unfold lane
  simp only [← Nat.shiftRight_eq_div_pow, Nat.shiftRight_or_distrib, Nat.or_mod_two_pow]

theorem lane_xor (i X Y : Nat) : lane i (X ^^^ Y) = lane i X ^^^ lane i Y := by
  unfold lane
  simp only [← Nat.shiftRight_eq_div_pow, Nat.shiftRight_xor_distrib, Nat.xor_mod_two_pow]

/-- Below lane `i` a number of 32-bit lanes stays 32 bits under the lane's weight. -/
theorem low_lt (X : Nat) : ∀ i, (∀ j, j < i → lane j X < 2 ^ 32) → X % 2 ^ (64 * i) * 2 ^ 32 < 2 ^ (64 * i) := by
  intro i
  induction i with
  | zero => intro _; simp [Nat.mod_one]
  | succ i ih =>
    intro h
    have h1 := ih fun j hj => h j (by omega)
    have h2 := h i (by omega)
    unfold lane at h2
    have e2 : (2 : Nat) ^ (64 * (i + 1)) = 2 ^ (64 * i) * 2 ^ 64 := by rw [← pow_add]; congr 1
    rw [e2, Nat.mod_mul]
    generalize X / 2 ^ (64 * i) % 2 ^ 64 = l at *
    generalize X % 2 ^ (64 * i) = m at *
    generalize (2 : Nat) ^ (64 * i) = p at *
    have : p * l ≤ p * (2 ^ 32 - 1) := Nat.mul_le_mul_left _ (by omega)
    nlinarith

theorem lane_add (i X Y : Nat) (hX : ∀ j, j < i → lane j X < 2 ^ 32) (hY : ∀ j, j < i → lane j Y < 2 ^ 32) :
    lane i (X + Y) = (lane i X + lane i Y) % 2 ^ 64 := by
  have h1 := low_lt X i hX
  have h2 := low_lt Y i hY
  unfold lane
  rw [← Nat.add_mod]
  congr 1
  have hp : 0 < 2 ^ (64 * i) := by positivity
  rw [Nat.add_div hp, if_neg (by omega), Nat.add_zero]

theorem lane_shl (i r X : Nat) (hr : r ≤ 32) (hX : ∀ j, j < i → lane j X < 2 ^ 32) :
    lane i (X <<< r) = lane i X * 2 ^ r % 2 ^ 64 := by
  have h1 := low_lt X i hX
  unfold lane
  rw [Nat.shiftLeft_eq, Nat.mod_mul_mod]
  congr 1
  have hp : 0 < 2 ^ (64 * i) := by positivity
  have hr2 : (2 : Nat) ^ r ≤ 2 ^ 32 := Nat.pow_le_pow_right (by omega) hr
  have e : X * 2 ^ r = 2 ^ (64 * i) * (X / 2 ^ (64 * i) * 2 ^ r) + X % 2 ^ (64 * i) * 2 ^ r := by
    rw [← Nat.mul_assoc, ← Nat.add_mul, Nat.div_add_mod]
  have e' : X % 2 ^ (64 * i) * 2 ^ r / 2 ^ (64 * i) = 0 :=
    Nat.div_eq_of_lt (lt_of_le_of_lt (Nat.mul_le_mul_left _ hr2) h1)
  rw [e, Nat.mul_add_div hp, e', Nat.add_zero]

theorem lane_shr_mod (i s X : Nat) (hs : s ≤ 32) : lane i (X >>> s) % 2 ^ 32 = lane i X / 2 ^ s % 2 ^ 32 := by
  unfold lane
  rw [Nat.shiftRight_eq_div_pow, Nat.div_div_eq_div_mul, Nat.mul_comm, ← Nat.div_div_eq_div_mul]
  generalize X / 2 ^ (64 * i) = h
  rw [Nat.mod_mod_of_dvd _ (by norm_num : (2 : Nat) ^ 32 ∣ 2 ^ 64)]
  have e : (2 : Nat) ^ 64 = 2 ^ s * (2 ^ 32 * 2 ^ (32 - s)) := by rw [← pow_add, ← pow_add]; congr 1; omega
  rw [e, Nat.mod_mul_right_div_self, Nat.mod_mul_right_mod]

/-- The first `n` lanes of `X` are the words `f`. -/
def Rel (n X : Nat) (f : Nat → BitVec 32) : Prop := ∀ i, i < n → lane i X = (f i).toNat

variable {n : Nat}

theorem Rel.lt {X f} (h : Rel n X f) {i : Nat} (hi : i < n) : lane i X < 2 ^ 32 := by
  rw [h i hi]; exact (f i).isLt

/-- The mask of the low halves of the first `n` lanes. -/
def low (n : Nat) : Nat := (2 ^ 32 - 1) * ones n

theorem lane_low (X : Nat) {i : Nat} (hi : i < n) : lane i (X &&& low n) = lane i X % 2 ^ 32 := by
  rw [lane_and, low, lane_mul_ones _ (by norm_num) n i hi, Nat.and_two_pow_sub_one_eq_mod]

theorem Rel.const (c : BitVec 32) : Rel n (c.toNat * ones n) fun _ => c := fun i hi =>
  lane_mul_ones _ (lt_trans c.isLt (by norm_num)) n i hi

theorem Rel.add {X Y f g} (h : Rel n X f) (h' : Rel n Y g) : Rel n ((X + Y) &&& low n) fun i => f i + g i := by
  intro i hi
  rw [lane_low _ hi, lane_add i X Y (fun j hj => h.lt (by omega)) (fun j hj => h'.lt (by omega)), h i hi, h' i hi,
    Nat.mod_mod_of_dvd _ (by norm_num : (2 : Nat) ^ 32 ∣ 2 ^ 64), BitVec.toNat_add]

theorem Rel.xor {X Y f g} (h : Rel n X f) (h' : Rel n Y g) : Rel n (X ^^^ Y) fun i => f i ^^^ g i := by
  intro i hi
  rw [lane_xor, h i hi, h' i hi, BitVec.toNat_xor]

theorem Rel.rot {X f} (h : Rel n X f) {r : Nat} (hr : r ≤ 32) :
    Rel n (((X <<< r) ||| (X >>> (32 - r))) &&& low n) fun i => (f i <<< r) ||| (f i >>> (32 - r)) := by
  intro i hi
  rw [lane_low _ hi, lane_or, Nat.or_mod_two_pow, lane_shr_mod i _ X (by omega),
    lane_shl i r X hr (fun j hj => h.lt (by omega)), h i hi, BitVec.toNat_or, BitVec.toNat_shiftLeft,
    BitVec.toNat_ushiftRight, Nat.shiftLeft_eq, Nat.shiftRight_eq_div_pow,
    Nat.mod_mod_of_dvd _ (by norm_num : (2 : Nat) ^ 32 ∣ 2 ^ 64)]
  congr 1
  exact Nat.mod_eq_of_lt (lt_of_le_of_lt (Nat.div_le_self _ _) (f i).isLt)

/-- The operations on lanes. -/
def ladd (m X Y : Nat) : Nat := Nat.land (Nat.add X Y) m
def lrot (m r X : Nat) : Nat := Nat.land (Nat.lor (Nat.shiftLeft X r) (Nat.shiftRight X (Nat.sub 32 r))) m

theorem Rel.quad {k : Nat → Nat → Nat} {k' : Nat → BitVec 32 → BitVec 32 → BitVec 32}
    (hk : ∀ X Y f g, Rel n X f → Rel n Y g → Rel n (k X Y) fun i => k' i (f i) (g i)) :
    ∀ (rs : List Nat), (∀ r ∈ rs, r ≤ 32) → ∀ X Y f g, Rel n X f → Rel n Y g →
      Rel n (quad (ladd (low n)) Nat.xor (lrot (low n)) rs X Y k)
        fun i => Tf.quad (· + ·) (· ^^^ ·) (fun r x => (x <<< r) ||| (x >>> (32 - r))) rs (f i) (g i) (k' i) := by
  intro rs
  induction rs with
  | nil => intro _ X Y f g hX hY; exact hk X Y f g hX hY
  | cons r rs ih =>
    intro hr X Y f g hX hY
    exact ih (fun r' h' => hr r' (List.mem_cons_of_mem _ h')) _ _ _ _ (hX.add hY)
      ((hY.rot (hr r List.mem_cons_self)).xor (hX.add hY))

/-- The words of the hash at one key and many counters, by lanes. -/
def lword (k0 k1 k2 j0 j1 j2 j3 j4 o m c : Nat) : Nat :=
  bits (ladd m) Nat.xor (lrot m) (Nat.mul k0 o) (Nat.mul k1 o) (Nat.mul k2 o) (Nat.mul j0 o) (Nat.mul j1 o) (Nat.mul j2 o) (Nat.mul j3 o)
    (Nat.mul j4 o) c

theorem Rel.word (k0 k1 : BitVec 32) {X f} (h : Rel n X f) :
    Rel n (lword k0.toNat k1.toNat (k0 ^^^ k1 ^^^ 0x1BD11BDA#32).toNat ((k0 ^^^ k1 ^^^ 0x1BD11BDA#32) + 1#32).toNat
      (k0 + 2#32).toNat (k1 + 3#32).toNat ((k0 ^^^ k1 ^^^ 0x1BD11BDA#32) + 4#32).toNat (k0 + 5#32).toNat (ones n) (low n) X)
      fun i => word k0 k1 (f i) := by
  unfold lword Tf.word bits
  have r1 : ∀ r ∈ [13, 15, 26, 6], r ≤ 32 := by decide
  have r2 : ∀ r ∈ [17, 29, 16, 24], r ≤ 32 := by decide
  refine Rel.quad (fun X Y f g hX hY => ?_) _ r1 _ _ _ _ (Rel.const k0) (h.add (Rel.const k1))
  refine Rel.quad (fun X Y f g hX hY => ?_) _ r2 _ _ _ _ (hX.add (Rel.const _)) (hY.add (Rel.const _))
  refine Rel.quad (fun X Y f g hX hY => ?_) _ r1 _ _ _ _ (hX.add (Rel.const _)) (hY.add (Rel.const _))
  refine Rel.quad (fun X Y f g hX hY => ?_) _ r2 _ _ _ _ (hX.add (Rel.const _)) (hY.add (Rel.const _))
  refine Rel.quad (fun X Y f g hX hY => ?_) _ r1 _ _ _ _ (hX.add (Rel.const _)) (hY.add (Rel.const _))
  exact (hX.add (Rel.const _)).xor (hY.add (Rel.const _))

/-- The number whose lanes are `f`. -/
def lanes (f : Nat → Nat) (n : Nat) : Nat := ∑ i ∈ Finset.range n, f i * 2 ^ (64 * i)

theorem lanes_lt {f : Nat → Nat} (hf : ∀ i, f i < 2 ^ 64) (n : Nat) : lanes f n < 2 ^ (64 * n) := by
  induction n with
  | zero => simp [lanes]
  | succ n ih =>
    unfold lanes at ih ⊢
    rw [Finset.sum_range_succ]
    have e2 : (2 : Nat) ^ (64 * (n + 1)) = 2 ^ 64 * 2 ^ (64 * n) := by rw [← pow_add]; congr 1; ring
    have h := hf n
    rw [e2]
    generalize (2 : Nat) ^ (64 * n) = p at *
    have : f n * p ≤ (2 ^ 64 - 1) * p := Nat.mul_le_mul_right _ (by omega)
    have e3 : (2 : Nat) ^ 64 * p = (2 ^ 64 - 1) * p + p := by norm_num; ring
    omega

theorem lane_lanes {f : Nat → Nat} (hf : ∀ i, f i < 2 ^ 64) {n i : Nat} (hi : i < n) : lane i (lanes f n) = f i := by
  induction n with
  | zero => omega
  | succ n ih =>
    have e : lanes f (n + 1) = lanes f n + f n * 2 ^ (64 * n) := Finset.sum_range_succ _ _
    rw [e]
    unfold lane at ih ⊢
    have hp : 0 < 2 ^ (64 * i) := by positivity
    rcases Nat.lt_or_ge i n with h | h
    · have e2 : (2 : Nat) ^ (64 * n) = 2 ^ (64 * i) * (2 ^ 64 * 2 ^ (64 * (n - i - 1))) := by
        rw [← pow_add, ← pow_add]; congr 1; omega
      have e3 : f n * 2 ^ (64 * n) = 2 ^ (64 * i) * (2 ^ 64 * (f n * 2 ^ (64 * (n - i - 1)))) := by rw [e2]; ring
      rw [e3, Nat.add_mul_div_left _ _ hp, Nat.add_mul_mod_self_left]
      exact ih h
    · obtain rfl : i = n := by omega
      rw [Nat.add_mul_div_right _ _ hp, Nat.div_eq_of_lt (lanes_lt hf i), Nat.zero_add, Nat.mod_eq_of_lt (hf i)]

theorem ones_eq (n : Nat) : ones n = lanes (fun _ => 1) n := by
  have h1 : ones n * (2 ^ 64 - 1) + 1 = 2 ^ (64 * n) := by
    induction n with
    | zero => simp [ones]
    | succ n ih =>
      have e2 : (2 : Nat) ^ (64 * (n + 1)) = 2 ^ 64 * 2 ^ (64 * n) := by rw [← pow_add]; congr 1; ring
      rw [e2, ← ih, ones]
      have : (2 : Nat) ^ 64 = (2 ^ 64 - 1) + 1 := by norm_num
      generalize (2 : Nat) ^ 64 - 1 = q at *
      rw [this]; ring
  have h2 : lanes (fun _ => 1) n * (2 ^ 64 - 1) + 1 = 2 ^ (64 * n) := by
    clear h1
    induction n with
    | zero => simp [lanes]
    | succ n ih =>
      have e : lanes (fun _ => 1) (n + 1) = lanes (fun _ => 1) n + 1 * 2 ^ (64 * n) := Finset.sum_range_succ _ _
      have e2 : (2 : Nat) ^ (64 * (n + 1)) = 2 ^ 64 * 2 ^ (64 * n) := by rw [← pow_add]; congr 1; ring
      rw [e, e2, ← ih]
      have : (2 : Nat) ^ 64 = (2 ^ 64 - 1) + 1 := by norm_num
      generalize (2 : Nat) ^ 64 - 1 = q at *
      rw [this]; ring
  have : ones n * (2 ^ 64 - 1) = lanes (fun _ => 1) n * (2 ^ 64 - 1) := Nat.add_right_cancel (h1.trans h2.symm)
  exact Nat.eq_of_mul_eq_mul_right (by norm_num) this

theorem ones_closed (n : Nat) : ones n = (2 ^ (64 * n) - 1) / (2 ^ 64 - 1) := by
  have h1 : ones n * (2 ^ 64 - 1) + 1 = 2 ^ (64 * n) := by
    induction n with
    | zero => simp [ones]
    | succ n ih =>
      have e2 : (2 : Nat) ^ (64 * (n + 1)) = 2 ^ 64 * 2 ^ (64 * n) := by rw [← pow_add]; congr 1; ring
      rw [e2, ← ih, ones]
      have : (2 : Nat) ^ 64 = (2 ^ 64 - 1) + 1 := by norm_num
      generalize (2 : Nat) ^ 64 - 1 = q at *
      rw [this]; ring
  rw [← h1, Nat.add_sub_cancel, Nat.mul_div_cancel _ (by norm_num)]

/-- The number whose lanes are 0, 1, 2, … -/
theorem iota_closed (n : Nat) : lanes (fun i => i) n = (n * 2 ^ (64 * n) - 2 ^ 64 * ones n) / (2 ^ 64 - 1) := by
  have h1 : lanes (fun i => i) n * (2 ^ 64 - 1) + 2 ^ 64 * ones n = n * 2 ^ (64 * n) := by
    rw [ones_eq]
    induction n with
    | zero => simp [lanes]
    | succ n ih =>
      have e : lanes (fun i => i) (n + 1) = lanes (fun i => i) n + n * 2 ^ (64 * n) := Finset.sum_range_succ _ _
      have e' : lanes (fun _ => 1) (n + 1) = lanes (fun _ => 1) n + 1 * 2 ^ (64 * n) := Finset.sum_range_succ _ _
      have e2 : (2 : Nat) ^ (64 * (n + 1)) = 2 ^ 64 * 2 ^ (64 * n) := by rw [← pow_add]; congr 1; ring
      rw [e, e', e2]
      have : (2 : Nat) ^ 64 = (2 ^ 64 - 1) + 1 := by norm_num
      generalize (2 : Nat) ^ 64 - 1 = q at *
      rw [this] at ih ⊢
      generalize (2 : Nat) ^ (64 * n) = p at *
      linear_combination ih
  rw [← h1, Nat.add_sub_cancel, Nat.mul_div_cancel _ (by norm_num)]

theorem lanes_affine (b s n : Nat) : lanes (fun i => b + s * i) n = b * ones n + s * lanes (fun i => i) n := by
  rw [ones_eq]
  simp only [lanes, Finset.mul_sum, ← Finset.sum_add_distrib]
  exact Finset.sum_congr rfl fun i _ => by ring

/-- Of two words the second is larger, their lowest nine bits left out. -/
def draw (k0 k1 c : BitVec 32) : Prop := (word k0 k1 c).toNat / 2 ^ 9 < (word k0 k1 (c + 1#32)).toNat / 2 ^ 9

theorem xor_ones (b : Nat) (hb : b < 2 ^ 23) : b ^^^ (2 ^ 23 - 1) = 2 ^ 23 - 1 - b := by
  have h := BitVec.toNat_not (x := BitVec.ofNat 23 b)
  rw [← BitVec.xor_allOnes] at h
  rw [BitVec.toNat_xor, BitVec.toNat_allOnes, BitVec.toNat_ofNat, Nat.mod_eq_of_lt hb] at h
  exact h

/-- By lanes: 1 where the first number's word is larger than the second's, both without their lowest nine bits. -/
def larger (o A B : Nat) : Nat :=
  Nat.land (Nat.shiftRight (Nat.add (Nat.land (Nat.shiftRight A 9) (Nat.mul (2 ^ 23 - 1) o))
    (Nat.xor (Nat.land (Nat.shiftRight B 9) (Nat.mul (2 ^ 23 - 1) o)) (Nat.mul (2 ^ 23 - 1) o))) 23) o

theorem lane_high {X f} (h : Rel n X f) {i : Nat} (hi : i < n) :
    lane i (X >>> 9 &&& (2 ^ 23 - 1) * ones n) = (f i).toNat / 2 ^ 9 := by
  have h1 := lane_shr_mod i 9 X (by norm_num)
  rw [lane_and, lane_mul_ones _ (by norm_num) n i hi, Nat.and_two_pow_sub_one_eq_mod,
    ← Nat.mod_mod_of_dvd _ (by norm_num : (2 : Nat) ^ 23 ∣ 2 ^ 32), h1, h i hi]
  have := (f i).isLt
  omega

theorem larger_spec {A B f g} (hA : Rel n A f) (hB : Rel n B g) {i : Nat} (hi : i < n)
    (h : lane i (larger (ones n) A B) ≠ 0) : (g i).toNat / 2 ^ 9 < (f i).toNat / 2 ^ 9 := by
  change lane i ((((A >>> 9 &&& (2 ^ 23 - 1) * ones n) + ((B >>> 9 &&& (2 ^ 23 - 1) * ones n) ^^^ (2 ^ 23 - 1) * ones n)) >>> 23)
    &&& ones n) ≠ 0 at h
  have ha : ∀ j, j < n → lane j (A >>> 9 &&& (2 ^ 23 - 1) * ones n) = (f j).toNat / 2 ^ 9 := fun j hj => lane_high hA hj
  have hb : ∀ j, j < n → lane j ((B >>> 9 &&& (2 ^ 23 - 1) * ones n) ^^^ (2 ^ 23 - 1) * ones n)
      = 2 ^ 23 - 1 - (g j).toNat / 2 ^ 9 := fun j hj => by
    have := (g j).isLt
    rw [lane_xor, lane_high hB hj, lane_mul_ones _ (by norm_num) n j hj, xor_ones _ (by omega)]
  generalize A >>> 9 &&& (2 ^ 23 - 1) * ones n = X at *
  generalize (B >>> 9 &&& (2 ^ 23 - 1) * ones n) ^^^ (2 ^ 23 - 1) * ones n = Y at *
  have hs := lane_add i X Y
    (fun j hj => by rw [ha j (by omega)]; have := (f j).isLt; omega)
    (fun j hj => by rw [hb j (by omega)]; omega)
  rw [ha i hi, hb i hi] at hs
  have h1 := lane_shr_mod i 23 (X + Y) (by norm_num)
  have h0 : lane i (ones n) = 2 ^ 1 - 1 := by
    have := lane_mul_ones 1 (by norm_num) n i hi
    rwa [Nat.one_mul] at this
  rw [lane_and, h0, Nat.and_two_pow_sub_one_eq_mod, ← Nat.mod_mod_of_dvd _ (by norm_num : (2 : Nat) ^ 1 ∣ 2 ^ 32), h1, hs] at h
  have h2 := (f i).isLt
  have h3 := (g i).isLt
  omega

/-- Every lane's row has an edge that is drawn, among its first `fuel` edges: the lanes `c` are the rows' counters, `acc` the
    rows that have one so far. -/
def covered (w : Nat → Nat) (o : Nat) (fuel : Nat) : Nat → Nat → Bool :=
  Nat.rec (fun _ acc => Nat.beq acc o)
    (fun _ ih c acc => cond (Nat.beq acc o) true
      (ih (Nat.add c (Nat.mul 2 o)) (Nat.lor acc (larger o (w (Nat.add c o)) (w c))))) fuel

theorem covered_spec (k0 k1 : BitVec 32) (w : Nat → Nat)
    (hw : ∀ X f, Rel n X f → Rel n (w X) fun i => word k0 k1 (f i)) (total : Nat) (b : Nat → Nat) (hb : ∀ i, b i + 2 * total < 2 ^ 32) :
    ∀ (fuel : Nat), fuel ≤ total → ∀ (acc : Nat),
      (∀ i, i < n → lane i acc ≠ 0 → ∃ q, q < total ∧ draw k0 k1 (BitVec.ofNat 32 (b i + 2 * q))) →
      covered w (ones n) fuel (lanes (fun i => b i + 2 * (total - fuel)) n) acc = true →
      ∀ i, i < n → ∃ q, q < total ∧ draw k0 k1 (BitVec.ofNat 32 (b i + 2 * q)) := by
  have fin : ∀ acc, (∀ i, i < n → lane i acc ≠ 0 → ∃ q, q < total ∧ draw k0 k1 (BitVec.ofNat 32 (b i + 2 * q))) →
      Nat.beq acc (ones n) = true → ∀ i, i < n → ∃ q, q < total ∧ draw k0 k1 (BitVec.ofNat 32 (b i + 2 * q)) := by
    intro acc hacc h i hi
    rw [Nat.eq_of_beq_eq_true h] at hacc
    refine hacc i hi ?_
    have := lane_mul_ones 1 (by norm_num) n i hi
    rw [Nat.one_mul] at this
    rw [this]; norm_num
  intro fuel
  induction fuel with
  | zero => intro _ acc hacc h; exact fin acc hacc h
  | succ fuel ih =>
    intro hf acc hacc h
    change cond (Nat.beq acc (ones n)) true (covered w (ones n) fuel (lanes (fun i => b i + 2 * (total - (fuel + 1))) n + 2 * ones n)
      (acc ||| larger (ones n) (w (lanes (fun i => b i + 2 * (total - (fuel + 1))) n + ones n))
        (w (lanes (fun i => b i + 2 * (total - (fuel + 1))) n)))) = true at h
    cases he : Nat.beq acc (ones n) with
    | true => exact fin acc hacc he
    | false =>
      rw [he, cond_false] at h
      have add_ones : ∀ (f : Nat → Nat) (k : Nat), lanes f n + k * ones n = lanes (fun i => f i + k) n := by
        intro f k
        rw [ones_eq]
        simp only [lanes, Finset.mul_sum, ← Finset.sum_add_distrib]
        exact Finset.sum_congr rfl fun i _ => by ring
      have e1 : lanes (fun i => b i + 2 * (total - (fuel + 1))) n + 2 * ones n = lanes (fun i => b i + 2 * (total - fuel)) n := by
        rw [add_ones]; congr 1; funext i; omega
      have e2 : lanes (fun i => b i + 2 * (total - (fuel + 1))) n + ones n
          = lanes (fun i => b i + 2 * (total - (fuel + 1)) + 1) n := by
        have := add_ones (fun i => b i + 2 * (total - (fuel + 1))) 1
        rwa [Nat.one_mul] at this
      have rel : ∀ f : Nat → Nat, (∀ i, f i < 2 ^ 32) → Rel n (lanes f n) fun i => BitVec.ofNat 32 (f i) := fun f hf i hi => by
        rw [lane_lanes (fun i => lt_trans (hf i) (by norm_num)) hi, BitVec.toNat_ofNat, Nat.mod_eq_of_lt (hf i)]
      rw [e1, e2] at h
      refine ih (by omega) _ ?_ h
      intro i hi hne
      rw [lane_or] at hne
      by_cases h0 : lane i acc = 0
      · rw [h0, Nat.zero_or] at hne
        have := larger_spec (hw _ _ (rel _ fun i => by have := hb i; omega)) (hw _ _ (rel _ fun i => by have := hb i; omega)) hi hne
        refine ⟨total - (fuel + 1), by omega, ?_⟩
        unfold draw
        rw [show BitVec.ofNat 32 (b i + 2 * (total - (fuel + 1))) + 1#32 = BitVec.ofNat 32 (b i + 2 * (total - (fuel + 1)) + 1) from
          (BitVec.ofNat_add _ _).symm]
        exact this
      · exact hacc i hi h0

end Cert.Tf
-- ==== Proof.Chain.lean ====
/- The Threefry block function over any words: its steps as they are written in a program over arrays, and its value read at an element. -/
module

public import proofs.«01_k».proof.Proof.Threefry

@[expose] public section

namespace Cert.Tf

/-- The twenty rounds from the words `a`, `b`, where `f i` and `g i` add the key schedule's words after the `i`-th four, and
    `fin` of the two words reached. -/
def chain {α : Type} (add xor : α → α → α) (rot : Nat → α → α) (f g : Nat → α → α) (a b : α) (fin : α → α → α) : α :=
  quad add xor rot [13, 15, 26, 6] a b fun a b =>
  quad add xor rot [17, 29, 16, 24] (f 1 a) (g 1 b) fun a b =>
  quad add xor rot [13, 15, 26, 6] (f 2 a) (g 2 b) fun a b =>
  quad add xor rot [17, 29, 16, 24] (f 3 a) (g 3 b) fun a b =>
  quad add xor rot [13, 15, 26, 6] (f 4 a) (g 4 b) fun a b =>
  fin (f 5 a) (g 5 b)

section Read

variable {α β : Type} (h : α → β) {add xor : α → α → α} {rot : Nat → α → α} {add' xor' : β → β → β} {rot' : Nat → β → β}

/-- Four rounds read at an element are four rounds of the elements. -/
theorem quad_read (ha : ∀ x y, h (add x y) = add' (h x) (h y)) (hx : ∀ x y, h (xor x y) = xor' (h x) (h y))
    {k : α → α → α} {k' : β → β → β} (hk : ∀ x y, h (k x y) = k' (h x) (h y)) :
    ∀ (rs : List Nat), (∀ r ∈ rs, ∀ x, h (rot r x) = rot' r (h x)) → ∀ (a b : α),
      h (quad add xor rot rs a b k) = quad add' xor' rot' rs (h a) (h b) k' := by
  intro rs
  induction rs with
  | nil => intro _ a b; exact hk a b
  | cons r rs ih =>
    intro hr a b
    simp only [quad]
    rw [ih (fun r' m => hr r' (List.mem_cons_of_mem _ m)), hx, ha, hr r List.mem_cons_self]

/-- The block function read at an element is the block function of the elements. -/
theorem chain_read (ha : ∀ x y, h (add x y) = add' (h x) (h y)) (hx : ∀ x y, h (xor x y) = xor' (h x) (h y))
    (hr : ∀ r ∈ [13, 15, 26, 6, 17, 29, 16, 24], ∀ x, h (rot r x) = rot' r (h x)) {f g : Nat → α → α} {f' g' : Nat → β → β}
    (hf : ∀ i ∈ [1, 2, 3, 4, 5], ∀ x, h (f i x) = f' i (h x)) (hg : ∀ i ∈ [1, 2, 3, 4, 5], ∀ x, h (g i x) = g' i (h x))
    {fin : α → α → α} {fin' : β → β → β} (hfin : ∀ x y, h (fin x y) = fin' (h x) (h y)) (a b : α) :
    h (chain add xor rot f g a b fin) = chain add' xor' rot' f' g' (h a) (h b) fin' := by
  have r1 : ∀ r ∈ [13, 15, 26, 6], ∀ x, h (rot r x) = rot' r (h x) := fun r m => hr r (by
    simp only [List.mem_cons, List.not_mem_nil, or_false] at m ⊢; omega)
  have r2 : ∀ r ∈ [17, 29, 16, 24], ∀ x, h (rot r x) = rot' r (h x) := fun r m => hr r (by
    simp only [List.mem_cons, List.not_mem_nil, or_false] at m ⊢; omega)
  unfold chain
  refine quad_read h ha hx (fun x y => ?_) _ r1 a b
  rw [← hf 1 (by simp), ← hg 1 (by simp)]
  refine quad_read h ha hx (fun x y => ?_) _ r2 _ _
  rw [← hf 2 (by simp), ← hg 2 (by simp)]
  refine quad_read h ha hx (fun x y => ?_) _ r1 _ _
  rw [← hf 3 (by simp), ← hg 3 (by simp)]
  refine quad_read h ha hx (fun x y => ?_) _ r2 _ _
  rw [← hf 4 (by simp), ← hg 4 (by simp)]
  refine quad_read h ha hx (fun x y => ?_) _ r1 _ _
  rw [hfin, hf 5 (by simp), hg 5 (by simp)]

end Read

/-- The words added to the first word. -/
def addA (k0 k1 : BitVec 32) (i : Nat) (x : BitVec 32) : BitVec 32 :=
  x + [k0, k1, k0 ^^^ k1 ^^^ 0x1BD11BDA#32].getD (i % 3) 0#32

/-- The words added to the second word. -/
def addB (k0 k1 : BitVec 32) (i : Nat) (x : BitVec 32) : BitVec 32 :=
  x + ([k0, k1, k0 ^^^ k1 ^^^ 0x1BD11BDA#32].getD ((i + 1) % 3) 0#32 + BitVec.ofNat 32 i)

/-- The block function of the key and the counter `0`, `c`, ending in `fin`. -/
def block (k0 k1 c : BitVec 32) (fin : BitVec 32 → BitVec 32 → BitVec 32) : BitVec 32 :=
  chain (· + ·) (· ^^^ ·) (fun r x => (x <<< r) ||| (x >>> (32 - r))) (addA k0 k1) (addB k0 k1) k0 (c + k1) fin

/-- The exclusive or of the block's two words is the hash's word. -/
theorem block_xor (k0 k1 c : BitVec 32) : block k0 k1 c (· ^^^ ·) = word k0 k1 c := rfl

end Cert.Tf
-- ==== Proof.Rows.lean ====
/- Every row of the two tables of draws has an edge that is drawn, so no edge is ever forced: what a computation over lanes
   has to show, 4096 rows at a time. -/
module

public import proofs.«01_k».proof.Proof.Threefry

@[expose] public section

namespace Cert.Tf

/-- Each of the rows `first`, …, `first + n - 1`, of `size` edges each, has a drawn edge among its first `fuel`. -/
def rows (n : Nat) (w : Nat → Nat → Nat → Nat) (size fuel first : Nat) : Bool :=
  (fun o => (fun i => covered (w o (Nat.mul (2 ^ 32 - 1) o)) o fuel
      (Nat.add (Nat.mul (Nat.mul (2 * size) first) o) (Nat.mul (2 * size) i)) 0)
    (Nat.div (Nat.sub (Nat.mul n (Nat.pow 2 (64 * n))) (Nat.mul (2 ^ 64) o)) (2 ^ 64 - 1)))
    (Nat.div (Nat.sub (Nat.pow 2 (64 * n)) 1) (2 ^ 64 - 1))

/-- Four such groups of `n` rows. -/
def rows4 (n : Nat) (w : Nat → Nat → Nat → Nat) (size fuel group : Nat) : Bool :=
  and (and (rows n w size fuel (4 * n * group)) (rows n w size fuel (4 * n * group + n)))
    (and (rows n w size fuel (4 * n * group + 2 * n)) (rows n w size fuel (4 * n * group + 3 * n)))

/-- The key of the first layer's draws. -/
def k0a : BitVec 32 := 0x3c54dd4a#32
def k1a : BitVec 32 := 0xbbebf007#32
/-- The key of the second layer's draws. -/
def k0b : BitVec 32 := 0xbdfb82f1#32
def k1b : BitVec 32 := 0x07b3b635#32

/-- The hash by lanes, at a key and the words that are added, as numbers. -/
def wkey (k0 k1 : BitVec 32) (o m : Nat) : Nat → Nat :=
  lword k0.toNat k1.toNat (k0 ^^^ k1 ^^^ 0x1BD11BDA#32).toNat ((k0 ^^^ k1 ^^^ 0x1BD11BDA#32) + 1#32).toNat
    (k0 + 2#32).toNat (k1 + 3#32).toNat ((k0 ^^^ k1 ^^^ 0x1BD11BDA#32) + 4#32).toNat (k0 + 5#32).toNat o m

theorem lanes_congr {f g : Nat → Nat} {n : Nat} (h : ∀ i, i < n → f i = g i) : lanes f n = lanes g n :=
  Finset.sum_congr rfl fun i hi => by rw [h i (Finset.mem_range.mp hi)]

theorem rows_spec (n : Nat) (k0 k1 : BitVec 32) (size fuel first : Nat) (h : rows n (wkey k0 k1) size fuel first = true)
    (hb : 2 * size * (first + n) + 2 * fuel < 2 ^ 32) (r : Nat) (hr : first ≤ r) (hr' : r < first + n) :
    ∃ q, q < fuel ∧ draw k0 k1 (BitVec.ofNat 32 (2 * size * r + 2 * q)) := by
  have ho : Nat.div (Nat.sub (Nat.pow 2 (64 * n)) 1) (2 ^ 64 - 1) = ones n := (ones_closed n).symm
  have hi : Nat.div (Nat.sub (Nat.mul n (Nat.pow 2 (64 * n))) (Nat.mul (2 ^ 64) (ones n))) (2 ^ 64 - 1)
      = lanes (fun i => i) n := (iota_closed n).symm
  unfold rows at h
  rw [ho] at h
  beta_reduce at h
  rw [hi] at h
  have hc : Nat.add (Nat.mul (Nat.mul (2 * size) first) (ones n)) (Nat.mul (2 * size) (lanes (fun i => i) n))
      = lanes (fun i => (2 * size * first + 2 * size * (i % n)) + 2 * (fuel - fuel)) n := by
    refine (lanes_affine (2 * size * first) (2 * size) n).symm.trans (lanes_congr fun i hi => ?_)
    rw [Nat.mod_eq_of_lt hi, Nat.sub_self, Nat.mul_zero, Nat.add_zero]
  rw [hc] at h
  have key := covered_spec (n := n) k0 k1 (wkey k0 k1 (ones n) (Nat.mul (2 ^ 32 - 1) (ones n)))
    (fun X f hX => Rel.word k0 k1 hX) fuel (fun i => 2 * size * first + 2 * size * (i % n))
    (fun i => by
      have h1 : 2 * size * (first + i % n) ≤ 2 * size * (first + n) :=
        Nat.mul_le_mul_left _ (by have := Nat.mod_lt i (by omega : n > 0); omega)
      rw [Nat.mul_add] at h1
      omega)
    fuel le_rfl 0 (fun i hi h0 => absurd (by unfold lane; simp) h0) h
  obtain ⟨q, hq, hd⟩ := key (r - first) (by omega)
  refine ⟨q, hq, ?_⟩
  rwa [Nat.mod_eq_of_lt (by omega : r - first < n), ← Nat.mul_add, Nat.add_sub_cancel' hr] at hd

theorem rows4_spec (n : Nat) (k0 k1 : BitVec 32) (size fuel group : Nat) (h : rows4 n (wkey k0 k1) size fuel group = true)
    (hb : 2 * size * (4 * n * group + 4 * n) + 2 * fuel < 2 ^ 32) (r : Nat) (hr : 4 * n * group ≤ r)
    (hr' : r < 4 * n * group + 4 * n) :
    ∃ q, q < fuel ∧ draw k0 k1 (BitVec.ofNat 32 (2 * size * r + 2 * q)) := by
  unfold rows4 at h
  simp only [Bool.and_eq_true] at h
  obtain ⟨⟨h0, h1⟩, h2, h3⟩ := h
  generalize 4 * n * group = g at *
  have le : ∀ a, a + n ≤ g + 4 * n → 2 * size * (a + n) + 2 * fuel < 2 ^ 32 := fun a ha =>
    lt_of_le_of_lt (Nat.add_le_add_right (Nat.mul_le_mul_left _ ha) _) hb
  rcases (by omega : (g ≤ r ∧ r < g + n) ∨ (g + n ≤ r ∧ r < g + n + n) ∨ (g + 2 * n ≤ r ∧ r < g + 2 * n + n)
      ∨ (g + 3 * n ≤ r ∧ r < g + 3 * n + n)) with h | h | h | h
  · exact rows_spec n k0 k1 size fuel _ h0 (le _ (by omega)) r h.1 h.2
  · exact rows_spec n k0 k1 size fuel _ h1 (le _ (by omega)) r h.1 h.2
  · exact rows_spec n k0 k1 size fuel _ h2 (le _ (by omega)) r h.1 h.2
  · exact rows_spec n k0 k1 size fuel _ h3 (le _ (by omega)) r h.1 h.2

end Cert.Tf
-- ==== Proof.Host.lean ====
/- The packed tables the kernel's host code makes: at each element the bits are which edges the hash draws. -/
module

public import proofs.«01_k».proof.Proof.Gen.KernelIdeal.Launch
public import Idealize.ShloMosaic.Lib.Tactic
public import Idealize.ShloMosaic.Lib.Pointwise
public import proofs.«01_k».proof.Proof.Chain
public import proofs.«01_k».proof.Proof.Rows

@[expose] public section

set_option maxRecDepth 16384

noncomputable section

namespace Cert.KernelIdeal.Rows

open Cert.KernelIdeal Cert.KernelIdeal.Gen Idealize.ShloMosaic Idealize.ShloMosaic.TcCoe Idealize.ShloMosaic.Tactic Idealize.SL.Sem

variable {F : FTy → Type} [FloatOps F]

/-- One word for every layer, the same at every counter. -/
def perLayer (t : IVec S2x1 32) : IVec S2x67108864 32 := broadcastInDim S2x67108864 ![0, 1] bcast_S2x1_S2x67108864_0_1 t

/-- One word everywhere. -/
def everywhere (w : BitVec 32) : IVec S2x67108864 32 := broadcastInDim S2x67108864 ![] bcast_S_S2x67108864 (constantI S_ 32 w)

/-- Every word turned left. -/
def turn (r : Nat) (x : IVec S2x67108864 32) : IVec S2x67108864 32 :=
  ori (Host.shli x (everywhere (BitVec.ofNat 32 r))) (Host.shrui x (everywhere (BitVec.ofNat 32 (32 - r))))

/-- The literal tables of the key schedule, added to the first word. -/
def schedA (i : Nat) (x : IVec S2x67108864 32) : IVec S2x67108864 32 :=
  addi x (perLayer fun j => [lit0, lit1, lit3].getD (i % 3) lit0 (S2x1.rowMajor j))

/-- The literal tables of the key schedule, added to the second word. -/
def schedB (i : Nat) (x : IVec S2x67108864 32) : IVec S2x67108864 32 :=
  addi x (perLayer fun j => [lit0, lit2, lit4, lit5, lit6, lit7].getD i lit0 (S2x1.rowMajor j))

/-- The hash of every counter, for both layers. -/
def hash : IVec S2x67108864 32 :=
  Tf.chain addi xori turn schedA schedB
    (addi (broadcastInDim S2x67108864 ![0, 1] bcast_S1x67108864_S2x67108864_0_1 (broadcastInDim S1x67108864 ![1] bcast_S67108864_S1x67108864_1
      (broadcastInDim S67108864 ![] bcast_S_S67108864 (constantI S_ 32 0#32)))) (perLayer fun j => lit0 (S2x1.rowMajor j)))
    (addi (broadcastInDim S2x67108864 ![0, 1] bcast_S1x67108864_S2x67108864_0_1 (broadcastInDim S1x67108864 ![1] bcast_S67108864_S1x67108864_1
      (iotaInDim S67108864 32 0))) (perLayer fun j => lit1 (S2x1.rowMajor j)))
    xori

/-- The host code's hash is `hash`. -/
theorem hash_eq (V0 : Valuation τ sig (Elt F)) : StableHlo.after (hostOps0.take 222) V0 (Proc.devRef .tc main_v172) = (hash : IVec S2x67108864 32) := by
  sl_kernel_rfl

/-- The host code runs up to the hash, then on from it. -/
theorem after_hash (V0 : Valuation τ sig (Elt F)) :
    StableHlo.after hostOps0 V0 = StableHlo.after (hostOps0.drop 222) (StableHlo.after (hostOps0.take 222) V0) := by
  rw [← StableHlo.after_append, List.take_append_drop]

/-- Which pairs of counters draw an edge: the second's hash is larger, the lowest nine bits left out. -/
def drawn (h : IVec S2x67108864 32) : IVec S2x33554432 1 :=
  cmpi .ugt
    (shapeCast S2x33554432 (extractStridedSlice S2x33554432x1 ![0, 0, 1] (shapeCast S2x33554432x2 (Host.shrui h (everywhere 9#32)) shapeCasts_S2x67108864_S2x33554432x2) slices_S2x33554432x2_S2x33554432x1_0_0_1) shapeCasts_S2x33554432x1_S2x33554432)
    (shapeCast S2x33554432 (extractStridedSlice S2x33554432x1 ![0, 0, 0] (shapeCast S2x33554432x2 (Host.shrui h (everywhere 9#32)) shapeCasts_S2x67108864_S2x33554432x2) slices_S2x33554432x2_S2x33554432x1_0_0_0) shapeCasts_S2x33554432x1_S2x33554432)

/-- The drawn edges of 32 consecutive batch rows, as the bits of one word. -/
def packed (e : IVec S4096x64x128 1) : IVec S128x64x128 32 :=
  Host.reduce IntOp.ori (Host.shli (extui 32 (shapeCast S128x32x64x128 e shapeCasts_S4096x64x128_S128x32x64x128) natLt_1_32) (iotaInDim S128x32x64x128 32 1))
    (constantI S_ 32 0#32) reducesTo_S128x32x64x128_S128x64x128_d1 h_S_

/-- The first layer's drawn edges. -/
def drawn0 (h : IVec S2x67108864 32) : IVec S4096x64x128 1 :=
  shapeCast S4096x64x128 (shapeCast S33554432 (extractStridedSlice S1x33554432 ![0, 0] (drawn h) slices_S2x33554432_S1x33554432_0_0) shapeCasts_S1x33554432_S33554432) shapeCasts_S33554432_S4096x64x128

/-- The second layer's drawn edges, hidden nodes first. -/
def drawn1 (h : IVec S2x67108864 32) : IVec S4096x64x128 1 :=
  transpose S4096x64x128 [0, 2, 1] (shapeCast S4096x128x64 (shapeCast S33554432 (extractStridedSlice S1x33554432 ![1, 0] (drawn h) slices_S2x33554432_S1x33554432_1_0) shapeCasts_S1x33554432_S33554432) shapeCasts_S33554432_S4096x128x64) transposes_S4096x128x64_S4096x64x128_0_2_1

/-- The first table, from the hash. -/
theorem table0_from (V1 : Valuation τ sig (Elt F)) : StableHlo.after (hostOps0.drop 222) V1 (Proc.devRef .tc main_v192)
    = (packed (drawn0 (V1 (Proc.devRef .tc main_v172) : IVec S2x67108864 32)) : IVec S128x64x128 32) := by
  sl_kernel_rfl

/-- The second table, from the hash. -/
theorem table1_from (V1 : Valuation τ sig (Elt F)) : StableHlo.after (hostOps0.drop 222) V1 (Proc.devRef .tc main_v199)
    = (packed (drawn1 (V1 (Proc.devRef .tc main_v172) : IVec S2x67108864 32)) : IVec S128x64x128 32) := by
  sl_kernel_rfl

/-- The first table the region finds. -/
theorem table0_eq (V0 : Valuation τ sig (Elt F)) : StableHlo.after hostOps0 V0 (Proc.devRef .tc main_v192) = (packed (drawn0 hash) : IVec S128x64x128 32) := by
  rw [after_hash, table0_from, hash_eq]

/-- The second table the region finds. -/
theorem table1_eq (V0 : Valuation τ sig (Elt F)) : StableHlo.after hostOps0 V0 (Proc.devRef .tc main_v199) = (packed (drawn1 hash) : IVec S128x64x128 32) := by
  rw [after_hash, table1_from, hash_eq]

/-- The hidden nodes' operators the region finds, as a column. -/
theorem op0_eq (V0 : Valuation τ sig (Elt F)) : StableHlo.after hostOps0 V0 (Proc.devRef .tc main_v0)
    = (shapeCast S64x1 (V0 (Proc.devRef .tc main_arg3) : IVec S64 32) shapeCasts_S64_S64x1 : IVec S64x1 32) := by
  sl_kernel_rfl

/-- The output nodes' operators the region finds, as a row. -/
theorem op1_eq (V0 : Valuation τ sig (Elt F)) : StableHlo.after hostOps0 V0 (Proc.devRef .tc main_v1)
    = (shapeCast S1x128 (V0 (Proc.devRef .tc main_arg4) : IVec S128 32) shapeCasts_S128_S1x128 : IVec S1x128 32) := by
  sl_kernel_rfl

end Cert.KernelIdeal.Rows

end
-- ==== Proof.Table.lean ====
/- The packed tables read bit by bit. -/
module

public import proofs.«01_k».proof.Proof.Host
public import Idealize.ShloMosaic.Lib.Pointwise

@[expose] public section

set_option maxRecDepth 16384

noncomputable section

namespace Cert.KernelIdeal.Rows

open Cert.KernelIdeal Cert.KernelIdeal.Gen Idealize.ShloMosaic Idealize.ShloMosaic.TcCoe Idealize.ShloMosaic.Tactic Idealize.SL.Sem

/-- A bit of a fold of words by «or» is set when it is set in one of them. -/
theorem getLsbD_fold (f : Fin 32 → BitVec 32) (s : Finset (Fin 32)) (n : Nat) :
    (Finset.fold IntOp.ori (0#32) f s).getLsbD n = true ↔ ∃ k ∈ s, (f k).getLsbD n = true := by
  induction s using Finset.induction_on with
  | empty =>
    rw [Finset.fold_empty]
    simp
  | insert a s ha ih =>
    rw [Finset.fold_insert ha]
    change (f a ||| Finset.fold IntOp.ori (0#32) f s).getLsbD n = true ↔ _
    rw [BitVec.getLsbD_or, Bool.or_eq_true, ih]
    simp

/-- A one-bit word moved to position `k` has bit `n` set when it is 1 and `n` is `k`. -/
theorem getLsbD_bit (e : BitVec 1) (k n : Nat) (hk : k < 32) (hn : n < 32) :
    (IntOp.shli ArithUnit.host (BitVec.setWidth 32 e) (BitVec.ofNat 32 k)).getLsbD n = true ↔ k = n ∧ e = 1#1 := by
  have h : (BitVec.ofNat 32 k).toNat = k := by rw [BitVec.toNat_ofNat]; omega
  unfold IntOp.shli
  rw [if_pos (by omega), BitVec.shiftLeft_eq', h, BitVec.getLsbD_shiftLeft]
  rcases BitVec.eq_zero_or_eq_one e with rfl | rfl
  · simp
  · simp only [and_true]
    have h1 : ∀ m, (BitVec.setWidth 32 (1#1)).getLsbD m = decide (m = 0) := by
      intro m
      cases m <;> simp [BitVec.getLsbD_setWidth]
    rw [h1]
    simp
    omega

/-- A word shifted left until bit `n` is the sign is negative when the bit is set. -/
theorem sign_of_bit (t : BitVec 32) (n : Nat) (hn : n < 32) :
    IntOp.cmpi .slt (IntOp.shli ArithUnit.vector t (Scalar.subi 31#32 (BitVec.ofNat 32 n))) 0#32 = 1#1 ↔ t.getLsbD n = true := by
  have h : (Scalar.subi 31#32 (BitVec.ofNat 32 n)).toNat = 31 - n := by
    change (31#32 - BitVec.ofNat 32 n).toNat = 31 - n
    rw [BitVec.toNat_sub, BitVec.toNat_ofNat, BitVec.toNat_ofNat]
    omega
  unfold IntOp.shli IntOp.cmpi
  rw [if_pos (by omega), BitVec.shiftLeft_eq', h]
  have e : (t <<< (31 - n)).slt 0#32 = t.getLsbD n := by
    rw [BitVec.slt_zero_eq_msb, BitVec.msb_eq_getLsbD_last, BitVec.getLsbD_shiftLeft]
    have : 32 - 1 - (31 - n) = n := by omega
    rw [this]
    simp
  dsimp only
  rw [e]
  cases t.getLsbD n <;> decide

/-- A packed word's bit `k` is the edge of the `k`-th of its batch rows. -/
theorem packed_bit (e : IVec S4096x64x128 1) (g : Fin 128) (h : Fin 64) (i : Fin 128) (k : Fin 32) :
    (packed e (ix3 g h i)).getLsbD k.val = true ↔ e (ix3 ⟨g.val * 32 + k.val, by omega⟩ h i) = 1#1 := by
  pointwise [packed]
  rw [getLsbD_fold]
  constructor
  · rintro ⟨x, -, hx⟩
    obtain ⟨h1, h2⟩ := (getLsbD_bit _ x.val k.val x.isLt k.isLt).mp hx
    obtain rfl : x = k := Fin.ext h1
    exact h2
  · intro h1
    exact ⟨k, Finset.mem_univ _, (getLsbD_bit _ k.val k.val k.isLt k.isLt).mpr ⟨rfl, h1⟩⟩

/-- The comparison of two words without their lowest nine bits. -/
theorem ugt_high (a b : BitVec 32) :
    IntOp.cmpi CmpIPredicate.ugt (IntOp.shrui ArithUnit.host a 9#32) (IntOp.shrui ArithUnit.host b 9#32) = 1#1
      ↔ b.toNat / 2 ^ 9 < a.toNat / 2 ^ 9 := by
  unfold IntOp.shrui IntOp.cmpi
  rw [if_pos (by decide), if_pos (by decide)]
  have e : (b >>> 9#32).ult (a >>> 9#32) = decide (b.toNat / 2 ^ 9 < a.toNat / 2 ^ 9) := by
    simp [BitVec.ult, Nat.shiftRight_eq_div_pow]
  dsimp only
  rw [e]
  by_cases hh : b.toNat / 2 ^ 9 < a.toNat / 2 ^ 9
  · rw [decide_eq_true hh]; exact ⟨fun _ => hh, fun _ => rfl⟩
  · rw [decide_eq_false hh]; exact ⟨fun h => absurd h (by decide), fun h => absurd h hh⟩

/-- The hash of both layers at an element, from what the literal tables hold. -/
theorem hash_apply (p : Fin 2) (j : Fin 67108864) (k0 k1 : BitVec 32)
    (h0 : lit0 (S2x1.rowMajor (ix2 p 0)) = k0) (h1 : lit1 (S2x1.rowMajor (ix2 p 0)) = k1)
    (hA : ∀ i ∈ [1, 2, 3, 4, 5], [lit0, lit1, lit3].getD (i % 3) lit0 (S2x1.rowMajor (ix2 p 0)) = [k0, k1, k0 ^^^ k1 ^^^ 0x1BD11BDA#32].getD (i % 3) 0#32)
    (hB : ∀ i ∈ [1, 2, 3, 4, 5], [lit0, lit2, lit4, lit5, lit6, lit7].getD i lit0 (S2x1.rowMajor (ix2 p 0))
      = [k0, k1, k0 ^^^ k1 ^^^ 0x1BD11BDA#32].getD ((i + 1) % 3) 0#32 + BitVec.ofNat 32 i) :
    hash (ix2 p j) = Tf.word k0 k1 (BitVec.ofNat 32 j.val) := by
  rw [← Tf.block_xor]
  unfold hash Tf.block
  rw [Tf.chain_read (fun x : IVec S2x67108864 32 => x (ix2 p j)) (add' := (· + ·)) (xor' := (· ^^^ ·)) (rot' := fun r x => (x <<< r) ||| (x >>> (32 - r)))
    (f' := Tf.addA k0 k1) (g' := Tf.addB k0 k1) (fin' := (· ^^^ ·)) (fun _ _ => rfl) (fun _ _ => rfl)]
  · congr 1
    · pointwise [perLayer]
      rw [h0]
      exact BitVec.zero_add _
    · pointwise [perLayer]
      rw [h1]
      rfl
  · intro r hr x
    pointwise [turn, everywhere]
    unfold IntOp.shli IntOp.shrui
    simp only [List.mem_cons, List.not_mem_nil, or_false] at hr
    rcases hr with rfl | rfl | rfl | rfl | rfl | rfl | rfl | rfl <;> rfl
  · intro i hi x
    pointwise [schedA, perLayer]
    rw [hA i hi]
    rfl
  · intro i hi x
    pointwise [schedB, perLayer]
    rw [hB i hi]
    rfl
  · intros; rfl

/-- The first layer's hash is the word of its key. -/
theorem hash_a (j : Fin 67108864) : hash (ix2 0 j) = Tf.word Tf.k0a Tf.k1a (BitVec.ofNat 32 j.val) :=
  hash_apply 0 j _ _ (by decide) (by decide) (by decide) (by decide)

/-- The second layer's hash is the word of its key. -/
theorem hash_b (j : Fin 67108864) : hash (ix2 1 j) = Tf.word Tf.k0b Tf.k1b (BitVec.ofNat 32 j.val) :=
  hash_apply 1 j _ _ (by decide) (by decide) (by decide) (by decide)

/-- An edge of the first layer is drawn by its pair of counters. -/
theorem drawn0_apply (b : Fin 4096) (h : Fin 64) (i : Fin 128) :
    drawn0 hash (ix3 b h i) = 1#1 ↔ Tf.draw Tf.k0a Tf.k1a (BitVec.ofNat 32 (256 * (64 * b.val + h.val) + 2 * i.val)) := by
  pointwise [drawn0, drawn, everywhere]
  rw [ugt_high, hash_a, hash_a]
  unfold Tf.draw
  have e : (b.val * 8192 + h.val * 128 + i.val) * 2 = 256 * (64 * b.val + h.val) + 2 * i.val := by omega
  rw [← BitVec.ofNat_add]
  simp only [e]

/-- An edge of the second layer is drawn by its pair of counters. -/
theorem drawn1_apply (b : Fin 4096) (h : Fin 64) (i : Fin 128) :
    drawn1 hash (ix3 b h i) = 1#1 ↔ Tf.draw Tf.k0b Tf.k1b (BitVec.ofNat 32 (128 * (128 * b.val + i.val) + 2 * h.val)) := by
  pointwise [drawn1, drawn, everywhere]
  rw [ugt_high, hash_b, hash_b]
  unfold Tf.draw
  have e : (b.val * 8192 + i.val * 64 + h.val) * 2 = 128 * (128 * b.val + i.val) + 2 * h.val := by omega
  rw [← BitVec.ofNat_add]
  simp only [e]

end Cert.KernelIdeal.Rows

end
-- ==== Proof.Score.lean ====
/- The score of an edge type grows with the word drawn for it. -/
module

public import proofs.«01_k».proof.Proof.Threefry
public import Idealize.ShloMosaic.Lib.Pointwise
public import Idealize.ShloMosaic.Lib.IdealHost

@[expose] public section

noncomputable section

namespace Cert.Score

open Idealize.ShloMosaic

/-- The smallest uniform number. -/
def tiny : ℝ := (2 : ℝ) ^ (-126 : ℤ)

theorem tiny_pos : 0 < tiny := by unfold tiny; positivity

theorem tiny_lt : tiny < 1 := by
  unfold tiny
  exact zpow_lt_one_of_neg₀ (by norm_num) (by norm_num)

/-- A positive normal number's pattern. -/
theorem ofBits_normal (b : BitVec 32) (ex fr : ℕ) (h1 : b.extractLsb' 31 1 = 0#1) (h2 : (b.extractLsb' 23 8).toNat = ex) (h3 : (b.extractLsb' 0 23).toNat = fr)
    (he : ex ≠ 255) (he0 : ex ≠ 0) : Ideal.ofBits .f32 b = (((2 ^ 23 + fr : ℕ) * (2 : ℝ) ^ ((ex : ℤ) - 127 - 23) : ℝ) : EReal) := by
  show Ideal.ieee 8 23 b = _
  unfold Ideal.ieee
  simp only [Nat.reduceAdd, h1, h2, h3]
  rw [if_neg (by norm_num; exact he), if_neg he0]
  norm_num

theorem ofBits_tiny : Ideal.ofBits .f32 0x00800000#32 = ((tiny : ℝ) : EReal) := by
  rw [ofBits_normal _ 1 0 (by decide) (by decide) (by decide) (by decide) (by decide)]
  unfold tiny
  norm_num

theorem ofBits_unit (w : BitVec 32) : Ideal.ofBits .f32 ((w >>> 9) ||| 0x3F800000#32) = ((1 + (w.toNat / 2 ^ 9 : ℕ) / 2 ^ 23 : ℝ) : EReal) := by
  have h1 : (((w >>> 9) ||| 0x3F800000#32).extractLsb' 31 1) = 0#1 := by
    apply BitVec.eq_of_getLsbD_eq
    intro i hi
    obtain rfl : i = 0 := by omega
    simp
  have h2 : (((w >>> 9) ||| 0x3F800000#32).extractLsb' 23 8).toNat = 127 := by
    have : (((w >>> 9) ||| 0x3F800000#32).extractLsb' 23 8) = 127#8 := by
      apply BitVec.eq_of_getLsbD_eq
      intro i hi
      interval_cases i <;> simp
    rw [this]; rfl
  have h3 : (((w >>> 9) ||| 0x3F800000#32).extractLsb' 0 23).toNat = w.toNat / 2 ^ 9 := by
    rw [BitVec.extractLsb'_toNat, BitVec.toNat_or, BitVec.toNat_ushiftRight, Nat.shiftRight_zero, Nat.or_mod_two_pow, Nat.shiftRight_eq_div_pow]
    have hw := w.isLt
    norm_num
    omega
  rw [ofBits_normal _ _ _ h1 h2 h3 (by decide) (by decide), EReal.coe_eq_coe_iff]
  push_cast
  norm_num
  ring

/-- The uniform number of the top 23 bits `n`. -/
def uni (n : ℕ) : ℝ := n / 2 ^ 23 * (1 - tiny) + tiny

theorem uni_pos (n : ℕ) : 0 < uni n := by
  have := tiny_pos; have := tiny_lt
  unfold uni
  have : 0 ≤ (n / 2 ^ 23 * (1 - tiny) : ℝ) := mul_nonneg (by positivity) (by linarith)
  linarith

theorem uni_lt_one (n : ℕ) (h : n < 2 ^ 23) : uni n < 1 := by
  have h1 := tiny_lt
  unfold uni
  have : (n / 2 ^ 23 : ℝ) < 1 := by
    rw [div_lt_one (by positivity)]
    exact_mod_cast h
  nlinarith

theorem uni_lt (n n' : ℕ) (h : n < n') : uni n < uni n' := by
  have h1 := tiny_lt
  unfold uni
  have : (n / 2 ^ 23 : ℝ) < n' / 2 ^ 23 := by
    rw [div_lt_div_iff_of_pos_right (by positivity)]
    exact_mod_cast h
  nlinarith

/-- The Gumbel noise of the top 23 bits `n`. -/
def gum (n : ℕ) : ℝ := -Real.log (-Real.log (uni n))

theorem gum_lt (n n' : ℕ) (h : n < n') (h' : n' < 2 ^ 23) : gum n < gum n' := by
  unfold gum
  have a := uni_lt n n' h
  have b : Real.log (uni n') < 0 := Real.log_neg (uni_pos n') (uni_lt_one n' h')
  have c := Real.log_lt_log (uni_pos n) a
  have := Real.log_lt_log (show 0 < -Real.log (uni n') by linarith) (show -Real.log (uni n') < -Real.log (uni n) by linarith)
  linarith

theorem gum_lt_iff (n n' : ℕ) (h : n < 2 ^ 23) (h' : n' < 2 ^ 23) : gum n < gum n' ↔ n < n' := by
  refine ⟨fun g => ?_, fun g => gum_lt n n' g h'⟩
  by_contra hn
  rcases Nat.lt_or_ge n' n with a | a
  · exact absurd (gum_lt n' n a h) (not_lt.mpr g.le)
  · obtain rfl : n = n' := by omega
    exact lt_irrefl _ g

theorem log_coe_pos (r : ℝ) (h : 0 < r) : Ideal.log (r : EReal) = ((Real.log r : ℝ) : EReal) := by
  show (if r ≤ 0 then ⊥ else ((Real.log r : ℝ) : EReal)) = _
  rw [if_neg (not_le.mpr h)]

/-- The noise as the reference computes it from a word. -/
theorem noise (w : BitVec 32) :
    -(Ideal.log (-(Ideal.log (max (Ideal.ofBits .f32 0x00800000#32)
      ((Ideal.ofBits .f32 ((w >>> 9) ||| 0x3F800000#32) - (1 : EReal)) * ((1 : EReal) - Ideal.ofBits .f32 0x00800000#32) + Ideal.ofBits .f32 0x00800000#32)))))
      = ((gum (w.toNat / 2 ^ 9) : ℝ) : EReal) := by
  have hn : w.toNat / 2 ^ 9 < 2 ^ 23 := by have := w.isLt; omega
  have ht := tiny_pos
  have ht1 := tiny_lt
  have e : (Ideal.ofBits .f32 ((w >>> 9) ||| 0x3F800000#32) - (1 : EReal)) * ((1 : EReal) - Ideal.ofBits .f32 0x00800000#32) + Ideal.ofBits .f32 0x00800000#32
      = ((uni (w.toNat / 2 ^ 9) : ℝ) : EReal) := by
    rw [ofBits_tiny, ofBits_unit, ← EReal.coe_one, ← EReal.coe_sub, ← EReal.coe_sub, ← EReal.coe_mul, ← EReal.coe_add]
    unfold uni
    congr 2
    ring
  have hm : max (Ideal.ofBits .f32 0x00800000#32) ((uni (w.toNat / 2 ^ 9) : ℝ) : EReal) = ((uni (w.toNat / 2 ^ 9) : ℝ) : EReal) := by
    rw [ofBits_tiny]
    refine max_eq_right (EReal.coe_le_coe_iff.mpr ?_)
    unfold uni
    have : 0 ≤ ((w.toNat / 2 ^ 9 : ℕ) / 2 ^ 23 * (1 - tiny) : ℝ) := mul_nonneg (by positivity) (by linarith)
    linarith
  have hl : Real.log (uni (w.toNat / 2 ^ 9)) < 0 := Real.log_neg (uni_pos _) (uni_lt_one _ hn)
  rw [e, hm, log_coe_pos _ (uni_pos _), ← EReal.coe_neg, log_coe_pos _ (by linarith), ← EReal.coe_neg]
  rfl

/-- Two scores with the same real offset compare as the words without their lowest nine bits. -/
theorem noise_lt (w w' : BitVec 32) (r : ℝ) :
    ((gum (w.toNat / 2 ^ 9) : ℝ) : EReal) + ((r : ℝ) : EReal) < ((gum (w'.toNat / 2 ^ 9) : ℝ) : EReal) + ((r : ℝ) : EReal)
      ↔ w.toNat / 2 ^ 9 < w'.toNat / 2 ^ 9 := by
  rw [← EReal.coe_add, ← EReal.coe_add, EReal.coe_lt_coe_iff, add_lt_add_iff_right]
  exact gum_lt_iff _ _ (by have := w.isLt; omega) (by have := w'.isLt; omega)

end Cert.Score

end
-- ==== Proof.DrawnA.lean ====
/- The first layer's table of draws: every row has a drawn edge, computed 16384 rows at a time. -/
module

public import proofs.«01_k».proof.Proof.Rows

@[expose] public section

namespace Cert.Tf

theorem a0 : rows4 4096 (wkey k0a k1a) 128 64 0 = true := by decide +kernel
theorem a1 : rows4 4096 (wkey k0a k1a) 128 64 1 = true := by decide +kernel
theorem a2 : rows4 4096 (wkey k0a k1a) 128 64 2 = true := by decide +kernel
theorem a3 : rows4 4096 (wkey k0a k1a) 128 64 3 = true := by decide +kernel
theorem a4 : rows4 4096 (wkey k0a k1a) 128 64 4 = true := by decide +kernel
theorem a5 : rows4 4096 (wkey k0a k1a) 128 64 5 = true := by decide +kernel
theorem a6 : rows4 4096 (wkey k0a k1a) 128 64 6 = true := by decide +kernel
theorem a7 : rows4 4096 (wkey k0a k1a) 128 64 7 = true := by decide +kernel
theorem a8 : rows4 4096 (wkey k0a k1a) 128 64 8 = true := by decide +kernel
theorem a9 : rows4 4096 (wkey k0a k1a) 128 64 9 = true := by decide +kernel
theorem a10 : rows4 4096 (wkey k0a k1a) 128 64 10 = true := by decide +kernel
theorem a11 : rows4 4096 (wkey k0a k1a) 128 64 11 = true := by decide +kernel
theorem a12 : rows4 4096 (wkey k0a k1a) 128 64 12 = true := by decide +kernel
theorem a13 : rows4 4096 (wkey k0a k1a) 128 64 13 = true := by decide +kernel
theorem a14 : rows4 4096 (wkey k0a k1a) 128 64 14 = true := by decide +kernel
theorem a15 : rows4 4096 (wkey k0a k1a) 128 64 15 = true := by decide +kernel

/-- Every row of the first layer's 262144 has a drawn edge among its first 64. -/
theorem drawn_a (r : Nat) (hr : r < 262144) : ∃ q, q < 64 ∧ draw k0a k1a (BitVec.ofNat 32 (256 * r + 2 * q)) := by
  have hg : r / 16384 < 16 := by omega
  have key : ∀ g, g < 16 → rows4 4096 (wkey k0a k1a) 128 64 g = true := by
    intro g hg
    interval_cases g
    · exact a0
    · exact a1
    · exact a2
    · exact a3
    · exact a4
    · exact a5
    · exact a6
    · exact a7
    · exact a8
    · exact a9
    · exact a10
    · exact a11
    · exact a12
    · exact a13
    · exact a14
    · exact a15
  exact rows4_spec 4096 k0a k1a 128 64 (r / 16384) (key _ hg) (by omega) r (by omega) (by omega)

end Cert.Tf
-- ==== Proof.DrawnB.lean ====
/- The second layer's table of draws: every row has a drawn edge, computed 16384 rows at a time. -/
module

public import proofs.«01_k».proof.Proof.Rows

@[expose] public section

namespace Cert.Tf

theorem b0 : rows4 4096 (wkey k0b k1b) 64 64 0 = true := by decide +kernel
theorem b1 : rows4 4096 (wkey k0b k1b) 64 64 1 = true := by decide +kernel
theorem b2 : rows4 4096 (wkey k0b k1b) 64 64 2 = true := by decide +kernel
theorem b3 : rows4 4096 (wkey k0b k1b) 64 64 3 = true := by decide +kernel
theorem b4 : rows4 4096 (wkey k0b k1b) 64 64 4 = true := by decide +kernel
theorem b5 : rows4 4096 (wkey k0b k1b) 64 64 5 = true := by decide +kernel
theorem b6 : rows4 4096 (wkey k0b k1b) 64 64 6 = true := by decide +kernel
theorem b7 : rows4 4096 (wkey k0b k1b) 64 64 7 = true := by decide +kernel
theorem b8 : rows4 4096 (wkey k0b k1b) 64 64 8 = true := by decide +kernel
theorem b9 : rows4 4096 (wkey k0b k1b) 64 64 9 = true := by decide +kernel
theorem b10 : rows4 4096 (wkey k0b k1b) 64 64 10 = true := by decide +kernel
theorem b11 : rows4 4096 (wkey k0b k1b) 64 64 11 = true := by decide +kernel
theorem b12 : rows4 4096 (wkey k0b k1b) 64 64 12 = true := by decide +kernel
theorem b13 : rows4 4096 (wkey k0b k1b) 64 64 13 = true := by decide +kernel
theorem b14 : rows4 4096 (wkey k0b k1b) 64 64 14 = true := by decide +kernel
theorem b15 : rows4 4096 (wkey k0b k1b) 64 64 15 = true := by decide +kernel
theorem b16 : rows4 4096 (wkey k0b k1b) 64 64 16 = true := by decide +kernel
theorem b17 : rows4 4096 (wkey k0b k1b) 64 64 17 = true := by decide +kernel
theorem b18 : rows4 4096 (wkey k0b k1b) 64 64 18 = true := by decide +kernel
theorem b19 : rows4 4096 (wkey k0b k1b) 64 64 19 = true := by decide +kernel
theorem b20 : rows4 4096 (wkey k0b k1b) 64 64 20 = true := by decide +kernel
theorem b21 : rows4 4096 (wkey k0b k1b) 64 64 21 = true := by decide +kernel
theorem b22 : rows4 4096 (wkey k0b k1b) 64 64 22 = true := by decide +kernel
theorem b23 : rows4 4096 (wkey k0b k1b) 64 64 23 = true := by decide +kernel
theorem b24 : rows4 4096 (wkey k0b k1b) 64 64 24 = true := by decide +kernel
theorem b25 : rows4 4096 (wkey k0b k1b) 64 64 25 = true := by decide +kernel
theorem b26 : rows4 4096 (wkey k0b k1b) 64 64 26 = true := by decide +kernel
theorem b27 : rows4 4096 (wkey k0b k1b) 64 64 27 = true := by decide +kernel
theorem b28 : rows4 4096 (wkey k0b k1b) 64 64 28 = true := by decide +kernel
theorem b29 : rows4 4096 (wkey k0b k1b) 64 64 29 = true := by decide +kernel
theorem b30 : rows4 4096 (wkey k0b k1b) 64 64 30 = true := by decide +kernel
theorem b31 : rows4 4096 (wkey k0b k1b) 64 64 31 = true := by decide +kernel

/-- Every row of the second layer's 524288 has a drawn edge among its first 64. -/
theorem drawn_b (r : Nat) (hr : r < 524288) : ∃ q, q < 64 ∧ draw k0b k1b (BitVec.ofNat 32 (128 * r + 2 * q)) := by
  have hg : r / 16384 < 32 := by omega
  have key : ∀ g, g < 32 → rows4 4096 (wkey k0b k1b) 64 64 g = true := by
    intro g hg
    interval_cases g
    · exact b0
    · exact b1
    · exact b2
    · exact b3
    · exact b4
    · exact b5
    · exact b6
    · exact b7
    · exact b8
    · exact b9
    · exact b10
    · exact b11
    · exact b12
    · exact b13
    · exact b14
    · exact b15
    · exact b16
    · exact b17
    · exact b18
    · exact b19
    · exact b20
    · exact b21
    · exact b22
    · exact b23
    · exact b24
    · exact b25
    · exact b26
    · exact b27
    · exact b28
    · exact b29
    · exact b30
    · exact b31
  exact rows4_spec 4096 k0b k1b 64 64 (r / 16384) (key _ hg) (by omega) r (by omega) (by omega)

end Cert.Tf
-- ==== Proof.Spec.lean ====
module

public import proofs.«01_k».proof.Proof.Threefry
public import proofs.«01_k».proof.Proof.Score
public import proofs.«01_k».proof.Proof.DrawnA
public import proofs.«01_k».proof.Proof.DrawnB

@[expose] public section

set_option maxRecDepth 16384

noncomputable section

namespace Cert.Spec

open Idealize.ShloMosaic

/-- The number an entry that is not drawn stands for at a smallest-of node. -/
def ten : EReal := Ideal.ofBits .f32 0x41200000#32
/-- The number an entry that is not drawn stands for at a largest-of node. -/
def lowTen : EReal := Ideal.ofBits .f32 0xC1200000#32

open Classical in
/-- One node: the smallest of the drawn entries (with `10` for the others) when its code is zero, and otherwise the
largest of them (with `-10` for the others). -/
def node {ι : Type} [Fintype ι] (op : BitVec 32) (D : ι → Prop) (v : ι → EReal) : EReal :=
  if op = 0#32 then Finset.univ.fold min ⊤ (fun i => if D i then v i else ten)
  else Finset.univ.fold max ⊥ (fun i => if D i then v i else lowTen)

theorem node_congr {ι : Type} [Fintype ι] {op op' : BitVec 32} {D D' : ι → Prop} {v v' : ι → EReal} (ho : op = op') (hD : ∀ i, D i ↔ D' i)
    (hv : ∀ i, v i = v' i) : node op D v = node op' D' v' := by
  obtain rfl := ho
  obtain rfl : D = D' := funext fun i => propext (hD i)
  obtain rfl : v = v' := funext hv
  rfl

/-- `10` is the real number ten. -/
theorem ten_eq : ten = ((10 : ℝ) : EReal) := by
  unfold ten
  simp [Ideal.ofBits, Ideal.ieee]
  rw [← EReal.coe_mul]
  norm_num

/-- `-10` is minus the real number ten. -/
theorem lowTen_eq : lowTen = ((-10 : ℝ) : EReal) := by
  unfold lowTen
  simp [Ideal.ofBits, Ideal.ieee]
  rw [← EReal.coe_mul]
  norm_num

theorem ofBits_top : Ideal.ofBits .f32 0x7F800000#32 = ⊤ := by
  simp [Ideal.ofBits, Ideal.ieee]

theorem ofBits_bot : Ideal.ofBits .f32 0xFF800000#32 = ⊥ := by
  simp [Ideal.ofBits, Ideal.ieee]

/-- Minus the smallest is the largest of the opposites. -/
theorem neg_fold_min {ι : Type} (s : Finset ι) (f : ι → EReal) : -(s.fold min ⊤ f) = s.fold max ⊥ (fun i => -f i) := by
  classical
  induction s using Finset.induction_on with
  | empty => simp
  | insert a s ha ih =>
    rw [Finset.fold_insert ha, Finset.fold_insert ha, ← ih]
    exact EReal.neg_strictAnti.antitone.map_min

open Classical in
/-- A node computed from the smallest of its entries times a sign, times that sign. -/
theorem signed {ι : Type} [Fintype ι] (op : BitVec 32) (s : EReal) (D : ι → Prop) (v : ι → EReal) (h0 : op = 0#32 → s = 1)
    (h1 : op ≠ 0#32 → s = -1) :
    s * Finset.univ.fold min ⊤ (fun i => if D i then v i * s else ten) = node op D v := by
  unfold node
  by_cases h : op = 0#32
  · rw [if_pos h, h0 h]; simp
  · rw [if_neg h, h1 h, neg_one_mul, neg_fold_min]
    congr 1
    funext i
    split
    · rw [mul_neg, mul_one, neg_neg]
    · rw [ten_eq, lowTen_eq]; rfl

/-- Adding up words adds their numbers. -/
theorem fold_addi {ι : Type} (s : Finset ι) (f : ι → BitVec 32) : s.fold IntOp.addi 0#32 f = BitVec.ofNat 32 (∑ i ∈ s, (f i).toNat) := by
  classical
  induction s using Finset.induction_on with
  | empty => simp
  | insert a s ha ih =>
    rw [Finset.fold_insert ha, Finset.sum_insert ha, ih, BitVec.ofNat_add]
    simp [IntOp.addi]

/-- A sum of few bits, one of which is set, is not zero. -/
theorem fold_bits_ne {n : Nat} (hn : n ≤ 128) (f : Fin n → BitVec 32) (hf : ∀ i, (f i).toNat ≤ 1) (q : Fin n) (hq : f q = 1#32) :
    Finset.univ.fold IntOp.addi 0#32 f ≠ 0#32 := by
  rw [fold_addi]
  have h1 : 1 ≤ ∑ i, (f i).toNat := by
    refine le_trans ?_ (Finset.single_le_sum (fun i _ => Nat.zero_le _) (Finset.mem_univ q))
    rw [hq]; decide
  have h2 : ∑ i, (f i).toNat ≤ n := by
    refine le_trans (Finset.sum_le_card_nsmul _ _ 1 (fun i _ => hf i)) ?_
    simp
  intro h
  have := congrArg BitVec.toNat h
  simp only [BitVec.toNat_ofNat] at this
  omega

/-- The whole result at row `b` and column `o`: a node of the second layer over the nodes of the first. -/
def result (x : Fin 4096 → Fin 128 → EReal) (p : Fin 64 → BitVec 32) (q : Fin 128 → BitVec 32) (b : Fin 4096) (o : Fin 128) : EReal :=
  node (q o) (fun h : Fin 64 => Tf.draw Tf.k0b Tf.k1b (BitVec.ofNat 32 (128 * (128 * b.val + o.val) + 2 * h.val)))
    (fun h => node (p h) (fun i : Fin 128 => Tf.draw Tf.k0a Tf.k1a (BitVec.ofNat 32 (256 * (64 * b.val + h.val) + 2 * i.val))) (fun i => x b i))

end Cert.Spec

end
-- ==== Proof.Result.lean ====
module

public import proofs.«01_k».proof.Proof.Body
public import proofs.«01_k».proof.Proof.Table
public import proofs.«01_k».proof.Proof.Spec
public import proofs.«01_k».proof.Proof.Gen.KernelIdeal.Value
public import Idealize.ShloMosaic.Lib.Pointwise
public import Idealize.ShloMosaic.Lib.WholeRead

@[expose] public section

set_option maxRecDepth 16384

noncomputable section

namespace Cert.KernelIdeal.Rows

open Cert.KernelIdeal Cert.KernelIdeal.Gen Idealize.ShloMosaic Idealize.ShloMosaic.TcCoe Idealize.ShloMosaic.Tactic Idealize.SL.Sem

/-- A choice by a bit is a choice by what the bit says. -/
theorem select_bit {α : Type} (b : BitVec 1) (D : Prop) {iD : Decidable D} (h : b = 1#1 ↔ D) (x y : α) : Scalar.select b x y = @ite _ D iD x y := by
  by_cases hd : D
  · rw [if_pos hd, h.2 hd]; rfl
  · rw [if_neg hd, ValueIdx.eq_zero_of_ne_one (fun hb => hd (h.1 hb))]; rfl

/-- The sign of a node from its code: one at zero, minus one otherwise. -/
def sign (c : BitVec 32) : EReal := Scalar.select (IntOp.cmpi .eq c 0#32) 1 (Ideal.ofBits .f32 0xBF800000#32)

theorem sign_zero (c : BitVec 32) (h : c = 0#32) : sign c = 1 := by
  rw [h]; rfl

theorem sign_other (c : BitVec 32) (h : c ≠ 0#32) : sign c = -1 := by
  have hb : IntOp.cmpi .eq c 0#32 = 0#1 := by
    show BitVec.ofBool (c == 0#32) = 0#1
    rw [beq_eq_false_iff_ne.2 h]; rfl
  unfold sign
  rw [hb, ValueIdx.select_zero]
  simp [Ideal.ofBits, Ideal.ieee]
  try (rw [← EReal.coe_mul]; norm_num)

theorem pay1_apply (v0 : Vec Ideal S64x1 .i32) (h : Fin 64) : k0_pay1 v0 (ix2 h 0) = sign (v0 (ix2 h 0)) := by
  pointwise [k0_pay1, sign]

theorem pay2_apply (v7 : Vec Ideal S1x128 .i32) (o : Fin 128) : k0_pay2 v7 (ix2 0 o) = sign (v7 (ix2 0 o)) := by
  pointwise [k0_pay2, sign]

/-- The mask of a slab tests bit `n` of its words. -/
theorem mask_apply (t : IVec S64x128 32) (n : Nat) (hn : n < 32) (h : Fin 64) (i : Fin 128) :
    mask t (Scalar.subi 31#32 (BitVec.ofNat 32 n)) (ix2 h i) = 1#1 ↔ (t (ix2 h i)).getLsbD n = true := by
  rw [← sign_of_bit _ n hn]
  refine Eq.to_iff (congrArg (· = 1#1) ?_)
  pointwise [mask]

/-- The hidden layer's value at a node of a batch row. -/
theorem hidden_apply (v0 : Vec Ideal S64x1 .i32) (xr : Vec Ideal S1x128 .f32) (t : IVec S64x128 32) (n : Nat) (hn : n < 32) (h : Fin 64) :
    hidden v0 xr t (Scalar.subi 31#32 (BitVec.ofNat 32 n)) (ix2 h 0)
      = Spec.node (v0 (ix2 h 0)) (fun i : Fin 128 => (t (ix2 h i)).getLsbD n = true) (fun i => xr (ix2 0 i)) := by
  classical
  have hm := mask_apply t n hn h
  have hs := pay1_apply v0 h
  unfold hidden
  generalize k0_pay1 v0 = s at hs ⊢
  generalize mask t (Scalar.subi 31#32 (BitVec.ofNat 32 n)) = m at hm ⊢
  pointwise []
  rw [Spec.ofBits_top, hs]
  refine Eq.trans ?_ (Spec.signed (v0 (ix2 h 0)) (sign (v0 (ix2 h 0))) _ _ (sign_zero _) (sign_other _))
  congr 1
  congr 1
  funext i
  exact select_bit _ _ (hm i) _ _

/-- The output layer's value at a node of a batch row. -/
theorem outRow_apply (v0 : Vec Ideal S64x1 .i32) (v7 : Vec Ideal S1x128 .i32) (xr : Vec Ideal S1x128 .f32) (t t' : IVec S64x128 32) (n : Nat) (hn : n < 32) (o : Fin 128) :
    outRow v0 v7 xr t t' (Scalar.subi 31#32 (BitVec.ofNat 32 n)) (ix2 0 o)
      = Spec.node (v7 (ix2 0 o)) (fun h : Fin 64 => (t' (ix2 h o)).getLsbD n = true)
        (fun h => Spec.node (v0 (ix2 h 0)) (fun i : Fin 128 => (t (ix2 h i)).getLsbD n = true) (fun i => xr (ix2 0 i))) := by
  classical
  have hm := fun h => mask_apply t' n hn h o
  have hs := pay2_apply v7 o
  have hw := hidden_apply v0 xr t n hn
  unfold outRow
  generalize hidden v0 xr t (Scalar.subi 31#32 (BitVec.ofNat 32 n)) = w at hw ⊢
  generalize k0_pay2 v7 = s at hs ⊢
  generalize mask t' (Scalar.subi 31#32 (BitVec.ofNat 32 n)) = m at hm ⊢
  pointwise []
  rw [Spec.ofBits_top, hs]
  refine Eq.trans ?_ (Spec.signed (v7 (ix2 0 o)) (sign (v7 (ix2 0 o))) _ _ (sign_zero _) (sign_other _))
  congr 1
  congr 1
  funext h
  rw [← hw h]
  exact select_bit _ _ (hm h) _ _

theorem slab_apply (v : Vec Ideal S1x64x128 .i32) (h : Fin 64) (i : Fin 128) : slab (F := Ideal) v (ix2 h i) = v (ix3 0 h i) := by
  pointwise [slab]

/-- The row a store writes. -/
theorem off2_eq : ∀ (k : Fin k0_t1_loop.trips) (r bi : Fin 32), k0_off2 k (BitVec.ofNat 32 (4 * r.val)) (BitVec.ofNat 32 bi.val) = ![32 * (k.val + 4 * r.val) + bi.val, 0] := by
  decide +kernel

/-- The table row a trip loads. -/
theorem off1_eq : ∀ (k : Fin k0_t1_loop.trips) (r : Fin 32), k0_off1 k (BitVec.ofNat 32 (4 * r.val)) = ![k.val + 4 * r.val, 0, 0] := by
  decide +kernel

/-- What the kernel writes at row `b` and column `o`, from the blocks it reads. -/
def spec (x0 : Vec Ideal S4096x128 .f32) (x1 : Vec Ideal S64x1 .i32) (x2 : Vec Ideal S1x128 .i32) (x3 x4 : Vec Ideal S128x64x128 .i32) (b : Fin 4096) (o : Fin 128) : EReal :=
  Spec.node (x2 (ix2 0 o)) (fun h : Fin 64 => (x4 (ix3 ⟨b.val / 32, by omega⟩ h o)).getLsbD (b.val % 32) = true)
    (fun h => Spec.node (x1 (ix2 h 0)) (fun i : Fin 128 => (x3 (ix3 ⟨b.val / 32, by omega⟩ h i)).getLsbD (b.val % 32) = true) (fun i => x0 (ix2 b i)))

/-- Every stored row is what `spec` says at the row it is stored to. -/
theorem piece_apply (arg0 : Memref sig .tc .vmem S4096x128 .f32) (harg0 : arg0.IsWhole) (arg3 : Memref sig .tc .vmem S128x64x128 .i32) (harg3 : arg3.IsWhole) (arg4 : Memref sig .tc .vmem S128x64x128 .i32) (harg4 : arg4.IsWhole)
    (x0 : Vec Ideal S4096x128 .f32) (x1 : Vec Ideal S64x1 .i32) (x2 : Vec Ideal S1x128 .i32) (x3 x4 : Vec Ideal S128x64x128 .i32) (k : Fin k0_t1_loop.trips) (bi r : Fin 32)
    (z : (piece (F := Ideal) arg0 arg3 arg4 x1 x2 (harg0.unread x0) (harg3.unread x3) (harg4.unread x4) k bi r).1.shape.Idx) :
    (piece (F := Ideal) arg0 arg3 arg4 x1 x2 (harg0.unread x0) (harg3.unread x3) (harg4.unread x4) k bi r).2 z
      = (fun y : S4096x128.Idx => spec x0 x1 x2 x3 x4 (y 0) (y 1))
        ((piece (F := Ideal) arg0 arg3 arg4 x1 x2 (harg0.unread x0) (harg3.unread x3) (harg4.unread x4) k bi r).1.emb z) := by
  have hk : k.val < 4 := k.isLt
  have h2 := off2_eq k r bi
  have h1 := off1_eq k r
  let z' : S1x128.Idx := z
  obtain ⟨o, ho⟩ : ∃ o : Fin 128, z' = ix2 0 o := ⟨z' 1, by
    funext a
    match a with
    | ⟨0, _⟩ => exact Subsingleton.elim (α := Fin 1) _ _
    | ⟨1, _⟩ => rfl⟩
  refine Eq.trans (b := outRow (F := Ideal) _ _ _ _ _ _ z') rfl ?_
  rw [ho]
  refine (outRow_apply _ _ _ _ _ bi.val bi.isLt o).trans ?_
  have e0 : ((piece (F := Ideal) arg0 arg3 arg4 x1 x2 (harg0.unread x0) (harg3.unread x3) (harg4.unread x4) k bi r).1.emb z 0 : Fin 4096)
      = (⟨32 * (k.val + 4 * r.val) + bi.val, by have := bi.isLt; have := r.isLt; omega⟩ : Fin 4096) := by
    refine Fin.ext ?_
    show k0_off2 k (BitVec.ofNat 32 (4 * r.val)) (BitVec.ofNat 32 bi.val) 0 + 1 * (z' 0).val = _
    rw [h2, ho]; rfl
  have e1 : ((piece (F := Ideal) arg0 arg3 arg4 x1 x2 (harg0.unread x0) (harg3.unread x3) (harg4.unread x4) k bi r).1.emb z 1 : Fin 128) = o := by
    refine Fin.ext ?_
    show k0_off2 k (BitVec.ofNat 32 (4 * r.val)) (BitVec.ofNat 32 bi.val) 1 + 1 * (z' 1).val = _
    rw [h2, ho]
    show 0 + 1 * o.val = o.val
    omega
  show _ = spec x0 x1 x2 x3 x4 _ _
  rw [e0, e1]
  unfold spec
  have hm : (32 * (k.val + 4 * r.val) + bi.val) % 32 = bi.val := by have := bi.isLt; omega
  have hd : (32 * (k.val + 4 * r.val) + bi.val) / 32 = k.val + 4 * r.val := by have := bi.isLt; omega
  refine Spec.node_congr rfl (fun h => ?_) fun h => Spec.node_congr rfl (fun i => ?_) fun i => ?_
  · rw [slab_apply, harg4.readAt_unread]
    simp only [hm]
    refine Eq.to_iff (congrArg (fun w => BitVec.getLsbD w bi.val = true) (congrArg x4 ?_))
    funext a
    refine Fin.ext ?_
    match a with
    | ⟨0, _⟩ =>
      show k0_off1 k (BitVec.ofNat 32 (4 * r.val)) 0 + 1 * 0 = (32 * (k.val + 4 * r.val) + bi.val) / 32
      rw [h1, hd]; rfl
    | ⟨1, _⟩ =>
      show k0_off1 k (BitVec.ofNat 32 (4 * r.val)) 1 + 1 * h.val = h.val
      rw [h1]; show 0 + 1 * h.val = h.val; omega
    | ⟨2, _⟩ =>
      show k0_off1 k (BitVec.ofNat 32 (4 * r.val)) 2 + 1 * o.val = o.val
      rw [h1]; show 0 + 1 * o.val = o.val; omega
  · rw [slab_apply, harg3.readAt_unread]
    simp only [hm]
    refine Eq.to_iff (congrArg (fun w => BitVec.getLsbD w bi.val = true) (congrArg x3 ?_))
    funext a
    refine Fin.ext ?_
    match a with
    | ⟨0, _⟩ =>
      show k0_off1 k (BitVec.ofNat 32 (4 * r.val)) 0 + 1 * 0 = (32 * (k.val + 4 * r.val) + bi.val) / 32
      rw [h1, hd]; rfl
    | ⟨1, _⟩ =>
      show k0_off1 k (BitVec.ofNat 32 (4 * r.val)) 1 + 1 * h.val = h.val
      rw [h1]; show 0 + 1 * h.val = h.val; omega
    | ⟨2, _⟩ =>
      show k0_off1 k (BitVec.ofNat 32 (4 * r.val)) 2 + 1 * i.val = i.val
      rw [h1]; show 0 + 1 * i.val = i.val; omega
  · rw [harg0.readAt_unread]
    refine congrArg x0 ?_
    funext a
    refine Fin.ext ?_
    match a with
    | ⟨0, _⟩ =>
      show k0_off2 k (BitVec.ofNat 32 (4 * r.val)) (BitVec.ofNat 32 bi.val) 0 + 1 * 0 = 32 * (k.val + 4 * r.val) + bi.val
      rw [h2]; rfl
    | ⟨1, _⟩ =>
      show k0_off2 k (BitVec.ofNat 32 (4 * r.val)) (BitVec.ofNat 32 bi.val) 1 + 1 * i.val = i.val
      rw [h2]; show 0 + 1 * i.val = i.val; omega

end Cert.KernelIdeal.Rows

end
-- ==== Proof.Out.lean ====
module

public import proofs.«01_k».proof.Proof.Result
public import proofs.«01_k».proof.Proof.Host

@[expose] public section

set_option maxRecDepth 16384

noncomputable section

namespace Cert.KernelIdeal.Rows

open Cert.KernelIdeal Cert.KernelIdeal.Gen Idealize.ShloMosaic Idealize.ShloMosaic.TcCoe Idealize.ShloMosaic.Tactic Idealize.SL.Sem

/-- Every piece of a trip is the piece of one of its stores. -/
theorem mem_pieces (arg0 : Memref sig .tc .vmem S4096x128 .f32) (arg3 : Memref sig .tc .vmem S128x64x128 .i32) (arg4 : Memref sig .tc .vmem S128x64x128 .i32)
    (v0 : Vec Ideal S64x1 .i32) (v7 : Vec Ideal S1x128 .i32) (X0 : BufTy.Contents (Elt Ideal) arg0.view.ty) (X3 : BufTy.Contents (Elt Ideal) arg3.view.ty) (X4 : BufTy.Contents (Elt Ideal) arg4.view.ty)
    (k : Fin k0_t1_loop.trips) (n : ℕ) (p : View.Piece (Elt Ideal) S4096x128 .f32) (hp : p ∈ pieces (F := Ideal) arg0 arg3 arg4 v0 v7 X0 X3 X4 k n) :
    ∃ bi r : Fin 32, p = piece (F := Ideal) arg0 arg3 arg4 v0 v7 X0 X3 X4 k bi r := by
  induction n with
  | zero => exact absurd hp List.not_mem_nil
  | succ n ih =>
    rcases List.mem_cons.mp (show p ∈ piece (F := Ideal) arg0 arg3 arg4 v0 v7 X0 X3 X4 k ⟨n / 32 % 32, Nat.mod_lt _ (by decide)⟩ ⟨n % 32, Nat.mod_lt _ (by decide)⟩ :: pieces (F := Ideal) arg0 arg3 arg4 v0 v7 X0 X3 X4 k n from hp) with h | h
    · exact ⟨_, _, h⟩
    · exact ih h

/-- Every piece of the first trips is the piece of one of their stores. -/
theorem mem_trips (c : Dev nD) (arg0 : Memref sig .tc .vmem S4096x128 .f32) (harg0 : arg0.IsWhole) (arg1 : Memref sig .tc .vmem S64x1 .i32) (harg1 : arg1.IsWhole) (arg2 : Memref sig .tc .vmem S1x128 .i32) (harg2 : arg2.IsWhole) (arg3 : Memref sig .tc .vmem S128x64x128 .i32) (harg3 : arg3.IsWhole) (arg4 : Memref sig .tc .vmem S128x64x128 .i32) (harg4 : arg4.IsWhole) (arg5 : Memref sig .tc .vmem S4096x128 .f32) (harg5 : arg5.IsWhole)
    (v0 : Vec Ideal S64x1 .i32) (v7 : Vec Ideal S1x128 .i32) (X0 : BufTy.Contents (Elt Ideal) arg0.view.ty) (X3 : BufTy.Contents (Elt Ideal) arg3.view.ty) (X4 : BufTy.Contents (Elt Ideal) arg4.view.ty)
    (n : ℕ) (hn : n ≤ k0_t1_loop.trips) (p : View.Piece (Elt Ideal) S4096x128 .f32) (hp : p ∈ pb_k0_t1 (F := Ideal) Variants.none c none arg0 harg0 arg1 harg1 arg2 harg2 arg3 harg3 arg4 harg4 arg5 harg5 v0 v7 X0 X3 X4 n) :
    ∃ (k : Fin k0_t1_loop.trips) (bi r : Fin 32), p = piece (F := Ideal) arg0 arg3 arg4 v0 v7 X0 X3 X4 k bi r := by
  induction n with
  | zero => exact absurd hp List.not_mem_nil
  | succ n ih =>
    rw [pb_k0_t1_succ (F := Ideal) Variants.none c none arg0 harg0 arg1 harg1 arg2 harg2 arg3 harg3 arg4 harg4 arg5 harg5 v0 v7 X0 X3 X4 ⟨n, hn⟩] at hp
    rcases List.mem_append.mp hp with h | h
    · rw [tripL_eq] at h
      exact ⟨_, mem_pieces _ _ _ _ _ _ _ _ _ _ _ h⟩
    · exact ih (by omega) h

/-- The pieces of the run are those of all the trips. -/
theorem run_pieces (c : Dev nD) (arg0 : Memref sig .tc .vmem S4096x128 .f32) (harg0 : arg0.IsWhole) (arg1 : Memref sig .tc .vmem S64x1 .i32) (harg1 : arg1.IsWhole) (arg2 : Memref sig .tc .vmem S1x128 .i32) (harg2 : arg2.IsWhole) (arg3 : Memref sig .tc .vmem S128x64x128 .i32) (harg3 : arg3.IsWhole) (arg4 : Memref sig .tc .vmem S128x64x128 .i32) (harg4 : arg4.IsWhole) (arg5 : Memref sig .tc .vmem S4096x128 .f32) (harg5 : arg5.IsWhole)
    (x0 : Vec Ideal S4096x128 .f32) (x1 : Vec Ideal S64x1 .i32) (x2 : Vec Ideal S1x128 .i32) (x3 : Vec Ideal S128x64x128 .i32) (x4 : Vec Ideal S128x64x128 .i32) :
    (kernelRun0_A (F := Ideal) c arg0 harg0 arg1 harg1 arg2 harg2 arg3 harg3 arg4 harg4 arg5 harg5 x0 x1 x2 x3 x4).1
      = pb_k0_t1 (F := Ideal) Variants.none c none arg0 harg0 arg1 harg1 arg2 harg2 arg3 harg3 arg4 harg4 arg5 harg5
        (View.readAt (Elt Ideal) arg1.view (Rect.unit (s := S64x1) ![0, 0] S64x1.size inb_S64x1_S64x1_0_0).toLoadRect (harg1.unread x1))
        (View.readAt (Elt Ideal) arg2.view (Rect.unit (s := S1x128) ![0, 0] S1x128.size inb_S1x128_S1x128_0_0).toLoadRect (harg2.unread x2))
        (harg0.unread x0) (harg3.unread x3) (harg4.unread x4) k0_t1_loop.trips := by
  sl_kernel_rfl

/-- What the run leaves in the output block: at every row and column, `spec` of the blocks it reads. -/
theorem out_apply (c : Dev nD) (arg0 : Memref sig .tc .vmem S4096x128 .f32) (harg0 : arg0.IsWhole) (arg1 : Memref sig .tc .vmem S64x1 .i32) (harg1 : arg1.IsWhole) (arg2 : Memref sig .tc .vmem S1x128 .i32) (harg2 : arg2.IsWhole) (arg3 : Memref sig .tc .vmem S128x64x128 .i32) (harg3 : arg3.IsWhole) (arg4 : Memref sig .tc .vmem S128x64x128 .i32) (harg4 : arg4.IsWhole) (arg5 : Memref sig .tc .vmem S4096x128 .f32) (harg5 : arg5.IsWhole)
    (x0 : Vec Ideal S4096x128 .f32) (x1 : Vec Ideal S64x1 .i32) (x2 : Vec Ideal S1x128 .i32) (x3 : Vec Ideal S128x64x128 .i32) (x4 : Vec Ideal S128x64x128 .i32) (y : S4096x128.Idx) :
    out0_A_5 (F := Ideal) c arg0 harg0 arg1 harg1 arg2 harg2 arg3 harg3 arg4 harg4 arg5 harg5 x0 x1 x2 x3 x4 y = spec x0 x1 x2 x3 x4 (y 0) (y 1) := by
  have r1 : View.readAt (Elt Ideal) arg1.view (Rect.unit (s := S64x1) ![0, 0] S64x1.size inb_S64x1_S64x1_0_0).toLoadRect (harg1.unread x1) = x1 := by
    funext z
    rw [harg1.readAt_unread]
    refine congrArg x1 (funext fun a => Fin.ext ?_)
    match a with
    | ⟨0, _⟩ => show 0 + 1 * (z 0).val = (z 0).val; omega
    | ⟨1, _⟩ => show 0 + 1 * (z 1).val = (z 1).val; omega
  have r2 : View.readAt (Elt Ideal) arg2.view (Rect.unit (s := S1x128) ![0, 0] S1x128.size inb_S1x128_S1x128_0_0).toLoadRect (harg2.unread x2) = x2 := by
    funext z
    rw [harg2.readAt_unread]
    refine congrArg x2 (funext fun a => Fin.ext ?_)
    match a with
    | ⟨0, _⟩ => show 0 + 1 * (z 0).val = (z 0).val; omega
    | ⟨1, _⟩ => show 0 + 1 * (z 1).val = (z 1).val; omega
  have hc := cover0_A_5 (F := Ideal) c arg0 harg0 arg1 harg1 arg2 harg2 arg3 harg3 arg4 harg4 arg5 harg5 x0 x1 x2 x3 x4 y
  unfold out0_A_5
  rw [View.read_writes_junk_eq_canon]
  refine View.canon_apply_of_pieces (fun y : S4096x128.Idx => spec x0 x1 x2 x3 x4 (y 0) (y 1)) _ (fun p hp z => ?_) y hc
  rw [run_pieces, r1, r2] at hp
  obtain ⟨k, bi, r, rfl⟩ := mem_trips _ _ _ _ _ _ _ _ _ _ _ _ _ _ _ _ _ _ _ le_rfl _ hp
  exact piece_apply arg0 harg0 arg3 harg3 arg4 harg4 x0 x1 x2 x3 x4 k bi r z

end Cert.KernelIdeal.Rows

end
-- ==== Proof.KernelClaim.lean ====
module

public import proofs.«01_k».proof.Proof.Out
public import Idealize.ShloMosaic.Lib.Pipeline.ValueKit
public import Idealize.ShloMosaic.Lib.StableHlo.RunHlo

@[expose] public section

set_option maxRecDepth 16384

noncomputable section

namespace Cert.KernelIdeal.Rows

open Cert.KernelIdeal Cert.KernelIdeal.Gen Idealize.ShloMosaic Idealize.ShloMosaic.TcCoe Idealize.ShloMosaic.Tactic Idealize.SL.Sem

variable (m : (ℓ : Loc nD τ sig) → Buf (Elt Ideal) ℓ)

/-- Block 0 is the whole of its array. -/
theorem emb0 (t : Fin cfg0.N) (y) : (win0_0.blk t).view.emb y = y := by
  funext a
  refine Fin.ext ?_
  obtain rfl : t = ⟨0, by decide⟩ := Fin.ext (by have := t.isLt; have : cfg0.N = 1 := rfl; omega)
  match a with
  | ⟨0, _⟩ => exact Eq.trans (b := 0 + 1 * (y 0).val) rfl ((Nat.zero_add _).trans (Nat.one_mul _))
  | ⟨1, _⟩ => exact Eq.trans (b := 0 + 1 * (y 1).val) rfl ((Nat.zero_add _).trans (Nat.one_mul _))

/-- Block 1 is the whole of its array. -/
theorem emb1 (t : Fin cfg0.N) (y) : (win0_1.blk t).view.emb y = y := by
  funext a
  refine Fin.ext ?_
  obtain rfl : t = ⟨0, by decide⟩ := Fin.ext (by have := t.isLt; have : cfg0.N = 1 := rfl; omega)
  match a with
  | ⟨0, _⟩ => exact Eq.trans (b := 0 + 1 * (y 0).val) rfl ((Nat.zero_add _).trans (Nat.one_mul _))
  | ⟨1, _⟩ => exact Eq.trans (b := 0 + 1 * (y 1).val) rfl ((Nat.zero_add _).trans (Nat.one_mul _))

/-- Block 2 is the whole of its array. -/
theorem emb2 (t : Fin cfg0.N) (y) : (win0_2.blk t).view.emb y = y := by
  funext a
  refine Fin.ext ?_
  obtain rfl : t = ⟨0, by decide⟩ := Fin.ext (by have := t.isLt; have : cfg0.N = 1 := rfl; omega)
  match a with
  | ⟨0, _⟩ => exact Eq.trans (b := 0 + 1 * (y 0).val) rfl ((Nat.zero_add _).trans (Nat.one_mul _))
  | ⟨1, _⟩ => exact Eq.trans (b := 0 + 1 * (y 1).val) rfl ((Nat.zero_add _).trans (Nat.one_mul _))

/-- Block 3 is the whole of its array. -/
theorem emb3 (t : Fin cfg0.N) (y) : (win0_3.blk t).view.emb y = y := by
  funext a
  refine Fin.ext ?_
  obtain rfl : t = ⟨0, by decide⟩ := Fin.ext (by have := t.isLt; have : cfg0.N = 1 := rfl; omega)
  match a with
  | ⟨0, _⟩ => exact Eq.trans (b := 0 + 1 * (y 0).val) rfl ((Nat.zero_add _).trans (Nat.one_mul _))
  | ⟨1, _⟩ => exact Eq.trans (b := 0 + 1 * (y 1).val) rfl ((Nat.zero_add _).trans (Nat.one_mul _))
  | ⟨2, _⟩ => exact Eq.trans (b := 0 + 1 * (y 2).val) rfl ((Nat.zero_add _).trans (Nat.one_mul _))

/-- Block 4 is the whole of its array. -/
theorem emb4 (t : Fin cfg0.N) (y) : (win0_4.blk t).view.emb y = y := by
  funext a
  refine Fin.ext ?_
  obtain rfl : t = ⟨0, by decide⟩ := Fin.ext (by have := t.isLt; have : cfg0.N = 1 := rfl; omega)
  match a with
  | ⟨0, _⟩ => exact Eq.trans (b := 0 + 1 * (y 0).val) rfl ((Nat.zero_add _).trans (Nat.one_mul _))
  | ⟨1, _⟩ => exact Eq.trans (b := 0 + 1 * (y 1).val) rfl ((Nat.zero_add _).trans (Nat.one_mul _))
  | ⟨2, _⟩ => exact Eq.trans (b := 0 + 1 * (y 2).val) rfl ((Nat.zero_add _).trans (Nat.one_mul _))

/-- Block 5 is the whole of its array. -/
theorem emb5 (t : Fin cfg0.N) (y) : (win0_5.blk t).view.emb y = y := by
  funext a
  refine Fin.ext ?_
  obtain rfl : t = ⟨0, by decide⟩ := Fin.ext (by have := t.isLt; have : cfg0.N = 1 := rfl; omega)
  match a with
  | ⟨0, _⟩ => exact Eq.trans (b := 0 + 1 * (y 0).val) rfl ((Nat.zero_add _).trans (Nat.one_mul _))
  | ⟨1, _⟩ => exact Eq.trans (b := 0 + 1 * (y 1).val) rfl ((Nat.zero_add _).trans (Nat.one_mul _))

/-- The block the kernel reads through window 0. -/
theorem block0 (c : Dev nD) (t : Fin cfg0.N) : (iblk m c 0 t : Vec Ideal S4096x128 .f32) = m ((c : Thread nD τ).loc main_arg0) := by
  funext y
  unfold iblk
  blk_simp
  rw [emb0]
  exact congrFun (V_main_arg0 m c) y

/-- The block the kernel reads through window 1. -/
theorem block1 (c : Dev nD) (t : Fin cfg0.N) : (iblk m c 1 t : Vec Ideal S64x1 .i32) = shapeCast S64x1 (m ((c : Thread nD τ).loc main_arg3) : IVec S64 32) shapeCasts_S64_S64x1 := by
  funext y
  unfold iblk
  blk_simp
  rw [emb1]
  exact congrFun (op0_eq (F := Ideal) (fun b => m (c, b))) y

/-- The block the kernel reads through window 2. -/
theorem block2 (c : Dev nD) (t : Fin cfg0.N) : (iblk m c 2 t : Vec Ideal S1x128 .i32) = shapeCast S1x128 (m ((c : Thread nD τ).loc main_arg4) : IVec S128 32) shapeCasts_S128_S1x128 := by
  funext y
  unfold iblk
  blk_simp
  rw [emb2]
  exact congrFun (op1_eq (F := Ideal) (fun b => m (c, b))) y

/-- Reading an array through window 3 gives the array. -/
theorem read3 (t : Fin cfg0.N) (X : Vec Ideal S128x64x128 .i32) :
    (((cfg0.win 3).blk t).view.read (Elt Ideal) X : Vec Ideal S128x64x128 .i32) = X := by
  funext y
  blk_simp
  rw [emb3]

/-- The array window 3 reads, as the host code leaves it. -/
theorem entry3 (c : Dev nD) : (V m c (Pipeline.arrRef spec0 3) : Vec Ideal S128x64x128 .i32) = packed (drawn0 hash) :=
  table0_eq (F := Ideal) (fun b => m (c, b))

/-- The block the kernel reads through window 3. -/
theorem block3 (c : Dev nD) (t : Fin cfg0.N) : (iblk m c 3 t : Vec Ideal S128x64x128 .i32) = packed (drawn0 hash) :=
  (read3 t _).trans (entry3 m c)

/-- Reading an array through window 4 gives the array. -/
theorem read4 (t : Fin cfg0.N) (X : Vec Ideal S128x64x128 .i32) :
    (((cfg0.win 4).blk t).view.read (Elt Ideal) X : Vec Ideal S128x64x128 .i32) = X := by
  funext y
  blk_simp
  rw [emb4]

/-- The array window 4 reads, as the host code leaves it. -/
theorem entry4 (c : Dev nD) : (V m c (Pipeline.arrRef spec0 4) : Vec Ideal S128x64x128 .i32) = packed (drawn1 hash) :=
  table1_eq (F := Ideal) (fun b => m (c, b))

/-- The block the kernel reads through window 4. -/
theorem block4 (c : Dev nD) (t : Fin cfg0.N) : (iblk m c 4 t : Vec Ideal S128x64x128 .i32) = packed (drawn1 hash) :=
  (read4 t _).trans (entry4 m c)

/-- The kernel's rows, with the host's tables, are the two layers of nodes over the arguments. -/
theorem spec_eq (x : Vec Ideal S4096x128 .f32) (p : IVec S64 32) (q : IVec S128 32) (b : Fin 4096) (o : Fin 128) :
    spec x (shapeCast S64x1 p shapeCasts_S64_S64x1) (shapeCast S1x128 q shapeCasts_S128_S1x128) (packed (drawn0 hash)) (packed (drawn1 hash)) b o
      = Spec.result (fun b i => x (ix2 b i)) (fun o => p (ix1 o)) (fun o => q (ix1 o)) b o := by
  have hb : b.val / 32 * 32 + b.val % 32 = b.val := by omega
  have hk : b.val % 32 < 32 := Nat.mod_lt _ (by decide)
  have hp : ∀ h : Fin 64, shapeCast S64x1 p shapeCasts_S64_S64x1 (ix2 h 0) = p (ix1 h) := fun h => by pointwise []
  have hq : shapeCast S1x128 q shapeCasts_S128_S1x128 (ix2 0 o) = q (ix1 o) := by pointwise []
  unfold spec Spec.result
  refine Spec.node_congr hq (fun h => ?_) fun h => Spec.node_congr (hp h) (fun i => ?_) fun i => rfl
  · refine (packed_bit (drawn1 hash) ⟨b.val / 32, by omega⟩ h o ⟨b.val % 32, hk⟩).trans ?_
    rw [drawn1_apply]
    simp only [hb]
  · refine (packed_bit (drawn0 hash) ⟨b.val / 32, by omega⟩ h i ⟨b.val % 32, hk⟩).trans ?_
    rw [drawn0_apply]
    simp only [hb]

/-- The array the kernel leaves. -/
def final (x : Vec Ideal S4096x128 .f32) (p : IVec S64 32) (q : IVec S128 32) : Vec Ideal S4096x128 .f32 :=
  fun y => Spec.result (fun b i => x (ix2 b i)) (fun o => p (ix1 o)) (fun o => q (ix1 o)) (y 0) (y 1)

/-- The output array after the run is the two layers of nodes over the arguments. -/
theorem array_eq (c : Dev nD) : ((dats m 0 c).arrAt 5 cfg0.N : Vec Ideal S4096x128 .f32)
    = final (m ((c : Thread nD τ).loc main_arg0)) (m ((c : Thread nD τ).loc main_arg3)) (m ((c : Thread nD τ).loc main_arg4)) := by
  refine (dats m 0 c).arrAt_eq_of_covers 5 _ (by decide +kernel) fun t hf y => ?_
  blk_simp
  rw [after0_5]
  unfold outsAt0
  rw [out_apply, block0, block1, block2, block3, block4, emb5]
  exact spec_eq _ _ _ _ _

/-- The kernel runs to the end, its result is the two layers of nodes over its arguments, and these are as launched. -/
theorem run_all (ρ : Dev nD → PrngReg) : θ_run (defs (F := Ideal)) (onTc (τ := τ) (main (F := Ideal))) ⟨m, fun _ => 0, ρ⟩ fun r => ∀ c : Dev nD,
      r.2.mem ((c : Thread nD τ).loc main_v200) = final (m ((c : Thread nD τ).loc main_arg0)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  θ_run_mono (Cert.KernelIdeal.Value.run_blocks m ρ) fun r h c => ⟨(h c).1.trans (array_eq m c), (h c).2⟩

end Cert.KernelIdeal.Rows

end
-- ==== Proof.Line.lean ====
/- The reference's program as the list of its operations. -/
module

public import proofs.«01_k».proof.Proof.Gen.ReferenceIdeal
public import Idealize.ShloMosaic.Lib.StableHlo.Run
public import Idealize.ShloMosaic.Lib.Tactic

@[expose] public section

set_option maxRecDepth 16384

noncomputable section

namespace Cert.ReferenceIdeal.Rows

open Cert.ReferenceIdeal Cert.ReferenceIdeal.Gen Idealize.ShloMosaic Idealize.ShloMosaic.TcCoe Idealize.ShloMosaic.Tactic Idealize.SL.Sem
open Idealize.ShloMosaic.StableHlo (seq)

variable {F : FTy → Type} [FloatOps F]

variable {nD' : Nat} {τ' : Topo} {sig' : RefSig} {Val : EltTy → Type} {Λ' : Labels}

/-- The first operations, at most `n`, of a straight line; `u` is what is read where nothing is. -/
def line (u : (b : DevRef τ' sig') → b.ty.Contents Val) : ℕ → Prog (TpuEff nD' τ' sig' Val Λ' .tc) PUnit → List (HloOp τ' sig' Val)
  | 0, _ => []
  | _ + 1, .ret _ => []
  | n + 1, .op e k => match e, k with
    | .hloBegin _ op, k => op :: (match k ⟨⟩ with
      | .ret _ => []
      | .op e' k' => match e', k' with
        | .hloEnd _ W, k' => line u n (k' fun b => u b.1)
        | _, _ => [])
    | _, _ => []

/-- Nothing in every buffer. -/
def nothing (b : DevRef τ sig) : b.ty.Contents (Elt F) := fun _ => Classical.ofNonempty

/-- The reference's operations. -/
def ops : List (HloOp τ sig (Elt F)) := line nothing 3000 (main (F := F) default)

/-- The reference's program is the straight line of its operations. -/
theorem main_line (c : Dev nD) : main (F := F) c = seq ops := by sl_kernel_rfl

end Cert.ReferenceIdeal.Rows

end
-- ==== Proof.RefLine.lean ====
/- The reference's operations: what they touch, and its run. -/
module

public import proofs.«01_k».proof.Proof.Line

@[expose] public section

set_option maxRecDepth 16384

noncomputable section

namespace Cert.ReferenceIdeal.Rows

open Cert.ReferenceIdeal Cert.ReferenceIdeal.Gen Idealize.ShloMosaic Idealize.ShloMosaic.TcCoe Idealize.ShloMosaic.Tactic Idealize.SL.Sem
open Idealize.ShloMosaic.StableHlo (seq)

variable {F : FTy → Type} [FloatOps F]

theorem scopedRefs_none : (Finset.univ.filter fun b : Ref sig .tc => b.isScoped) = ∅ := by decide
theorem scopedSems_none : (Finset.univ.filter fun sm : SemLoc sig => sm.isScoped .tc) = ∅ := by decide

/-- Every buffer of the reference is one its TensorCore names. -/
theorem mem_refs : (b : DevRef τ sig) → b ∈ StableHlo.tcRefs τ sig
  | ⟨.hbm, i, _⟩ => StableHlo.devRef_mem_tcRefs (τ := τ) (sig := sig) ⟨.hbm, i, rfl⟩
  | ⟨.host, i, _⟩ => i.elim0
  | ⟨.shared, i, _⟩ => i.elim0
  | ⟨.«local» κ .vmem, i, _⟩ => by cases κ <;> exact i.elim0
  | ⟨.«local» κ .smem, i, _⟩ => by cases κ <;> exact i.elim0

/-- The buffer of index `k`. -/
def slot (k : ℕ) : DevRef τ sig := ⟨.hbm, Fin.ofNat 2980 k, ⟨⟩⟩

/-- `n` buffers in order from the one of index `k`. -/
def slots : ℕ → ℕ → List (Finset (DevRef τ sig))
  | _, 0 => []
  | k, n + 1 => {slot k} :: slots (k + 1) n

theorem slots_get (n k i : ℕ) (s : Finset (DevRef τ sig)) (h : (slots k n)[i]? = some s) : i < n ∧ s = {slot (k + i)} := by
  induction n generalizing k i with
  | zero => simp [slots] at h
  | succ n ih =>
    cases i with
    | zero => simp [slots] at h; exact ⟨by omega, h.symm⟩
    | succ i =>
      obtain ⟨a, b⟩ := ih (k + 1) i (by simpa [slots] using h)
      exact ⟨by omega, by rw [b]; congr 2; omega⟩

/-- The operations write the buffers in order, one each. -/
theorem ops_writes : (ops : List (HloOp τ sig (Elt F))).map HloOp.writes = slots 5 2975 := by sl_kernel_rfl

/-- Every operation determines what it writes. -/
theorem ops_fresh : ops.Forall fun (op : HloOp τ sig (Elt F)) => op.fresh = ∅ :=
  StableHlo.forall_fresh_of_map (by sl_kernel_rfl)

theorem op_writes (i : ℕ) (op : HloOp τ sig (Elt F)) (h : ops[i]? = some op) : i < 2975 ∧ op.writes = {slot (5 + i)} :=
  slots_get 2975 5 i op.writes (by rw [← ops_writes (F := F), List.getElem?_map, h]; rfl)

/-- The operations from the `i`-th, `n` of them, leave a buffer not among theirs. -/
theorem after_keep (i n k : ℕ) (hk : k < 2980) (h : k < 5 + i ∨ 5 + i + n ≤ k) (V : Valuation τ sig (Elt F)) :
    StableHlo.after ((ops.drop i).take n) V (slot k) = V (slot k) := by
  refine StableHlo.after_of_forall_not_mem (b := slot k) _ _ fun op hm hw => ?_
  obtain ⟨j, hj⟩ := List.getElem?_of_mem hm
  rw [List.getElem?_take] at hj
  split at hj
  case isFalse => cases hj
  case isTrue hn =>
    rw [List.getElem?_drop] at hj
    obtain ⟨h1, h2⟩ := op_writes (i + j) op hj
    rw [h2, Finset.mem_singleton] at hw
    have e : (Fin.ofNat 2980 k).val = (Fin.ofNat 2980 (5 + (i + j))).val := by
      injection hw with _ e _
      exact congrArg Fin.val e
    simp only [Fin.ofNat] at e
    omega

/-- The reference terminates, each buffer at what the operations make of the launch contents. -/
theorem run_ops (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = StableHlo.after ops (StableHlo.launchContents m d) (Proc.devRef .tc b) :=
  StableHlo.run_seq scopedRefs_none scopedSems_none defs main (fun _ => ops) main_line (fun _ => List.forall_iff_forall_mem.mpr fun _ _ _ _ => mem_refs _) m ρ fun _ => List.forall_iff_forall_mem.mp ops_fresh

/-- An argument is as launched. -/
theorem after_arg (V0 : Valuation τ sig (Elt F)) (k : ℕ) (hk : k < 5) : StableHlo.after ops V0 (slot k) = V0 (slot k) := by
  have h := after_keep 0 2975 k (by omega) (by omega) V0
  rwa [List.drop_zero, List.take_of_length_le (by
    have := congrArg List.length (ops_writes (F := F)); rw [List.length_map] at this; rw [this]; exact le_of_eq (by decide +kernel))] at h

end Cert.ReferenceIdeal.Rows

end
-- ==== Proof.RefSegs.lean ====
/- The reference's operations in stretches: what each stretch leaves, from any contents it starts at. -/
module

public import proofs.«01_k».proof.Proof.RefLine
public import proofs.«01_k».proof.Proof.Chain

@[expose] public section

set_option maxRecDepth 16384

noncomputable section

namespace Cert.ReferenceIdeal.Rows

open Cert.ReferenceIdeal Cert.ReferenceIdeal.Gen Idealize.ShloMosaic Idealize.ShloMosaic.TcCoe Idealize.ShloMosaic.Tactic Idealize.SL.Sem

variable {F : FTy → Type} [FloatOps F]

/-- The operations from the `i`-th, `n` of them. -/
def stretch (i n : ℕ) : List (HloOp τ sig (Elt F)) := (ops.drop i).take n

section Hash

variable {s : Shape} (hb : S_.BroadcastsInDim s ![])

/-- One word everywhere. -/
def const (w : BitVec 32) : IVec s 32 := broadcastInDim s ![] hb (constantI S_ 32 w)

/-- Every word turned left. -/
def turn (r : Nat) (x : IVec s 32) : IVec s 32 :=
  ori (Host.shli x (const hb (BitVec.ofNat 32 r))) (Host.shrui x (const hb (BitVec.ofNat 32 (32 - r))))

/-- The key's first word. -/
def fstWord (key : IVec S2 32) : IVec S_ 32 := shapeCast S_ (extractStridedSlice S1 ![0] key slices_S2_S1_0) shapeCasts_S1_S_

/-- The key's second word. -/
def sndWord (key : IVec S2 32) : IVec S_ 32 := shapeCast S_ (extractStridedSlice S1 ![1] key slices_S2_S1_1) shapeCasts_S1_S_

/-- The words of the key schedule. -/
def sched (key : IVec S2 32) (i : Nat) : IVec S_ 32 :=
  [fstWord key, sndWord key, xori (xori (fstWord key) (sndWord key)) (constantI S_ 32 466688986#32)].getD i (constantI S_ 32 0#32)

/-- The key schedule added to the first word. -/
def schedA (key : IVec S2 32) (i : Nat) (x : IVec s 32) : IVec s 32 := addi x (broadcastInDim s ![] hb (sched key (i % 3)))

/-- The key schedule added to the second word. -/
def schedB (key : IVec S2 32) (i : Nat) (x : IVec s 32) : IVec s 32 :=
  addi (addi x (broadcastInDim s ![] hb (sched key ((i + 1) % 3)))) (const hb (BitVec.ofNat 32 i))

/-- The block function of the key at every counter. -/
def hash (key : IVec S2 32) (cnt : IVec s 32) (fin : IVec s 32 → IVec s 32 → IVec s 32) : IVec s 32 :=
  Tf.chain addi (fun a b => xori b a) (turn hb) (schedA hb key) (schedB hb key)
    (addi (const hb 0#32) (broadcastInDim s ![] hb (fstWord key))) (addi cnt (broadcastInDim s ![] hb (sndWord key))) fin

end Hash

/-- The numbers of a row of two. -/
def count2 : IVec S2 32 := addi (broadcastInDim S2 ![] bcast_S_S2 (muli (constantI S_ 32 0#32) (constantI S_ 32 2#32))) (iotaInDim S2 32 0)

/-- The two keys a key is split into, from the block's words. -/
def pair (a b : IVec S2 32) : IVec S2x2 32 :=
  concatenate S2x2 1 [⟨S2x1, broadcastInDim S2x1 ![0] bcast_S2_S2x1_0 a⟩, ⟨S2x1, broadcastInDim S2x1 ![0] bcast_S2_S2x1_0 b⟩] concatenates_S2x1_S2x1_S2x2_d1

/-- The first of the two. -/
def fstKey (p : IVec S2x2 32) : IVec S2 32 := shapeCast S2 (extractStridedSlice S1x2 ![0, 0] p slices_S2x2_S1x2_0_0) shapeCasts_S1x2_S2

/-- The second of the two. -/
def sndKey (p : IVec S2x2 32) : IVec S2 32 := shapeCast S2 (extractStridedSlice S1x2 ![1, 0] p slices_S2x2_S1x2_1_0) shapeCasts_S1x2_S2

/-- The seed as a key. -/
def seedKey : IVec S2 32 :=
  concatenate S2 0 [⟨S1, broadcastInDim S1 ![] bcast_S_S1 (constantI S_ 32 0#32)⟩, ⟨S1, broadcastInDim S1 ![] bcast_S_S1 (constantI S_ 32 42#32)⟩] concatenates_S1_S1_S2_d0

theorem seed_key (V : Valuation τ sig (Elt F)) : StableHlo.after (stretch 0 6) V (Proc.devRef .tc main_v3) = (seedKey : IVec S2 32) := by sl_kernel_rfl

theorem split_seeda (V : Valuation τ sig (Elt F)) : StableHlo.after (stretch 6 234) V (Proc.devRef .tc main_v184)
    = (hash bcast_S_S2 (V (Proc.devRef .tc main_v3) : IVec S2 32) count2 (fun a _ => a) : IVec S2 32) := by sl_kernel_rfl
theorem split_seedb (V : Valuation τ sig (Elt F)) : StableHlo.after (stretch 6 234) V (Proc.devRef .tc main_v188)
    = (hash bcast_S_S2 (V (Proc.devRef .tc main_v3) : IVec S2 32) count2 (fun _ b => b) : IVec S2 32) := by sl_kernel_rfl
theorem key_a (V : Valuation τ sig (Elt F)) : StableHlo.after (stretch 240 7) V (Proc.devRef .tc main_v193)
    = (fstKey (pair (V (Proc.devRef .tc main_v184) : IVec S2 32) (V (Proc.devRef .tc main_v188) : IVec S2 32)) : IVec S2 32) := by sl_kernel_rfl
theorem key_b (V : Valuation τ sig (Elt F)) : StableHlo.after (stretch 240 7) V (Proc.devRef .tc main_v195)
    = (sndKey (pair (V (Proc.devRef .tc main_v184) : IVec S2 32) (V (Proc.devRef .tc main_v188) : IVec S2 32)) : IVec S2 32) := by sl_kernel_rfl
theorem split_layer0a (V : Valuation τ sig (Elt F)) : StableHlo.after (stretch 273 234) V (Proc.devRef .tc main_v396)
    = (hash bcast_S_S2 (V (Proc.devRef .tc main_v193) : IVec S2 32) count2 (fun a _ => a) : IVec S2 32) := by sl_kernel_rfl
theorem split_layer0b (V : Valuation τ sig (Elt F)) : StableHlo.after (stretch 273 234) V (Proc.devRef .tc main_v400)
    = (hash bcast_S_S2 (V (Proc.devRef .tc main_v193) : IVec S2 32) count2 (fun _ b => b) : IVec S2 32) := by sl_kernel_rfl
theorem draw_key_layer0 (V : Valuation τ sig (Elt F)) : StableHlo.after (stretch 507 5) V (Proc.devRef .tc main_v405)
    = (fstKey (pair (V (Proc.devRef .tc main_v396) : IVec S2 32) (V (Proc.devRef .tc main_v400) : IVec S2 32)) : IVec S2 32) := by sl_kernel_rfl
theorem split_layer1a (V : Valuation τ sig (Elt F)) : StableHlo.after (stretch 1637 234) V (Proc.devRef .tc main_v1477)
    = (hash bcast_S_S2 (V (Proc.devRef .tc main_v195) : IVec S2 32) count2 (fun a _ => a) : IVec S2 32) := by sl_kernel_rfl
theorem split_layer1b (V : Valuation τ sig (Elt F)) : StableHlo.after (stretch 1637 234) V (Proc.devRef .tc main_v1481)
    = (hash bcast_S_S2 (V (Proc.devRef .tc main_v195) : IVec S2 32) count2 (fun _ b => b) : IVec S2 32) := by sl_kernel_rfl
theorem draw_key_layer1 (V : Valuation τ sig (Elt F)) : StableHlo.after (stretch 1871 5) V (Proc.devRef .tc main_v1486)
    = (fstKey (pair (V (Proc.devRef .tc main_v1477) : IVec S2 32) (V (Proc.devRef .tc main_v1481) : IVec S2 32)) : IVec S2 32) := by sl_kernel_rfl

/-- The operators, one beside each node. -/
def opcol0 (op : IVec S64 32) : IVec S64x1x1x1 32 := broadcastInDim S64x1x1x1 ![0] bcast_S64_S64x1x1x1_0 op

/-- The operators as row numbers. -/
def opnum0 (op : IVec S64 32) : IVec S64x1x1 32 :=
  shapeCast S64x1x1 (select (cmpi .slt (opcol0 op) (broadcastInDim S64x1x1x1 ![] bcast_S_S64x1x1x1 (constantI S_ 32 0#32)))
    (addi (opcol0 op) (broadcastInDim S64x1x1x1 ![] bcast_S_S64x1x1x1 (constantI S_ 32 2#32))) (opcol0 op)) shapeCasts_S64x1x1x1_S64x1x1

/-- Which operators number a row. -/
def opin0 (op : IVec S64 32) : IVec S64x1 1 :=
  Host.reduce IntOp.andi (andi (cmpi .sge (opnum0 op) (broadcastInDim S64x1x1 ![] bcast_S_S64x1x1 (constantI S_ 32 0#32)))
    (cmpi .sle (opnum0 op) (broadcastInDim S64x1x1 ![0, 1, 2] bcast_S1x1x1_S64x1x1_0_1_2 (broadcastInDim S1x1x1 ![2] bcast_S1_S1x1x1_2 (constantI S1 32 1#32)))))
    (constantI S_ 1 1#1) reducesTo_S64x1x1_S64x1_d2 h_S_

/-- The counts of each node's operator. -/
def counts0 (cnt : FVec F S64x2x128x2 .f32) (op : IVec S64 32) : FVec F S64x128x2 .f32 :=
  shapeCast S64x128x2 (select (broadcastInDim S64x1x128x2 ![0, 1] bcast_S64x1_S64x1x128x2_0_1 (opin0 op)) (Host.gather gather_S64x2x128x2_S64x1x1_S64x1x128x2_23_1_0_0_1_2_111282 cnt (opnum0 op))
    (broadcastInDim S64x1x128x2 ![] bcast_S_S64x1x128x2 (constant (F := F) S_ .f32 0x7FC00000#32))) shapeCasts_S64x1x128x2_S64x128x2

theorem logits_layer0 (V : Valuation τ sig (Elt F)) : StableHlo.after (stretch 247 26) V (Proc.devRef .tc main_v215)
    = (Host.log (counts0 (V (Proc.devRef .tc main_arg1) : FVec F S64x2x128x2 .f32) (V (Proc.devRef .tc main_arg3) : IVec S64 32)) : FVec F S64x128x2 .f32) := by sl_kernel_rfl

theorem blogits_layer0 (V : Valuation τ sig (Elt F)) : StableHlo.after (stretch 514 6) V (Proc.devRef .tc main_v409)
    = (broadcastInDim S4096x64x128x2 ![0, 1, 2, 3] bcast_S1x64x128x2_S4096x64x128x2_0_1_2_3 (broadcastInDim S1x64x128x2 ![1, 2, 3] bcast_S64x128x2_S1x64x128x2_1_2_3
      (V (Proc.devRef .tc main_v215) : FVec F S64x128x2 .f32)) : FVec F S4096x64x128x2 .f32) := by sl_kernel_rfl

theorem tiny_layer0 (V : Valuation τ sig (Elt F)) : StableHlo.after (stretch 514 6) V (Proc.devRef .tc main_v410)
    = (broadcastInDim S1x1x1x1 ![] bcast_S_S1x1x1x1 (constant (F := F) S_ .f32 0x00800000#32) : FVec F S1x1x1x1 .f32) := by sl_kernel_rfl

theorem one_layer0 (V : Valuation τ sig (Elt F)) : StableHlo.after (stretch 514 6) V (Proc.devRef .tc main_v411)
    = (broadcastInDim S1x1x1x1 ![] bcast_S_S1x1x1x1 (constant (F := F) S_ .f32 0x3F800000#32) : FVec F S1x1x1x1 .f32) := by sl_kernel_rfl

/-- The number of each pair's element, in row-major order. -/
def count0 : IVec S4096x64x128x2 32 :=
  addi (muli (addi (muli (addi (muli (addi (broadcastInDim S4096x64x128x2 ![] bcast_S_S4096x64x128x2 (muli (constantI S_ 32 0#32) (constantI S_ 32 4096#32))) (iotaInDim S4096x64x128x2 32 0))
    (const bcast_S_S4096x64x128x2 64#32)) (iotaInDim S4096x64x128x2 32 1)) (const bcast_S_S4096x64x128x2 128#32)) (iotaInDim S4096x64x128x2 32 2)) (const bcast_S_S4096x64x128x2 2#32)) (iotaInDim S4096x64x128x2 32 3)

theorem bits_layer0 (V : Valuation τ sig (Elt F)) : StableHlo.after (stretch 520 250) V (Proc.devRef .tc main_v609)
    = (hash bcast_S_S4096x64x128x2 (V (Proc.devRef .tc main_v405) : IVec S2 32) count0 xori : IVec S4096x64x128x2 32) := by sl_kernel_rfl

/-- The scores of the two edge types. -/
def score0 (bits : IVec S4096x64x128x2 32) (logits : FVec F S4096x64x128x2 .f32) (tiny one : FVec F S1x1x1x1 .f32) : FVec F S4096x64x128x2 .f32 :=
  addf (Host.negf (Host.log (Host.negf (Host.log (maximumf (broadcastInDim S4096x64x128x2 ![0, 1, 2, 3] bcast_S1x1x1x1_S4096x64x128x2_0_1_2_3 tiny)
    (addf (mulf (subf (bitcastToFloat .f32 (ori (Host.shrui bits (const bcast_S_S4096x64x128x2 9#32)) (const bcast_S_S4096x64x128x2 1065353216#32)))
        (broadcastInDim S4096x64x128x2 ![] bcast_S_S4096x64x128x2 (constant (F := F) S_ .f32 0x3F800000#32)))
      (broadcastInDim S4096x64x128x2 ![0, 1, 2, 3] bcast_S1x1x1x1_S4096x64x128x2_0_1_2_3 (subf one tiny)))
      (broadcastInDim S4096x64x128x2 ![0, 1, 2, 3] bcast_S1x1x1x1_S4096x64x128x2_0_1_2_3 tiny))))))) logits

/-- Which edges are drawn. -/
def edge0 (score : FVec F S4096x64x128x2 .f32) : IVec S4096x64x128 32 :=
  extui 32 (cmpf .ogt
    (shapeCast S4096x64x128 (extractStridedSlice S4096x64x128x1 ![0, 0, 0, 1] score slices_S4096x64x128x2_S4096x64x128x1_0_0_0_1) shapeCasts_S4096x64x128x1_S4096x64x128)
    (shapeCast S4096x64x128 (extractStridedSlice S4096x64x128x1 ![0, 0, 0, 0] score slices_S4096x64x128x2_S4096x64x128x1_0_0_0_0) shapeCasts_S4096x64x128x1_S4096x64x128)) natLt_1_32

/-- How many edges a node draws. -/
def total0 (e : IVec S4096x64x128 32) : IVec S4096x64 32 := Host.reduce IntOp.addi e (constantI S_ 32 0#32) reducesTo_S4096x64x128_S4096x64_d2 h_S_

/-- Which nodes draw no edge, from how many they draw. -/
def none0 (t : IVec S4096x64 32) : IVec S4096x64 1 := cmpi .eq t (broadcastInDim S4096x64 ![] bcast_S_S4096x64 (constantI S_ 32 0#32))

theorem score_layer0 (V : Valuation τ sig (Elt F)) : StableHlo.after (stretch 770 22) V (Proc.devRef .tc main_v628)
    = (score0 (V (Proc.devRef .tc main_v609) : IVec S4096x64x128x2 32) (V (Proc.devRef .tc main_v409) : FVec F S4096x64x128x2 .f32)
      (V (Proc.devRef .tc main_v410) : FVec F S1x1x1x1 .f32) (V (Proc.devRef .tc main_v411) : FVec F S1x1x1x1 .f32) : FVec F S4096x64x128x2 .f32) := by sl_kernel_rfl

theorem edge_layer0 (V : Valuation τ sig (Elt F)) : StableHlo.after (stretch 792 6) V (Proc.devRef .tc main_v634)
    = (edge0 (V (Proc.devRef .tc main_v628) : FVec F S4096x64x128x2 .f32) : IVec S4096x64x128 32) := by sl_kernel_rfl

theorem total_layer0 (V : Valuation τ sig (Elt F)) : StableHlo.after (stretch 798 2) V (Proc.devRef .tc main_v635)
    = (total0 (V (Proc.devRef .tc main_v634) : IVec S4096x64x128 32) : IVec S4096x64 32) := by sl_kernel_rfl

theorem none_layer0 (V : Valuation τ sig (Elt F)) : StableHlo.after (stretch 800 3) V (Proc.devRef .tc main_v637)
    = (none0 (V (Proc.devRef .tc main_v635) : IVec S4096x64 32) : IVec S4096x64 1) := by sl_kernel_rfl

/-- Which nodes take the minimum. -/
def ismin0 (op : IVec S64 32) : IVec S64 1 := cmpi .eq op (broadcastInDim S64 ![] bcast_S_S64 (constantI S_ 32 0#32))

/-- The value at the end of each edge. -/
def ends0 (x : FVec F S4096x128 .f32) (op : IVec S64 32) (e : IVec S4096x64x128 32) (z : IVec S4096x64 1) (hot : IVec S4096x64x128 1) : FVec F S4096x64x128 .f32 :=
  select (cmpi .eq (select (andi (broadcastInDim S4096x64x128 ![0, 1, 2] bcast_S4096x64x1_S4096x64x128_0_1_2 (broadcastInDim S4096x64x1 ![0, 1] bcast_S4096x64_S4096x64x1_0_1 z)) hot)
      (broadcastInDim S4096x64x128 ![] bcast_S_S4096x64x128 (constantI S_ 32 1#32)) e) (broadcastInDim S4096x64x128 ![] bcast_S_S4096x64x128 (constantI S_ 32 1#32)))
    (broadcastInDim S4096x64x128 ![0, 1, 2] bcast_S4096x1x128_S4096x64x128_0_1_2 (broadcastInDim S4096x1x128 ![0, 2] bcast_S4096x128_S4096x1x128_0_2 x))
    (broadcastInDim S4096x64x128 ![0, 1, 2] bcast_S1x64x1_S4096x64x128_0_1_2 (broadcastInDim S1x64x1 ![1] bcast_S64_S1x64x1_1
      (select (ismin0 op) (broadcastInDim S64 ![] bcast_S_S64 (constant (F := F) S_ .f32 0x41200000#32)) (broadcastInDim S64 ![] bcast_S_S64 (constant (F := F) S_ .f32 0xC1200000#32)))))

/-- The least value at the ends of a node's edges. -/
def least0 (ev : FVec F S4096x64x128 .f32) : FVec F S4096x64 .f32 :=
  Host.reduce FloatOps.minimumf ev (constant (F := F) S_ .f32 0x7F800000#32) reducesTo_S4096x64x128_S4096x64_d2 h_S_

/-- The greatest. -/
def greatest0 (ev : FVec F S4096x64x128 .f32) : FVec F S4096x64 .f32 :=
  Host.reduce FloatOps.maximumf ev (constant (F := F) S_ .f32 0xFF800000#32) reducesTo_S4096x64x128_S4096x64_d2 h_S_

/-- The layer's result. -/
def node0 (m : IVec S64 1) (lo hi : FVec F S4096x64 .f32) : FVec F S4096x64 .f32 :=
  select (broadcastInDim S4096x64 ![0, 1] bcast_S1x64_S4096x64_0_1 (broadcastInDim S1x64 ![1] bcast_S64_S1x64_1 m)) lo hi

theorem ismin_layer0 (V : Valuation τ sig (Elt F)) : StableHlo.after (stretch 1581 23) V (Proc.devRef .tc main_v1260)
    = (ismin0 (V (Proc.devRef .tc main_arg3) : IVec S64 32) : IVec S64 1) := by sl_kernel_rfl

theorem ends_layer0 (V : Valuation τ sig (Elt F)) : StableHlo.after (stretch 1581 23) V (Proc.devRef .tc main_v1271)
    = (ends0 (V (Proc.devRef .tc main_arg0) : FVec F S4096x128 .f32) (V (Proc.devRef .tc main_arg3) : IVec S64 32)
      (V (Proc.devRef .tc main_v634) : IVec S4096x64x128 32) (V (Proc.devRef .tc main_v637) : IVec S4096x64 1) (V (Proc.devRef .tc main_v1253) : IVec S4096x64x128 1) : FVec F S4096x64x128 .f32) := by sl_kernel_rfl

theorem least_layer0 (V : Valuation τ sig (Elt F)) : StableHlo.after (stretch 1604 2) V (Proc.devRef .tc main_v1272)
    = (least0 (V (Proc.devRef .tc main_v1271) : FVec F S4096x64x128 .f32) : FVec F S4096x64 .f32) := by sl_kernel_rfl

theorem greatest_layer0 (V : Valuation τ sig (Elt F)) : StableHlo.after (stretch 1606 2) V (Proc.devRef .tc main_v1273)
    = (greatest0 (V (Proc.devRef .tc main_v1271) : FVec F S4096x64x128 .f32) : FVec F S4096x64 .f32) := by sl_kernel_rfl

theorem node_layer0 (V : Valuation τ sig (Elt F)) : StableHlo.after (stretch 1608 3) V (Proc.devRef .tc main_v1276)
    = (node0 (V (Proc.devRef .tc main_v1260) : IVec S64 1) (V (Proc.devRef .tc main_v1272) : FVec F S4096x64 .f32) (V (Proc.devRef .tc main_v1273) : FVec F S4096x64 .f32) : FVec F S4096x64 .f32) := by sl_kernel_rfl

/-- The operators, one beside each node. -/
def opcol1 (op : IVec S128 32) : IVec S128x1x1x1 32 := broadcastInDim S128x1x1x1 ![0] bcast_S128_S128x1x1x1_0 op

/-- The operators as row numbers. -/
def opnum1 (op : IVec S128 32) : IVec S128x1x1 32 :=
  shapeCast S128x1x1 (select (cmpi .slt (opcol1 op) (broadcastInDim S128x1x1x1 ![] bcast_S_S128x1x1x1 (constantI S_ 32 0#32)))
    (addi (opcol1 op) (broadcastInDim S128x1x1x1 ![] bcast_S_S128x1x1x1 (constantI S_ 32 2#32))) (opcol1 op)) shapeCasts_S128x1x1x1_S128x1x1

/-- Which operators number a row. -/
def opin1 (op : IVec S128 32) : IVec S128x1 1 :=
  Host.reduce IntOp.andi (andi (cmpi .sge (opnum1 op) (broadcastInDim S128x1x1 ![] bcast_S_S128x1x1 (constantI S_ 32 0#32)))
    (cmpi .sle (opnum1 op) (broadcastInDim S128x1x1 ![0, 1, 2] bcast_S1x1x1_S128x1x1_0_1_2 (broadcastInDim S1x1x1 ![2] bcast_S1_S1x1x1_2 (constantI S1 32 1#32)))))
    (constantI S_ 1 1#1) reducesTo_S128x1x1_S128x1_d2 h_S_

/-- The counts of each node's operator. -/
def counts1 (cnt : FVec F S128x2x64x2 .f32) (op : IVec S128 32) : FVec F S128x64x2 .f32 :=
  shapeCast S128x64x2 (select (broadcastInDim S128x1x64x2 ![0, 1] bcast_S128x1_S128x1x64x2_0_1 (opin1 op)) (Host.gather gather_S128x2x64x2_S128x1x1_S128x1x64x2_23_1_0_0_1_2_11642 cnt (opnum1 op))
    (broadcastInDim S128x1x64x2 ![] bcast_S_S128x1x64x2 (constant (F := F) S_ .f32 0x7FC00000#32))) shapeCasts_S128x1x64x2_S128x64x2

theorem logits_layer1 (V : Valuation τ sig (Elt F)) : StableHlo.after (stretch 1611 26) V (Proc.devRef .tc main_v1296)
    = (Host.log (counts1 (V (Proc.devRef .tc main_arg2) : FVec F S128x2x64x2 .f32) (V (Proc.devRef .tc main_arg4) : IVec S128 32)) : FVec F S128x64x2 .f32) := by sl_kernel_rfl

theorem blogits_layer1 (V : Valuation τ sig (Elt F)) : StableHlo.after (stretch 1878 6) V (Proc.devRef .tc main_v1490)
    = (broadcastInDim S4096x128x64x2 ![0, 1, 2, 3] bcast_S1x128x64x2_S4096x128x64x2_0_1_2_3 (broadcastInDim S1x128x64x2 ![1, 2, 3] bcast_S128x64x2_S1x128x64x2_1_2_3
      (V (Proc.devRef .tc main_v1296) : FVec F S128x64x2 .f32)) : FVec F S4096x128x64x2 .f32) := by sl_kernel_rfl

theorem tiny_layer1 (V : Valuation τ sig (Elt F)) : StableHlo.after (stretch 1878 6) V (Proc.devRef .tc main_v1491)
    = (broadcastInDim S1x1x1x1 ![] bcast_S_S1x1x1x1 (constant (F := F) S_ .f32 0x00800000#32) : FVec F S1x1x1x1 .f32) := by sl_kernel_rfl

theorem one_layer1 (V : Valuation τ sig (Elt F)) : StableHlo.after (stretch 1878 6) V (Proc.devRef .tc main_v1492)
    = (broadcastInDim S1x1x1x1 ![] bcast_S_S1x1x1x1 (constant (F := F) S_ .f32 0x3F800000#32) : FVec F S1x1x1x1 .f32) := by sl_kernel_rfl

/-- The number of each pair's element, in row-major order. -/
def count1 : IVec S4096x128x64x2 32 :=
  addi (muli (addi (muli (addi (muli (addi (broadcastInDim S4096x128x64x2 ![] bcast_S_S4096x128x64x2 (muli (constantI S_ 32 0#32) (constantI S_ 32 4096#32))) (iotaInDim S4096x128x64x2 32 0))
    (const bcast_S_S4096x128x64x2 128#32)) (iotaInDim S4096x128x64x2 32 1)) (const bcast_S_S4096x128x64x2 64#32)) (iotaInDim S4096x128x64x2 32 2)) (const bcast_S_S4096x128x64x2 2#32)) (iotaInDim S4096x128x64x2 32 3)

theorem bits_layer1 (V : Valuation τ sig (Elt F)) : StableHlo.after (stretch 1884 250) V (Proc.devRef .tc main_v1690)
    = (hash bcast_S_S4096x128x64x2 (V (Proc.devRef .tc main_v1486) : IVec S2 32) count1 xori : IVec S4096x128x64x2 32) := by sl_kernel_rfl

/-- The scores of the two edge types. -/
def score1 (bits : IVec S4096x128x64x2 32) (logits : FVec F S4096x128x64x2 .f32) (tiny one : FVec F S1x1x1x1 .f32) : FVec F S4096x128x64x2 .f32 :=
  addf (Host.negf (Host.log (Host.negf (Host.log (maximumf (broadcastInDim S4096x128x64x2 ![0, 1, 2, 3] bcast_S1x1x1x1_S4096x128x64x2_0_1_2_3 tiny)
    (addf (mulf (subf (bitcastToFloat .f32 (ori (Host.shrui bits (const bcast_S_S4096x128x64x2 9#32)) (const bcast_S_S4096x128x64x2 1065353216#32)))
        (broadcastInDim S4096x128x64x2 ![] bcast_S_S4096x128x64x2 (constant (F := F) S_ .f32 0x3F800000#32)))
      (broadcastInDim S4096x128x64x2 ![0, 1, 2, 3] bcast_S1x1x1x1_S4096x128x64x2_0_1_2_3 (subf one tiny)))
      (broadcastInDim S4096x128x64x2 ![0, 1, 2, 3] bcast_S1x1x1x1_S4096x128x64x2_0_1_2_3 tiny))))))) logits

/-- Which edges are drawn. -/
def edge1 (score : FVec F S4096x128x64x2 .f32) : IVec S4096x128x64 32 :=
  extui 32 (cmpf .ogt
    (shapeCast S4096x128x64 (extractStridedSlice S4096x128x64x1 ![0, 0, 0, 1] score slices_S4096x128x64x2_S4096x128x64x1_0_0_0_1) shapeCasts_S4096x128x64x1_S4096x128x64)
    (shapeCast S4096x128x64 (extractStridedSlice S4096x128x64x1 ![0, 0, 0, 0] score slices_S4096x128x64x2_S4096x128x64x1_0_0_0_0) shapeCasts_S4096x128x64x1_S4096x128x64)) natLt_1_32

/-- How many edges a node draws. -/
def total1 (e : IVec S4096x128x64 32) : IVec S4096x128 32 := Host.reduce IntOp.addi e (constantI S_ 32 0#32) reducesTo_S4096x128x64_S4096x128_d2 h_S_

/-- Which nodes draw no edge, from how many they draw. -/
def none1 (t : IVec S4096x128 32) : IVec S4096x128 1 := cmpi .eq t (broadcastInDim S4096x128 ![] bcast_S_S4096x128 (constantI S_ 32 0#32))

theorem score_layer1 (V : Valuation τ sig (Elt F)) : StableHlo.after (stretch 2134 22) V (Proc.devRef .tc main_v1709)
    = (score1 (V (Proc.devRef .tc main_v1690) : IVec S4096x128x64x2 32) (V (Proc.devRef .tc main_v1490) : FVec F S4096x128x64x2 .f32)
      (V (Proc.devRef .tc main_v1491) : FVec F S1x1x1x1 .f32) (V (Proc.devRef .tc main_v1492) : FVec F S1x1x1x1 .f32) : FVec F S4096x128x64x2 .f32) := by sl_kernel_rfl

theorem edge_layer1 (V : Valuation τ sig (Elt F)) : StableHlo.after (stretch 2156 6) V (Proc.devRef .tc main_v1715)
    = (edge1 (V (Proc.devRef .tc main_v1709) : FVec F S4096x128x64x2 .f32) : IVec S4096x128x64 32) := by sl_kernel_rfl

theorem total_layer1 (V : Valuation τ sig (Elt F)) : StableHlo.after (stretch 2162 2) V (Proc.devRef .tc main_v1716)
    = (total1 (V (Proc.devRef .tc main_v1715) : IVec S4096x128x64 32) : IVec S4096x128 32) := by sl_kernel_rfl

theorem none_layer1 (V : Valuation τ sig (Elt F)) : StableHlo.after (stretch 2164 3) V (Proc.devRef .tc main_v1718)
    = (none1 (V (Proc.devRef .tc main_v1716) : IVec S4096x128 32) : IVec S4096x128 1) := by sl_kernel_rfl

/-- Which nodes take the minimum. -/
def ismin1 (op : IVec S128 32) : IVec S128 1 := cmpi .eq op (broadcastInDim S128 ![] bcast_S_S128 (constantI S_ 32 0#32))

/-- The value at the end of each edge. -/
def ends1 (x : FVec F S4096x64 .f32) (op : IVec S128 32) (e : IVec S4096x128x64 32) (z : IVec S4096x128 1) (hot : IVec S4096x128x64 1) : FVec F S4096x128x64 .f32 :=
  select (cmpi .eq (select (andi (broadcastInDim S4096x128x64 ![0, 1, 2] bcast_S4096x128x1_S4096x128x64_0_1_2 (broadcastInDim S4096x128x1 ![0, 1] bcast_S4096x128_S4096x128x1_0_1 z)) hot)
      (broadcastInDim S4096x128x64 ![] bcast_S_S4096x128x64 (constantI S_ 32 1#32)) e) (broadcastInDim S4096x128x64 ![] bcast_S_S4096x128x64 (constantI S_ 32 1#32)))
    (broadcastInDim S4096x128x64 ![0, 1, 2] bcast_S4096x1x64_S4096x128x64_0_1_2 (broadcastInDim S4096x1x64 ![0, 2] bcast_S4096x64_S4096x1x64_0_2 x))
    (broadcastInDim S4096x128x64 ![0, 1, 2] bcast_S1x128x1_S4096x128x64_0_1_2 (broadcastInDim S1x128x1 ![1] bcast_S128_S1x128x1_1
      (select (ismin1 op) (broadcastInDim S128 ![] bcast_S_S128 (constant (F := F) S_ .f32 0x41200000#32)) (broadcastInDim S128 ![] bcast_S_S128 (constant (F := F) S_ .f32 0xC1200000#32)))))

/-- The least value at the ends of a node's edges. -/
def least1 (ev : FVec F S4096x128x64 .f32) : FVec F S4096x128 .f32 :=
  Host.reduce FloatOps.minimumf ev (constant (F := F) S_ .f32 0x7F800000#32) reducesTo_S4096x128x64_S4096x128_d2 h_S_

/-- The greatest. -/
def greatest1 (ev : FVec F S4096x128x64 .f32) : FVec F S4096x128 .f32 :=
  Host.reduce FloatOps.maximumf ev (constant (F := F) S_ .f32 0xFF800000#32) reducesTo_S4096x128x64_S4096x128_d2 h_S_

/-- The layer's result. -/
def node1 (m : IVec S128 1) (lo hi : FVec F S4096x128 .f32) : FVec F S4096x128 .f32 :=
  select (broadcastInDim S4096x128 ![0, 1] bcast_S1x128_S4096x128_0_1 (broadcastInDim S1x128 ![1] bcast_S128_S1x128_1 m)) lo hi

theorem ismin_layer1 (V : Valuation τ sig (Elt F)) : StableHlo.after (stretch 2945 23) V (Proc.devRef .tc main_v2341)
    = (ismin1 (V (Proc.devRef .tc main_arg4) : IVec S128 32) : IVec S128 1) := by sl_kernel_rfl

theorem ends_layer1 (V : Valuation τ sig (Elt F)) : StableHlo.after (stretch 2945 23) V (Proc.devRef .tc main_v2352)
    = (ends1 (V (Proc.devRef .tc main_v1276) : FVec F S4096x64 .f32) (V (Proc.devRef .tc main_arg4) : IVec S128 32)
      (V (Proc.devRef .tc main_v1715) : IVec S4096x128x64 32) (V (Proc.devRef .tc main_v1718) : IVec S4096x128 1) (V (Proc.devRef .tc main_v2334) : IVec S4096x128x64 1) : FVec F S4096x128x64 .f32) := by sl_kernel_rfl

theorem least_layer1 (V : Valuation τ sig (Elt F)) : StableHlo.after (stretch 2968 2) V (Proc.devRef .tc main_v2353)
    = (least1 (V (Proc.devRef .tc main_v2352) : FVec F S4096x128x64 .f32) : FVec F S4096x128 .f32) := by sl_kernel_rfl

theorem greatest_layer1 (V : Valuation τ sig (Elt F)) : StableHlo.after (stretch 2970 2) V (Proc.devRef .tc main_v2354)
    = (greatest1 (V (Proc.devRef .tc main_v2352) : FVec F S4096x128x64 .f32) : FVec F S4096x128 .f32) := by sl_kernel_rfl

theorem node_layer1 (V : Valuation τ sig (Elt F)) : StableHlo.after (stretch 2972 3) V (Proc.devRef .tc main_v2357)
    = (node1 (V (Proc.devRef .tc main_v2341) : IVec S128 1) (V (Proc.devRef .tc main_v2353) : FVec F S4096x128 .f32) (V (Proc.devRef .tc main_v2354) : FVec F S4096x128 .f32) : FVec F S4096x128 .f32) := by sl_kernel_rfl

end Cert.ReferenceIdeal.Rows

end
-- ==== Proof.RefHash.lean ====
/- The reference's hash read at an element, and its keys. -/
module

public import proofs.«01_k».proof.Proof.RefSegs
public import proofs.«01_k».proof.Proof.Rows
public import Idealize.ShloMosaic.Lib.Pointwise

@[expose] public section

set_option maxRecDepth 16384

noncomputable section

namespace Cert.ReferenceIdeal.Rows

open Cert.ReferenceIdeal Cert.ReferenceIdeal.Gen Idealize.ShloMosaic Idealize.ShloMosaic.TcCoe Idealize.ShloMosaic.Tactic Idealize.SL.Sem

theorem fstWord_apply (key : IVec S2 32) (j : S_.Idx) : fstWord key j = key (ix1 0) := by
  obtain rfl : j = ix0 := Subsingleton.elim _ _
  pointwise [fstWord]

theorem sndWord_apply (key : IVec S2 32) (j : S_.Idx) : sndWord key j = key (ix1 1) := by
  obtain rfl : j = ix0 := Subsingleton.elim _ _
  pointwise [sndWord]

/-- The hash at an element is the block function of the key's words and the element's counter. -/
theorem hash_read {s : Shape} (hb : S_.BroadcastsInDim s ![]) (key : IVec S2 32) (cnt : IVec s 32) (fin : IVec s 32 → IVec s 32 → IVec s 32)
    (fin' : BitVec 32 → BitVec 32 → BitVec 32) (j : s.Idx) (hfin : ∀ x y, fin x y j = fin' (x j) (y j)) :
    hash hb key cnt fin j = Tf.block (key (ix1 0)) (key (ix1 1)) (cnt j) fin' := by
  have hsched : ∀ i ∈ [0, 1, 2], ∀ k, sched key i k
      = [key (ix1 0), key (ix1 1), key (ix1 0) ^^^ key (ix1 1) ^^^ 0x1BD11BDA#32].getD i 0#32 := by
    intro i hi k
    simp only [List.mem_cons, List.not_mem_nil, or_false] at hi
    rcases hi with rfl | rfl | rfl
    · exact fstWord_apply key k
    · exact sndWord_apply key k
    · show (fstWord key k ^^^ sndWord key k) ^^^ _ = _
      rw [fstWord_apply, sndWord_apply]
      rfl
  have hx : (fun a b : BitVec 32 => b ^^^ a) = (· ^^^ ·) := by
    funext a b
    exact BitVec.xor_comm b a
  unfold hash Tf.block
  rw [Tf.chain_read (fun x : IVec s 32 => x j) (add' := (· + ·)) (xor' := fun a b => b ^^^ a) (rot' := fun r x => (x <<< r) ||| (x >>> (32 - r)))
    (f' := Tf.addA (key (ix1 0)) (key (ix1 1))) (g' := Tf.addB (key (ix1 0)) (key (ix1 1))) (fin' := fin') (fun _ _ => rfl) (fun _ _ => rfl), hx]
  · congr 1
    · show 0#32 + fstWord key _ = _
      rw [fstWord_apply]
      exact BitVec.zero_add _
    · show cnt j + sndWord key _ = _
      rw [sndWord_apply]
  · intro r hr x
    simp only [List.mem_cons, List.not_mem_nil, or_false] at hr
    rcases hr with rfl | rfl | rfl | rfl | rfl | rfl | rfl | rfl <;> rfl
  · intro i hi x
    show x j + sched key (i % 3) _ = x j + _
    rw [hsched]
    simp only [List.mem_cons, List.not_mem_nil, or_false] at hi ⊢
    omega
  · intro i hi x
    show (x j + sched key ((i + 1) % 3) _) + BitVec.ofNat 32 i = x j + (_ + BitVec.ofNat 32 i)
    rw [hsched, BitVec.add_assoc]
    simp only [List.mem_cons, List.not_mem_nil, or_false] at hi ⊢
    omega
  · exact hfin

theorem count2_apply (p : Fin 2) : count2 (ix1 p) = BitVec.ofNat 32 p.val := by
  revert p
  decide

/-- The key a split gives, from the block's words at its counter. -/
theorem fstKey_pair (a b : IVec S2 32) : fstKey (pair a b) (ix1 0) = a (ix1 0) ∧ fstKey (pair a b) (ix1 1) = b (ix1 0) := by
  constructor <;> pointwise [fstKey, pair]

theorem sndKey_pair (a b : IVec S2 32) : sndKey (pair a b) (ix1 0) = a (ix1 1) ∧ sndKey (pair a b) (ix1 1) = b (ix1 1) := by
  constructor <;> pointwise [sndKey, pair]

/-- A key split in two. -/
def splitKey (key : IVec S2 32) : IVec S2x2 32 := pair (hash bcast_S_S2 key count2 (fun a _ => a)) (hash bcast_S_S2 key count2 (fun _ b => b))

theorem splitKey_fst (key : IVec S2 32) : fstKey (splitKey key) (ix1 0) = Tf.block (key (ix1 0)) (key (ix1 1)) 0#32 (fun a _ => a)
    ∧ fstKey (splitKey key) (ix1 1) = Tf.block (key (ix1 0)) (key (ix1 1)) 0#32 (fun _ b => b) := by
  unfold splitKey
  rw [(fstKey_pair _ _).1, (fstKey_pair _ _).2, hash_read _ _ _ _ (fun a _ => a) _ fun _ _ => rfl, hash_read _ _ _ _ (fun _ b => b) _ fun _ _ => rfl, count2_apply]
  exact ⟨rfl, rfl⟩

theorem splitKey_snd (key : IVec S2 32) : sndKey (splitKey key) (ix1 0) = Tf.block (key (ix1 0)) (key (ix1 1)) 1#32 (fun a _ => a)
    ∧ sndKey (splitKey key) (ix1 1) = Tf.block (key (ix1 0)) (key (ix1 1)) 1#32 (fun _ b => b) := by
  unfold splitKey
  rw [(sndKey_pair _ _).1, (sndKey_pair _ _).2, hash_read _ _ _ _ (fun a _ => a) _ fun _ _ => rfl, hash_read _ _ _ _ (fun _ b => b) _ fun _ _ => rfl, count2_apply]
  exact ⟨rfl, rfl⟩

theorem seedKey_apply : seedKey (ix1 0) = 0#32 ∧ seedKey (ix1 1) = 42#32 := by
  constructor <;> pointwise [seedKey]

/-- The first layer's key. -/
def key0 : IVec S2 32 := fstKey (splitKey (fstKey (splitKey seedKey)))

/-- The second layer's key. -/
def key1 : IVec S2 32 := fstKey (splitKey (sndKey (splitKey seedKey)))

theorem key0_apply : key0 (ix1 0) = Tf.k0a ∧ key0 (ix1 1) = Tf.k1a := by
  unfold key0
  rw [(splitKey_fst _).1, (splitKey_fst _).2, (splitKey_fst _).1, (splitKey_fst _).2, seedKey_apply.1, seedKey_apply.2]
  constructor <;> decide +kernel

theorem key1_apply : key1 (ix1 0) = Tf.k0b ∧ key1 (ix1 1) = Tf.k1b := by
  unfold key1
  rw [(splitKey_fst _).1, (splitKey_fst _).2, (splitKey_snd _).1, (splitKey_snd _).2, seedKey_apply.1, seedKey_apply.2]
  constructor <;> decide +kernel

theorem count0_apply (b : Fin 4096) (o : Fin 64) (i : Fin 128) (p : Fin 2) :
    count0 (ix4 b o i p) = BitVec.ofNat 32 (256 * (64 * b.val + o.val) + 2 * i.val + p.val) := by
  pointwise [count0, const]
  apply BitVec.eq_of_toNat_eq
  simp only [IntOp.addi, IntOp.muli, BitVec.toNat_add, BitVec.toNat_mul, BitVec.toNat_ofNat]
  omega

theorem count1_apply (b : Fin 4096) (o : Fin 128) (i : Fin 64) (p : Fin 2) :
    count1 (ix4 b o i p) = BitVec.ofNat 32 (128 * (128 * b.val + o.val) + 2 * i.val + p.val) := by
  pointwise [count1, const]
  apply BitVec.eq_of_toNat_eq
  simp only [IntOp.addi, IntOp.muli, BitVec.toNat_add, BitVec.toNat_mul, BitVec.toNat_ofNat]
  omega

/-- The first layer's bits. -/
theorem bits0_apply (b : Fin 4096) (o : Fin 64) (i : Fin 128) (p : Fin 2) : hash bcast_S_S4096x64x128x2 key0 count0 xori (ix4 b o i p)
    = Tf.word Tf.k0a Tf.k1a (BitVec.ofNat 32 (256 * (64 * b.val + o.val) + 2 * i.val + p.val)) := by
  rw [hash_read _ _ _ _ (· ^^^ ·) _ fun _ _ => rfl, Tf.block_xor, key0_apply.1, key0_apply.2, count0_apply]

/-- The second layer's bits. -/
theorem bits1_apply (b : Fin 4096) (o : Fin 128) (i : Fin 64) (p : Fin 2) : hash bcast_S_S4096x128x64x2 key1 count1 xori (ix4 b o i p)
    = Tf.word Tf.k0b Tf.k1b (BitVec.ofNat 32 (128 * (128 * b.val + o.val) + 2 * i.val + p.val)) := by
  rw [hash_read _ _ _ _ (· ^^^ ·) _ fun _ _ => rfl, Tf.block_xor, key1_apply.1, key1_apply.2, count1_apply]

end Cert.ReferenceIdeal.Rows

end
-- ==== Proof.RefValue.lean ====
/- What the reference's operations leave as its result. -/
module

public import proofs.«01_k».proof.Proof.RefHash

@[expose] public section

set_option maxRecDepth 16384

noncomputable section

namespace Cert.ReferenceIdeal.Rows

open Cert.ReferenceIdeal Cert.ReferenceIdeal.Gen Idealize.ShloMosaic Idealize.ShloMosaic.TcCoe Idealize.ShloMosaic.Tactic Idealize.SL.Sem

variable {F : FTy → Type} [FloatOps F]

/-- The contents after the first `n` operations. -/
def upto (V0 : Valuation τ sig (Elt F)) (n : ℕ) : Valuation τ sig (Elt F) := StableHlo.after (ops.take n) V0

theorem upto_add (V0 : Valuation τ sig (Elt F)) (i n j : ℕ) (h : i + n = j) : upto V0 j = StableHlo.after (stretch i n) (upto V0 i) := by
  subst h
  unfold upto stretch
  rw [← StableHlo.after_append, List.take_add]

/-- What a stretch leaves in a buffer is there after it. -/
theorem step (V0 : Valuation τ sig (Elt F)) (i n j : ℕ) (h : i + n = j) {b : DevRef τ sig} {X : b.ty.Contents (Elt F)}
    (e : StableHlo.after (stretch i n) (upto V0 i) b = X) : upto V0 j b = X := by
  rw [upto_add V0 i n j h]
  exact e

/-- A buffer written before the `i`-th operation stays. -/
theorem stay (V0 : Valuation τ sig (Elt F)) (k i j : ℕ) (hij : i ≤ j) (hj : j ≤ 2975) (hk : k < 5 + i) {b : DevRef τ sig} (hb : b = slot k) :
    upto V0 j b = upto V0 i b := by
  subst hb
  rw [upto_add V0 i (j - i) j (by omega)]
  exact after_keep i (j - i) k (by omega) (.inl hk) _

/-- An argument stays. -/
theorem stay_arg (V0 : Valuation τ sig (Elt F)) (k j : ℕ) (hj : j ≤ 2975) (hk : k < 5) {b : DevRef τ sig} (hb : b = slot k) :
    upto V0 j b = V0 b := by
  rw [stay V0 k 0 j (by omega) hj (by omega) hb]
  rfl

theorem upto_all (V0 : Valuation τ sig (Elt F)) : upto V0 2975 = StableHlo.after ops V0 := by
  unfold upto
  rw [List.take_of_length_le]
  have := congrArg List.length (ops_writes (F := F))
  rw [List.length_map] at this
  rw [this]
  exact le_of_eq (by decide +kernel)

/-- Layer 0's key is computed before its bits. -/
theorem upto_key0 (V0 : Valuation τ sig (Elt F)) : upto V0 512 (Proc.devRef .tc main_v405) = (key0 : IVec S2 32) := by
  have g_v3 : upto V0 6 (Proc.devRef .tc main_v3) = (seedKey : IVec S2 32) := step V0 0 6 6 rfl (seed_key _)
  have h_v3 := g_v3
  have g_v184 : upto V0 240 (Proc.devRef .tc main_v184) = (hash bcast_S_S2 seedKey count2 (fun a _ => a) : IVec S2 32) := (step V0 6 234 240 rfl (split_seeda _)).trans (by rw [h_v3])
  have h_v184 : upto V0 235 (Proc.devRef .tc main_v184) = _ := (stay V0 239 235 240 (by decide) (by decide) (by decide) (b := Proc.devRef .tc main_v184) rfl).symm.trans g_v184
  have g_v188 : upto V0 240 (Proc.devRef .tc main_v188) = (hash bcast_S_S2 seedKey count2 (fun _ b => b) : IVec S2 32) := (step V0 6 234 240 rfl (split_seedb _)).trans (by rw [h_v3])
  have h_v188 := g_v188
  have g_v193 : upto V0 247 (Proc.devRef .tc main_v193) = (fstKey (splitKey seedKey) : IVec S2 32) := (step V0 240 7 247 rfl (key_a _)).trans (by rw [stay V0 239 235 240 (by decide) (by decide) (by decide) (b := Proc.devRef .tc main_v184) rfl, h_v184, h_v188]; rfl)
  have h_v193 : upto V0 245 (Proc.devRef .tc main_v193) = _ := (stay V0 249 245 247 (by decide) (by decide) (by decide) (b := Proc.devRef .tc main_v193) rfl).symm.trans g_v193
  have g_v195 : upto V0 247 (Proc.devRef .tc main_v195) = (sndKey (splitKey seedKey) : IVec S2 32) := (step V0 240 7 247 rfl (key_b _)).trans (by rw [stay V0 239 235 240 (by decide) (by decide) (by decide) (b := Proc.devRef .tc main_v184) rfl, h_v184, h_v188]; rfl)
  have h_v195 := g_v195
  have g_v396 : upto V0 507 (Proc.devRef .tc main_v396) = (hash bcast_S_S2 (fstKey (splitKey seedKey)) count2 (fun a _ => a) : IVec S2 32) := (step V0 273 234 507 rfl (split_layer0a _)).trans (by rw [stay V0 249 245 273 (by decide) (by decide) (by decide) (b := Proc.devRef .tc main_v193) rfl, h_v193])
  have h_v396 : upto V0 502 (Proc.devRef .tc main_v396) = _ := (stay V0 506 502 507 (by decide) (by decide) (by decide) (b := Proc.devRef .tc main_v396) rfl).symm.trans g_v396
  have g_v400 : upto V0 507 (Proc.devRef .tc main_v400) = (hash bcast_S_S2 (fstKey (splitKey seedKey)) count2 (fun _ b => b) : IVec S2 32) := (step V0 273 234 507 rfl (split_layer0b _)).trans (by rw [stay V0 249 245 273 (by decide) (by decide) (by decide) (b := Proc.devRef .tc main_v193) rfl, h_v193])
  have h_v400 := g_v400
  have g_v405 : upto V0 512 (Proc.devRef .tc main_v405) = (key0 : IVec S2 32) := (step V0 507 5 512 rfl (draw_key_layer0 _)).trans (by rw [stay V0 506 502 507 (by decide) (by decide) (by decide) (b := Proc.devRef .tc main_v396) rfl, h_v396, h_v400]; rfl)
  have h_v405 := g_v405
  exact h_v405

/-- Layer 1's key is computed before its bits. -/
theorem upto_key1 (V0 : Valuation τ sig (Elt F)) : upto V0 1876 (Proc.devRef .tc main_v1486) = (key1 : IVec S2 32) := by
  have g_v3 : upto V0 6 (Proc.devRef .tc main_v3) = (seedKey : IVec S2 32) := step V0 0 6 6 rfl (seed_key _)
  have h_v3 := g_v3
  have g_v184 : upto V0 240 (Proc.devRef .tc main_v184) = (hash bcast_S_S2 seedKey count2 (fun a _ => a) : IVec S2 32) := (step V0 6 234 240 rfl (split_seeda _)).trans (by rw [h_v3])
  have h_v184 : upto V0 235 (Proc.devRef .tc main_v184) = _ := (stay V0 239 235 240 (by decide) (by decide) (by decide) (b := Proc.devRef .tc main_v184) rfl).symm.trans g_v184
  have g_v188 : upto V0 240 (Proc.devRef .tc main_v188) = (hash bcast_S_S2 seedKey count2 (fun _ b => b) : IVec S2 32) := (step V0 6 234 240 rfl (split_seedb _)).trans (by rw [h_v3])
  have h_v188 := g_v188
  have g_v193 : upto V0 247 (Proc.devRef .tc main_v193) = (fstKey (splitKey seedKey) : IVec S2 32) := (step V0 240 7 247 rfl (key_a _)).trans (by rw [stay V0 239 235 240 (by decide) (by decide) (by decide) (b := Proc.devRef .tc main_v184) rfl, h_v184, h_v188]; rfl)
  have h_v193 : upto V0 245 (Proc.devRef .tc main_v193) = _ := (stay V0 249 245 247 (by decide) (by decide) (by decide) (b := Proc.devRef .tc main_v193) rfl).symm.trans g_v193
  have g_v195 : upto V0 247 (Proc.devRef .tc main_v195) = (sndKey (splitKey seedKey) : IVec S2 32) := (step V0 240 7 247 rfl (key_b _)).trans (by rw [stay V0 239 235 240 (by decide) (by decide) (by decide) (b := Proc.devRef .tc main_v184) rfl, h_v184, h_v188]; rfl)
  have h_v195 := g_v195
  have g_v1477 : upto V0 1871 (Proc.devRef .tc main_v1477) = (hash bcast_S_S2 (sndKey (splitKey seedKey)) count2 (fun a _ => a) : IVec S2 32) := (step V0 1637 234 1871 rfl (split_layer1a _)).trans (by rw [stay V0 251 247 1637 (by decide) (by decide) (by decide) (b := Proc.devRef .tc main_v195) rfl, h_v195])
  have h_v1477 : upto V0 1866 (Proc.devRef .tc main_v1477) = _ := (stay V0 1870 1866 1871 (by decide) (by decide) (by decide) (b := Proc.devRef .tc main_v1477) rfl).symm.trans g_v1477
  have g_v1481 : upto V0 1871 (Proc.devRef .tc main_v1481) = (hash bcast_S_S2 (sndKey (splitKey seedKey)) count2 (fun _ b => b) : IVec S2 32) := (step V0 1637 234 1871 rfl (split_layer1b _)).trans (by rw [stay V0 251 247 1637 (by decide) (by decide) (by decide) (b := Proc.devRef .tc main_v195) rfl, h_v195])
  have h_v1481 := g_v1481
  have g_v1486 : upto V0 1876 (Proc.devRef .tc main_v1486) = (key1 : IVec S2 32) := (step V0 1871 5 1876 rfl (draw_key_layer1 _)).trans (by rw [stay V0 1870 1866 1871 (by decide) (by decide) (by decide) (b := Proc.devRef .tc main_v1477) rfl, h_v1477, h_v1481]; rfl)
  have h_v1486 := g_v1486
  exact h_v1486

/-- Layer 0's scores. -/
def scores0 (cnt : FVec F S64x2x128x2 .f32) (op : IVec S64 32) : FVec F S4096x64x128x2 .f32 :=
  score0 (hash bcast_S_S4096x64x128x2 key0 count0 xori)
    (broadcastInDim S4096x64x128x2 ![0, 1, 2, 3] bcast_S1x64x128x2_S4096x64x128x2_0_1_2_3 (broadcastInDim S1x64x128x2 ![1, 2, 3] bcast_S64x128x2_S1x64x128x2_1_2_3 (Host.log (counts0 cnt op))))
    (broadcastInDim S1x1x1x1 ![] bcast_S_S1x1x1x1 (constant (F := F) S_ .f32 0x00800000#32))
    (broadcastInDim S1x1x1x1 ![] bcast_S_S1x1x1x1 (constant (F := F) S_ .f32 0x3F800000#32))

/-- Layer 0's values at the ends of its edges; `hot` is the edge a node with none would be given. -/
def evs0 (x : FVec F S4096x128 .f32) (cnt : FVec F S64x2x128x2 .f32) (op : IVec S64 32) (hot : IVec S4096x64x128 1) : FVec F S4096x64x128 .f32 :=
  ends0 x op (edge0 (scores0 cnt op)) (none0 (total0 (edge0 (scores0 cnt op)))) hot

/-- Layer 0. -/
def layer0 (x : FVec F S4096x128 .f32) (cnt : FVec F S64x2x128x2 .f32) (op : IVec S64 32) (hot : IVec S4096x64x128 1) : FVec F S4096x64 .f32 :=
  node0 (ismin0 op) (least0 (evs0 x cnt op hot)) (greatest0 (evs0 x cnt op hot))

theorem upto_layer0 (V0 : Valuation τ sig (Elt F)) : ∃ hot : IVec S4096x64x128 1,
    upto V0 1611 (Proc.devRef .tc main_v1276) = (layer0 (V0 (Proc.devRef .tc main_arg0)) (V0 (Proc.devRef .tc main_arg1)) (V0 (Proc.devRef .tc main_arg3)) hot : FVec F S4096x64 .f32) := by
  have h_v405 := upto_key0 V0
  have g_v215 : upto V0 273 (Proc.devRef .tc main_v215) = (Host.log (counts0 (V0 (Proc.devRef .tc main_arg1)) (V0 (Proc.devRef .tc main_arg3))) : FVec F S64x128x2 .f32) := (step V0 247 26 273 rfl (logits_layer0 _)).trans (by rw [stay_arg V0 1 247 (by decide) (by decide) (b := Proc.devRef .tc main_arg1) rfl, stay_arg V0 3 247 (by decide) (by decide) (b := Proc.devRef .tc main_arg3) rfl])
  have h_v215 := g_v215
  have g_v409 : upto V0 520 (Proc.devRef .tc main_v409) = (broadcastInDim S4096x64x128x2 ![0, 1, 2, 3] bcast_S1x64x128x2_S4096x64x128x2_0_1_2_3 (broadcastInDim S1x64x128x2 ![1, 2, 3] bcast_S64x128x2_S1x64x128x2_1_2_3 (Host.log (counts0 (V0 (Proc.devRef .tc main_arg1)) (V0 (Proc.devRef .tc main_arg3))))) : FVec F S4096x64x128x2 .f32) := (step V0 514 6 520 rfl (blogits_layer0 _)).trans (by rw [stay V0 277 273 514 (by decide) (by decide) (by decide) (b := Proc.devRef .tc main_v215) rfl, h_v215])
  have h_v409 : upto V0 516 (Proc.devRef .tc main_v409) = _ := (stay V0 520 516 520 (by decide) (by decide) (by decide) (b := Proc.devRef .tc main_v409) rfl).symm.trans g_v409
  have g_v410 : upto V0 520 (Proc.devRef .tc main_v410) = (broadcastInDim S1x1x1x1 ![] bcast_S_S1x1x1x1 (constant (F := F) S_ .f32 0x00800000#32) : FVec F S1x1x1x1 .f32) := step V0 514 6 520 rfl (tiny_layer0 _)
  have h_v410 : upto V0 518 (Proc.devRef .tc main_v410) = _ := (stay V0 522 518 520 (by decide) (by decide) (by decide) (b := Proc.devRef .tc main_v410) rfl).symm.trans g_v410
  have g_v411 : upto V0 520 (Proc.devRef .tc main_v411) = (broadcastInDim S1x1x1x1 ![] bcast_S_S1x1x1x1 (constant (F := F) S_ .f32 0x3F800000#32) : FVec F S1x1x1x1 .f32) := step V0 514 6 520 rfl (one_layer0 _)
  have h_v411 := g_v411
  have g_v609 : upto V0 770 (Proc.devRef .tc main_v609) = (hash bcast_S_S4096x64x128x2 key0 count0 xori : IVec S4096x64x128x2 32) := (step V0 520 250 770 rfl (bits_layer0 _)).trans (by rw [stay V0 516 512 520 (by decide) (by decide) (by decide) (b := Proc.devRef .tc main_v405) rfl, h_v405])
  have h_v609 := g_v609
  have g_v628 : upto V0 792 (Proc.devRef .tc main_v628) = (scores0 (V0 (Proc.devRef .tc main_arg1)) (V0 (Proc.devRef .tc main_arg3)) : FVec F S4096x64x128x2 .f32) := (step V0 770 22 792 rfl (score_layer0 _)).trans (by rw [h_v609, stay V0 520 516 770 (by decide) (by decide) (by decide) (b := Proc.devRef .tc main_v409) rfl, h_v409, stay V0 522 518 770 (by decide) (by decide) (by decide) (b := Proc.devRef .tc main_v410) rfl, h_v410, stay V0 524 520 770 (by decide) (by decide) (by decide) (b := Proc.devRef .tc main_v411) rfl, h_v411]; rfl)
  have h_v628 := g_v628
  have g_v634 : upto V0 798 (Proc.devRef .tc main_v634) = (edge0 (scores0 (V0 (Proc.devRef .tc main_arg1)) (V0 (Proc.devRef .tc main_arg3))) : IVec S4096x64x128 32) := (step V0 792 6 798 rfl (edge_layer0 _)).trans (by rw [h_v628])
  have h_v634 := g_v634
  have g_v635 : upto V0 800 (Proc.devRef .tc main_v635) = (total0 (edge0 (scores0 (V0 (Proc.devRef .tc main_arg1)) (V0 (Proc.devRef .tc main_arg3)))) : IVec S4096x64 32) := (step V0 798 2 800 rfl (total_layer0 _)).trans (by rw [h_v634])
  have h_v635 := g_v635
  have g_v637 : upto V0 803 (Proc.devRef .tc main_v637) = (none0 (total0 (edge0 (scores0 (V0 (Proc.devRef .tc main_arg1)) (V0 (Proc.devRef .tc main_arg3))))) : IVec S4096x64 1) := (step V0 800 3 803 rfl (none_layer0 _)).trans (by rw [h_v635])
  have h_v637 := g_v637
  have g_v1260 : upto V0 1604 (Proc.devRef .tc main_v1260) = (ismin0 (V0 (Proc.devRef .tc main_arg3)) : IVec S64 1) := (step V0 1581 23 1604 rfl (ismin_layer0 _)).trans (by rw [stay_arg V0 3 1581 (by decide) (by decide) (b := Proc.devRef .tc main_arg3) rfl])
  have h_v1260 : upto V0 1590 (Proc.devRef .tc main_v1260) = _ := (stay V0 1594 1590 1604 (by decide) (by decide) (by decide) (b := Proc.devRef .tc main_v1260) rfl).symm.trans g_v1260
  have g_v1271 : upto V0 1604 (Proc.devRef .tc main_v1271) = (evs0 (V0 (Proc.devRef .tc main_arg0)) (V0 (Proc.devRef .tc main_arg1)) (V0 (Proc.devRef .tc main_arg3)) (upto V0 1581 (Proc.devRef .tc main_v1253)) : FVec F S4096x64x128 .f32) := (step V0 1581 23 1604 rfl (ends_layer0 _)).trans (by rw [stay V0 802 798 1581 (by decide) (by decide) (by decide) (b := Proc.devRef .tc main_v634) rfl, h_v634, stay V0 807 803 1581 (by decide) (by decide) (by decide) (b := Proc.devRef .tc main_v637) rfl, h_v637, stay_arg V0 0 1581 (by decide) (by decide) (b := Proc.devRef .tc main_arg0) rfl, stay_arg V0 3 1581 (by decide) (by decide) (b := Proc.devRef .tc main_arg3) rfl]; rfl)
  have h_v1271 := g_v1271
  have g_v1272 : upto V0 1606 (Proc.devRef .tc main_v1272) = (least0 (evs0 (V0 (Proc.devRef .tc main_arg0)) (V0 (Proc.devRef .tc main_arg1)) (V0 (Proc.devRef .tc main_arg3)) (upto V0 1581 (Proc.devRef .tc main_v1253))) : FVec F S4096x64 .f32) := (step V0 1604 2 1606 rfl (least_layer0 _)).trans (by rw [h_v1271])
  have h_v1272 := g_v1272
  have g_v1273 : upto V0 1608 (Proc.devRef .tc main_v1273) = (greatest0 (evs0 (V0 (Proc.devRef .tc main_arg0)) (V0 (Proc.devRef .tc main_arg1)) (V0 (Proc.devRef .tc main_arg3)) (upto V0 1581 (Proc.devRef .tc main_v1253))) : FVec F S4096x64 .f32) := (step V0 1606 2 1608 rfl (greatest_layer0 _)).trans (by rw [stay V0 1608 1604 1606 (by decide) (by decide) (by decide) (b := Proc.devRef .tc main_v1271) rfl, h_v1271])
  have h_v1273 := g_v1273
  have g_v1276 : upto V0 1611 (Proc.devRef .tc main_v1276) = (layer0 (V0 (Proc.devRef .tc main_arg0)) (V0 (Proc.devRef .tc main_arg1)) (V0 (Proc.devRef .tc main_arg3)) (upto V0 1581 (Proc.devRef .tc main_v1253)) : FVec F S4096x64 .f32) := (step V0 1608 3 1611 rfl (node_layer0 _)).trans (by rw [stay V0 1594 1590 1608 (by decide) (by decide) (by decide) (b := Proc.devRef .tc main_v1260) rfl, h_v1260, stay V0 1610 1606 1608 (by decide) (by decide) (by decide) (b := Proc.devRef .tc main_v1272) rfl, h_v1272, h_v1273]; rfl)
  have h_v1276 := g_v1276
  exact ⟨_, h_v1276⟩

/-- Layer 1's scores. -/
def scores1 (cnt : FVec F S128x2x64x2 .f32) (op : IVec S128 32) : FVec F S4096x128x64x2 .f32 :=
  score1 (hash bcast_S_S4096x128x64x2 key1 count1 xori)
    (broadcastInDim S4096x128x64x2 ![0, 1, 2, 3] bcast_S1x128x64x2_S4096x128x64x2_0_1_2_3 (broadcastInDim S1x128x64x2 ![1, 2, 3] bcast_S128x64x2_S1x128x64x2_1_2_3 (Host.log (counts1 cnt op))))
    (broadcastInDim S1x1x1x1 ![] bcast_S_S1x1x1x1 (constant (F := F) S_ .f32 0x00800000#32))
    (broadcastInDim S1x1x1x1 ![] bcast_S_S1x1x1x1 (constant (F := F) S_ .f32 0x3F800000#32))

/-- Layer 1's values at the ends of its edges; `hot` is the edge a node with none would be given. -/
def evs1 (x : FVec F S4096x64 .f32) (cnt : FVec F S128x2x64x2 .f32) (op : IVec S128 32) (hot : IVec S4096x128x64 1) : FVec F S4096x128x64 .f32 :=
  ends1 x op (edge1 (scores1 cnt op)) (none1 (total1 (edge1 (scores1 cnt op)))) hot

/-- Layer 1. -/
def layer1 (x : FVec F S4096x64 .f32) (cnt : FVec F S128x2x64x2 .f32) (op : IVec S128 32) (hot : IVec S4096x128x64 1) : FVec F S4096x128 .f32 :=
  node1 (ismin1 op) (least1 (evs1 x cnt op hot)) (greatest1 (evs1 x cnt op hot))

theorem upto_layer1 (V0 : Valuation τ sig (Elt F)) : ∃ hot : IVec S4096x128x64 1,
    upto V0 2975 (Proc.devRef .tc main_v2357) = (layer1 (upto V0 1611 (Proc.devRef .tc main_v1276)) (V0 (Proc.devRef .tc main_arg2)) (V0 (Proc.devRef .tc main_arg4)) hot : FVec F S4096x128 .f32) := by
  have h_v1486 := upto_key1 V0
  have g_v1296 : upto V0 1637 (Proc.devRef .tc main_v1296) = (Host.log (counts1 (V0 (Proc.devRef .tc main_arg2)) (V0 (Proc.devRef .tc main_arg4))) : FVec F S128x64x2 .f32) := (step V0 1611 26 1637 rfl (logits_layer1 _)).trans (by rw [stay_arg V0 2 1611 (by decide) (by decide) (b := Proc.devRef .tc main_arg2) rfl, stay_arg V0 4 1611 (by decide) (by decide) (b := Proc.devRef .tc main_arg4) rfl])
  have h_v1296 := g_v1296
  have g_v1490 : upto V0 1884 (Proc.devRef .tc main_v1490) = (broadcastInDim S4096x128x64x2 ![0, 1, 2, 3] bcast_S1x128x64x2_S4096x128x64x2_0_1_2_3 (broadcastInDim S1x128x64x2 ![1, 2, 3] bcast_S128x64x2_S1x128x64x2_1_2_3 (Host.log (counts1 (V0 (Proc.devRef .tc main_arg2)) (V0 (Proc.devRef .tc main_arg4))))) : FVec F S4096x128x64x2 .f32) := (step V0 1878 6 1884 rfl (blogits_layer1 _)).trans (by rw [stay V0 1641 1637 1878 (by decide) (by decide) (by decide) (b := Proc.devRef .tc main_v1296) rfl, h_v1296])
  have h_v1490 : upto V0 1880 (Proc.devRef .tc main_v1490) = _ := (stay V0 1884 1880 1884 (by decide) (by decide) (by decide) (b := Proc.devRef .tc main_v1490) rfl).symm.trans g_v1490
  have g_v1491 : upto V0 1884 (Proc.devRef .tc main_v1491) = (broadcastInDim S1x1x1x1 ![] bcast_S_S1x1x1x1 (constant (F := F) S_ .f32 0x00800000#32) : FVec F S1x1x1x1 .f32) := step V0 1878 6 1884 rfl (tiny_layer1 _)
  have h_v1491 : upto V0 1882 (Proc.devRef .tc main_v1491) = _ := (stay V0 1886 1882 1884 (by decide) (by decide) (by decide) (b := Proc.devRef .tc main_v1491) rfl).symm.trans g_v1491
  have g_v1492 : upto V0 1884 (Proc.devRef .tc main_v1492) = (broadcastInDim S1x1x1x1 ![] bcast_S_S1x1x1x1 (constant (F := F) S_ .f32 0x3F800000#32) : FVec F S1x1x1x1 .f32) := step V0 1878 6 1884 rfl (one_layer1 _)
  have h_v1492 := g_v1492
  have g_v1690 : upto V0 2134 (Proc.devRef .tc main_v1690) = (hash bcast_S_S4096x128x64x2 key1 count1 xori : IVec S4096x128x64x2 32) := (step V0 1884 250 2134 rfl (bits_layer1 _)).trans (by rw [stay V0 1880 1876 1884 (by decide) (by decide) (by decide) (b := Proc.devRef .tc main_v1486) rfl, h_v1486])
  have h_v1690 := g_v1690
  have g_v1709 : upto V0 2156 (Proc.devRef .tc main_v1709) = (scores1 (V0 (Proc.devRef .tc main_arg2)) (V0 (Proc.devRef .tc main_arg4)) : FVec F S4096x128x64x2 .f32) := (step V0 2134 22 2156 rfl (score_layer1 _)).trans (by rw [h_v1690, stay V0 1884 1880 2134 (by decide) (by decide) (by decide) (b := Proc.devRef .tc main_v1490) rfl, h_v1490, stay V0 1886 1882 2134 (by decide) (by decide) (by decide) (b := Proc.devRef .tc main_v1491) rfl, h_v1491, stay V0 1888 1884 2134 (by decide) (by decide) (by decide) (b := Proc.devRef .tc main_v1492) rfl, h_v1492]; rfl)
  have h_v1709 := g_v1709
  have g_v1715 : upto V0 2162 (Proc.devRef .tc main_v1715) = (edge1 (scores1 (V0 (Proc.devRef .tc main_arg2)) (V0 (Proc.devRef .tc main_arg4))) : IVec S4096x128x64 32) := (step V0 2156 6 2162 rfl (edge_layer1 _)).trans (by rw [h_v1709])
  have h_v1715 := g_v1715
  have g_v1716 : upto V0 2164 (Proc.devRef .tc main_v1716) = (total1 (edge1 (scores1 (V0 (Proc.devRef .tc main_arg2)) (V0 (Proc.devRef .tc main_arg4)))) : IVec S4096x128 32) := (step V0 2162 2 2164 rfl (total_layer1 _)).trans (by rw [h_v1715])
  have h_v1716 := g_v1716
  have g_v1718 : upto V0 2167 (Proc.devRef .tc main_v1718) = (none1 (total1 (edge1 (scores1 (V0 (Proc.devRef .tc main_arg2)) (V0 (Proc.devRef .tc main_arg4))))) : IVec S4096x128 1) := (step V0 2164 3 2167 rfl (none_layer1 _)).trans (by rw [h_v1716])
  have h_v1718 := g_v1718
  have g_v2341 : upto V0 2968 (Proc.devRef .tc main_v2341) = (ismin1 (V0 (Proc.devRef .tc main_arg4)) : IVec S128 1) := (step V0 2945 23 2968 rfl (ismin_layer1 _)).trans (by rw [stay_arg V0 4 2945 (by decide) (by decide) (b := Proc.devRef .tc main_arg4) rfl])
  have h_v2341 : upto V0 2954 (Proc.devRef .tc main_v2341) = _ := (stay V0 2958 2954 2968 (by decide) (by decide) (by decide) (b := Proc.devRef .tc main_v2341) rfl).symm.trans g_v2341
  have g_v2352 : upto V0 2968 (Proc.devRef .tc main_v2352) = (evs1 (upto V0 1611 (Proc.devRef .tc main_v1276)) (V0 (Proc.devRef .tc main_arg2)) (V0 (Proc.devRef .tc main_arg4)) (upto V0 2945 (Proc.devRef .tc main_v2334)) : FVec F S4096x128x64 .f32) := (step V0 2945 23 2968 rfl (ends_layer1 _)).trans (by rw [stay V0 1615 1611 2945 (by decide) (by decide) (by decide) (b := Proc.devRef .tc main_v1276) rfl, stay V0 2166 2162 2945 (by decide) (by decide) (by decide) (b := Proc.devRef .tc main_v1715) rfl, h_v1715, stay V0 2171 2167 2945 (by decide) (by decide) (by decide) (b := Proc.devRef .tc main_v1718) rfl, h_v1718, stay_arg V0 4 2945 (by decide) (by decide) (b := Proc.devRef .tc main_arg4) rfl]; rfl)
  have h_v2352 := g_v2352
  have g_v2353 : upto V0 2970 (Proc.devRef .tc main_v2353) = (least1 (evs1 (upto V0 1611 (Proc.devRef .tc main_v1276)) (V0 (Proc.devRef .tc main_arg2)) (V0 (Proc.devRef .tc main_arg4)) (upto V0 2945 (Proc.devRef .tc main_v2334))) : FVec F S4096x128 .f32) := (step V0 2968 2 2970 rfl (least_layer1 _)).trans (by rw [h_v2352])
  have h_v2353 := g_v2353
  have g_v2354 : upto V0 2972 (Proc.devRef .tc main_v2354) = (greatest1 (evs1 (upto V0 1611 (Proc.devRef .tc main_v1276)) (V0 (Proc.devRef .tc main_arg2)) (V0 (Proc.devRef .tc main_arg4)) (upto V0 2945 (Proc.devRef .tc main_v2334))) : FVec F S4096x128 .f32) := (step V0 2970 2 2972 rfl (greatest_layer1 _)).trans (by rw [stay V0 2972 2968 2970 (by decide) (by decide) (by decide) (b := Proc.devRef .tc main_v2352) rfl, h_v2352])
  have h_v2354 := g_v2354
  have g_v2357 : upto V0 2975 (Proc.devRef .tc main_v2357) = (layer1 (upto V0 1611 (Proc.devRef .tc main_v1276)) (V0 (Proc.devRef .tc main_arg2)) (V0 (Proc.devRef .tc main_arg4)) (upto V0 2945 (Proc.devRef .tc main_v2334)) : FVec F S4096x128 .f32) := (step V0 2972 3 2975 rfl (node_layer1 _)).trans (by rw [stay V0 2958 2954 2972 (by decide) (by decide) (by decide) (b := Proc.devRef .tc main_v2341) rfl, h_v2341, stay V0 2974 2970 2972 (by decide) (by decide) (by decide) (b := Proc.devRef .tc main_v2353) rfl, h_v2353, h_v2354]; rfl)
  have h_v2357 := g_v2357
  exact ⟨_, h_v2357⟩

/-- The reference's result: layer 1 of layer 0. -/
theorem after_result (V0 : Valuation τ sig (Elt F)) : ∃ (hot0 : IVec S4096x64x128 1) (hot1 : IVec S4096x128x64 1),
    StableHlo.after ops V0 (Proc.devRef .tc main_v2357)
      = (layer1 (layer0 (V0 (Proc.devRef .tc main_arg0)) (V0 (Proc.devRef .tc main_arg1)) (V0 (Proc.devRef .tc main_arg3)) hot0)
          (V0 (Proc.devRef .tc main_arg2)) (V0 (Proc.devRef .tc main_arg4)) hot1 : FVec F S4096x128 .f32) := by
  obtain ⟨hot0, h0⟩ := upto_layer0 V0
  obtain ⟨hot1, h1⟩ := upto_layer1 V0
  refine ⟨hot0, hot1, ?_⟩
  rw [← upto_all, ← h0]
  exact h1

end Cert.ReferenceIdeal.Rows

end
-- ==== Proof.RefRead.lean ====
module

public import proofs.«01_k».proof.Proof.RefValue
public import proofs.«01_k».proof.Proof.Score
public import proofs.«01_k».proof.Proof.Spec
public import proofs.«01_k».proof.Proof.DrawnA
public import proofs.«01_k».proof.Proof.DrawnB
public import Idealize.ShloMosaic.Lib.Pointwise

@[expose] public section

set_option maxRecDepth 16384

noncomputable section

namespace Cert.ReferenceIdeal.Rows

open Cert.ReferenceIdeal Cert.ReferenceIdeal.Gen Idealize.ShloMosaic Idealize.ShloMosaic.TcCoe Idealize.ShloMosaic.Tactic Idealize.SL.Sem

/-- A comparison's bit widened to a word. -/
theorem wide_bit (p q : Prop) {ip : Decidable p} {iq : Decidable q} (h : p ↔ q) :
    BitVec.setWidth 32 (BitVec.ofBool (@decide p ip)) = @ite _ q iq 1#32 0#32 := by
  by_cases hq : q
  · rw [if_pos hq, decide_eq_true (h.2 hq)]; rfl
  · rw [if_neg hq, decide_eq_false (fun h' => hq (h.1 h'))]; rfl

/-- The row the gather of layer 0 reads is the same for both entries of the last axis. -/
theorem gathered0 (cnt : FVec Ideal S64x2x128x2 .f32) (idx : IVec S64x1x1 32) (o : Fin 64) (i : Fin 128) :
    ∃ q : Fin 2, ∀ p : Fin 2, Host.gather gather_S64x2x128x2_S64x1x1_S64x1x128x2_23_1_0_0_1_2_111282 cnt idx (ix4 o 0 i p) = cnt (ix4 o q i p) := by
  refine ⟨gather_S64x2x128x2_S64x1x1_S64x1x128x2_23_1_0_0_1_2_111282.operandIdx (ix4 o 0 i 0) idx 1, fun p => ?_⟩
  unfold Host.gather
  congr 1
  funext a
  match a with
  | ⟨0, _⟩ =>
    refine Fin.ext ?_
    show gather_S64x2x128x2_S64x1x1_S64x1x128x2_23_1_0_0_1_2_111282.start (ix4 o 0 i p) idx 0 + gather_S64x2x128x2_S64x1x1_S64x1x128x2_23_1_0_0_1_2_111282.batchCoord (ix4 o 0 i p) 0 + gather_S64x2x128x2_S64x1x1_S64x1x128x2_23_1_0_0_1_2_111282.offCoord (ix4 o 0 i p) 0 = _
    rw [GatherDims.start_batching _ _ _ _ (by decide), GatherDims.offCoord_eq_zero _ _ _ (fun h => ((GatherDims.mem_sKept _ _).mp h).2 (by decide))]
    simp only [Nat.zero_add, Nat.add_zero]
    rfl
  | ⟨1, _⟩ =>
    refine Fin.ext ?_
    show gather_S64x2x128x2_S64x1x1_S64x1x128x2_23_1_0_0_1_2_111282.start (ix4 o 0 i p) idx 1 + gather_S64x2x128x2_S64x1x1_S64x1x128x2_23_1_0_0_1_2_111282.batchCoord (ix4 o 0 i p) 1 + gather_S64x2x128x2_S64x1x1_S64x1x128x2_23_1_0_0_1_2_111282.offCoord (ix4 o 0 i p) 1
      = gather_S64x2x128x2_S64x1x1_S64x1x128x2_23_1_0_0_1_2_111282.start (ix4 o 0 i 0) idx 1 + gather_S64x2x128x2_S64x1x1_S64x1x128x2_23_1_0_0_1_2_111282.batchCoord (ix4 o 0 i 0) 1 + gather_S64x2x128x2_S64x1x1_S64x1x128x2_23_1_0_0_1_2_111282.offCoord (ix4 o 0 i 0) 1
    rw [GatherDims.batchCoord_eq_zero _ _ _ (by decide), GatherDims.batchCoord_eq_zero _ _ _ (by decide),
      GatherDims.offCoord_eq_zero _ _ _ (fun h => ((GatherDims.mem_sKept _ _).mp h).1 (by decide)),
      GatherDims.offCoord_eq_zero _ _ _ (fun h => ((GatherDims.mem_sKept _ _).mp h).1 (by decide))]
    unfold GatherDims.start
    rw [dif_pos (by decide), dif_pos (by decide)]
    have hsi : ∀ c, gather_S64x2x128x2_S64x1x1_S64x1x128x2_23_1_0_0_1_2_111282.siIdx (ix4 o 0 i p) c = gather_S64x2x128x2_S64x1x1_S64x1x128x2_23_1_0_0_1_2_111282.siIdx (ix4 o 0 i 0) c := by
      intro c
      funext b
      refine Fin.ext ?_
      match b with
      | ⟨0, _⟩ => rfl
      | ⟨1, _⟩ => rfl
      | ⟨2, _⟩ => rfl
    rw [hsi]
  | ⟨2, _⟩ =>
    refine Fin.ext ?_
    show gather_S64x2x128x2_S64x1x1_S64x1x128x2_23_1_0_0_1_2_111282.start (ix4 o 0 i p) idx 2 + gather_S64x2x128x2_S64x1x1_S64x1x128x2_23_1_0_0_1_2_111282.batchCoord (ix4 o 0 i p) 2 + gather_S64x2x128x2_S64x1x1_S64x1x128x2_23_1_0_0_1_2_111282.offCoord (ix4 o 0 i p) 2 = _
    rw [GatherDims.batchCoord_eq_zero _ _ _ (by decide)]
    unfold GatherDims.start
    rw [dif_neg (by decide)]
    simp only [Nat.zero_add]
    rfl
  | ⟨3, _⟩ =>
    refine Fin.ext ?_
    show gather_S64x2x128x2_S64x1x1_S64x1x128x2_23_1_0_0_1_2_111282.start (ix4 o 0 i p) idx 3 + gather_S64x2x128x2_S64x1x1_S64x1x128x2_23_1_0_0_1_2_111282.batchCoord (ix4 o 0 i p) 3 + gather_S64x2x128x2_S64x1x1_S64x1x128x2_23_1_0_0_1_2_111282.offCoord (ix4 o 0 i p) 3 = _
    rw [GatherDims.batchCoord_eq_zero _ _ _ (by decide)]
    unfold GatherDims.start
    rw [dif_neg (by decide)]
    simp only [Nat.zero_add]
    rfl

/-- Layer 0: under the precondition the two probabilities of every entry have the same finite logarithm. -/
theorem logit0 (cnt : FVec Ideal S64x2x128x2 .f32) (op : IVec S64 32) (o : Fin 64) (i : Fin 128) (ho : op (ix1 o) = 0#32 ∨ op (ix1 o) = 1#32)
    (hc : ∀ q : Fin 2, cnt (ix4 o q i 0) = cnt (ix4 o q i 1) ∧ 0 < cnt (ix4 o q i 0) ∧ cnt (ix4 o q i 0) < ⊤) :
    ∃ r : ℝ, ∀ p : Fin 2, Ideal.log (counts0 cnt op (ix3 o i p)) = ((r : ℝ) : EReal) := by
  obtain ⟨q, hq⟩ := gathered0 cnt (opnum0 op) o i
  obtain ⟨he, hp, ht⟩ := hc q
  have hr : ∀ p : Fin 2, counts0 cnt op (ix3 o i p) = cnt (ix4 o q i p) := by
    intro p
    rw [← hq p]
    pointwise [counts0, opin0, opnum0, opcol0]
    rw [Finset.univ_unique, Finset.fold_singleton]
    rcases ho with h | h <;> rw [h] <;> rfl
  refine ⟨Real.log (cnt (ix4 o q i 0)).toReal, fun p => ?_⟩
  have hv : counts0 cnt op (ix3 o i p) = cnt (ix4 o q i 0) := by
    rw [hr p]
    match p with
    | ⟨0, _⟩ => rfl
    | ⟨1, _⟩ => exact he.symm
  rw [hv]
  generalize cnt (ix4 o q i 0) = y at hp ht
  induction y using EReal.rec with
  | bot => exact absurd hp (by simp)
  | top => exact absurd ht (by simp)
  | coe y =>
    have : (0:ℝ) < y := by exact_mod_cast hp
    show (if y ≤ 0 then ⊥ else ((Real.log y : ℝ) : EReal)) = _
    rw [if_neg (not_le.2 this)]
    rfl

/-- Layer 0's score at an entry: the noise of its word plus its logit. -/
theorem score0_apply (bits : IVec S4096x64x128x2 32) (lg : FVec Ideal S4096x64x128x2 .f32) (b : Fin 4096) (o : Fin 64) (i : Fin 128) (p : Fin 2) :
    score0 bits lg (broadcastInDim S1x1x1x1 ![] bcast_S_S1x1x1x1 (constant (F := Ideal) S_ .f32 0x00800000#32))
      (broadcastInDim S1x1x1x1 ![] bcast_S_S1x1x1x1 (constant (F := Ideal) S_ .f32 0x3F800000#32)) (ix4 b o i p)
      = ((Score.gum ((bits (ix4 b o i p)).toNat / 2 ^ 9) : ℝ) : EReal) + lg (ix4 b o i p) := by
  rw [← Score.noise]
  pointwise [score0]
  rfl

/-- Layer 0's score in the reference: the noise of the counter word plus a real number that does not depend on which of
the two it scores. -/
theorem scores0_apply (cnt : FVec Ideal S64x2x128x2 .f32) (op : IVec S64 32) (b : Fin 4096) (o : Fin 64) (i : Fin 128) (p : Fin 2) :
    scores0 cnt op (ix4 b o i p)
      = ((Score.gum ((Tf.word Tf.k0a Tf.k1a (BitVec.ofNat 32 (256 * (64 * b.val + o.val) + 2 * i.val + p.val))).toNat / 2 ^ 9) : ℝ) : EReal)
        + Ideal.log (counts0 cnt op (ix3 o i p)) := by
  unfold scores0
  refine (score0_apply _ _ b o i p).trans ?_
  rw [bits0_apply]
  congr 1

/-- Layer 0's bit is whether the second score is larger than the first. -/
theorem edge0_apply (s : FVec Ideal S4096x64x128x2 .f32) (b : Fin 4096) (o : Fin 64) (i : Fin 128) :
    edge0 s (ix3 b o i) = BitVec.setWidth 32 (BitVec.ofBool (decide (s (ix4 b o i 0) < s (ix4 b o i 1)))) := by
  pointwise [edge0]

/-- Layer 0's drawing bit in the reference. -/
theorem edges0_apply (cnt : FVec Ideal S64x2x128x2 .f32) (op : IVec S64 32) (b : Fin 4096) (o : Fin 64) (i : Fin 128) (ho : op (ix1 o) = 0#32 ∨ op (ix1 o) = 1#32)
    (hc : ∀ q : Fin 2, cnt (ix4 o q i 0) = cnt (ix4 o q i 1) ∧ 0 < cnt (ix4 o q i 0) ∧ cnt (ix4 o q i 0) < ⊤) [Decidable (Tf.draw Tf.k0a Tf.k1a (BitVec.ofNat 32 (256 * (64 * b.val + o.val) + 2 * i.val)))] :
    edge0 (scores0 cnt op) (ix3 b o i) = if Tf.draw Tf.k0a Tf.k1a (BitVec.ofNat 32 (256 * (64 * b.val + o.val) + 2 * i.val)) then 1#32 else 0#32 := by
  obtain ⟨r, hr⟩ := logit0 cnt op o i ho hc
  have h : scores0 cnt op (ix4 b o i 0) < scores0 cnt op (ix4 b o i 1) ↔ Tf.draw Tf.k0a Tf.k1a (BitVec.ofNat 32 (256 * (64 * b.val + o.val) + 2 * i.val)) := by
    rw [scores0_apply, scores0_apply, hr 0, hr 1, Score.noise_lt]
    unfold Tf.draw
    rw [← BitVec.ofNat_add, Fin.val_zero, Fin.val_one, Nat.add_zero]
  exact (edge0_apply _ b o i).trans (@wide_bit _ _ _ _ h)

/-- Layer 0: no row of the reference draws nothing. -/
theorem none0_apply (cnt : FVec Ideal S64x2x128x2 .f32) (op : IVec S64 32) (b : Fin 4096) (o : Fin 64) (ho : op (ix1 o) = 0#32 ∨ op (ix1 o) = 1#32)
    (hc : ∀ (i : Fin 128) (q : Fin 2), cnt (ix4 o q i 0) = cnt (ix4 o q i 1) ∧ 0 < cnt (ix4 o q i 0) ∧ cnt (ix4 o q i 0) < ⊤) :
    none0 (total0 (edge0 (scores0 cnt op))) (ix2 b o) = 0#1 := by
  classical
  obtain ⟨q, hq, hd⟩ := Tf.drawn_a (64 * b.val + o.val) (by have := b.isLt; have := o.isLt; omega)
  have hne : Finset.univ.fold IntOp.addi 0#32 (fun i : Fin 128 => edge0 (scores0 cnt op) (ix3 b o i)) ≠ 0#32 := by
    refine Spec.fold_bits_ne (by decide) _ (fun i => ?_) ⟨q, by omega⟩ ?_
    · rw [edges0_apply cnt op b o i ho (hc i)]
      split <;> decide
    · rw [edges0_apply cnt op b o ⟨q, by omega⟩ ho (hc _)]
      exact if_pos hd
  have ht : total0 (edge0 (scores0 cnt op)) (ix2 b o) = Finset.univ.fold IntOp.addi 0#32 (fun i : Fin 128 => edge0 (scores0 cnt op) (ix3 b o i)) := by
    pointwise [total0]
  pointwise [none0]
  rw [ht]
  generalize Finset.univ.fold IntOp.addi 0#32 (fun i : Fin 128 => edge0 (scores0 cnt op) (ix3 b o i)) = t at hne
  show BitVec.ofBool (t == 0#32) = 0#1
  rw [beq_eq_false_iff_ne.2 hne]
  rfl

open Classical in
/-- Layer 0's entry in the reference: the input where it is drawn, and otherwise ten or minus ten. -/
theorem evs0_apply (x : FVec Ideal S4096x128 .f32) (cnt : FVec Ideal S64x2x128x2 .f32) (op : IVec S64 32) (hot : IVec S4096x64x128 1) (b : Fin 4096) (o : Fin 64) (i : Fin 128) (ho : op (ix1 o) = 0#32 ∨ op (ix1 o) = 1#32)
    (hc : ∀ (i : Fin 128) (q : Fin 2), cnt (ix4 o q i 0) = cnt (ix4 o q i 1) ∧ 0 < cnt (ix4 o q i 0) ∧ cnt (ix4 o q i 0) < ⊤) :
    evs0 x cnt op hot (ix3 b o i) = if Tf.draw Tf.k0a Tf.k1a (BitVec.ofNat 32 (256 * (64 * b.val + o.val) + 2 * i.val)) then x (ix2 b i)
      else if op (ix1 o) = 0#32 then Spec.ten else Spec.lowTen := by
  have he := edges0_apply cnt op b o i ho (hc i)
  have hn := none0_apply cnt op b o ho hc
  unfold evs0
  generalize edge0 (scores0 cnt op) = e at he hn ⊢
  generalize none0 (total0 e) = z at hn
  pointwise [ends0, ismin0]
  rw [hn, he]
  have hz : IntOp.andi (0#1) (hot (ix3 b o i)) = 0#1 := by
    show (0#1) &&& _ = 0#1
    simp
  rw [hz]
  by_cases hd : Tf.draw Tf.k0a Tf.k1a (BitVec.ofNat 32 (256 * (64 * b.val + o.val) + 2 * i.val))
  · rw [if_pos hd, if_pos hd]; rfl
  · rw [if_neg hd, if_neg hd]
    rcases ho with h | h <;> rw [h] <;> rfl

/-- Layer 0 of the reference at an entry of its result. -/
theorem layer0_apply (x : FVec Ideal S4096x128 .f32) (cnt : FVec Ideal S64x2x128x2 .f32) (op : IVec S64 32) (hot : IVec S4096x64x128 1) (b : Fin 4096) (o : Fin 64) (ho : op (ix1 o) = 0#32 ∨ op (ix1 o) = 1#32)
    (hc : ∀ (i : Fin 128) (q : Fin 2), cnt (ix4 o q i 0) = cnt (ix4 o q i 1) ∧ 0 < cnt (ix4 o q i 0) ∧ cnt (ix4 o q i 0) < ⊤) :
    layer0 x cnt op hot (ix2 b o)
      = Spec.node (op (ix1 o)) (fun i : Fin 128 => Tf.draw Tf.k0a Tf.k1a (BitVec.ofNat 32 (256 * (64 * b.val + o.val) + 2 * i.val))) (fun i => x (ix2 b i)) := by
  classical
  have he := fun i => evs0_apply x cnt op hot b o i ho hc
  unfold layer0
  generalize evs0 x cnt op hot = ev at he
  pointwise [node0, ismin0, least0, greatest0]
  rw [Spec.ofBits_top, Spec.ofBits_bot]
  unfold Spec.node
  rcases ho with h | h
  · have he' : ∀ i, ev (ix3 b o i) = if Tf.draw Tf.k0a Tf.k1a (BitVec.ofNat 32 (256 * (64 * b.val + o.val) + 2 * i.val)) then x (ix2 b i) else Spec.ten := fun i => by
      rw [he i, if_pos h]
    simp only [he']
    rw [h, if_pos rfl]
    exact ValueIdx.select_one _ _
  · have hn : ¬op (ix1 o) = 0#32 := by rw [h]; decide
    have he' : ∀ i, ev (ix3 b o i) = if Tf.draw Tf.k0a Tf.k1a (BitVec.ofNat 32 (256 * (64 * b.val + o.val) + 2 * i.val)) then x (ix2 b i) else Spec.lowTen := fun i => by
      rw [he i, if_neg hn]
    simp only [he']
    rw [h, if_neg (by decide)]
    exact ValueIdx.select_zero _ _

/-- The row the gather of layer 1 reads is the same for both entries of the last axis. -/
theorem gathered1 (cnt : FVec Ideal S128x2x64x2 .f32) (idx : IVec S128x1x1 32) (o : Fin 128) (i : Fin 64) :
    ∃ q : Fin 2, ∀ p : Fin 2, Host.gather gather_S128x2x64x2_S128x1x1_S128x1x64x2_23_1_0_0_1_2_11642 cnt idx (ix4 o 0 i p) = cnt (ix4 o q i p) := by
  refine ⟨gather_S128x2x64x2_S128x1x1_S128x1x64x2_23_1_0_0_1_2_11642.operandIdx (ix4 o 0 i 0) idx 1, fun p => ?_⟩
  unfold Host.gather
  congr 1
  funext a
  match a with
  | ⟨0, _⟩ =>
    refine Fin.ext ?_
    show gather_S128x2x64x2_S128x1x1_S128x1x64x2_23_1_0_0_1_2_11642.start (ix4 o 0 i p) idx 0 + gather_S128x2x64x2_S128x1x1_S128x1x64x2_23_1_0_0_1_2_11642.batchCoord (ix4 o 0 i p) 0 + gather_S128x2x64x2_S128x1x1_S128x1x64x2_23_1_0_0_1_2_11642.offCoord (ix4 o 0 i p) 0 = _
    rw [GatherDims.start_batching _ _ _ _ (by decide), GatherDims.offCoord_eq_zero _ _ _ (fun h => ((GatherDims.mem_sKept _ _).mp h).2 (by decide))]
    simp only [Nat.zero_add, Nat.add_zero]
    rfl
  | ⟨1, _⟩ =>
    refine Fin.ext ?_
    show gather_S128x2x64x2_S128x1x1_S128x1x64x2_23_1_0_0_1_2_11642.start (ix4 o 0 i p) idx 1 + gather_S128x2x64x2_S128x1x1_S128x1x64x2_23_1_0_0_1_2_11642.batchCoord (ix4 o 0 i p) 1 + gather_S128x2x64x2_S128x1x1_S128x1x64x2_23_1_0_0_1_2_11642.offCoord (ix4 o 0 i p) 1
      = gather_S128x2x64x2_S128x1x1_S128x1x64x2_23_1_0_0_1_2_11642.start (ix4 o 0 i 0) idx 1 + gather_S128x2x64x2_S128x1x1_S128x1x64x2_23_1_0_0_1_2_11642.batchCoord (ix4 o 0 i 0) 1 + gather_S128x2x64x2_S128x1x1_S128x1x64x2_23_1_0_0_1_2_11642.offCoord (ix4 o 0 i 0) 1
    rw [GatherDims.batchCoord_eq_zero _ _ _ (by decide), GatherDims.batchCoord_eq_zero _ _ _ (by decide),
      GatherDims.offCoord_eq_zero _ _ _ (fun h => ((GatherDims.mem_sKept _ _).mp h).1 (by decide)),
      GatherDims.offCoord_eq_zero _ _ _ (fun h => ((GatherDims.mem_sKept _ _).mp h).1 (by decide))]
    unfold GatherDims.start
    rw [dif_pos (by decide), dif_pos (by decide)]
    have hsi : ∀ c, gather_S128x2x64x2_S128x1x1_S128x1x64x2_23_1_0_0_1_2_11642.siIdx (ix4 o 0 i p) c = gather_S128x2x64x2_S128x1x1_S128x1x64x2_23_1_0_0_1_2_11642.siIdx (ix4 o 0 i 0) c := by
      intro c
      funext b
      refine Fin.ext ?_
      match b with
      | ⟨0, _⟩ => rfl
      | ⟨1, _⟩ => rfl
      | ⟨2, _⟩ => rfl
    rw [hsi]
  | ⟨2, _⟩ =>
    refine Fin.ext ?_
    show gather_S128x2x64x2_S128x1x1_S128x1x64x2_23_1_0_0_1_2_11642.start (ix4 o 0 i p) idx 2 + gather_S128x2x64x2_S128x1x1_S128x1x64x2_23_1_0_0_1_2_11642.batchCoord (ix4 o 0 i p) 2 + gather_S128x2x64x2_S128x1x1_S128x1x64x2_23_1_0_0_1_2_11642.offCoord (ix4 o 0 i p) 2 = _
    rw [GatherDims.batchCoord_eq_zero _ _ _ (by decide)]
    unfold GatherDims.start
    rw [dif_neg (by decide)]
    simp only [Nat.zero_add]
    rfl
  | ⟨3, _⟩ =>
    refine Fin.ext ?_
    show gather_S128x2x64x2_S128x1x1_S128x1x64x2_23_1_0_0_1_2_11642.start (ix4 o 0 i p) idx 3 + gather_S128x2x64x2_S128x1x1_S128x1x64x2_23_1_0_0_1_2_11642.batchCoord (ix4 o 0 i p) 3 + gather_S128x2x64x2_S128x1x1_S128x1x64x2_23_1_0_0_1_2_11642.offCoord (ix4 o 0 i p) 3 = _
    rw [GatherDims.batchCoord_eq_zero _ _ _ (by decide)]
    unfold GatherDims.start
    rw [dif_neg (by decide)]
    simp only [Nat.zero_add]
    rfl

/-- Layer 1: under the precondition the two probabilities of every entry have the same finite logarithm. -/
theorem logit1 (cnt : FVec Ideal S128x2x64x2 .f32) (op : IVec S128 32) (o : Fin 128) (i : Fin 64) (ho : op (ix1 o) = 0#32 ∨ op (ix1 o) = 1#32)
    (hc : ∀ q : Fin 2, cnt (ix4 o q i 0) = cnt (ix4 o q i 1) ∧ 0 < cnt (ix4 o q i 0) ∧ cnt (ix4 o q i 0) < ⊤) :
    ∃ r : ℝ, ∀ p : Fin 2, Ideal.log (counts1 cnt op (ix3 o i p)) = ((r : ℝ) : EReal) := by
  obtain ⟨q, hq⟩ := gathered1 cnt (opnum1 op) o i
  obtain ⟨he, hp, ht⟩ := hc q
  have hr : ∀ p : Fin 2, counts1 cnt op (ix3 o i p) = cnt (ix4 o q i p) := by
    intro p
    rw [← hq p]
    pointwise [counts1, opin1, opnum1, opcol1]
    rw [Finset.univ_unique, Finset.fold_singleton]
    rcases ho with h | h <;> rw [h] <;> rfl
  refine ⟨Real.log (cnt (ix4 o q i 0)).toReal, fun p => ?_⟩
  have hv : counts1 cnt op (ix3 o i p) = cnt (ix4 o q i 0) := by
    rw [hr p]
    match p with
    | ⟨0, _⟩ => rfl
    | ⟨1, _⟩ => exact he.symm
  rw [hv]
  generalize cnt (ix4 o q i 0) = y at hp ht
  induction y using EReal.rec with
  | bot => exact absurd hp (by simp)
  | top => exact absurd ht (by simp)
  | coe y =>
    have : (0:ℝ) < y := by exact_mod_cast hp
    show (if y ≤ 0 then ⊥ else ((Real.log y : ℝ) : EReal)) = _
    rw [if_neg (not_le.2 this)]
    rfl

/-- Layer 1's score at an entry: the noise of its word plus its logit. -/
theorem score1_apply (bits : IVec S4096x128x64x2 32) (lg : FVec Ideal S4096x128x64x2 .f32) (b : Fin 4096) (o : Fin 128) (i : Fin 64) (p : Fin 2) :
    score1 bits lg (broadcastInDim S1x1x1x1 ![] bcast_S_S1x1x1x1 (constant (F := Ideal) S_ .f32 0x00800000#32))
      (broadcastInDim S1x1x1x1 ![] bcast_S_S1x1x1x1 (constant (F := Ideal) S_ .f32 0x3F800000#32)) (ix4 b o i p)
      = ((Score.gum ((bits (ix4 b o i p)).toNat / 2 ^ 9) : ℝ) : EReal) + lg (ix4 b o i p) := by
  rw [← Score.noise]
  pointwise [score1]
  rfl

/-- Layer 1's score in the reference: the noise of the counter word plus a real number that does not depend on which of
the two it scores. -/
theorem scores1_apply (cnt : FVec Ideal S128x2x64x2 .f32) (op : IVec S128 32) (b : Fin 4096) (o : Fin 128) (i : Fin 64) (p : Fin 2) :
    scores1 cnt op (ix4 b o i p)
      = ((Score.gum ((Tf.word Tf.k0b Tf.k1b (BitVec.ofNat 32 (128 * (128 * b.val + o.val) + 2 * i.val + p.val))).toNat / 2 ^ 9) : ℝ) : EReal)
        + Ideal.log (counts1 cnt op (ix3 o i p)) := by
  unfold scores1
  refine (score1_apply _ _ b o i p).trans ?_
  rw [bits1_apply]
  congr 1

/-- Layer 1's bit is whether the second score is larger than the first. -/
theorem edge1_apply (s : FVec Ideal S4096x128x64x2 .f32) (b : Fin 4096) (o : Fin 128) (i : Fin 64) :
    edge1 s (ix3 b o i) = BitVec.setWidth 32 (BitVec.ofBool (decide (s (ix4 b o i 0) < s (ix4 b o i 1)))) := by
  pointwise [edge1]

/-- Layer 1's drawing bit in the reference. -/
theorem edges1_apply (cnt : FVec Ideal S128x2x64x2 .f32) (op : IVec S128 32) (b : Fin 4096) (o : Fin 128) (i : Fin 64) (ho : op (ix1 o) = 0#32 ∨ op (ix1 o) = 1#32)
    (hc : ∀ q : Fin 2, cnt (ix4 o q i 0) = cnt (ix4 o q i 1) ∧ 0 < cnt (ix4 o q i 0) ∧ cnt (ix4 o q i 0) < ⊤) [Decidable (Tf.draw Tf.k0b Tf.k1b (BitVec.ofNat 32 (128 * (128 * b.val + o.val) + 2 * i.val)))] :
    edge1 (scores1 cnt op) (ix3 b o i) = if Tf.draw Tf.k0b Tf.k1b (BitVec.ofNat 32 (128 * (128 * b.val + o.val) + 2 * i.val)) then 1#32 else 0#32 := by
  obtain ⟨r, hr⟩ := logit1 cnt op o i ho hc
  have h : scores1 cnt op (ix4 b o i 0) < scores1 cnt op (ix4 b o i 1) ↔ Tf.draw Tf.k0b Tf.k1b (BitVec.ofNat 32 (128 * (128 * b.val + o.val) + 2 * i.val)) := by
    rw [scores1_apply, scores1_apply, hr 0, hr 1, Score.noise_lt]
    unfold Tf.draw
    rw [← BitVec.ofNat_add, Fin.val_zero, Fin.val_one, Nat.add_zero]
  exact (edge1_apply _ b o i).trans (@wide_bit _ _ _ _ h)

/-- Layer 1: no row of the reference draws nothing. -/
theorem none1_apply (cnt : FVec Ideal S128x2x64x2 .f32) (op : IVec S128 32) (b : Fin 4096) (o : Fin 128) (ho : op (ix1 o) = 0#32 ∨ op (ix1 o) = 1#32)
    (hc : ∀ (i : Fin 64) (q : Fin 2), cnt (ix4 o q i 0) = cnt (ix4 o q i 1) ∧ 0 < cnt (ix4 o q i 0) ∧ cnt (ix4 o q i 0) < ⊤) :
    none1 (total1 (edge1 (scores1 cnt op))) (ix2 b o) = 0#1 := by
  classical
  obtain ⟨q, hq, hd⟩ := Tf.drawn_b (128 * b.val + o.val) (by have := b.isLt; have := o.isLt; omega)
  have hne : Finset.univ.fold IntOp.addi 0#32 (fun i : Fin 64 => edge1 (scores1 cnt op) (ix3 b o i)) ≠ 0#32 := by
    refine Spec.fold_bits_ne (by decide) _ (fun i => ?_) ⟨q, by omega⟩ ?_
    · rw [edges1_apply cnt op b o i ho (hc i)]
      split <;> decide
    · rw [edges1_apply cnt op b o ⟨q, by omega⟩ ho (hc _)]
      exact if_pos hd
  have ht : total1 (edge1 (scores1 cnt op)) (ix2 b o) = Finset.univ.fold IntOp.addi 0#32 (fun i : Fin 64 => edge1 (scores1 cnt op) (ix3 b o i)) := by
    pointwise [total1]
  pointwise [none1]
  rw [ht]
  generalize Finset.univ.fold IntOp.addi 0#32 (fun i : Fin 64 => edge1 (scores1 cnt op) (ix3 b o i)) = t at hne
  show BitVec.ofBool (t == 0#32) = 0#1
  rw [beq_eq_false_iff_ne.2 hne]
  rfl

open Classical in
/-- Layer 1's entry in the reference: the input where it is drawn, and otherwise ten or minus ten. -/
theorem evs1_apply (x : FVec Ideal S4096x64 .f32) (cnt : FVec Ideal S128x2x64x2 .f32) (op : IVec S128 32) (hot : IVec S4096x128x64 1) (b : Fin 4096) (o : Fin 128) (i : Fin 64) (ho : op (ix1 o) = 0#32 ∨ op (ix1 o) = 1#32)
    (hc : ∀ (i : Fin 64) (q : Fin 2), cnt (ix4 o q i 0) = cnt (ix4 o q i 1) ∧ 0 < cnt (ix4 o q i 0) ∧ cnt (ix4 o q i 0) < ⊤) :
    evs1 x cnt op hot (ix3 b o i) = if Tf.draw Tf.k0b Tf.k1b (BitVec.ofNat 32 (128 * (128 * b.val + o.val) + 2 * i.val)) then x (ix2 b i)
      else if op (ix1 o) = 0#32 then Spec.ten else Spec.lowTen := by
  have he := edges1_apply cnt op b o i ho (hc i)
  have hn := none1_apply cnt op b o ho hc
  unfold evs1
  generalize edge1 (scores1 cnt op) = e at he hn ⊢
  generalize none1 (total1 e) = z at hn
  pointwise [ends1, ismin1]
  rw [hn, he]
  have hz : IntOp.andi (0#1) (hot (ix3 b o i)) = 0#1 := by
    show (0#1) &&& _ = 0#1
    simp
  rw [hz]
  by_cases hd : Tf.draw Tf.k0b Tf.k1b (BitVec.ofNat 32 (128 * (128 * b.val + o.val) + 2 * i.val))
  · rw [if_pos hd, if_pos hd]; rfl
  · rw [if_neg hd, if_neg hd]
    rcases ho with h | h <;> rw [h] <;> rfl

/-- Layer 1 of the reference at an entry of its result. -/
theorem layer1_apply (x : FVec Ideal S4096x64 .f32) (cnt : FVec Ideal S128x2x64x2 .f32) (op : IVec S128 32) (hot : IVec S4096x128x64 1) (b : Fin 4096) (o : Fin 128) (ho : op (ix1 o) = 0#32 ∨ op (ix1 o) = 1#32)
    (hc : ∀ (i : Fin 64) (q : Fin 2), cnt (ix4 o q i 0) = cnt (ix4 o q i 1) ∧ 0 < cnt (ix4 o q i 0) ∧ cnt (ix4 o q i 0) < ⊤) :
    layer1 x cnt op hot (ix2 b o)
      = Spec.node (op (ix1 o)) (fun i : Fin 64 => Tf.draw Tf.k0b Tf.k1b (BitVec.ofNat 32 (128 * (128 * b.val + o.val) + 2 * i.val))) (fun i => x (ix2 b i)) := by
  classical
  have he := fun i => evs1_apply x cnt op hot b o i ho hc
  unfold layer1
  generalize evs1 x cnt op hot = ev at he
  pointwise [node1, ismin1, least1, greatest1]
  rw [Spec.ofBits_top, Spec.ofBits_bot]
  unfold Spec.node
  rcases ho with h | h
  · have he' : ∀ i, ev (ix3 b o i) = if Tf.draw Tf.k0b Tf.k1b (BitVec.ofNat 32 (128 * (128 * b.val + o.val) + 2 * i.val)) then x (ix2 b i) else Spec.ten := fun i => by
      rw [he i, if_pos h]
    simp only [he']
    rw [h, if_pos rfl]
    exact ValueIdx.select_one _ _
  · have hn : ¬op (ix1 o) = 0#32 := by rw [h]; decide
    have he' : ∀ i, ev (ix3 b o i) = if Tf.draw Tf.k0b Tf.k1b (BitVec.ofNat 32 (128 * (128 * b.val + o.val) + 2 * i.val)) then x (ix2 b i) else Spec.lowTen := fun i => by
      rw [he i, if_neg hn]
    simp only [he']
    rw [h, if_neg (by decide)]
    exact ValueIdx.select_zero _ _

end Cert.ReferenceIdeal.Rows

end
-- ==== Proof.RefClaim.lean ====
module

public import proofs.«01_k».proof.Proof.RefRead
public import Idealize.ShloMosaic.Lib.Quiescent
public import Idealize.ShloMosaic.Lib.StableHlo.RunHlo

@[expose] public section

set_option maxRecDepth 16384

noncomputable section

namespace Cert.ReferenceIdeal.Rows

open Cert.ReferenceIdeal Cert.ReferenceIdeal.Gen Idealize.ShloMosaic Idealize.ShloMosaic.TcCoe Idealize.ShloMosaic.Tactic Idealize.SL.Sem

/-- The reference's result at row `b` and column `o` is the two layers of nodes over its arguments. -/
theorem result_read (V0 : Valuation τ sig (Elt Ideal)) (x : FVec Ideal S4096x128 .f32) (c0 : FVec Ideal S64x2x128x2 .f32) (c1 : FVec Ideal S128x2x64x2 .f32) (p : IVec S64 32) (q : IVec S128 32)
    (ex : V0 (Proc.devRef .tc main_arg0) = x) (e0 : V0 (Proc.devRef .tc main_arg1) = c0) (e1 : V0 (Proc.devRef .tc main_arg2) = c1)
    (ep : V0 (Proc.devRef .tc main_arg3) = p) (eq : V0 (Proc.devRef .tc main_arg4) = q)
    (h0 : ∀ (o : Fin 64) (r : Fin 2) (i : Fin 128), c0 (ix4 o r i 0) = c0 (ix4 o r i 1) ∧ 0 < c0 (ix4 o r i 0) ∧ c0 (ix4 o r i 0) < ⊤)
    (h1 : ∀ (o : Fin 128) (r : Fin 2) (i : Fin 64), c1 (ix4 o r i 0) = c1 (ix4 o r i 1) ∧ 0 < c1 (ix4 o r i 0) ∧ c1 (ix4 o r i 0) < ⊤)
    (hp : ∀ o : Fin 64, p (ix1 o) = 0#32 ∨ p (ix1 o) = 1#32) (hq : ∀ o : Fin 128, q (ix1 o) = 0#32 ∨ q (ix1 o) = 1#32) (b : Fin 4096) (o : Fin 128) :
    (StableHlo.after ops V0 (Proc.devRef .tc main_v2357) : FVec Ideal S4096x128 .f32) (ix2 b o)
      = Spec.result (fun b i => x (ix2 b i)) (fun o => p (ix1 o)) (fun o => q (ix1 o)) b o := by
  obtain ⟨hot0, hot1, h⟩ := after_result (F := Ideal) V0
  rw [h, ex, e0, e1, ep, eq]
  refine (layer1_apply _ _ _ _ b o (hq o) (fun i r => h1 o r i)).trans ?_
  unfold Spec.result
  exact Spec.node_congr rfl (fun _ => Iff.rfl) fun i => layer0_apply _ _ _ _ b i (hp i) (fun j r => h0 i r j)

/-- The reference runs to the end, its arguments are as launched, and its result is the fold of its operations. -/
theorem run_all (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_v2357) = StableHlo.after (ops (F := Ideal)) (StableHlo.launchContents m c) (Proc.devRef .tc main_v2357)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 := by
  refine θ_run_mono (run_ops m ρ) fun r h => ⟨fun c => ⟨h c main_v2357, ?_, ?_, ?_, ?_, ?_⟩, sem_eq_zero_of_no_sems rfl _⟩
  · exact (h c main_arg0).trans (after_arg _ 0 (by decide))
  · exact (h c main_arg1).trans (after_arg _ 1 (by decide))
  · exact (h c main_arg2).trans (after_arg _ 2 (by decide))
  · exact (h c main_arg3).trans (after_arg _ 3 (by decide))
  · exact (h c main_arg4).trans (after_arg _ 4 (by decide))

end Cert.ReferenceIdeal.Rows

end
-- ==== Proof.PreFacts.lean ====
module

public import proofs.«01_k».proof.Proof.Gen.Pre_uniform_counts
public import Idealize.ShloMosaic.Lib.Pointwise

@[expose] public section

set_option maxRecDepth 16384

noncomputable section

namespace Cert.Pre_uniform_counts.Rows

open Cert.Pre_uniform_counts Idealize.ShloMosaic

/-- Two bits whose conjunction is one are both one. -/
theorem bits_and (a b : BitVec 1) (h : IntOp.andi a b = 1#1) : a = 1#1 ∧ b = 1#1 := by
  revert a b; decide

/-- A truth value whose bit is one is true. -/
theorem ofBool_true (b : Bool) (h : BitVec.ofBool b = 1#1) : b = true := by
  revert b; decide

/-- A code at least zero and less than two is zero or one. -/
theorem code_cases (a : BitVec 32) (h : IntOp.andi (IntOp.cmpi .sge a 0#32) (IntOp.cmpi .slt a 2#32) = 1#1) : a = 0#32 ∨ a = 1#32 := by
  obtain ⟨h0, h1⟩ := bits_and _ _ h
  have h0' : (0#32).sle a = true := ofBool_true _ h0
  have h1' : a.slt 2#32 = true := ofBool_true _ h1
  rw [BitVec.sle_iff_toInt_le] at h0'
  rw [BitVec.slt_iff_toInt_lt] at h1'
  have h2 : (0#32).toInt = 0 := rfl
  have h3 : (2#32).toInt = 2 := rfl
  have h4 : a.toInt = 0 ∨ a.toInt = 1 := by omega
  rcases h4 with h | h
  · exact Or.inl (BitVec.eq_of_toInt_eq h)
  · exact Or.inr (BitVec.eq_of_toInt_eq h)

variable (x : FVec Ideal S4096x128 .f32) (c0 : FVec Ideal S64x2x128x2 .f32) (c1 : FVec Ideal S128x2x64x2 .f32) (p : IVec S64 32) (q : IVec S128 32)

/-- The first array of the precondition, read at an entry. -/
theorem counts0_of (h : (fn (F := Ideal) x c0 c1 p q).1 = fun _ => 1#1) (o : Fin 64) (r : Fin 2) (i : Fin 128) :
    c0 (ix4 o r i 0) = c0 (ix4 o r i 1) ∧ 0 < c0 (ix4 o r i 0) ∧ c0 (ix4 o r i 0) < ⊤ := by
  have e := congrFun h (ix3 o r i)
  unfold fn fn_part1 at e
  dsimp only at e
  pointwise at e
  obtain ⟨h1, h3⟩ := bits_and _ _ e
  obtain ⟨h1, h2⟩ := bits_and _ _ h1
  have h3 := of_decide_eq_true (ofBool_true _ h3)
  rw [show Ideal.ofBits FTy.f32 2139095040#32 = ⊤ from by simp [Ideal.ofBits, Ideal.ieee]] at h3
  exact ⟨of_decide_eq_true (ofBool_true _ h1), of_decide_eq_true (ofBool_true _ h2), h3⟩

/-- The second array of the precondition, read at an entry. -/
theorem counts1_of (h : (fn (F := Ideal) x c0 c1 p q).2.1 = fun _ => 1#1) (o : Fin 128) (r : Fin 2) (i : Fin 64) :
    c1 (ix4 o r i 0) = c1 (ix4 o r i 1) ∧ 0 < c1 (ix4 o r i 0) ∧ c1 (ix4 o r i 0) < ⊤ := by
  have e := congrFun h (ix3 o r i)
  unfold fn fn_part1 at e
  dsimp only at e
  pointwise at e
  obtain ⟨h1, h3⟩ := bits_and _ _ e
  obtain ⟨h1, h2⟩ := bits_and _ _ h1
  have h3 := of_decide_eq_true (ofBool_true _ h3)
  rw [show Ideal.ofBits FTy.f32 2139095040#32 = ⊤ from by simp [Ideal.ofBits, Ideal.ieee]] at h3
  exact ⟨of_decide_eq_true (ofBool_true _ h1), of_decide_eq_true (ofBool_true _ h2), h3⟩

/-- The third array of the precondition: the first layer's codes are zero or one. -/
theorem code0_of (h : (fn (F := Ideal) x c0 c1 p q).2.2.1 = fun _ => 1#1) (o : Fin 64) : p (ix1 o) = 0#32 ∨ p (ix1 o) = 1#32 := by
  have e := congrFun h (ix1 o)
  exact code_cases _ e

/-- The fourth array of the precondition: the second layer's codes are zero or one. -/
theorem code1_of (h : (fn (F := Ideal) x c0 c1 p q).2.2.2 = fun _ => 1#1) (o : Fin 128) : q (ix1 o) = 0#32 ∨ q (ix1 o) = 1#32 := by
  have e := congrFun h (ix1 o)
  exact code_cases _ e

end Cert.Pre_uniform_counts.Rows

end
-- ==== Proof.Equal.lean ====
module

public import proofs.«01_k».proof.Defs
public import proofs.«01_k».proof.Proof.KernelClaim
public import proofs.«01_k».proof.Proof.RefClaim
public import proofs.«01_k».proof.Proof.PreFacts

@[expose] public section

set_option maxRecDepth 16384

noncomputable section

namespace Cert.Equal

open Idealize.ShloMosaic Idealize.ShloMosaic.TcCoe Idealize.SL.Sem

/-- Under the precondition the fold of the reference's operations is the array the kernel leaves. -/
theorem reference_final (V0 : Valuation Cert.ReferenceIdeal.τ Cert.ReferenceIdeal.sig (Elt Ideal))
    (x : FVec Ideal Cert.Pre_uniform_counts.S4096x128 .f32) (c0 : FVec Ideal Cert.Pre_uniform_counts.S64x2x128x2 .f32) (c1 : FVec Ideal Cert.Pre_uniform_counts.S128x2x64x2 .f32)
    (p : IVec Cert.Pre_uniform_counts.S64 32) (q : IVec Cert.Pre_uniform_counts.S128 32)
    (ex : V0 (Proc.devRef .tc Cert.ReferenceIdeal.main_arg0) = x) (e0 : V0 (Proc.devRef .tc Cert.ReferenceIdeal.main_arg1) = c0)
    (e1 : V0 (Proc.devRef .tc Cert.ReferenceIdeal.main_arg2) = c1) (ep : V0 (Proc.devRef .tc Cert.ReferenceIdeal.main_arg3) = p) (eq : V0 (Proc.devRef .tc Cert.ReferenceIdeal.main_arg4) = q)
    (h0 : (Cert.Pre_uniform_counts.fn (F := Ideal) x c0 c1 p q).1 = fun _ => 1#1) (h1 : (Cert.Pre_uniform_counts.fn (F := Ideal) x c0 c1 p q).2.1 = fun _ => 1#1)
    (hp : (Cert.Pre_uniform_counts.fn (F := Ideal) x c0 c1 p q).2.2.1 = fun _ => 1#1) (hq : (Cert.Pre_uniform_counts.fn (F := Ideal) x c0 c1 p q).2.2.2 = fun _ => 1#1) :
    StableHlo.after (Cert.ReferenceIdeal.Rows.ops (F := Ideal)) V0 (Proc.devRef .tc Cert.ReferenceIdeal.main_v2357) = Cert.KernelIdeal.Rows.final x p q := by
  funext y
  obtain ⟨b, o, rfl⟩ : ∃ (b : Fin 4096) (o : Fin 128), y = ix2 b o := ⟨y 0, y 1, by
    funext a
    match a with
    | ⟨0, _⟩ => rfl
    | ⟨1, _⟩ => rfl⟩
  exact Cert.ReferenceIdeal.Rows.result_read V0 x c0 c1 p q ex e0 e1 ep eq
    (fun o r i => Cert.Pre_uniform_counts.Rows.counts0_of x c0 c1 p q h0 o r i) (fun o r i => Cert.Pre_uniform_counts.Rows.counts1_of x c0 c1 p q h1 o r i)
    (fun o => Cert.Pre_uniform_counts.Rows.code0_of x c0 c1 p q hp o) (fun o => Cert.Pre_uniform_counts.Rows.code1_of x c0 c1 p q hq o) b o

/-- Under the precondition the kernel and the reference leave the same array. -/
theorem values : Cert.algebraic_KernelIdeal_ReferenceIdeal_pre_uniform_counts := by
  intro m g m' g' hpre harg
  refine ⟨fun c => Cert.KernelIdeal.Rows.final (m ((c.tc : Thread Cert.KernelIdeal.nD Cert.KernelIdeal.τ).loc Cert.KernelIdeal.main_arg0))
    (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Rows.run_all m g, ?_⟩
  refine θ_run_mono (Cert.ReferenceIdeal.Rows.run_all m' g') fun r h c => ⟨(h.1 c).1.trans ?_, (h.1 c).2⟩
  obtain ⟨a0, a1, a2, a3, a4⟩ := harg c
  obtain ⟨h0, h1, h2, h3⟩ := hpre c
  exact reference_final _ _ _ _ _ _ a0 a1 a2 a3 a4 h0 h1 h2 h3

/-- The reference ends with its arguments as launched and every counter at zero. -/
theorem reference_quiet : Cert.quiescent_ReferenceIdeal := fun m ρ _ =>
  θ_run_mono (Cert.ReferenceIdeal.Rows.run_all m ρ) fun _ h => ⟨fun c => (h.1 c).2, h.2⟩

/-- The same under the precondition. -/
theorem reference_quiet_pre : Cert.quiescent_ReferenceIdeal_pre_uniform_counts := fun m ρ _ =>
  θ_run_mono (Cert.ReferenceIdeal.Rows.run_all m ρ) fun _ h => ⟨fun c => (h.1 c).2, h.2⟩

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.Pre_uniform_counts
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_uniform_counts.Gen.facts,
  fun m ρ _ => Cert.Kernel.Gen.frame m ρ, fun m ρ _ => Cert.KernelIdeal.Gen.frame m ρ, fun m ρ _ => Cert.KernelIdeal.Gen.frame m ρ,
  Cert.Equal.reference_quiet, Cert.Equal.reference_quiet_pre, trivial, Cert.Equal.values⟩

end Cert.Proof

end
